-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather [hPre_rows_in_cache : Cert.Pre_rows_in_cache.Facts] (m : (ℓ : Loc Cert.Gather.nD Cert.Gather.τ Cert.Gather.sig) → Buf (Elt Bits) ℓ) : Prop :=
  ∀ c : Dev Cert.Gather.nD,
    (Cert.Pre_rows_in_cache.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2))) = (fun _ => 1#1)

def Pre_GatherIdeal [hPre_rows_in_cache : Cert.Pre_rows_in_cache.Facts] (m : (ℓ : Loc Cert.GatherIdeal.nD Cert.GatherIdeal.τ Cert.GatherIdeal.sig) → Buf (Elt Ideal) ℓ) : Prop :=
  ∀ c : Dev Cert.GatherIdeal.nD,
    (Cert.Pre_rows_in_cache.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2))) = (fun _ => 1#1)

def Pre_GatherRefIdeal (m : (ℓ : Loc Cert.GatherRefIdeal.nD Cert.GatherRefIdeal.τ Cert.GatherRefIdeal.sig) → Buf (Elt Ideal) ℓ) : Prop :=
  True

def Pre_GatherRefIdeal_rows_in_cache [hPre_rows_in_cache : Cert.Pre_rows_in_cache.Facts] (m : (ℓ : Loc Cert.GatherRefIdeal.nD Cert.GatherRefIdeal.τ Cert.GatherRefIdeal.sig) → Buf (Elt Ideal) ℓ) : Prop :=
  ∀ c : Dev Cert.GatherRefIdeal.nD,
    (Cert.Pre_rows_in_cache.fn (F := Ideal) (m ((c.tc : Thread Cert.GatherRefIdeal.nD Cert.GatherRefIdeal.τ).loc Cert.GatherRefIdeal.main_arg0)) (m ((c.tc : Thread Cert.GatherRefIdeal.nD Cert.GatherRefIdeal.τ).loc Cert.GatherRefIdeal.main_arg1)) (m ((c.tc : Thread Cert.GatherRefIdeal.nD Cert.GatherRefIdeal.τ).loc Cert.GatherRefIdeal.main_arg2))) = (fun _ => 1#1)

def Pre_GatherRef [hPre_rows_in_cache : Cert.Pre_rows_in_cache.Facts] (m : (ℓ : Loc Cert.GatherRef.nD Cert.GatherRef.τ Cert.GatherRef.sig) → Buf (Elt Bits) ℓ) : Prop :=
  ∀ c : Dev Cert.GatherRef.nD,
    (Cert.Pre_rows_in_cache.fn (F := Bits) (m ((c.tc : Thread Cert.GatherRef.nD Cert.GatherRef.τ).loc Cert.GatherRef.main_arg0)) (m ((c.tc : Thread Cert.GatherRef.nD Cert.GatherRef.τ).loc Cert.GatherRef.main_arg1)) (m ((c.tc : Thread Cert.GatherRef.nD Cert.GatherRef.τ).loc Cert.GatherRef.main_arg2))) = (fun _ => 1#1)

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_SmallS (m : (ℓ : Loc Cert.SmallS.nD Cert.SmallS.τ Cert.SmallS.sig) → Buf (Elt Bits) ℓ) : Prop :=
  True

def Pre_SmallSIdeal (m : (ℓ : Loc Cert.SmallSIdeal.nD Cert.SmallSIdeal.τ Cert.SmallSIdeal.sig) → Buf (Elt Ideal) ℓ) : Prop :=
  True

def Pre_SmallSRefIdeal (m : (ℓ : Loc Cert.SmallSRefIdeal.nD Cert.SmallSRefIdeal.τ Cert.SmallSRefIdeal.sig) → Buf (Elt Ideal) ℓ) : Prop :=
  True

def Pre_MainS (m : (ℓ : Loc Cert.MainS.nD Cert.MainS.τ Cert.MainS.sig) → Buf (Elt Bits) ℓ) : Prop :=
  True

def Pre_MainSIdeal (m : (ℓ : Loc Cert.MainSIdeal.nD Cert.MainSIdeal.τ Cert.MainSIdeal.sig) → Buf (Elt Ideal) ℓ) : Prop :=
  True

def Pre_MainSRefIdeal (m : (ℓ : Loc Cert.MainSRefIdeal.nD Cert.MainSRefIdeal.τ Cert.MainSRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutS (m : (ℓ : Loc Cert.OutS.nD Cert.OutS.τ Cert.OutS.sig) → Buf (Elt Bits) ℓ) : Prop :=
  True

def Pre_OutSIdeal (m : (ℓ : Loc Cert.OutSIdeal.nD Cert.OutSIdeal.τ Cert.OutSIdeal.sig) → Buf (Elt Ideal) ℓ) : Prop :=
  True

def Pre_OutSRefIdeal (m : (ℓ : Loc Cert.OutSRefIdeal.nD Cert.OutSRefIdeal.τ Cert.OutSRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepIdeal_forget_finite [hPre_forget_finite : Cert.Pre_forget_finite.Facts] (m : (ℓ : Loc Cert.StepIdeal.nD Cert.StepIdeal.τ Cert.StepIdeal.sig) → Buf (Elt Ideal) ℓ) : Prop :=
  ∀ c : Dev Cert.StepIdeal.nD,
    (Cert.Pre_forget_finite.fn (F := Ideal) (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg4)) (m ((c.tc : Thread Cert.StepIdeal.nD Cert.StepIdeal.τ).loc Cert.StepIdeal.main_arg5)) (m ((c.tc : Thread Cert.StepIdeal.nD Cert.StepIdeal.τ).loc Cert.StepIdeal.main_arg6)) (m ((c.tc : Thread Cert.StepIdeal.nD Cert.StepIdeal.τ).loc Cert.StepIdeal.main_arg7))) = (fun _ => 1#1)

def Pre_StepRefIdeal (m : (ℓ : Loc Cert.StepRefIdeal.nD Cert.StepRefIdeal.τ Cert.StepRefIdeal.sig) → Buf (Elt Ideal) ℓ) : Prop :=
  True

def Pre_StepRefIdeal_forget_finite [hPre_forget_finite : Cert.Pre_forget_finite.Facts] (m : (ℓ : Loc Cert.StepRefIdeal.nD Cert.StepRefIdeal.τ Cert.StepRefIdeal.sig) → Buf (Elt Ideal) ℓ) : Prop :=
  ∀ c : Dev Cert.StepRefIdeal.nD,
    (Cert.Pre_forget_finite.fn (F := Ideal) (m ((c.tc : Thread Cert.StepRefIdeal.nD Cert.StepRefIdeal.τ).loc Cert.StepRefIdeal.main_arg0)) (m ((c.tc : Thread Cert.StepRefIdeal.nD Cert.StepRefIdeal.τ).loc Cert.StepRefIdeal.main_arg1)) (m ((c.tc : Thread Cert.StepRefIdeal.nD Cert.StepRefIdeal.τ).loc Cert.StepRefIdeal.main_arg2)) (m ((c.tc : Thread Cert.StepRefIdeal.nD Cert.StepRefIdeal.τ).loc Cert.StepRefIdeal.main_arg3)) (m ((c.tc : Thread Cert.StepRefIdeal.nD Cert.StepRefIdeal.τ).loc Cert.StepRefIdeal.main_arg4)) (m ((c.tc : Thread Cert.StepRefIdeal.nD Cert.StepRefIdeal.τ).loc Cert.StepRefIdeal.main_arg5)) (m ((c.tc : Thread Cert.StepRefIdeal.nD Cert.StepRefIdeal.τ).loc Cert.StepRefIdeal.main_arg6)) (m ((c.tc : Thread Cert.StepRefIdeal.nD Cert.StepRefIdeal.τ).loc Cert.StepRefIdeal.main_arg7))) = (fun _ => 1#1)

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_row_selected [hPre_row_selected : Cert.Pre_row_selected.Facts] (m : (ℓ : Loc Cert.AttendIdeal.nD Cert.AttendIdeal.τ Cert.AttendIdeal.sig) → Buf (Elt Ideal) ℓ) : Prop :=
  ∀ c : Dev Cert.AttendIdeal.nD,
    (Cert.Pre_row_selected.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5)) (m ((c.tc : Thread Cert.AttendIdeal.nD Cert.AttendIdeal.τ).loc Cert.AttendIdeal.main_arg6)) (m ((c.tc : Thread Cert.AttendIdeal.nD Cert.AttendIdeal.τ).loc Cert.AttendIdeal.main_arg7))) = (fun _ => 1#1)

def Pre_AttendRefIdeal (m : (ℓ : Loc Cert.AttendRefIdeal.nD Cert.AttendRefIdeal.τ Cert.AttendRefIdeal.sig) → Buf (Elt Ideal) ℓ) : Prop :=
  True

def Pre_AttendRefIdeal_row_selected [hPre_row_selected : Cert.Pre_row_selected.Facts] (m : (ℓ : Loc Cert.AttendRefIdeal.nD Cert.AttendRefIdeal.τ Cert.AttendRefIdeal.sig) → Buf (Elt Ideal) ℓ) : Prop :=
  ∀ c : Dev Cert.AttendRefIdeal.nD,
    (Cert.Pre_row_selected.fn (F := Ideal) (m ((c.tc : Thread Cert.AttendRefIdeal.nD Cert.AttendRefIdeal.τ).loc Cert.AttendRefIdeal.main_arg0)) (m ((c.tc : Thread Cert.AttendRefIdeal.nD Cert.AttendRefIdeal.τ).loc Cert.AttendRefIdeal.main_arg1)) (m ((c.tc : Thread Cert.AttendRefIdeal.nD Cert.AttendRefIdeal.τ).loc Cert.AttendRefIdeal.main_arg2)) (m ((c.tc : Thread Cert.AttendRefIdeal.nD Cert.AttendRefIdeal.τ).loc Cert.AttendRefIdeal.main_arg3)) (m ((c.tc : Thread Cert.AttendRefIdeal.nD Cert.AttendRefIdeal.τ).loc Cert.AttendRefIdeal.main_arg4)) (m ((c.tc : Thread Cert.AttendRefIdeal.nD Cert.AttendRefIdeal.τ).loc Cert.AttendRefIdeal.main_arg5)) (m ((c.tc : Thread Cert.AttendRefIdeal.nD Cert.AttendRefIdeal.τ).loc Cert.AttendRefIdeal.main_arg6)) (m ((c.tc : Thread Cert.AttendRefIdeal.nD Cert.AttendRefIdeal.τ).loc Cert.AttendRefIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Gather [hGather : Cert.Gather.Facts] [hPre_rows_in_cache : Cert.Pre_rows_in_cache.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherIdeal [hGatherIdeal : Cert.GatherIdeal.Facts] [hPre_rows_in_cache : Cert.Pre_rows_in_cache.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2))
      ∧ r.2.sem = fun _ => 0)

def quiescent_GatherRefIdeal_pre_rows_in_cache [hGatherRefIdeal : Cert.GatherRefIdeal.Facts] [hPre_rows_in_cache : Cert.Pre_rows_in_cache.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal_rows_in_cache m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2))
      ∧ r.2.sem = fun _ => 0)

def quiescent_GatherRef [hGatherRef : Cert.GatherRef.Facts] [hPre_rows_in_cache : Cert.Pre_rows_in_cache.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2))
      ∧ r.2.sem = fun _ => 0)

def quiescent_SmallS [hSmallS : Cert.SmallS.Facts] : Prop :=
  ∀ (m : (ℓ : Loc Cert.SmallS.nD Cert.SmallS.τ Cert.SmallS.sig) → Buf (Elt Bits) ℓ) (g : Dev Cert.SmallS.nD → PrngReg), Pre_SmallS m →
    θ_run (Cert.SmallS.defs (F := Bits)) (onTc (τ := Cert.SmallS.τ) (Cert.SmallS.main (F := Bits))) ⟨m, fun _ => 0, g⟩ (fun r => (∀ c : Dev Cert.SmallS.nD,
      r.2.mem ((c.tc : Thread Cert.SmallS.nD Cert.SmallS.τ).loc Cert.SmallS.main_arg0) = m ((c.tc : Thread Cert.SmallS.nD Cert.SmallS.τ).loc Cert.SmallS.main_arg0)
      ∧ r.2.mem ((c.tc : Thread Cert.SmallS.nD Cert.SmallS.τ).loc Cert.SmallS.main_arg1) = m ((c.tc : Thread Cert.SmallS.nD Cert.SmallS.τ).loc Cert.SmallS.main_arg1)
      ∧ r.2.mem ((c.tc : Thread Cert.SmallS.nD Cert.SmallS.τ).loc Cert.SmallS.main_arg2) = m ((c.tc : Thread Cert.SmallS.nD Cert.SmallS.τ).loc Cert.SmallS.main_arg2))
      ∧ r.2.sem = fun _ => 0)

def quiescent_SmallSIdeal [hSmallSIdeal : Cert.SmallSIdeal.Facts] : Prop :=
  ∀ (m : (ℓ : Loc Cert.SmallSIdeal.nD Cert.SmallSIdeal.τ Cert.SmallSIdeal.sig) → Buf (Elt Ideal) ℓ) (g : Dev Cert.SmallSIdeal.nD → PrngReg), Pre_SmallSIdeal m →
    θ_run (Cert.SmallSIdeal.defs (F := Ideal)) (onTc (τ := Cert.SmallSIdeal.τ) (Cert.SmallSIdeal.main (F := Ideal))) ⟨m, fun _ => 0, g⟩ (fun r => (∀ c : Dev Cert.SmallSIdeal.nD,
      r.2.mem ((c.tc : Thread Cert.SmallSIdeal.nD Cert.SmallSIdeal.τ).loc Cert.SmallSIdeal.main_arg0) = m ((c.tc : Thread Cert.SmallSIdeal.nD Cert.SmallSIdeal.τ).loc Cert.SmallSIdeal.main_arg0)
      ∧ r.2.mem ((c.tc : Thread Cert.SmallSIdeal.nD Cert.SmallSIdeal.τ).loc Cert.SmallSIdeal.main_arg1) = m ((c.tc : Thread Cert.SmallSIdeal.nD Cert.SmallSIdeal.τ).loc Cert.SmallSIdeal.main_arg1)
      ∧ r.2.mem ((c.tc : Thread Cert.SmallSIdeal.nD Cert.SmallSIdeal.τ).loc Cert.SmallSIdeal.main_arg2) = m ((c.tc : Thread Cert.SmallSIdeal.nD Cert.SmallSIdeal.τ).loc Cert.SmallSIdeal.main_arg2))
      ∧ r.2.sem = fun _ => 0)

def quiescent_SmallSRefIdeal [hSmallSRefIdeal : Cert.SmallSRefIdeal.Facts] : Prop :=
  ∀ (m : (ℓ : Loc Cert.SmallSRefIdeal.nD Cert.SmallSRefIdeal.τ Cert.SmallSRefIdeal.sig) → Buf (Elt Ideal) ℓ) (g : Dev Cert.SmallSRefIdeal.nD → PrngReg), Pre_SmallSRefIdeal m →
    θ_run (Cert.SmallSRefIdeal.defs (F := Ideal)) (onTc (τ := Cert.SmallSRefIdeal.τ) (Cert.SmallSRefIdeal.main (F := Ideal))) ⟨m, fun _ => 0, g⟩ (fun r => (∀ c : Dev Cert.SmallSRefIdeal.nD,
      r.2.mem ((c.tc : Thread Cert.SmallSRefIdeal.nD Cert.SmallSRefIdeal.τ).loc Cert.SmallSRefIdeal.main_arg0) = m ((c.tc : Thread Cert.SmallSRefIdeal.nD Cert.SmallSRefIdeal.τ).loc Cert.SmallSRefIdeal.main_arg0)
      ∧ r.2.mem ((c.tc : Thread Cert.SmallSRefIdeal.nD Cert.SmallSRefIdeal.τ).loc Cert.SmallSRefIdeal.main_arg1) = m ((c.tc : Thread Cert.SmallSRefIdeal.nD Cert.SmallSRefIdeal.τ).loc Cert.SmallSRefIdeal.main_arg1)
      ∧ r.2.mem ((c.tc : Thread Cert.SmallSRefIdeal.nD Cert.SmallSRefIdeal.τ).loc Cert.SmallSRefIdeal.main_arg2) = m ((c.tc : Thread Cert.SmallSRefIdeal.nD Cert.SmallSRefIdeal.τ).loc Cert.SmallSRefIdeal.main_arg2))
      ∧ r.2.sem = fun _ => 0)

def quiescent_MainS [hMainS : Cert.MainS.Facts] : Prop :=
  ∀ (m : (ℓ : Loc Cert.MainS.nD Cert.MainS.τ Cert.MainS.sig) → Buf (Elt Bits) ℓ) (g : Dev Cert.MainS.nD → PrngReg), Pre_MainS m →
    θ_run (Cert.MainS.defs (F := Bits)) (onTc (τ := Cert.MainS.τ) (Cert.MainS.main (F := Bits))) ⟨m, fun _ => 0, g⟩ (fun r => (∀ c : Dev Cert.MainS.nD,
      r.2.mem ((c.tc : Thread Cert.MainS.nD Cert.MainS.τ).loc Cert.MainS.main_arg0) = m ((c.tc : Thread Cert.MainS.nD Cert.MainS.τ).loc Cert.MainS.main_arg0)
      ∧ r.2.mem ((c.tc : Thread Cert.MainS.nD Cert.MainS.τ).loc Cert.MainS.main_arg1) = m ((c.tc : Thread Cert.MainS.nD Cert.MainS.τ).loc Cert.MainS.main_arg1)
      ∧ r.2.mem ((c.tc : Thread Cert.MainS.nD Cert.MainS.τ).loc Cert.MainS.main_arg2) = m ((c.tc : Thread Cert.MainS.nD Cert.MainS.τ).loc Cert.MainS.main_arg2))
      ∧ r.2.sem = fun _ => 0)

def quiescent_MainSIdeal [hMainSIdeal : Cert.MainSIdeal.Facts] : Prop :=
  ∀ (m : (ℓ : Loc Cert.MainSIdeal.nD Cert.MainSIdeal.τ Cert.MainSIdeal.sig) → Buf (Elt Ideal) ℓ) (g : Dev Cert.MainSIdeal.nD → PrngReg), Pre_MainSIdeal m →
    θ_run (Cert.MainSIdeal.defs (F := Ideal)) (onTc (τ := Cert.MainSIdeal.τ) (Cert.MainSIdeal.main (F := Ideal))) ⟨m, fun _ => 0, g⟩ (fun r => (∀ c : Dev Cert.MainSIdeal.nD,
      r.2.mem ((c.tc : Thread Cert.MainSIdeal.nD Cert.MainSIdeal.τ).loc Cert.MainSIdeal.main_arg0) = m ((c.tc : Thread Cert.MainSIdeal.nD Cert.MainSIdeal.τ).loc Cert.MainSIdeal.main_arg0)
      ∧ r.2.mem ((c.tc : Thread Cert.MainSIdeal.nD Cert.MainSIdeal.τ).loc Cert.MainSIdeal.main_arg1) = m ((c.tc : Thread Cert.MainSIdeal.nD Cert.MainSIdeal.τ).loc Cert.MainSIdeal.main_arg1)
      ∧ r.2.mem ((c.tc : Thread Cert.MainSIdeal.nD Cert.MainSIdeal.τ).loc Cert.MainSIdeal.main_arg2) = m ((c.tc : Thread Cert.MainSIdeal.nD Cert.MainSIdeal.τ).loc Cert.MainSIdeal.main_arg2))
      ∧ r.2.sem = fun _ => 0)

def quiescent_MainSRefIdeal [hMainSRefIdeal : Cert.MainSRefIdeal.Facts] : Prop :=
  ∀ (m : (ℓ : Loc Cert.MainSRefIdeal.nD Cert.MainSRefIdeal.τ Cert.MainSRefIdeal.sig) → Buf (Elt Ideal) ℓ) (g : Dev Cert.MainSRefIdeal.nD → PrngReg), Pre_MainSRefIdeal m →
    θ_run (Cert.MainSRefIdeal.defs (F := Ideal)) (onTc (τ := Cert.MainSRefIdeal.τ) (Cert.MainSRefIdeal.main (F := Ideal))) ⟨m, fun _ => 0, g⟩ (fun r => (∀ c : Dev Cert.MainSRefIdeal.nD,
      r.2.mem ((c.tc : Thread Cert.MainSRefIdeal.nD Cert.MainSRefIdeal.τ).loc Cert.MainSRefIdeal.main_arg0) = m ((c.tc : Thread Cert.MainSRefIdeal.nD Cert.MainSRefIdeal.τ).loc Cert.MainSRefIdeal.main_arg0)
      ∧ r.2.mem ((c.tc : Thread Cert.MainSRefIdeal.nD Cert.MainSRefIdeal.τ).loc Cert.MainSRefIdeal.main_arg1) = m ((c.tc : Thread Cert.MainSRefIdeal.nD Cert.MainSRefIdeal.τ).loc Cert.MainSRefIdeal.main_arg1)
      ∧ r.2.mem ((c.tc : Thread Cert.MainSRefIdeal.nD Cert.MainSRefIdeal.τ).loc Cert.MainSRefIdeal.main_arg2) = m ((c.tc : Thread Cert.MainSRefIdeal.nD Cert.MainSRefIdeal.τ).loc Cert.MainSRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_OutS [hOutS : Cert.OutS.Facts] : Prop :=
  ∀ (m : (ℓ : Loc Cert.OutS.nD Cert.OutS.τ Cert.OutS.sig) → Buf (Elt Bits) ℓ) (g : Dev Cert.OutS.nD → PrngReg), Pre_OutS m →
    θ_run (Cert.OutS.defs (F := Bits)) (onTc (τ := Cert.OutS.τ) (Cert.OutS.main (F := Bits))) ⟨m, fun _ => 0, g⟩ (fun r => (∀ c : Dev Cert.OutS.nD,
      r.2.mem ((c.tc : Thread Cert.OutS.nD Cert.OutS.τ).loc Cert.OutS.main_arg0) = m ((c.tc : Thread Cert.OutS.nD Cert.OutS.τ).loc Cert.OutS.main_arg0)
      ∧ r.2.mem ((c.tc : Thread Cert.OutS.nD Cert.OutS.τ).loc Cert.OutS.main_arg1) = m ((c.tc : Thread Cert.OutS.nD Cert.OutS.τ).loc Cert.OutS.main_arg1)
      ∧ r.2.mem ((c.tc : Thread Cert.OutS.nD Cert.OutS.τ).loc Cert.OutS.main_arg2) = m ((c.tc : Thread Cert.OutS.nD Cert.OutS.τ).loc Cert.OutS.main_arg2)
      ∧ r.2.mem ((c.tc : Thread Cert.OutS.nD Cert.OutS.τ).loc Cert.OutS.main_arg3) = m ((c.tc : Thread Cert.OutS.nD Cert.OutS.τ).loc Cert.OutS.main_arg3)
      ∧ r.2.mem ((c.tc : Thread Cert.OutS.nD Cert.OutS.τ).loc Cert.OutS.main_arg4) = m ((c.tc : Thread Cert.OutS.nD Cert.OutS.τ).loc Cert.OutS.main_arg4))
      ∧ r.2.sem = fun _ => 0)

def quiescent_OutSIdeal [hOutSIdeal : Cert.OutSIdeal.Facts] : Prop :=
  ∀ (m : (ℓ : Loc Cert.OutSIdeal.nD Cert.OutSIdeal.τ Cert.OutSIdeal.sig) → Buf (Elt Ideal) ℓ) (g : Dev Cert.OutSIdeal.nD → PrngReg), Pre_OutSIdeal m →
    θ_run (Cert.OutSIdeal.defs (F := Ideal)) (onTc (τ := Cert.OutSIdeal.τ) (Cert.OutSIdeal.main (F := Ideal))) ⟨m, fun _ => 0, g⟩ (fun r => (∀ c : Dev Cert.OutSIdeal.nD,
      r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
      ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
      ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
      ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3)
      ∧ r.2.mem ((c.tc : Thread Cert.OutSIdeal.nD Cert.OutSIdeal.τ).loc Cert.OutSIdeal.main_arg4) = m ((c.tc : Thread Cert.OutSIdeal.nD Cert.OutSIdeal.τ).loc Cert.OutSIdeal.main_arg4))
      ∧ r.2.sem = fun _ => 0)

def quiescent_OutSRefIdeal [hOutSRefIdeal : Cert.OutSRefIdeal.Facts] : Prop :=
  ∀ (m : (ℓ : Loc Cert.OutSRefIdeal.nD Cert.OutSRefIdeal.τ Cert.OutSRefIdeal.sig) → Buf (Elt Ideal) ℓ) (g : Dev Cert.OutSRefIdeal.nD → PrngReg), Pre_OutSRefIdeal m →
    θ_run (Cert.OutSRefIdeal.defs (F := Ideal)) (onTc (τ := Cert.OutSRefIdeal.τ) (Cert.OutSRefIdeal.main (F := Ideal))) ⟨m, fun _ => 0, g⟩ (fun r => (∀ c : Dev Cert.OutSRefIdeal.nD,
      r.2.mem ((c.tc : Thread Cert.OutSRefIdeal.nD Cert.OutSRefIdeal.τ).loc Cert.OutSRefIdeal.main_arg0) = m ((c.tc : Thread Cert.OutSRefIdeal.nD Cert.OutSRefIdeal.τ).loc Cert.OutSRefIdeal.main_arg0)
      ∧ r.2.mem ((c.tc : Thread Cert.OutSRefIdeal.nD Cert.OutSRefIdeal.τ).loc Cert.OutSRefIdeal.main_arg1) = m ((c.tc : Thread Cert.OutSRefIdeal.nD Cert.OutSRefIdeal.τ).loc Cert.OutSRefIdeal.main_arg1)
      ∧ r.2.mem ((c.tc : Thread Cert.OutSRefIdeal.nD Cert.OutSRefIdeal.τ).loc Cert.OutSRefIdeal.main_arg2) = m ((c.tc : Thread Cert.OutSRefIdeal.nD Cert.OutSRefIdeal.τ).loc Cert.OutSRefIdeal.main_arg2)
      ∧ r.2.mem ((c.tc : Thread Cert.OutSRefIdeal.nD Cert.OutSRefIdeal.τ).loc Cert.OutSRefIdeal.main_arg3) = m ((c.tc : Thread Cert.OutSRefIdeal.nD Cert.OutSRefIdeal.τ).loc Cert.OutSRefIdeal.main_arg3)
      ∧ r.2.mem ((c.tc : Thread Cert.OutSRefIdeal.nD Cert.OutSRefIdeal.τ).loc Cert.OutSRefIdeal.main_arg4) = m ((c.tc : Thread Cert.OutSRefIdeal.nD Cert.OutSRefIdeal.τ).loc Cert.OutSRefIdeal.main_arg4))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7))
      ∧ r.2.sem = fun _ => 0)

def quiescent_StepIdeal_pre_forget_finite [hStepIdeal : Cert.StepIdeal.Facts] [hPre_forget_finite : Cert.Pre_forget_finite.Facts] : Prop :=
  ∀ (m : (ℓ : Loc Cert.StepIdeal.nD Cert.StepIdeal.τ Cert.StepIdeal.sig) → Buf (Elt Ideal) ℓ) (g : Dev Cert.StepIdeal.nD → PrngReg), Pre_StepIdeal_forget_finite m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6)
      ∧ r.2.mem ((c.tc : Thread Cert.StepRefIdeal.nD Cert.StepRefIdeal.τ).loc Cert.StepRefIdeal.main_arg7) = m ((c.tc : Thread Cert.StepRefIdeal.nD Cert.StepRefIdeal.τ).loc Cert.StepRefIdeal.main_arg7))
      ∧ r.2.sem = fun _ => 0)

def quiescent_StepRefIdeal_pre_forget_finite [hStepRefIdeal : Cert.StepRefIdeal.Facts] [hPre_forget_finite : Cert.Pre_forget_finite.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal_forget_finite m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6)
      ∧ r.2.mem ((c.tc : Thread Cert.StepRefIdeal.nD Cert.StepRefIdeal.τ).loc Cert.StepRefIdeal.main_arg7) = m ((c.tc : Thread Cert.StepRefIdeal.nD Cert.StepRefIdeal.τ).loc Cert.StepRefIdeal.main_arg7))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3)
      ∧ r.2.mem ((c.tc : Thread Cert.Attend.nD Cert.Attend.τ).loc Cert.Attend.main_arg4) = m ((c.tc : Thread Cert.Attend.nD Cert.Attend.τ).loc Cert.Attend.main_arg4)
      ∧ r.2.mem ((c.tc : Thread Cert.Attend.nD Cert.Attend.τ).loc Cert.Attend.main_arg5) = m ((c.tc : Thread Cert.Attend.nD Cert.Attend.τ).loc Cert.Attend.main_arg5)
      ∧ r.2.mem ((c.tc : Thread Cert.Attend.nD Cert.Attend.τ).loc Cert.Attend.main_arg6) = m ((c.tc : Thread Cert.Attend.nD Cert.Attend.τ).loc Cert.Attend.main_arg6)
      ∧ r.2.mem ((c.tc : Thread Cert.Attend.nD Cert.Attend.τ).loc Cert.Attend.main_arg7) = m ((c.tc : Thread Cert.Attend.nD Cert.Attend.τ).loc Cert.Attend.main_arg7))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
      ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6)
      ∧ r.2.mem ((c.tc : Thread Cert.AttendIdeal.nD Cert.AttendIdeal.τ).loc Cert.AttendIdeal.main_arg7) = m ((c.tc : Thread Cert.AttendIdeal.nD Cert.AttendIdeal.τ).loc Cert.AttendIdeal.main_arg7))
      ∧ r.2.sem = fun _ => 0)

def quiescent_AttendIdeal_pre_row_selected [hAttendIdeal : Cert.AttendIdeal.Facts] [hPre_row_selected : Cert.Pre_row_selected.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_row_selected m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
      ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6)
      ∧ r.2.mem ((c.tc : Thread Cert.AttendIdeal.nD Cert.AttendIdeal.τ).loc Cert.AttendIdeal.main_arg7) = m ((c.tc : Thread Cert.AttendIdeal.nD Cert.AttendIdeal.τ).loc Cert.AttendIdeal.main_arg7))
      ∧ r.2.sem = fun _ => 0)

def quiescent_AttendRefIdeal [hAttendRefIdeal : Cert.AttendRefIdeal.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2)
      ∧ r.2.mem ((c.tc : Thread Cert.AttendRefIdeal.nD Cert.AttendRefIdeal.τ).loc Cert.AttendRefIdeal.main_arg3) = m ((c.tc : Thread Cert.AttendRefIdeal.nD Cert.AttendRefIdeal.τ).loc Cert.AttendRefIdeal.main_arg3)
      ∧ r.2.mem ((c.tc : Thread Cert.AttendRefIdeal.nD Cert.AttendRefIdeal.τ).loc Cert.AttendRefIdeal.main_arg4) = m ((c.tc : Thread Cert.AttendRefIdeal.nD Cert.AttendRefIdeal.τ).loc Cert.AttendRefIdeal.main_arg4)
      ∧ r.2.mem ((c.tc : Thread Cert.AttendRefIdeal.nD Cert.AttendRefIdeal.τ).loc Cert.AttendRefIdeal.main_arg5) = m ((c.tc : Thread Cert.AttendRefIdeal.nD Cert.AttendRefIdeal.τ).loc Cert.AttendRefIdeal.main_arg5)
      ∧ r.2.mem ((c.tc : Thread Cert.AttendRefIdeal.nD Cert.AttendRefIdeal.τ).loc Cert.AttendRefIdeal.main_arg6) = m ((c.tc : Thread Cert.AttendRefIdeal.nD Cert.AttendRefIdeal.τ).loc Cert.AttendRefIdeal.main_arg6)
      ∧ r.2.mem ((c.tc : Thread Cert.AttendRefIdeal.nD Cert.AttendRefIdeal.τ).loc Cert.AttendRefIdeal.main_arg7) = m ((c.tc : Thread Cert.AttendRefIdeal.nD Cert.AttendRefIdeal.τ).loc Cert.AttendRefIdeal.main_arg7))
      ∧ r.2.sem = fun _ => 0)

def quiescent_AttendRefIdeal_pre_row_selected [hAttendRefIdeal : Cert.AttendRefIdeal.Facts] [hPre_row_selected : Cert.Pre_row_selected.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal_row_selected m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2)
      ∧ r.2.mem ((c.tc : Thread Cert.AttendRefIdeal.nD Cert.AttendRefIdeal.τ).loc Cert.AttendRefIdeal.main_arg3) = m ((c.tc : Thread Cert.AttendRefIdeal.nD Cert.AttendRefIdeal.τ).loc Cert.AttendRefIdeal.main_arg3)
      ∧ r.2.mem ((c.tc : Thread Cert.AttendRefIdeal.nD Cert.AttendRefIdeal.τ).loc Cert.AttendRefIdeal.main_arg4) = m ((c.tc : Thread Cert.AttendRefIdeal.nD Cert.AttendRefIdeal.τ).loc Cert.AttendRefIdeal.main_arg4)
      ∧ r.2.mem ((c.tc : Thread Cert.AttendRefIdeal.nD Cert.AttendRefIdeal.τ).loc Cert.AttendRefIdeal.main_arg5) = m ((c.tc : Thread Cert.AttendRefIdeal.nD Cert.AttendRefIdeal.τ).loc Cert.AttendRefIdeal.main_arg5)
      ∧ r.2.mem ((c.tc : Thread Cert.AttendRefIdeal.nD Cert.AttendRefIdeal.τ).loc Cert.AttendRefIdeal.main_arg6) = m ((c.tc : Thread Cert.AttendRefIdeal.nD Cert.AttendRefIdeal.τ).loc Cert.AttendRefIdeal.main_arg6)
      ∧ r.2.mem ((c.tc : Thread Cert.AttendRefIdeal.nD Cert.AttendRefIdeal.τ).loc Cert.AttendRefIdeal.main_arg7) = m ((c.tc : Thread Cert.AttendRefIdeal.nD Cert.AttendRefIdeal.τ).loc Cert.AttendRefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Gather_GatherIdeal : Prop :=
  True

def algebraic_GatherIdeal_GatherRefIdeal [hGatherIdeal : Cert.GatherIdeal.Facts] [hGatherRefIdeal : Cert.GatherRefIdeal.Facts] [hPre_rows_in_cache : Cert.Pre_rows_in_cache.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)
      ∧ m' ((c.tc : Thread Cert.GatherRefIdeal.nD Cert.GatherRefIdeal.τ).loc Cert.GatherRefIdeal.main_arg2) = m ((c.tc : Thread Cert.GatherIdeal.nD Cert.GatherIdeal.τ).loc Cert.GatherIdeal.main_arg2)) →
    ∃ (v0 : (c : Dev Cert.GatherIdeal.nD) → Buf (Elt Ideal) ((c.tc : Thread Cert.GatherIdeal.nD Cert.GatherIdeal.τ).loc Cert.GatherIdeal.main_v12_0)) (v1 : (c : Dev Cert.GatherIdeal.nD) → Buf (Elt Ideal) ((c.tc : Thread Cert.GatherIdeal.nD Cert.GatherIdeal.τ).loc Cert.GatherIdeal.main_v12_1)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v12_0) = v0 c
          ∧ r.2.mem ((c.tc : Thread Cert.GatherIdeal.nD Cert.GatherIdeal.τ).loc Cert.GatherIdeal.main_v12_1) = v1 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v21) = v0 c
          ∧ r.2.mem ((c.tc : Thread Cert.GatherRefIdeal.nD Cert.GatherRefIdeal.τ).loc Cert.GatherRefIdeal.main_v22) = v1 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1)
          ∧ r.2.mem ((c.tc : Thread Cert.GatherRefIdeal.nD Cert.GatherRefIdeal.τ).loc Cert.GatherRefIdeal.main_arg2) = m' ((c.tc : Thread Cert.GatherRefIdeal.nD Cert.GatherRefIdeal.τ).loc Cert.GatherRefIdeal.main_arg2))

def bitexact_Gather_GatherRef [hGather : Cert.Gather.Facts] [hGatherRef : Cert.GatherRef.Facts] [hPre_rows_in_cache : Cert.Pre_rows_in_cache.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m' ((c.tc : Thread Cert.GatherRef.nD Cert.GatherRef.τ).loc Cert.GatherRef.main_arg0) = m ((c.tc : Thread Cert.Gather.nD Cert.Gather.τ).loc Cert.Gather.main_arg0)
      ∧ m' ((c.tc : Thread Cert.GatherRef.nD Cert.GatherRef.τ).loc Cert.GatherRef.main_arg1) = m ((c.tc : Thread Cert.Gather.nD Cert.Gather.τ).loc Cert.Gather.main_arg1)
      ∧ m' ((c.tc : Thread Cert.GatherRef.nD Cert.GatherRef.τ).loc Cert.GatherRef.main_arg2) = m ((c.tc : Thread Cert.Gather.nD Cert.Gather.τ).loc Cert.Gather.main_arg2)) →
    ∃ (v0 : (c : Dev Cert.Gather.nD) → Buf (Elt Bits) ((c.tc : Thread Cert.Gather.nD Cert.Gather.τ).loc Cert.Gather.main_v12_0)) (v1 : (c : Dev Cert.Gather.nD) → Buf (Elt Bits) ((c.tc : Thread Cert.Gather.nD Cert.Gather.τ).loc Cert.Gather.main_v12_1)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v12_0) = v0 c
          ∧ r.2.mem ((c.tc : Thread Cert.Gather.nD Cert.Gather.τ).loc Cert.Gather.main_v12_1) = v1 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2))
      ∧ θ_run (Cert.GatherRef.defs (F := Bits)) (onTc (τ := Cert.GatherRef.τ) (Cert.GatherRef.main (F := Bits))) ⟨m', fun _ => 0, g'⟩ (fun r => ∀ c : Dev Cert.GatherRef.nD,
          r.2.mem ((c.tc : Thread Cert.GatherRef.nD Cert.GatherRef.τ).loc Cert.GatherRef.main_v21) = v0 c
          ∧ r.2.mem ((c.tc : Thread Cert.GatherRef.nD Cert.GatherRef.τ).loc Cert.GatherRef.main_v22) = v1 c
          ∧ r.2.mem ((c.tc : Thread Cert.GatherRef.nD Cert.GatherRef.τ).loc Cert.GatherRef.main_arg0) = m' ((c.tc : Thread Cert.GatherRef.nD Cert.GatherRef.τ).loc Cert.GatherRef.main_arg0)
          ∧ r.2.mem ((c.tc : Thread Cert.GatherRef.nD Cert.GatherRef.τ).loc Cert.GatherRef.main_arg1) = m' ((c.tc : Thread Cert.GatherRef.nD Cert.GatherRef.τ).loc Cert.GatherRef.main_arg1)
          ∧ r.2.mem ((c.tc : Thread Cert.GatherRef.nD Cert.GatherRef.τ).loc Cert.GatherRef.main_arg2) = m' ((c.tc : Thread Cert.GatherRef.nD Cert.GatherRef.τ).loc Cert.GatherRef.main_arg2))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)) →
    ∃ (v0 : (c : Dev Cert.SmallIdeal.nD) → Buf (Elt Ideal) ((c.tc : Thread Cert.SmallIdeal.nD Cert.SmallIdeal.τ).loc Cert.SmallIdeal.main_v14)) (v1 : (c : Dev Cert.SmallIdeal.nD) → Buf (Elt Ideal) ((c.tc : Thread Cert.SmallIdeal.nD Cert.SmallIdeal.τ).loc Cert.SmallIdeal.main_v15)) (v2 : (c : Dev Cert.SmallIdeal.nD) → Buf (Elt Ideal) ((c.tc : Thread Cert.SmallIdeal.nD Cert.SmallIdeal.τ).loc Cert.SmallIdeal.main_v17)) (v3 : (c : Dev Cert.SmallIdeal.nD) → Buf (Elt Ideal) ((c.tc : Thread Cert.SmallIdeal.nD Cert.SmallIdeal.τ).loc Cert.SmallIdeal.main_v19)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v14) = v0 c
          ∧ r.2.mem ((c.tc : Thread Cert.SmallIdeal.nD Cert.SmallIdeal.τ).loc Cert.SmallIdeal.main_v15) = v1 c
          ∧ r.2.mem ((c.tc : Thread Cert.SmallIdeal.nD Cert.SmallIdeal.τ).loc Cert.SmallIdeal.main_v17) = v2 c
          ∧ r.2.mem ((c.tc : Thread Cert.SmallIdeal.nD Cert.SmallIdeal.τ).loc Cert.SmallIdeal.main_v19) = v3 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v30) = v0 c
          ∧ r.2.mem ((c.tc : Thread Cert.SmallRefIdeal.nD Cert.SmallRefIdeal.τ).loc Cert.SmallRefIdeal.main_v31) = v1 c
          ∧ r.2.mem ((c.tc : Thread Cert.SmallRefIdeal.nD Cert.SmallRefIdeal.τ).loc Cert.SmallRefIdeal.main_v32) = v2 c
          ∧ r.2.mem ((c.tc : Thread Cert.SmallRefIdeal.nD Cert.SmallRefIdeal.τ).loc Cert.SmallRefIdeal.main_v33) = v3 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2))

def preserves_SmallS_SmallSIdeal : Prop :=
  True

def algebraic_SmallSIdeal_SmallSRefIdeal [hSmallSIdeal : Cert.SmallSIdeal.Facts] [hSmallSRefIdeal : Cert.SmallSRefIdeal.Facts] : Prop :=
  ∀ (m : (ℓ : Loc Cert.SmallSIdeal.nD Cert.SmallSIdeal.τ Cert.SmallSIdeal.sig) → Buf (Elt Ideal) ℓ) (g : Dev Cert.SmallSIdeal.nD → PrngReg)
    (m' : (ℓ : Loc Cert.SmallSRefIdeal.nD Cert.SmallSRefIdeal.τ Cert.SmallSRefIdeal.sig) → Buf (Elt Ideal) ℓ) (g' : Dev Cert.SmallSRefIdeal.nD → PrngReg), Pre_SmallSIdeal m →
    (∀ c : Dev Cert.SmallSIdeal.nD,
      m' ((c.tc : Thread Cert.SmallSRefIdeal.nD Cert.SmallSRefIdeal.τ).loc Cert.SmallSRefIdeal.main_arg0) = m ((c.tc : Thread Cert.SmallSIdeal.nD Cert.SmallSIdeal.τ).loc Cert.SmallSIdeal.main_arg0)
      ∧ m' ((c.tc : Thread Cert.SmallSRefIdeal.nD Cert.SmallSRefIdeal.τ).loc Cert.SmallSRefIdeal.main_arg1) = m ((c.tc : Thread Cert.SmallSIdeal.nD Cert.SmallSIdeal.τ).loc Cert.SmallSIdeal.main_arg1)
      ∧ m' ((c.tc : Thread Cert.SmallSRefIdeal.nD Cert.SmallSRefIdeal.τ).loc Cert.SmallSRefIdeal.main_arg2) = m ((c.tc : Thread Cert.SmallSIdeal.nD Cert.SmallSIdeal.τ).loc Cert.SmallSIdeal.main_arg2)) →
    ∃ (v0 : (c : Dev Cert.SmallSIdeal.nD) → Buf (Elt Ideal) ((c.tc : Thread Cert.SmallSIdeal.nD Cert.SmallSIdeal.τ).loc Cert.SmallSIdeal.main_v14)) (v1 : (c : Dev Cert.SmallSIdeal.nD) → Buf (Elt Ideal) ((c.tc : Thread Cert.SmallSIdeal.nD Cert.SmallSIdeal.τ).loc Cert.SmallSIdeal.main_v15)) (v2 : (c : Dev Cert.SmallSIdeal.nD) → Buf (Elt Ideal) ((c.tc : Thread Cert.SmallSIdeal.nD Cert.SmallSIdeal.τ).loc Cert.SmallSIdeal.main_v17)) (v3 : (c : Dev Cert.SmallSIdeal.nD) → Buf (Elt Ideal) ((c.tc : Thread Cert.SmallSIdeal.nD Cert.SmallSIdeal.τ).loc Cert.SmallSIdeal.main_v19)),
      θ_run (Cert.SmallSIdeal.defs (F := Ideal)) (onTc (τ := Cert.SmallSIdeal.τ) (Cert.SmallSIdeal.main (F := Ideal))) ⟨m, fun _ => 0, g⟩ (fun r => ∀ c : Dev Cert.SmallSIdeal.nD,
          r.2.mem ((c.tc : Thread Cert.SmallSIdeal.nD Cert.SmallSIdeal.τ).loc Cert.SmallSIdeal.main_v14) = v0 c
          ∧ r.2.mem ((c.tc : Thread Cert.SmallSIdeal.nD Cert.SmallSIdeal.τ).loc Cert.SmallSIdeal.main_v15) = v1 c
          ∧ r.2.mem ((c.tc : Thread Cert.SmallSIdeal.nD Cert.SmallSIdeal.τ).loc Cert.SmallSIdeal.main_v17) = v2 c
          ∧ r.2.mem ((c.tc : Thread Cert.SmallSIdeal.nD Cert.SmallSIdeal.τ).loc Cert.SmallSIdeal.main_v19) = v3 c
          ∧ r.2.mem ((c.tc : Thread Cert.SmallSIdeal.nD Cert.SmallSIdeal.τ).loc Cert.SmallSIdeal.main_arg0) = m ((c.tc : Thread Cert.SmallSIdeal.nD Cert.SmallSIdeal.τ).loc Cert.SmallSIdeal.main_arg0)
          ∧ r.2.mem ((c.tc : Thread Cert.SmallSIdeal.nD Cert.SmallSIdeal.τ).loc Cert.SmallSIdeal.main_arg1) = m ((c.tc : Thread Cert.SmallSIdeal.nD Cert.SmallSIdeal.τ).loc Cert.SmallSIdeal.main_arg1)
          ∧ r.2.mem ((c.tc : Thread Cert.SmallSIdeal.nD Cert.SmallSIdeal.τ).loc Cert.SmallSIdeal.main_arg2) = m ((c.tc : Thread Cert.SmallSIdeal.nD Cert.SmallSIdeal.τ).loc Cert.SmallSIdeal.main_arg2))
      ∧ θ_run (Cert.SmallSRefIdeal.defs (F := Ideal)) (onTc (τ := Cert.SmallSRefIdeal.τ) (Cert.SmallSRefIdeal.main (F := Ideal))) ⟨m', fun _ => 0, g'⟩ (fun r => ∀ c : Dev Cert.SmallSRefIdeal.nD,
          r.2.mem ((c.tc : Thread Cert.SmallSRefIdeal.nD Cert.SmallSRefIdeal.τ).loc Cert.SmallSRefIdeal.main_v30) = v0 c
          ∧ r.2.mem ((c.tc : Thread Cert.SmallSRefIdeal.nD Cert.SmallSRefIdeal.τ).loc Cert.SmallSRefIdeal.main_v31) = v1 c
          ∧ r.2.mem ((c.tc : Thread Cert.SmallSRefIdeal.nD Cert.SmallSRefIdeal.τ).loc Cert.SmallSRefIdeal.main_v32) = v2 c
          ∧ r.2.mem ((c.tc : Thread Cert.SmallSRefIdeal.nD Cert.SmallSRefIdeal.τ).loc Cert.SmallSRefIdeal.main_v33) = v3 c
          ∧ r.2.mem ((c.tc : Thread Cert.SmallSRefIdeal.nD Cert.SmallSRefIdeal.τ).loc Cert.SmallSRefIdeal.main_arg0) = m' ((c.tc : Thread Cert.SmallSRefIdeal.nD Cert.SmallSRefIdeal.τ).loc Cert.SmallSRefIdeal.main_arg0)
          ∧ r.2.mem ((c.tc : Thread Cert.SmallSRefIdeal.nD Cert.SmallSRefIdeal.τ).loc Cert.SmallSRefIdeal.main_arg1) = m' ((c.tc : Thread Cert.SmallSRefIdeal.nD Cert.SmallSRefIdeal.τ).loc Cert.SmallSRefIdeal.main_arg1)
          ∧ r.2.mem ((c.tc : Thread Cert.SmallSRefIdeal.nD Cert.SmallSRefIdeal.τ).loc Cert.SmallSRefIdeal.main_arg2) = m' ((c.tc : Thread Cert.SmallSRefIdeal.nD Cert.SmallSRefIdeal.τ).loc Cert.SmallSRefIdeal.main_arg2))

def preserves_MainS_MainSIdeal : Prop :=
  True

def algebraic_MainSIdeal_MainSRefIdeal [hMainSIdeal : Cert.MainSIdeal.Facts] [hMainSRefIdeal : Cert.MainSRefIdeal.Facts] : Prop :=
  ∀ (m : (ℓ : Loc Cert.MainSIdeal.nD Cert.MainSIdeal.τ Cert.MainSIdeal.sig) → Buf (Elt Ideal) ℓ) (g : Dev Cert.MainSIdeal.nD → PrngReg)
    (m' : (ℓ : Loc Cert.MainSRefIdeal.nD Cert.MainSRefIdeal.τ Cert.MainSRefIdeal.sig) → Buf (Elt Ideal) ℓ) (g' : Dev Cert.MainSRefIdeal.nD → PrngReg), Pre_MainSIdeal m →
    (∀ c : Dev Cert.MainSIdeal.nD,
      m' ((c.tc : Thread Cert.MainSRefIdeal.nD Cert.MainSRefIdeal.τ).loc Cert.MainSRefIdeal.main_arg0) = m ((c.tc : Thread Cert.MainSIdeal.nD Cert.MainSIdeal.τ).loc Cert.MainSIdeal.main_arg0)
      ∧ m' ((c.tc : Thread Cert.MainSRefIdeal.nD Cert.MainSRefIdeal.τ).loc Cert.MainSRefIdeal.main_arg1) = m ((c.tc : Thread Cert.MainSIdeal.nD Cert.MainSIdeal.τ).loc Cert.MainSIdeal.main_arg1)
      ∧ m' ((c.tc : Thread Cert.MainSRefIdeal.nD Cert.MainSRefIdeal.τ).loc Cert.MainSRefIdeal.main_arg2) = m ((c.tc : Thread Cert.MainSIdeal.nD Cert.MainSIdeal.τ).loc Cert.MainSIdeal.main_arg2)) →
    ∃ (v0 : (c : Dev Cert.MainSIdeal.nD) → Buf (Elt Ideal) ((c.tc : Thread Cert.MainSIdeal.nD Cert.MainSIdeal.τ).loc Cert.MainSIdeal.main_v5)),
      θ_run (Cert.MainSIdeal.defs (F := Ideal)) (onTc (τ := Cert.MainSIdeal.τ) (Cert.MainSIdeal.main (F := Ideal))) ⟨m, fun _ => 0, g⟩ (fun r => ∀ c : Dev Cert.MainSIdeal.nD,
          r.2.mem ((c.tc : Thread Cert.MainSIdeal.nD Cert.MainSIdeal.τ).loc Cert.MainSIdeal.main_v5) = v0 c
          ∧ r.2.mem ((c.tc : Thread Cert.MainSIdeal.nD Cert.MainSIdeal.τ).loc Cert.MainSIdeal.main_arg0) = m ((c.tc : Thread Cert.MainSIdeal.nD Cert.MainSIdeal.τ).loc Cert.MainSIdeal.main_arg0)
          ∧ r.2.mem ((c.tc : Thread Cert.MainSIdeal.nD Cert.MainSIdeal.τ).loc Cert.MainSIdeal.main_arg1) = m ((c.tc : Thread Cert.MainSIdeal.nD Cert.MainSIdeal.τ).loc Cert.MainSIdeal.main_arg1)
          ∧ r.2.mem ((c.tc : Thread Cert.MainSIdeal.nD Cert.MainSIdeal.τ).loc Cert.MainSIdeal.main_arg2) = m ((c.tc : Thread Cert.MainSIdeal.nD Cert.MainSIdeal.τ).loc Cert.MainSIdeal.main_arg2))
      ∧ θ_run (Cert.MainSRefIdeal.defs (F := Ideal)) (onTc (τ := Cert.MainSRefIdeal.τ) (Cert.MainSRefIdeal.main (F := Ideal))) ⟨m', fun _ => 0, g'⟩ (fun r => ∀ c : Dev Cert.MainSRefIdeal.nD,
          r.2.mem ((c.tc : Thread Cert.MainSRefIdeal.nD Cert.MainSRefIdeal.τ).loc Cert.MainSRefIdeal.main_v35) = v0 c
          ∧ r.2.mem ((c.tc : Thread Cert.MainSRefIdeal.nD Cert.MainSRefIdeal.τ).loc Cert.MainSRefIdeal.main_arg0) = m' ((c.tc : Thread Cert.MainSRefIdeal.nD Cert.MainSRefIdeal.τ).loc Cert.MainSRefIdeal.main_arg0)
          ∧ r.2.mem ((c.tc : Thread Cert.MainSRefIdeal.nD Cert.MainSRefIdeal.τ).loc Cert.MainSRefIdeal.main_arg1) = m' ((c.tc : Thread Cert.MainSRefIdeal.nD Cert.MainSRefIdeal.τ).loc Cert.MainSRefIdeal.main_arg1)
          ∧ r.2.mem ((c.tc : Thread Cert.MainSRefIdeal.nD Cert.MainSRefIdeal.τ).loc Cert.MainSRefIdeal.main_arg2) = m' ((c.tc : Thread Cert.MainSRefIdeal.nD Cert.MainSRefIdeal.τ).loc Cert.MainSRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v21) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_OutS_OutSIdeal : Prop :=
  True

def algebraic_OutSIdeal_OutSRefIdeal [hOutSIdeal : Cert.OutSIdeal.Facts] [hOutSRefIdeal : Cert.OutSRefIdeal.Facts] : Prop :=
  ∀ (m : (ℓ : Loc Cert.OutSIdeal.nD Cert.OutSIdeal.τ Cert.OutSIdeal.sig) → Buf (Elt Ideal) ℓ) (g : Dev Cert.OutSIdeal.nD → PrngReg)
    (m' : (ℓ : Loc Cert.OutSRefIdeal.nD Cert.OutSRefIdeal.τ Cert.OutSRefIdeal.sig) → Buf (Elt Ideal) ℓ) (g' : Dev Cert.OutSRefIdeal.nD → PrngReg), Pre_OutSIdeal m →
    (∀ c : Dev Cert.OutSIdeal.nD,
      m' ((c.tc : Thread Cert.OutSRefIdeal.nD Cert.OutSRefIdeal.τ).loc Cert.OutSRefIdeal.main_arg0) = m ((c.tc : Thread Cert.OutSIdeal.nD Cert.OutSIdeal.τ).loc Cert.OutSIdeal.main_arg0)
      ∧ m' ((c.tc : Thread Cert.OutSRefIdeal.nD Cert.OutSRefIdeal.τ).loc Cert.OutSRefIdeal.main_arg1) = m ((c.tc : Thread Cert.OutSIdeal.nD Cert.OutSIdeal.τ).loc Cert.OutSIdeal.main_arg1)
      ∧ m' ((c.tc : Thread Cert.OutSRefIdeal.nD Cert.OutSRefIdeal.τ).loc Cert.OutSRefIdeal.main_arg2) = m ((c.tc : Thread Cert.OutSIdeal.nD Cert.OutSIdeal.τ).loc Cert.OutSIdeal.main_arg2)
      ∧ m' ((c.tc : Thread Cert.OutSRefIdeal.nD Cert.OutSRefIdeal.τ).loc Cert.OutSRefIdeal.main_arg3) = m ((c.tc : Thread Cert.OutSIdeal.nD Cert.OutSIdeal.τ).loc Cert.OutSIdeal.main_arg3)
      ∧ m' ((c.tc : Thread Cert.OutSRefIdeal.nD Cert.OutSRefIdeal.τ).loc Cert.OutSRefIdeal.main_arg4) = m ((c.tc : Thread Cert.OutSIdeal.nD Cert.OutSIdeal.τ).loc Cert.OutSIdeal.main_arg4)) →
    ∃ (v0 : (c : Dev Cert.OutSIdeal.nD) → Buf (Elt Ideal) ((c.tc : Thread Cert.OutSIdeal.nD Cert.OutSIdeal.τ).loc Cert.OutSIdeal.main_v6)),
      θ_run (Cert.OutSIdeal.defs (F := Ideal)) (onTc (τ := Cert.OutSIdeal.τ) (Cert.OutSIdeal.main (F := Ideal))) ⟨m, fun _ => 0, g⟩ (fun r => ∀ c : Dev Cert.OutSIdeal.nD,
          r.2.mem ((c.tc : Thread Cert.OutSIdeal.nD Cert.OutSIdeal.τ).loc Cert.OutSIdeal.main_v6) = v0 c
          ∧ r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
          ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
          ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
          ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3)
          ∧ r.2.mem ((c.tc : Thread Cert.OutSIdeal.nD Cert.OutSIdeal.τ).loc Cert.OutSIdeal.main_arg4) = m ((c.tc : Thread Cert.OutSIdeal.nD Cert.OutSIdeal.τ).loc Cert.OutSIdeal.main_arg4))
      ∧ θ_run (Cert.OutSRefIdeal.defs (F := Ideal)) (onTc (τ := Cert.OutSRefIdeal.τ) (Cert.OutSRefIdeal.main (F := Ideal))) ⟨m', fun _ => 0, g'⟩ (fun r => ∀ c : Dev Cert.OutSRefIdeal.nD,
          r.2.mem ((c.tc : Thread Cert.OutSRefIdeal.nD Cert.OutSRefIdeal.τ).loc Cert.OutSRefIdeal.main_v19) = v0 c
          ∧ r.2.mem ((c.tc : Thread Cert.OutSRefIdeal.nD Cert.OutSRefIdeal.τ).loc Cert.OutSRefIdeal.main_arg0) = m' ((c.tc : Thread Cert.OutSRefIdeal.nD Cert.OutSRefIdeal.τ).loc Cert.OutSRefIdeal.main_arg0)
          ∧ r.2.mem ((c.tc : Thread Cert.OutSRefIdeal.nD Cert.OutSRefIdeal.τ).loc Cert.OutSRefIdeal.main_arg1) = m' ((c.tc : Thread Cert.OutSRefIdeal.nD Cert.OutSRefIdeal.τ).loc Cert.OutSRefIdeal.main_arg1)
          ∧ r.2.mem ((c.tc : Thread Cert.OutSRefIdeal.nD Cert.OutSRefIdeal.τ).loc Cert.OutSRefIdeal.main_arg2) = m' ((c.tc : Thread Cert.OutSRefIdeal.nD Cert.OutSRefIdeal.τ).loc Cert.OutSRefIdeal.main_arg2)
          ∧ r.2.mem ((c.tc : Thread Cert.OutSRefIdeal.nD Cert.OutSRefIdeal.τ).loc Cert.OutSRefIdeal.main_arg3) = m' ((c.tc : Thread Cert.OutSRefIdeal.nD Cert.OutSRefIdeal.τ).loc Cert.OutSRefIdeal.main_arg3)
          ∧ r.2.mem ((c.tc : Thread Cert.OutSRefIdeal.nD Cert.OutSRefIdeal.τ).loc Cert.OutSRefIdeal.main_arg4) = m' ((c.tc : Thread Cert.OutSRefIdeal.nD Cert.OutSRefIdeal.τ).loc Cert.OutSRefIdeal.main_arg4))

def preserves_Step_StepIdeal : Prop :=
  True

def algebraic_StepIdeal_StepRefIdeal_pre_forget_finite [hStepIdeal : Cert.StepIdeal.Facts] [hStepRefIdeal : Cert.StepRefIdeal.Facts] [hPre_forget_finite : Cert.Pre_forget_finite.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal_forget_finite m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)
      ∧ m' ((c.tc : Thread Cert.StepRefIdeal.nD Cert.StepRefIdeal.τ).loc Cert.StepRefIdeal.main_arg7) = m ((c.tc : Thread Cert.StepIdeal.nD Cert.StepIdeal.τ).loc Cert.StepIdeal.main_arg7)) →
    ∃ (v0 : (c : Dev Cert.StepIdeal.nD) → Buf (Elt Ideal) ((c.tc : Thread Cert.StepIdeal.nD Cert.StepIdeal.τ).loc Cert.StepIdeal.main_v12_0)) (v1 : (c : Dev Cert.StepIdeal.nD) → Buf (Elt Ideal) ((c.tc : Thread Cert.StepIdeal.nD Cert.StepIdeal.τ).loc Cert.StepIdeal.main_v13)) (v2 : (c : Dev Cert.StepIdeal.nD) → Buf (Elt Ideal) ((c.tc : Thread Cert.StepIdeal.nD Cert.StepIdeal.τ).loc Cert.StepIdeal.main_v14)) (v3 : (c : Dev Cert.StepIdeal.nD) → Buf (Elt Ideal) ((c.tc : Thread Cert.StepIdeal.nD Cert.StepIdeal.τ).loc Cert.StepIdeal.main_v17)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v12_0) = v0 c
          ∧ r.2.mem ((c.tc : Thread Cert.StepIdeal.nD Cert.StepIdeal.τ).loc Cert.StepIdeal.main_v13) = v1 c
          ∧ r.2.mem ((c.tc : Thread Cert.StepIdeal.nD Cert.StepIdeal.τ).loc Cert.StepIdeal.main_v14) = v2 c
          ∧ r.2.mem ((c.tc : Thread Cert.StepIdeal.nD Cert.StepIdeal.τ).loc Cert.StepIdeal.main_v17) = v3 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v109) = v0 c
          ∧ r.2.mem ((c.tc : Thread Cert.StepRefIdeal.nD Cert.StepRefIdeal.τ).loc Cert.StepRefIdeal.main_v110) = v1 c
          ∧ r.2.mem ((c.tc : Thread Cert.StepRefIdeal.nD Cert.StepRefIdeal.τ).loc Cert.StepRefIdeal.main_v111) = v2 c
          ∧ r.2.mem ((c.tc : Thread Cert.StepRefIdeal.nD Cert.StepRefIdeal.τ).loc Cert.StepRefIdeal.main_v112) = v3 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6)
          ∧ r.2.mem ((c.tc : Thread Cert.StepRefIdeal.nD Cert.StepRefIdeal.τ).loc Cert.StepRefIdeal.main_arg7) = m' ((c.tc : Thread Cert.StepRefIdeal.nD Cert.StepRefIdeal.τ).loc Cert.StepRefIdeal.main_arg7))

def preserves_Attend_AttendIdeal : Prop :=
  IdealRules.named_const.Statement Cert.AttendIdeal.κ "masked" .f32 0xF149F2CA#32 ⊥

def algebraic_AttendIdeal_AttendRefIdeal_pre_row_selected [hAttendIdeal : Cert.AttendIdeal.Facts] [hAttendRefIdeal : Cert.AttendRefIdeal.Facts] [hPre_row_selected : Cert.Pre_row_selected.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendRefIdeal.nD Cert.AttendRefIdeal.τ Cert.AttendRefIdeal.sig) → Buf (Elt Ideal) ℓ) (g' : Dev Cert.AttendRefIdeal.nD → PrngReg), Pre_AttendIdeal_row_selected m →
    (∀ c : Dev Cert.AttendIdeal.nD,
      m' ((c.tc : Thread Cert.AttendRefIdeal.nD Cert.AttendRefIdeal.τ).loc Cert.AttendRefIdeal.main_arg0) = m ((c.tc : Thread Cert.AttendIdeal.nD Cert.AttendIdeal.τ).loc Cert.AttendIdeal.main_arg0)
      ∧ m' ((c.tc : Thread Cert.AttendRefIdeal.nD Cert.AttendRefIdeal.τ).loc Cert.AttendRefIdeal.main_arg1) = m ((c.tc : Thread Cert.AttendIdeal.nD Cert.AttendIdeal.τ).loc Cert.AttendIdeal.main_arg1)
      ∧ m' ((c.tc : Thread Cert.AttendRefIdeal.nD Cert.AttendRefIdeal.τ).loc Cert.AttendRefIdeal.main_arg2) = m ((c.tc : Thread Cert.AttendIdeal.nD Cert.AttendIdeal.τ).loc Cert.AttendIdeal.main_arg2)
      ∧ m' ((c.tc : Thread Cert.AttendRefIdeal.nD Cert.AttendRefIdeal.τ).loc Cert.AttendRefIdeal.main_arg3) = m ((c.tc : Thread Cert.AttendIdeal.nD Cert.AttendIdeal.τ).loc Cert.AttendIdeal.main_arg3)
      ∧ m' ((c.tc : Thread Cert.AttendRefIdeal.nD Cert.AttendRefIdeal.τ).loc Cert.AttendRefIdeal.main_arg4) = m ((c.tc : Thread Cert.AttendIdeal.nD Cert.AttendIdeal.τ).loc Cert.AttendIdeal.main_arg4)
      ∧ m' ((c.tc : Thread Cert.AttendRefIdeal.nD Cert.AttendRefIdeal.τ).loc Cert.AttendRefIdeal.main_arg5) = m ((c.tc : Thread Cert.AttendIdeal.nD Cert.AttendIdeal.τ).loc Cert.AttendIdeal.main_arg5)
      ∧ m' ((c.tc : Thread Cert.AttendRefIdeal.nD Cert.AttendRefIdeal.τ).loc Cert.AttendRefIdeal.main_arg6) = m ((c.tc : Thread Cert.AttendIdeal.nD Cert.AttendIdeal.τ).loc Cert.AttendIdeal.main_arg6)
      ∧ m' ((c.tc : Thread Cert.AttendRefIdeal.nD Cert.AttendRefIdeal.τ).loc Cert.AttendRefIdeal.main_arg7) = m ((c.tc : Thread Cert.AttendIdeal.nD Cert.AttendIdeal.τ).loc Cert.AttendIdeal.main_arg7)) →
    ∃ (v0 : (c : Dev Cert.AttendIdeal.nD) → Buf (Elt Ideal) ((c.tc : Thread Cert.AttendIdeal.nD Cert.AttendIdeal.τ).loc Cert.AttendIdeal.main_v13)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v13) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
          ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
          ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6)
          ∧ r.2.mem ((c.tc : Thread Cert.AttendIdeal.nD Cert.AttendIdeal.τ).loc Cert.AttendIdeal.main_arg7) = m ((c.tc : Thread Cert.AttendIdeal.nD Cert.AttendIdeal.τ).loc Cert.AttendIdeal.main_arg7))
      ∧ θ_run (Cert.AttendRefIdeal.defs (F := Ideal)) (onTc (τ := Cert.AttendRefIdeal.τ) (Cert.AttendRefIdeal.main (F := Ideal))) ⟨m', fun _ => 0, g'⟩ (fun r => ∀ c : Dev Cert.AttendRefIdeal.nD,
          r.2.mem ((c.tc : Thread Cert.AttendRefIdeal.nD Cert.AttendRefIdeal.τ).loc Cert.AttendRefIdeal.main_v48) = v0 c
          ∧ r.2.mem ((c.tc : Thread Cert.AttendRefIdeal.nD Cert.AttendRefIdeal.τ).loc Cert.AttendRefIdeal.main_arg0) = m' ((c.tc : Thread Cert.AttendRefIdeal.nD Cert.AttendRefIdeal.τ).loc Cert.AttendRefIdeal.main_arg0)
          ∧ r.2.mem ((c.tc : Thread Cert.AttendRefIdeal.nD Cert.AttendRefIdeal.τ).loc Cert.AttendRefIdeal.main_arg1) = m' ((c.tc : Thread Cert.AttendRefIdeal.nD Cert.AttendRefIdeal.τ).loc Cert.AttendRefIdeal.main_arg1)
          ∧ r.2.mem ((c.tc : Thread Cert.AttendRefIdeal.nD Cert.AttendRefIdeal.τ).loc Cert.AttendRefIdeal.main_arg2) = m' ((c.tc : Thread Cert.AttendRefIdeal.nD Cert.AttendRefIdeal.τ).loc Cert.AttendRefIdeal.main_arg2)
          ∧ r.2.mem ((c.tc : Thread Cert.AttendRefIdeal.nD Cert.AttendRefIdeal.τ).loc Cert.AttendRefIdeal.main_arg3) = m' ((c.tc : Thread Cert.AttendRefIdeal.nD Cert.AttendRefIdeal.τ).loc Cert.AttendRefIdeal.main_arg3)
          ∧ r.2.mem ((c.tc : Thread Cert.AttendRefIdeal.nD Cert.AttendRefIdeal.τ).loc Cert.AttendRefIdeal.main_arg4) = m' ((c.tc : Thread Cert.AttendRefIdeal.nD Cert.AttendRefIdeal.τ).loc Cert.AttendRefIdeal.main_arg4)
          ∧ r.2.mem ((c.tc : Thread Cert.AttendRefIdeal.nD Cert.AttendRefIdeal.τ).loc Cert.AttendRefIdeal.main_arg5) = m' ((c.tc : Thread Cert.AttendRefIdeal.nD Cert.AttendRefIdeal.τ).loc Cert.AttendRefIdeal.main_arg5)
          ∧ r.2.mem ((c.tc : Thread Cert.AttendRefIdeal.nD Cert.AttendRefIdeal.τ).loc Cert.AttendRefIdeal.main_arg6) = m' ((c.tc : Thread Cert.AttendRefIdeal.nD Cert.AttendRefIdeal.τ).loc Cert.AttendRefIdeal.main_arg6)
          ∧ r.2.mem ((c.tc : Thread Cert.AttendRefIdeal.nD Cert.AttendRefIdeal.τ).loc Cert.AttendRefIdeal.main_arg7) = m' ((c.tc : Thread Cert.AttendRefIdeal.nD Cert.AttendRefIdeal.τ).loc Cert.AttendRefIdeal.main_arg7))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hGatherRefIdeal : Cert.GatherRefIdeal.Facts) (hGatherRef : Cert.GatherRef.Facts) (hSmall : Cert.Small.Facts) (hSmallIdeal : Cert.SmallIdeal.Facts) (hSmallRefIdeal : Cert.SmallRefIdeal.Facts) (hSmallS : Cert.SmallS.Facts) (hSmallSIdeal : Cert.SmallSIdeal.Facts) (hSmallSRefIdeal : Cert.SmallSRefIdeal.Facts) (hMainS : Cert.MainS.Facts) (hMainSIdeal : Cert.MainSIdeal.Facts) (hMainSRefIdeal : Cert.MainSRefIdeal.Facts) (hOut : Cert.Out.Facts) (hOutIdeal : Cert.OutIdeal.Facts) (hOutRefIdeal : Cert.OutRefIdeal.Facts) (hOutS : Cert.OutS.Facts) (hOutSIdeal : Cert.OutSIdeal.Facts) (hOutSRefIdeal : Cert.OutSRefIdeal.Facts) (hStep : Cert.Step.Facts) (hStepIdeal : Cert.StepIdeal.Facts) (hStepRefIdeal : Cert.StepRefIdeal.Facts) (hAttend : Cert.Attend.Facts) (hAttendIdeal : Cert.AttendIdeal.Facts) (hAttendRefIdeal : Cert.AttendRefIdeal.Facts) (hPre_rows_in_cache : Cert.Pre_rows_in_cache.Facts) (hPre_forget_finite : Cert.Pre_forget_finite.Facts) (hPre_row_selected : Cert.Pre_row_selected.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather) (hPre_rows_in_cache := hPre_rows_in_cache)
    ∧ quiescent_GatherIdeal (hGatherIdeal := hGatherIdeal) (hPre_rows_in_cache := hPre_rows_in_cache)
    ∧ quiescent_GatherRefIdeal (hGatherRefIdeal := hGatherRefIdeal)
    ∧ quiescent_GatherRefIdeal_pre_rows_in_cache (hGatherRefIdeal := hGatherRefIdeal) (hPre_rows_in_cache := hPre_rows_in_cache)
    ∧ quiescent_GatherRef (hGatherRef := hGatherRef) (hPre_rows_in_cache := hPre_rows_in_cache)
    ∧ quiescent_Small (hSmall := hSmall)
    ∧ quiescent_SmallIdeal (hSmallIdeal := hSmallIdeal)
    ∧ quiescent_SmallRefIdeal (hSmallRefIdeal := hSmallRefIdeal)
    ∧ quiescent_SmallS (hSmallS := hSmallS)
    ∧ quiescent_SmallSIdeal (hSmallSIdeal := hSmallSIdeal)
    ∧ quiescent_SmallSRefIdeal (hSmallSRefIdeal := hSmallSRefIdeal)
    ∧ quiescent_MainS (hMainS := hMainS)
    ∧ quiescent_MainSIdeal (hMainSIdeal := hMainSIdeal)
    ∧ quiescent_MainSRefIdeal (hMainSRefIdeal := hMainSRefIdeal)
    ∧ quiescent_Out (hOut := hOut)
    ∧ quiescent_OutIdeal (hOutIdeal := hOutIdeal)
    ∧ quiescent_OutRefIdeal (hOutRefIdeal := hOutRefIdeal)
    ∧ quiescent_OutS (hOutS := hOutS)
    ∧ quiescent_OutSIdeal (hOutSIdeal := hOutSIdeal)
    ∧ quiescent_OutSRefIdeal (hOutSRefIdeal := hOutSRefIdeal)
    ∧ quiescent_Step (hStep := hStep)
    ∧ quiescent_StepIdeal (hStepIdeal := hStepIdeal)
    ∧ quiescent_StepIdeal_pre_forget_finite (hStepIdeal := hStepIdeal) (hPre_forget_finite := hPre_forget_finite)
    ∧ quiescent_StepRefIdeal (hStepRefIdeal := hStepRefIdeal)
    ∧ quiescent_StepRefIdeal_pre_forget_finite (hStepRefIdeal := hStepRefIdeal) (hPre_forget_finite := hPre_forget_finite)
    ∧ quiescent_Attend (hAttend := hAttend)
    ∧ quiescent_AttendIdeal (hAttendIdeal := hAttendIdeal)
    ∧ quiescent_AttendIdeal_pre_row_selected (hAttendIdeal := hAttendIdeal) (hPre_row_selected := hPre_row_selected)
    ∧ quiescent_AttendRefIdeal (hAttendRefIdeal := hAttendRefIdeal)
    ∧ quiescent_AttendRefIdeal_pre_row_selected (hAttendRefIdeal := hAttendRefIdeal) (hPre_row_selected := hPre_row_selected)
    ∧ preserves_Kernel_KernelIdeal
    ∧ algebraic_KernelIdeal_ReferenceIdeal (hKernelIdeal := hKernelIdeal) (hReferenceIdeal := hReferenceIdeal)
    ∧ preserves_Gather_GatherIdeal
    ∧ algebraic_GatherIdeal_GatherRefIdeal (hGatherIdeal := hGatherIdeal) (hGatherRefIdeal := hGatherRefIdeal) (hPre_rows_in_cache := hPre_rows_in_cache)
    ∧ bitexact_Gather_GatherRef (hGather := hGather) (hGatherRef := hGatherRef) (hPre_rows_in_cache := hPre_rows_in_cache)
    ∧ preserves_Small_SmallIdeal
    ∧ algebraic_SmallIdeal_SmallRefIdeal (hSmallIdeal := hSmallIdeal) (hSmallRefIdeal := hSmallRefIdeal)
    ∧ preserves_SmallS_SmallSIdeal
    ∧ algebraic_SmallSIdeal_SmallSRefIdeal (hSmallSIdeal := hSmallSIdeal) (hSmallSRefIdeal := hSmallSRefIdeal)
    ∧ preserves_MainS_MainSIdeal
    ∧ algebraic_MainSIdeal_MainSRefIdeal (hMainSIdeal := hMainSIdeal) (hMainSRefIdeal := hMainSRefIdeal)
    ∧ preserves_Out_OutIdeal
    ∧ algebraic_OutIdeal_OutRefIdeal (hOutIdeal := hOutIdeal) (hOutRefIdeal := hOutRefIdeal)
    ∧ preserves_OutS_OutSIdeal
    ∧ algebraic_OutSIdeal_OutSRefIdeal (hOutSIdeal := hOutSIdeal) (hOutSRefIdeal := hOutSRefIdeal)
    ∧ preserves_Step_StepIdeal
    ∧ algebraic_StepIdeal_StepRefIdeal_pre_forget_finite (hStepIdeal := hStepIdeal) (hStepRefIdeal := hStepRefIdeal) (hPre_forget_finite := hPre_forget_finite)
    ∧ preserves_Attend_AttendIdeal
    ∧ algebraic_AttendIdeal_AttendRefIdeal_pre_row_selected (hAttendIdeal := hAttendIdeal) (hAttendRefIdeal := hAttendRefIdeal) (hPre_row_selected := hPre_row_selected)
-- ==== Pre_forget_finite.lean ====
abbrev S32x7168 : Shape := ⟨2, ![32, 7168]⟩
abbrev S32x128 : Shape := ⟨2, ![32, 128]⟩
abbrev S1x4 : Shape := ⟨2, ![1, 4]⟩
abbrev S1x1024 : Shape := ⟨2, ![1, 1024]⟩
abbrev S1x32x4x256x128 : Shape := ⟨5, ![1, 32, 4, 256, 128]⟩
abbrev S1x32x4x128 : Shape := ⟨4, ![1, 32, 4, 128]⟩
abbrev S1x32x4 : Shape := ⟨3, ![1, 32, 4]⟩
abbrev S32x4 : Shape := ⟨2, ![32, 4]⟩
abbrev S4 : Shape := ⟨1, ![4]⟩
abbrev S_ : Shape := ⟨0, ![]⟩

class Facts : Prop where
  slices_S32x128_S32x4_0_84 : S32x128.Slices ![0, 84] S32x4
  shapeCasts_S1x4_S4 : S1x4.ShapeCasts S4
  bcast_S4_S1x4_1 : S4.BroadcastsInDim S1x4 (![1] : Fin 1 → Fin S1x4.rank)
  bcast_S1x4_S32x4_0_1 : S1x4.BroadcastsInDim S32x4 (![0, 1] : Fin 2 → Fin S32x4.rank)
  bcast_S_S32x4 : S_.BroadcastsInDim S32x4 (![] : Fin 0 → Fin S32x4.rank)

variable [Facts]

def fn {F : FTy → Type} [FloatOps F] (main_arg0 : FVec F S32x7168 .f32) (main_arg1 : FVec F S32x128 .f32) (main_arg2 : FVec F S1x4 .f32) (main_arg3 : FVec F S1x4 .f32) (main_arg4 : FVec F S1x1024 .f32) (main_arg5 : FVec F S1x32x4x256x128 .f32) (main_arg6 : FVec F S1x32x4x128 .f32) (main_arg7 : FVec F S1x32x4 .f32) : IVec S32x4 1 :=
  let main_v0 : FVec F S32x4 .f32 := (extractStridedSlice S32x4 ![0, 84] · slices_S32x128_S32x4_0_84) main_arg1
  let main_v1 : FVec F S4 .f32 := shapeCast S4 main_arg3 shapeCasts_S1x4_S4
  let main_v2 : FVec F S1x4 .f32 := broadcastInDim S1x4 ![1] bcast_S4_S1x4_1 main_v1
  let main_v3 : FVec F S32x4 .f32 := broadcastInDim S32x4 ![0, 1] bcast_S1x4_S32x4_0_1 main_v2
  let main_v4 : FVec F S32x4 .f32 := addf main_v0 main_v3
  let main_v5 : FVec F S32x4 .f32 := Host.absf main_v4
  let main_cst : FVec F S_ .f32 := constant S_ .f32 0x7F800000#32
  let main_v6 : FVec F S32x4 .f32 := broadcastInDim S32x4 ![] bcast_S_S32x4 main_cst
  let main_v7 : IVec S32x4 1 := cmpf .olt main_v5 main_v6
  main_v7
-- ==== Pre_row_selected.lean ====
abbrev S32x7168 : Shape := ⟨2, ![32, 7168]⟩
abbrev S64x128 : Shape := ⟨2, ![64, 128]⟩
abbrev S32x8x128 : Shape := ⟨3, ![32, 8, 128]⟩
abbrev S16384x128 : Shape := ⟨2, ![16384, 128]⟩
abbrev S32x1x1 : Shape := ⟨3, ![32, 1, 1]⟩
abbrev S32x1 : Shape := ⟨2, ![32, 1]⟩
abbrev S_ : Shape := ⟨0, ![]⟩
abbrev S32x1024 : Shape := ⟨2, ![32, 1024]⟩
abbrev S32x256 : Shape := ⟨2, ![32, 256]⟩
abbrev S32x65536 : Shape := ⟨2, ![32, 65536]⟩
abbrev S32x66816 : Shape := ⟨2, ![32, 66816]⟩
abbrev S32x66817 : Shape := ⟨2, ![32, 66817]⟩

class Facts : Prop where
  slices_S32x8x128_S32x1x1_0_0_0 : S32x8x128.Slices ![0, 0, 0] S32x1x1
  shapeCasts_S32x1x1_S32x1 : S32x1x1.ShapeCasts S32x1
  slices_S32x8x128_S32x1x1_0_1_0 : S32x8x128.Slices ![0, 1, 0] S32x1x1
  slices_S32x8x128_S32x1x1_0_2_0 : S32x8x128.Slices ![0, 2, 0] S32x1x1
  bcast_S_S32x1 : S_.BroadcastsInDim S32x1 (![] : Fin 0 → Fin S32x1.rank)
  slices_S32x7168_S32x1024_0_0 : S32x7168.Slices ![0, 0] S32x1024
  shapeCasts_S64x128_S32x256 : S64x128.ShapeCasts S32x256
  shapeCasts_S16384x128_S32x65536 : S16384x128.ShapeCasts S32x65536
  concatenates_S32x1024_S32x256_S32x65536_S32x66816_d1 : Shape.Concatenates [S32x1024, S32x256, S32x65536] S32x66816 1
  bcast_S_S32x66816 : S_.BroadcastsInDim S32x66816 (![] : Fin 0 → Fin S32x66816.rank)
  concatenates_S32x1_S32x66816_S32x66817_d1 : Shape.Concatenates [S32x1, S32x66816] S32x66817 1

variable [Facts]

def fn_part1 {F : FTy → Type} [FloatOps F] (main_v13 : IVec S32x1 1) (main_v17 : FVec F S32x66816 .f32) (main_v21 : IVec S32x1 1) : IVec S32x66817 1 :=
  let main_v22 : IVec S32x1 1 := ori main_v21 main_v13
  let main_v23 : FVec F S32x66816 .f32 := Host.absf main_v17
  let main_cst_1 : FVec F S_ .f32 := constant S_ .f32 0x7F800000#32
  let main_v24 : FVec F S32x66816 .f32 := broadcastInDim S32x66816 ![] bcast_S_S32x66816 main_cst_1
  let main_v25 : IVec S32x66816 1 := cmpf .olt main_v23 main_v24
  let main_v26 : IVec S32x66817 1 := (fun a b => concatenate S32x66817 1 [⟨S32x1, a⟩, ⟨S32x66816, b⟩] concatenates_S32x1_S32x66816_S32x66817_d1) main_v22 main_v25
  main_v26

def fn {F : FTy → Type} [FloatOps F] (main_arg0 : FVec F S32x7168 .f32) (main_arg1 : FVec F S64x128 .f32) (main_arg2 : FVec F S64x128 .f32) (main_arg3 : FVec F S32x8x128 .f32) (main_arg4 : FVec F S32x8x128 .f32) (main_arg5 : FVec F S32x8x128 .f32) (main_arg6 : FVec F S16384x128 .f32) (main_arg7 : FVec F S16384x128 .f32) : IVec S32x66817 1 :=
  let main_v0 : FVec F S32x1x1 .f32 := (extractStridedSlice S32x1x1 ![0, 0, 0] · slices_S32x8x128_S32x1x1_0_0_0) main_arg3
  let main_v1 : FVec F S32x1 .f32 := shapeCast S32x1 main_v0 shapeCasts_S32x1x1_S32x1
  let main_v2 : FVec F S32x1x1 .f32 := (extractStridedSlice S32x1x1 ![0, 0, 0] · slices_S32x8x128_S32x1x1_0_0_0) main_arg4
  let main_v3 : FVec F S32x1 .f32 := shapeCast S32x1 main_v2 shapeCasts_S32x1x1_S32x1
  let main_v4 : FVec F S32x1x1 .f32 := (extractStridedSlice S32x1x1 ![0, 1, 0] · slices_S32x8x128_S32x1x1_0_1_0) main_arg4
  let main_v5 : FVec F S32x1 .f32 := shapeCast S32x1 main_v4 shapeCasts_S32x1x1_S32x1
  let main_v6 : FVec F S32x1x1 .f32 := (extractStridedSlice S32x1x1 ![0, 2, 0] · slices_S32x8x128_S32x1x1_0_2_0) main_arg4
  let main_v7 : FVec F S32x1 .f32 := shapeCast S32x1 main_v6 shapeCasts_S32x1x1_S32x1
  let main_v8 : IVec S32x1 1 := cmpf .oge main_v1 main_v5
  let main_v9 : IVec S32x1 1 := cmpf .oge main_v1 main_v3
  let main_cst : FVec F S_ .f32 := constant S_ .f32 0x46800000#32
  let main_v10 : FVec F S32x1 .f32 := broadcastInDim S32x1 ![] bcast_S_S32x1 main_cst
  let main_v11 : IVec S32x1 1 := cmpf .oge main_v7 main_v10
  let main_v12 : IVec S32x1 1 := andi main_v9 main_v11
  let main_v13 : IVec S32x1 1 := ori main_v8 main_v12
  let main_v14 : FVec F S32x1024 .f32 := (extractStridedSlice S32x1024 ![0, 0] · slices_S32x7168_S32x1024_0_0) main_arg0
  let main_v15 : FVec F S32x256 .f32 := shapeCast S32x256 main_arg1 shapeCasts_S64x128_S32x256
  let main_v16 : FVec F S32x65536 .f32 := shapeCast S32x65536 main_arg6 shapeCasts_S16384x128_S32x65536
  let main_v17 : FVec F S32x66816 .f32 := concatenate S32x66816 1 [⟨S32x1024, main_v14⟩, ⟨S32x256, main_v15⟩, ⟨S32x65536, main_v16⟩] concatenates_S32x1024_S32x256_S32x65536_S32x66816_d1
  let main_v18 : FVec F S32x1x1 .f32 := (extractStridedSlice S32x1x1 ![0, 0, 0] · slices_S32x8x128_S32x1x1_0_0_0) main_arg5
  let main_v19 : FVec F S32x1 .f32 := shapeCast S32x1 main_v18 shapeCasts_S32x1x1_S32x1
  let main_cst_0 : FVec F S_ .f32 := constant S_ .f32 0x00000000#32
  let main_v20 : FVec F S32x1 .f32 := broadcastInDim S32x1 ![] bcast_S_S32x1 main_cst_0
  let main_v21 : IVec S32x1 1 := cmpf .ogt main_v19 main_v20
  fn_part1 (F := F) main_v13 main_v17 main_v21
-- ==== Pre_rows_in_cache.lean ====
abbrev S1x5120x128x2x128 : Shape := ⟨5, ![1, 5120, 128, 2, 128]⟩
abbrev S32x256x128 : Shape := ⟨3, ![32, 256, 128]⟩
abbrev S32x256x1 : Shape := ⟨3, ![32, 256, 1]⟩
abbrev S_ : Shape := ⟨0, ![]⟩

class Facts : Prop where
  slices_S32x256x128_S32x256x1_0_0_0 : S32x256x128.Slices ![0, 0, 0] S32x256x1
  bcast_S_S32x256x1 : S_.BroadcastsInDim S32x256x1 (![] : Fin 0 → Fin S32x256x1.rank)

variable [Facts]

def fn {F : FTy → Type} [FloatOps F] (main_arg0 : FVec F S1x5120x128x2x128 .f32) (main_arg1 : FVec F S1x5120x128x2x128 .f32) (main_arg2 : FVec F S32x256x128 .f32) : IVec S32x256x1 1 :=
  let main_v0 : FVec F S32x256x1 .f32 := (extractStridedSlice S32x256x1 ![0, 0, 0] · slices_S32x256x128_S32x256x1_0_0_0) main_arg2
  let main_v1 : IVec S32x256x1 32 := fptosi 32 main_v0
  let main_c : IVec S_ 32 := constantI S_ 32 0#32
  let main_v2 : IVec S32x256x1 32 := broadcastInDim S32x256x1 ![] bcast_S_S32x256x1 main_c
  let main_v3 : IVec S32x256x1 1 := cmpi .sge main_v1 main_v2
  let main_c_0 : IVec S_ 32 := constantI S_ 32 655360#32
  let main_v4 : IVec S32x256x1 32 := broadcastInDim S32x256x1 ![] bcast_S_S32x256x1 main_c_0
  let main_v5 : IVec S32x256x1 1 := cmpi .slt main_v1 main_v4
  let main_v6 : IVec S32x256x1 1 := andi main_v3 main_v5
  main_v6
-- ==== Kernel.lean ====
abbrev S2x4096x2048 : Shape := ⟨3, ![2, 4096, 2048]⟩
abbrev S1x2048 : Shape := ⟨2, ![1, 2048]⟩
abbrev S1x2048x7768 : Shape := ⟨3, ![1, 2048, 7768]⟩
abbrev S7 : Shape := ⟨1, ![7]⟩
abbrev S14 : Shape := ⟨1, ![14]⟩
abbrev S2048x7768 : Shape := ⟨2, ![2048, 7768]⟩
abbrev S7768x2048 : Shape := ⟨2, ![7768, 2048]⟩
abbrev S8192x2048 : Shape := ⟨2, ![8192, 2048]⟩
abbrev S2048 : Shape := ⟨1, ![2048]⟩
abbrev S8192x7168 : Shape := ⟨2, ![8192, 7168]⟩
abbrev S1024x2048 : Shape := ⟨2, ![1024, 2048]⟩
abbrev S1 : Shape := ⟨1, ![1]⟩
abbrev S1024x1024 : Shape := ⟨2, ![1024, 1024]⟩
abbrev S1024 : Shape := ⟨1, ![1024]⟩
abbrev S1024x1 : Shape := ⟨2, ![1024, 1]⟩
abbrev S512x2048 : Shape := ⟨2, ![512, 2048]⟩

abbrev nBuf : Space → Nat
  | .hbm => 10
  | .vmem => 8
  | .smem => 2
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x7768, .f32⟩
  | .hbm, ⟨3, _⟩ => ⟨S14, .f32⟩
  | .hbm, ⟨4, _⟩ => ⟨S2048x7768, .f32⟩
  | .hbm, ⟨5, _⟩ => ⟨S7768x2048, .f32⟩
  | .hbm, ⟨6, _⟩ => ⟨S8192x2048, .f32⟩
  | .hbm, ⟨7, _⟩ => ⟨S2048, .f32⟩
  | .hbm, ⟨8, _⟩ => ⟨S1x2048, .f32⟩
  | .hbm, ⟨9, _⟩ => ⟨S8192x7168, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | .local _ .smem, ⟨0, _⟩ => ⟨S7, .i32⟩
  | .local _ .smem, ⟨1, _⟩ => ⟨S14, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 7], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c8_i32 : BitVec 32 := 8#32
  let v2 : BitVec 32 := Scalar.muli v1 c8_i32
  v2

def k0_off2 (i : grid0.Coords) (c0_i32_2 : BitVec 32) : Fin 1 → Nat :=
  let arg1 : BitVec 32 := BitVec.ofNat 32 (i 1).val
  let c2_i32 : BitVec 32 := 2#32
  let v5 : BitVec 32 := Scalar.muli arg1 c2_i32
  let v6 : BitVec 32 := Scalar.addi v5 c0_i32_2
  let v7 : Index := Scalar.indexCast v6
  ![v7.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S7.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S7) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S14 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x4096x2048 : Shape := ⟨3, ![2, 4096, 2048]⟩
abbrev S1x2048 : Shape := ⟨2, ![1, 2048]⟩
abbrev S1x2048x7768 : Shape := ⟨3, ![1, 2048, 7768]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x7768 : Shape := ⟨2, ![2048, 7768]⟩
abbrev S2x4096x7768 : Shape := ⟨3, ![2, 4096, 7768]⟩
abbrev S2x4096x1024 : Shape := ⟨3, ![2, 4096, 1024]⟩
abbrev S2x4096x256 : Shape := ⟨3, ![2, 4096, 256]⟩
abbrev S2x4096x64 : Shape := ⟨3, ![2, 4096, 64]⟩
abbrev S2x4096x16 : Shape := ⟨3, ![2, 4096, 16]⟩
abbrev S2x4096x512 : Shape := ⟨3, ![2, 4096, 512]⟩
abbrev S2x4096x4 : Shape := ⟨3, ![2, 4096, 4]⟩
abbrev S2x4096x7168 : Shape := ⟨3, ![2, 4096, 7168]⟩
abbrev S8192x7168 : Shape := ⟨2, ![8192, 7168]⟩

abbrev nBuf : Space → Nat
  | .hbm => 45
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x7768, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x7768, .f32⟩
  | .hbm, ⟨21, _⟩ => ⟨S2x4096x7768, .f32⟩
  | .hbm, ⟨22, _⟩ => ⟨S2x4096x1024, .f32⟩
  | .hbm, ⟨23, _⟩ => ⟨S2x4096x256, .f32⟩
  | .hbm, ⟨24, _⟩ => ⟨S2x4096x256, .f32⟩
  | .hbm, ⟨25, _⟩ => ⟨S2x4096x1024, .f32⟩
  | .hbm, ⟨26, _⟩ => ⟨S2x4096x64, .f32⟩
  | .hbm, ⟨27, _⟩ => ⟨S2x4096x16, .f32⟩
  | .hbm, ⟨28, _⟩ => ⟨S2x4096x1024, .f32⟩
  | .hbm, ⟨29, _⟩ => ⟨S2x4096x512, .f32⟩
  | .hbm, ⟨30, _⟩ => ⟨S2x4096x512, .f32⟩
  | .hbm, ⟨31, _⟩ => ⟨S2x4096x1024, .f32⟩
  | .hbm, ⟨32, _⟩ => ⟨S2x4096x4, .f32⟩
  | .hbm, ⟨33, _⟩ => ⟨S2x4096x4, .f32⟩
  | .hbm, ⟨34, _⟩ => ⟨S2x4096x1024, .f32⟩
  | .hbm, ⟨35, _⟩ => ⟨S2x4096x1024, .f32⟩
  | .hbm, ⟨36, _⟩ => ⟨S_, .f32⟩
  | .hbm, ⟨37, _⟩ => ⟨S2x4096x1024, .f32⟩
  | .hbm, ⟨38, _⟩ => ⟨S2x4096x1024, .f32⟩
  | .hbm, ⟨39, _⟩ => ⟨S_, .f32⟩
  | .hbm, ⟨40, _⟩ => ⟨S2x4096x512, .f32⟩
  | .hbm, ⟨41, _⟩ => ⟨S2x4096x512, .f32⟩
  | .hbm, ⟨42, _⟩ => ⟨S2x4096x7168, .f32⟩
  | .hbm, ⟨43, _⟩ => ⟨S8192x7168, .f32⟩
  | .hbm, ⟨44, _⟩ => ⟨S8192x7168, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Gather.lean ====
abbrev S1x5120x128x2x128 : Shape := ⟨5, ![1, 5120, 128, 2, 128]⟩
abbrev S32x256x128 : Shape := ⟨3, ![32, 256, 128]⟩
abbrev S32x256x1 : Shape := ⟨3, ![32, 256, 1]⟩
abbrev S_ : Shape := ⟨0, ![]⟩
abbrev S2 : Shape := ⟨1, ![2]⟩
abbrev S1x1x2 : Shape := ⟨3, ![1, 1, 2]⟩
abbrev S32x256x2 : Shape := ⟨3, ![32, 256, 2]⟩
abbrev S16384 : Shape := ⟨1, ![16384]⟩
abbrev S1310720x128 : Shape := ⟨2, ![1310720, 128]⟩
abbrev S16384x128 : Shape := ⟨2, ![16384, 128]⟩
abbrev S128 : Shape := ⟨1, ![128]⟩
abbrev S128x128 : Shape := ⟨2, ![128, 128]⟩

abbrev nBuf : Table → Nat
  | .hbm => 18
  | .local .scVector .vmem => 3
  | _ => 0

abbrev bufTy : (tb : Table) → Fin (nBuf tb) → BufTy
  | .hbm, ⟨0, _⟩ => ⟨S1x5120x128x2x128, .f32⟩
  | .hbm, ⟨1, _⟩ => ⟨S1x5120x128x2x128, .f32⟩
  | .hbm, ⟨2, _⟩ => ⟨S32x256x128, .f32⟩
  | .hbm, ⟨3, _⟩ => ⟨S32x256x1, .f32⟩
  | .hbm, ⟨4, _⟩ => ⟨S32x256x1, .i32⟩
  | .hbm, ⟨5, _⟩ => ⟨S_, .i32⟩
  | .hbm, ⟨6, _⟩ => ⟨S32x256x1, .i32⟩
  | .hbm, ⟨7, _⟩ => ⟨S32x256x1, .i32⟩
  | .hbm, ⟨8, _⟩ => ⟨S2, .i32⟩
  | .hbm, ⟨9, _⟩ => ⟨S1x1x2, .i32⟩
  | .hbm, ⟨10, _⟩ => ⟨S32x256x2, .i32⟩
  | .hbm, ⟨11, _⟩ => ⟨S32x256x2, .i32⟩
  | .hbm, ⟨12, _⟩ => ⟨S32x256x2, .i32⟩
  | .hbm, ⟨13, _⟩ => ⟨S16384, .i32⟩
  | .hbm, ⟨14, _⟩ => ⟨S1310720x128, .f32⟩
  | .hbm, ⟨15, _⟩ => ⟨S1310720x128, .f32⟩
  | .hbm, ⟨16, _⟩ => ⟨S16384x128, .f32⟩
  | .hbm, ⟨17, _⟩ => ⟨S16384x128, .f32⟩
  | .local .scVector .vmem, ⟨0, _⟩ => ⟨S128, .i32⟩
  | .local .scVector .vmem, ⟨1, _⟩ => ⟨S128x128, .f32⟩
  | .local .scVector .vmem, ⟨2, _⟩ => ⟨S128x128, .f32⟩
  | _, _ => ⟨S1x5120x128x2x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v10_scv : Ref sig .scVector := ⟨.hbm, 14, rfl⟩
abbrev main_v11_scv : Ref sig .scVector := ⟨.hbm, 15, rfl⟩
abbrev main_v9_scv : Ref sig .scVector := ⟨.hbm, 13, rfl⟩
abbrev main_v12_0_scv : Ref sig .scVector := ⟨.hbm, 16, rfl⟩
abbrev main_v12_1_scv : Ref sig .scVector := ⟨.hbm, 17, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v5 : BitVec 32 := Scalar.muli v1 c512_i32
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v3 : BitVec 32 := Scalar.muli arg12 c1_i32_1
  let v4 : BitVec 32 := Scalar.addi c0_i32_2 v3
  let c128_i32 : BitVec 32 := 128#32
  let v6 : BitVec 32 := Scalar.muli v4 c128_i32
  let v7 : BitVec 32 := Scalar.addi v5 v6
  ![v7.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v5 : BitVec 32 := Scalar.muli v1 c512_i32
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v3 : BitVec 32 := Scalar.muli arg12 c1_i32_1
  let v4 : BitVec 32 := Scalar.addi c0_i32_2 v3
  let c128_i32 : BitVec 32 := 128#32
  let v6 : BitVec 32 := Scalar.muli v4 c128_i32
  let v7 : BitVec 32 := Scalar.addi v5 v6
  let c0_i32_11_r1 : BitVec 32 := 0#32
  ![v7.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherRef.lean ====
abbrev S1x5120x128x2x128 : Shape := ⟨5, ![1, 5120, 128, 2, 128]⟩
abbrev S32x256x128 : Shape := ⟨3, ![32, 256, 128]⟩
abbrev S32x256x1 : Shape := ⟨3, ![32, 256, 1]⟩
abbrev S32x256 : Shape := ⟨2, ![32, 256]⟩
abbrev S5120x128x2x128 : Shape := ⟨4, ![5120, 128, 2, 128]⟩
abbrev S655360x2x128 : Shape := ⟨3, ![655360, 2, 128]⟩
abbrev S_ : Shape := ⟨0, ![]⟩
abbrev S32x256x2x128 : Shape := ⟨4, ![32, 256, 2, 128]⟩
abbrev S16384x128 : Shape := ⟨2, ![16384, 128]⟩

abbrev nBuf : Space → Nat
  | .hbm => 30
  | .vmem => 0
  | .smem => 0
  | _ => 0

abbrev bufTy : (tb : Table) → Fin (tcTables nBuf tb) → BufTy
  | .hbm, ⟨0, _⟩ => ⟨S1x5120x128x2x128, .f32⟩
  | .hbm, ⟨1, _⟩ => ⟨S1x5120x128x2x128, .f32⟩
  | .hbm, ⟨2, _⟩ => ⟨S32x256x128, .f32⟩
  | .hbm, ⟨3, _⟩ => ⟨S32x256x1, .f32⟩
  | .hbm, ⟨4, _⟩ => ⟨S32x256, .f32⟩
  | .hbm, ⟨5, _⟩ => ⟨S32x256, .i32⟩
  | .hbm, ⟨6, _⟩ => ⟨S5120x128x2x128, .f32⟩
  | .hbm, ⟨7, _⟩ => ⟨S655360x2x128, .f32⟩
  | .hbm, ⟨8, _⟩ => ⟨S_, .i32⟩
  | .hbm, ⟨9, _⟩ => ⟨S32x256, .i32⟩
  | .hbm, ⟨10, _⟩ => ⟨S32x256, .i1⟩
  | .hbm, ⟨11, _⟩ => ⟨S_, .i32⟩
  | .hbm, ⟨12, _⟩ => ⟨S32x256, .i32⟩
  | .hbm, ⟨13, _⟩ => ⟨S32x256, .i32⟩
  | .hbm, ⟨14, _⟩ => ⟨S32x256, .i32⟩
  | .hbm, ⟨15, _⟩ => ⟨S32x256x1, .i32⟩
  | .hbm, ⟨16, _⟩ => ⟨S32x256x2x128, .f32⟩
  | .hbm, ⟨17, _⟩ => ⟨S5120x128x2x128, .f32⟩
  | .hbm, ⟨18, _⟩ => ⟨S655360x2x128, .f32⟩
  | .hbm, ⟨19, _⟩ => ⟨S_, .i32⟩
  | .hbm, ⟨20, _⟩ => ⟨S32x256, .i32⟩
  | .hbm, ⟨21, _⟩ => ⟨S32x256, .i1⟩
  | .hbm, ⟨22, _⟩ => ⟨S_, .i32⟩
  | .hbm, ⟨23, _⟩ => ⟨S32x256, .i32⟩
  | .hbm, ⟨24, _⟩ => ⟨S32x256, .i32⟩
  | .hbm, ⟨25, _⟩ => ⟨S32x256, .i32⟩
  | .hbm, ⟨26, _⟩ => ⟨S32x256x1, .i32⟩
  | .hbm, ⟨27, _⟩ => ⟨S32x256x2x128, .f32⟩
  | .hbm, ⟨28, _⟩ => ⟨S16384x128, .f32⟩
  | .hbm, ⟨29, _⟩ => ⟨S16384x128, .f32⟩
  | _, _ => ⟨S1x5120x128x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Small.lean ====
abbrev S2x4096x2048 : Shape := ⟨3, ![2, 4096, 2048]⟩
abbrev S1x2048 : Shape := ⟨2, ![1, 2048]⟩
abbrev S1x2048x7768 : Shape := ⟨3, ![1, 2048, 7768]⟩
abbrev S2048x7768 : Shape := ⟨2, ![2048, 7768]⟩
abbrev S7768x2048 : Shape := ⟨2, ![7768, 2048]⟩
abbrev S256x2048 : Shape := ⟨2, ![256, 2048]⟩
abbrev S64x2048 : Shape := ⟨2, ![64, 2048]⟩
abbrev S16x2048 : Shape := ⟨2, ![16, 2048]⟩
abbrev S4x2048 : Shape := ⟨2, ![4, 2048]⟩
abbrev S_ : Shape := ⟨0, ![]⟩
abbrev S40x2048 : Shape := ⟨2, ![40, 2048]⟩
abbrev S640x2048 : Shape := ⟨2, ![640, 2048]⟩
abbrev S8192x2048 : Shape := ⟨2, ![8192, 2048]⟩
abbrev S2048 : Shape := ⟨1, ![2048]⟩
abbrev S16384x128 : Shape := ⟨2, ![16384, 128]⟩
abbrev S8192x128 : Shape := ⟨2, ![8192, 128]⟩
abbrev S1024x2048 : Shape := ⟨2, ![1024, 2048]⟩
abbrev S2048x128 : Shape := ⟨2, ![2048, 128]⟩
abbrev S1024x128 : Shape := ⟨2, ![1024, 128]⟩
abbrev S1024 : Shape := ⟨1, ![1024]⟩
abbrev S1024x1 : Shape := ⟨2, ![1024, 1]⟩
abbrev S1024x640 : Shape := ⟨2, ![1024, 640]⟩
abbrev S1x2x4096x2x128 : Shape := ⟨5, ![1, 2, 4096, 2, 128]⟩
abbrev S8192x64 : Shape := ⟨2, ![8192, 64]⟩
abbrev S1x2x4096x64 : Shape := ⟨4, ![1, 2, 4096, 64]⟩
abbrev S8192x24 : Shape := ⟨2, ![8192, 24]⟩
abbrev S2x4096x24 : Shape := ⟨3, ![2, 4096, 24]⟩

abbrev nBuf : Space → Nat
  | .hbm => 26
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x7768, .f32⟩
  | .hbm, ⟨3, _⟩ => ⟨S2048x7768, .f32⟩
  | .hbm, ⟨4, _⟩ => ⟨S7768x2048, .f32⟩
  | .hbm, ⟨5, _⟩ => ⟨S256x2048, .f32⟩
  | .hbm, ⟨6, _⟩ => ⟨S256x2048, .f32⟩
  | .hbm, ⟨7, _⟩ => ⟨S64x2048, .f32⟩
  | .hbm, ⟨8, _⟩ => ⟨S16x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S40x2048, .f32⟩
  | .hbm, ⟨13, _⟩ => ⟨S640x2048, .f32⟩
  | .hbm, ⟨14, _⟩ => ⟨S8192x2048, .f32⟩
  | .hbm, ⟨15, _⟩ => ⟨S2048, .f32⟩
  | .hbm, ⟨16, _⟩ => ⟨S1x2048, .f32⟩
  | .hbm, ⟨17, _⟩ => ⟨S16384x128, .f32⟩
  | .hbm, ⟨18, _⟩ => ⟨S16384x128, .f32⟩
  | .hbm, ⟨19, _⟩ => ⟨S8192x128, .f32⟩
  | .hbm, ⟨20, _⟩ => ⟨S1x2x4096x2x128, .f32⟩
  | .hbm, ⟨21, _⟩ => ⟨S1x2x4096x2x128, .f32⟩
  | .hbm, ⟨22, _⟩ => ⟨S8192x64, .f32⟩
  | .hbm, ⟨23, _⟩ => ⟨S1x2x4096x64, .f32⟩
  | .hbm, ⟨24, _⟩ => ⟨S8192x24, .f32⟩
  | .hbm, ⟨25, _⟩ => ⟨S2x4096x24, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S640x2048, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1024x128, .f32⟩
  | .local _ .vmem, ⟨9, _⟩ => ⟨S1024x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SmallRefIdeal.lean ====
abbrev S2x4096x2048 : Shape := ⟨3, ![2, 4096, 2048]⟩
abbrev S1x2048 : Shape := ⟨2, ![1, 2048]⟩
abbrev S1x2048x7768 : Shape := ⟨3, ![1, 2048, 7768]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x7768 : Shape := ⟨2, ![2048, 7768]⟩
abbrev S2x4096x7768 : Shape := ⟨3, ![2, 4096, 7768]⟩
abbrev S2x4096x1024 : Shape := ⟨3, ![2, 4096, 1024]⟩
abbrev S2x4096x256 : Shape := ⟨3, ![2, 4096, 256]⟩
abbrev S2x4096x64 : Shape := ⟨3, ![2, 4096, 64]⟩
abbrev S2x4096x16 : Shape := ⟨3, ![2, 4096, 16]⟩
abbrev S2x4096x512 : Shape := ⟨3, ![2, 4096, 512]⟩
abbrev S2x4096x4 : Shape := ⟨3, ![2, 4096, 4]⟩
abbrev S1x2x4096x2x128 : Shape := ⟨5, ![1, 2, 4096, 2, 128]⟩
abbrev S1x2x4096x64 : Shape := ⟨4, ![1, 2, 4096, 64]⟩
abbrev S2x4096x24 : Shape := ⟨3, ![2, 4096, 24]⟩

abbrev nBuf : Space → Nat
  | .hbm => 40
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x7768, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x7768, .f32⟩
  | .hbm, ⟨21, _⟩ => ⟨S2x4096x7768, .f32⟩
  | .hbm, ⟨22, _⟩ => ⟨S2x4096x1024, .f32⟩
  | .hbm, ⟨23, _⟩ => ⟨S2x4096x256, .f32⟩
  | .hbm, ⟨24, _⟩ => ⟨S2x4096x256, .f32⟩
  | .hbm, ⟨25, _⟩ => ⟨S2x4096x1024, .f32⟩
  | .hbm, ⟨26, _⟩ => ⟨S2x4096x64, .f32⟩
  | .hbm, ⟨27, _⟩ => ⟨S2x4096x16, .f32⟩
  | .hbm, ⟨28, _⟩ => ⟨S2x4096x1024, .f32⟩
  | .hbm, ⟨29, _⟩ => ⟨S2x4096x512, .f32⟩
  | .hbm, ⟨30, _⟩ => ⟨S2x4096x512, .f32⟩
  | .hbm, ⟨31, _⟩ => ⟨S2x4096x1024, .f32⟩
  | .hbm, ⟨32, _⟩ => ⟨S2x4096x4, .f32⟩
  | .hbm, ⟨33, _⟩ => ⟨S2x4096x4, .f32⟩
  | .hbm, ⟨34, _⟩ => ⟨S2x4096x1024, .f32⟩
  | .hbm, ⟨35, _⟩ => ⟨S2x4096x1024, .f32⟩
  | .hbm, ⟨36, _⟩ => ⟨S1x2x4096x2x128, .f32⟩
  | .hbm, ⟨37, _⟩ => ⟨S1x2x4096x2x128, .f32⟩
  | .hbm, ⟨38, _⟩ => ⟨S1x2x4096x64, .f32⟩
  | .hbm, ⟨39, _⟩ => ⟨S2x4096x24, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== SmallS.lean ====
abbrev S32x1x2048 : Shape := ⟨3, ![32, 1, 2048]⟩
abbrev S1x2048 : Shape := ⟨2, ![1, 2048]⟩
abbrev S1x2048x7768 : Shape := ⟨3, ![1, 2048, 7768]⟩
abbrev S2048x7768 : Shape := ⟨2, ![2048, 7768]⟩
abbrev S7768x2048 : Shape := ⟨2, ![7768, 2048]⟩
abbrev S256x2048 : Shape := ⟨2, ![256, 2048]⟩
abbrev S64x2048 : Shape := ⟨2, ![64, 2048]⟩
abbrev S16x2048 : Shape := ⟨2, ![16, 2048]⟩
abbrev S4x2048 : Shape := ⟨2, ![4, 2048]⟩
abbrev S_ : Shape := ⟨0, ![]⟩
abbrev S40x2048 : Shape := ⟨2, ![40, 2048]⟩
abbrev S640x2048 : Shape := ⟨2, ![640, 2048]⟩
abbrev S32x2048 : Shape := ⟨2, ![32, 2048]⟩
abbrev S2048 : Shape := ⟨1, ![2048]⟩
abbrev S64x128 : Shape := ⟨2, ![64, 128]⟩
abbrev S32x128 : Shape := ⟨2, ![32, 128]⟩
abbrev S32 : Shape := ⟨1, ![32]⟩
abbrev S32x1 : Shape := ⟨2, ![32, 1]⟩
abbrev S32x640 : Shape := ⟨2, ![32, 640]⟩
abbrev S1x32x1x2x128 : Shape := ⟨5, ![1, 32, 1, 2, 128]⟩
abbrev S32x64 : Shape := ⟨2, ![32, 64]⟩
abbrev S1x32x1x64 : Shape := ⟨4, ![1, 32, 1, 64]⟩
abbrev S32x24 : Shape := ⟨2, ![32, 24]⟩
abbrev S32x1x24 : Shape := ⟨3, ![32, 1, 24]⟩

abbrev nBuf : Space → Nat
  | .hbm => 26
  | .vmem => 6
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x7768, .f32⟩
  | .hbm, ⟨3, _⟩ => ⟨S2048x7768, .f32⟩
  | .hbm, ⟨4, _⟩ => ⟨S7768x2048, .f32⟩
  | .hbm, ⟨5, _⟩ => ⟨S256x2048, .f32⟩
  | .hbm, ⟨6, _⟩ => ⟨S256x2048, .f32⟩
  | .hbm, ⟨7, _⟩ => ⟨S64x2048, .f32⟩
  | .hbm, ⟨8, _⟩ => ⟨S16x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S40x2048, .f32⟩
  | .hbm, ⟨13, _⟩ => ⟨S640x2048, .f32⟩
  | .hbm, ⟨14, _⟩ => ⟨S32x2048, .f32⟩
  | .hbm, ⟨15, _⟩ => ⟨S2048, .f32⟩
  | .hbm, ⟨16, _⟩ => ⟨S1x2048, .f32⟩
  | .hbm, ⟨17, _⟩ => ⟨S64x128, .f32⟩
  | .hbm, ⟨18, _⟩ => ⟨S64x128, .f32⟩
  | .hbm, ⟨19, _⟩ => ⟨S32x128, .f32⟩
  | .hbm, ⟨20, _⟩ => ⟨S1x32x1x2x128, .f32⟩
  | .hbm, ⟨21, _⟩ => ⟨S1x32x1x2x128, .f32⟩
  | .hbm, ⟨22, _⟩ => ⟨S32x64, .f32⟩
  | .hbm, ⟨23, _⟩ => ⟨S1x32x1x64, .f32⟩
  | .hbm, ⟨24, _⟩ => ⟨S32x24, .f32⟩
  | .hbm, ⟨25, _⟩ => ⟨S32x1x24, .f32⟩
  | .local _ .vmem, ⟨0, _⟩ => ⟨S32x2048, .f32⟩
  | .local _ .vmem, ⟨1, _⟩ => ⟨S1x2048, .f32⟩
  | .local _ .vmem, ⟨2, _⟩ => ⟨S640x2048, .f32⟩
  | .local _ .vmem, ⟨3, _⟩ => ⟨S64x128, .f32⟩
  | .local _ .vmem, ⟨4, _⟩ => ⟨S64x128, .f32⟩
  | .local _ .vmem, ⟨5, _⟩ => ⟨S32x128, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== SmallSRefIdeal.lean ====
abbrev S32x1x2048 : Shape := ⟨3, ![32, 1, 2048]⟩
abbrev S1x2048 : Shape := ⟨2, ![1, 2048]⟩
abbrev S1x2048x7768 : Shape := ⟨3, ![1, 2048, 7768]⟩
abbrev S2048 : Shape := ⟨1, ![2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S2048x7768 : Shape := ⟨2, ![2048, 7768]⟩
abbrev S32x1x7768 : Shape := ⟨3, ![32, 1, 7768]⟩
abbrev S32x1x1024 : Shape := ⟨3, ![32, 1, 1024]⟩
abbrev S32x1x256 : Shape := ⟨3, ![32, 1, 256]⟩
abbrev S32x1x64 : Shape := ⟨3, ![32, 1, 64]⟩
abbrev S32x1x16 : Shape := ⟨3, ![32, 1, 16]⟩
abbrev S32x1x512 : Shape := ⟨3, ![32, 1, 512]⟩
abbrev S32x1x4 : Shape := ⟨3, ![32, 1, 4]⟩
abbrev S1x32x1x2x128 : Shape := ⟨5, ![1, 32, 1, 2, 128]⟩
abbrev S1x32x1x64 : Shape := ⟨4, ![1, 32, 1, 64]⟩
abbrev S32x1x24 : Shape := ⟨3, ![32, 1, 24]⟩

abbrev nBuf : Space → Nat
  | .hbm => 40
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x7768, .f32⟩
  | .hbm, ⟨3, _⟩ => ⟨S2048, .f32⟩
  | .hbm, ⟨4, _⟩ => ⟨S32x1x2048, .f32⟩
  | .hbm, ⟨5, _⟩ => ⟨S_, .f32⟩
  | .hbm, ⟨6, _⟩ => ⟨S32x1, .f32⟩
  | .hbm, ⟨7, _⟩ => ⟨S32x1x1, .f32⟩
  | .hbm, ⟨8, _⟩ => ⟨S_, .f32⟩
  | .hbm, ⟨9, _⟩ => ⟨S32x1x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S32x1x1, .f32⟩
  | .hbm, ⟨15, _⟩ => ⟨S32x1x2048, .f32⟩
  | .hbm, ⟨16, _⟩ => ⟨S32x1x2048, .f32⟩
  | .hbm, ⟨17, _⟩ => ⟨S1x1x2048, .f32⟩
  | .hbm, ⟨18, _⟩ => ⟨S32x1x2048, .f32⟩
  | .hbm, ⟨19, _⟩ => ⟨S32x1x2048, .f32⟩
  | .hbm, ⟨20, _⟩ => ⟨S2048x7768, .f32⟩
  | .hbm, ⟨21, _⟩ => ⟨S32x1x7768, .f32⟩
  | .hbm, ⟨22, _⟩ => ⟨S32x1x1024, .f32⟩
  | .hbm, ⟨23, _⟩ => ⟨S32x1x256, .f32⟩
  | .hbm, ⟨24, _⟩ => ⟨S32x1x256, .f32⟩
  | .hbm, ⟨25, _⟩ => ⟨S32x1x1024, .f32⟩
  | .hbm, ⟨26, _⟩ => ⟨S32x1x64, .f32⟩
  | .hbm, ⟨27, _⟩ => ⟨S32x1x16, .f32⟩
  | .hbm, ⟨28, _⟩ => ⟨S32x1x1024, .f32⟩
  | .hbm, ⟨29, _⟩ => ⟨S32x1x512, .f32⟩
  | .hbm, ⟨30, _⟩ => ⟨S32x1x512, .f32⟩
  | .hbm, ⟨31, _⟩ => ⟨S32x1x1024, .f32⟩
  | .hbm, ⟨32, _⟩ => ⟨S32x1x4, .f32⟩
  | .hbm, ⟨33, _⟩ => ⟨S32x1x4, .f32⟩
  | .hbm, ⟨34, _⟩ => ⟨S32x1x1024, .f32⟩
  | .hbm, ⟨35, _⟩ => ⟨S32x1x1024, .f32⟩
  | .hbm, ⟨36, _⟩ => ⟨S1x32x1x2x128, .f32⟩
  | .hbm, ⟨37, _⟩ => ⟨S1x32x1x2x128, .f32⟩
  | .hbm, ⟨38, _⟩ => ⟨S1x32x1x64, .f32⟩
  | .hbm, ⟨39, _⟩ => ⟨S32x1x24, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== MainS.lean ====
abbrev S32x1x2048 : Shape := ⟨3, ![32, 1, 2048]⟩
abbrev S1x2048 : Shape := ⟨2, ![1, 2048]⟩
abbrev S1x2048x7768 : Shape := ⟨3, ![1, 2048, 7768]⟩
abbrev S7 : Shape := ⟨1, ![7]⟩
abbrev S14 : Shape := ⟨1, ![14]⟩
abbrev S32x2048 : Shape := ⟨2, ![32, 2048]⟩
abbrev S2048 : Shape := ⟨1, ![2048]⟩
abbrev S2048x7768 : Shape := ⟨2, ![2048, 7768]⟩
abbrev S7768x2048 : Shape := ⟨2, ![7768, 2048]⟩
abbrev S32x7168 : Shape := ⟨2, ![32, 7168]⟩
abbrev S1024x2048 : Shape := ⟨2, ![1024, 2048]⟩
abbrev S1 : Shape := ⟨1, ![1]⟩
abbrev S32x1024 : Shape := ⟨2, ![32, 1024]⟩
abbrev S32 : Shape := ⟨1, ![32]⟩
abbrev S32x1 : Shape := ⟨2, ![32, 1]⟩
abbrev S512x2048 : Shape := ⟨2, ![512, 2048]⟩

abbrev nBuf : Space → Nat
  | .hbm => 10
  | .vmem => 7
  | .smem => 2
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x7768, .f32⟩
  | .hbm, ⟨3, _⟩ => ⟨S14, .f32⟩
  | .hbm, ⟨4, _⟩ => ⟨S32x2048, .f32⟩
  | .hbm, ⟨5, _⟩ => ⟨S2048, .f32⟩
  | .hbm, ⟨6, _⟩ => ⟨S2048x7768, .f32⟩
  | .hbm, ⟨7, _⟩ => ⟨S7768x2048, .f32⟩
  | .hbm, ⟨8, _⟩ => ⟨S1x2048, .f32⟩
  | .hbm, ⟨9, _⟩ => ⟨S32x7168, .f32⟩
  | .local _ .vmem, ⟨0, _⟩ => ⟨S32x2048, .f32⟩
  | .local _ .vmem, ⟨1, _⟩ => ⟨S1x2048, .f32⟩
  | .local _ .vmem, ⟨2, _⟩ => ⟨S1024x2048, .f32⟩
  | .local _ .vmem, ⟨3, _⟩ => ⟨S1024x2048, .f32⟩
  | .local _ .vmem, ⟨4, _⟩ => ⟨S32x1024, .f32⟩
  | .local _ .vmem, ⟨5, _⟩ => ⟨S32x1024, .f32⟩
  | .local _ .vmem, ⟨6, _⟩ => ⟨S32x2048, .bf16⟩
  | .local _ .smem, ⟨0, _⟩ => ⟨S7, .i32⟩
  | .local _ .smem, ⟨1, _⟩ => ⟨S14, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.smem, 0, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_stg0_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 7], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c8_i32 : BitVec 32 := 8#32
  let v2 : BitVec 32 := Scalar.muli v1 c8_i32
  v2

def k0_off2 (i : grid0.Coords) (c0_i32_2 : BitVec 32) : Fin 1 → Nat :=
  let arg1 : BitVec 32 := BitVec.ofNat 32 (i 1).val
  let c2_i32 : BitVec 32 := 2#32
  let v5 : BitVec 32 := Scalar.muli arg1 c2_i32
  let v6 : BitVec 32 := Scalar.addi v5 c0_i32_2
  let v7 : Index := Scalar.indexCast v6
  ![v7.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S7.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S7) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S14 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MainSRefIdeal.lean ====
abbrev S32x1x2048 : Shape := ⟨3, ![32, 1, 2048]⟩
abbrev S1x2048 : Shape := ⟨2, ![1, 2048]⟩
abbrev S1x2048x7768 : Shape := ⟨3, ![1, 2048, 7768]⟩
abbrev S2048 : Shape := ⟨1, ![2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S2048x7768 : Shape := ⟨2, ![2048, 7768]⟩
abbrev S32x1x7768 : Shape := ⟨3, ![32, 1, 7768]⟩
abbrev S32x1x1024 : Shape := ⟨3, ![32, 1, 1024]⟩
abbrev S32x1x256 : Shape := ⟨3, ![32, 1, 256]⟩
abbrev S32x1x64 : Shape := ⟨3, ![32, 1, 64]⟩
abbrev S32x1x16 : Shape := ⟨3, ![32, 1, 16]⟩
abbrev S32x1x512 : Shape := ⟨3, ![32, 1, 512]⟩
abbrev S32x1x4 : Shape := ⟨3, ![32, 1, 4]⟩
abbrev S32x1x7168 : Shape := ⟨3, ![32, 1, 7168]⟩
abbrev S32x7168 : Shape := ⟨2, ![32, 7168]⟩

abbrev nBuf : Space → Nat
  | .hbm => 44
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x7768, .f32⟩
  | .hbm, ⟨3, _⟩ => ⟨S2048, .f32⟩
  | .hbm, ⟨4, _⟩ => ⟨S32x1x2048, .f32⟩
  | .hbm, ⟨5, _⟩ => ⟨S_, .f32⟩
  | .hbm, ⟨6, _⟩ => ⟨S32x1, .f32⟩
  | .hbm, ⟨7, _⟩ => ⟨S32x1x1, .f32⟩
  | .hbm, ⟨8, _⟩ => ⟨S_, .f32⟩
  | .hbm, ⟨9, _⟩ => ⟨S32x1x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S32x1x1, .f32⟩
  | .hbm, ⟨15, _⟩ => ⟨S32x1x2048, .f32⟩
  | .hbm, ⟨16, _⟩ => ⟨S32x1x2048, .f32⟩
  | .hbm, ⟨17, _⟩ => ⟨S1x1x2048, .f32⟩
  | .hbm, ⟨18, _⟩ => ⟨S32x1x2048, .f32⟩
  | .hbm, ⟨19, _⟩ => ⟨S32x1x2048, .f32⟩
  | .hbm, ⟨20, _⟩ => ⟨S2048x7768, .f32⟩
  | .hbm, ⟨21, _⟩ => ⟨S32x1x7768, .f32⟩
  | .hbm, ⟨22, _⟩ => ⟨S32x1x1024, .f32⟩
  | .hbm, ⟨23, _⟩ => ⟨S32x1x256, .f32⟩
  | .hbm, ⟨24, _⟩ => ⟨S32x1x256, .f32⟩
  | .hbm, ⟨25, _⟩ => ⟨S32x1x1024, .f32⟩
  | .hbm, ⟨26, _⟩ => ⟨S32x1x64, .f32⟩
  | .hbm, ⟨27, _⟩ => ⟨S32x1x16, .f32⟩
  | .hbm, ⟨28, _⟩ => ⟨S32x1x1024, .f32⟩
  | .hbm, ⟨29, _⟩ => ⟨S32x1x512, .f32⟩
  | .hbm, ⟨30, _⟩ => ⟨S32x1x512, .f32⟩
  | .hbm, ⟨31, _⟩ => ⟨S32x1x1024, .f32⟩
  | .hbm, ⟨32, _⟩ => ⟨S32x1x4, .f32⟩
  | .hbm, ⟨33, _⟩ => ⟨S32x1x4, .f32⟩
  | .hbm, ⟨34, _⟩ => ⟨S32x1x1024, .f32⟩
  | .hbm, ⟨35, _⟩ => ⟨S32x1x1024, .f32⟩
  | .hbm, ⟨36, _⟩ => ⟨S_, .f32⟩
  | .hbm, ⟨37, _⟩ => ⟨S32x1x1024, .f32⟩
  | .hbm, ⟨38, _⟩ => ⟨S32x1x1024, .f32⟩
  | .hbm, ⟨39, _⟩ => ⟨S_, .f32⟩
  | .hbm, ⟨40, _⟩ => ⟨S32x1x512, .f32⟩
  | .hbm, ⟨41, _⟩ => ⟨S32x1x512, .f32⟩
  | .hbm, ⟨42, _⟩ => ⟨S32x1x7168, .f32⟩
  | .hbm, ⟨43, _⟩ => ⟨S32x7168, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Out.lean ====
abbrev S2x4096x2048 : Shape := ⟨3, ![2, 4096, 2048]⟩
abbrev S8192x1024 : Shape := ⟨2, ![8192, 1024]⟩
abbrev S1x2048x2048 : Shape := ⟨3, ![1, 2048, 2048]⟩
abbrev S2048 : Shape := ⟨1, ![2048]⟩
abbrev S8192x2048 : Shape := ⟨2, ![8192, 2048]⟩
abbrev S2048x2048 : Shape := ⟨2, ![2048, 2048]⟩
abbrev S1x2048 : Shape := ⟨2, ![1, 2048]⟩
abbrev S256x2048 : Shape := ⟨2, ![256, 2048]⟩
abbrev S256x1024 : Shape := ⟨2, ![256, 1024]⟩
abbrev S1024x2048 : Shape := ⟨2, ![1024, 2048]⟩
abbrev S256 : Shape := ⟨1, ![256]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S8192x1024, .bf16⟩
  | .hbm, ⟨2, _⟩ => ⟨S8192x1024, .bf16⟩
  | .hbm, ⟨3, _⟩ => ⟨S1x2048x2048, .f32⟩
  | .hbm, ⟨4, _⟩ => ⟨S2048, .f32⟩
  | .hbm, ⟨5, _⟩ => ⟨S8192x2048, .f32⟩
  | .hbm, ⟨6, _⟩ => ⟨S2048x2048, .f32⟩
  | .hbm, ⟨7, _⟩ => ⟨S1x2048, .f32⟩
  | .hbm, ⟨8, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S2048x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S2048x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S2x4096x2048 : Shape := ⟨3, ![2, 4096, 2048]⟩
abbrev S8192x1024 : Shape := ⟨2, ![8192, 1024]⟩
abbrev S1x2048x2048 : Shape := ⟨3, ![1, 2048, 2048]⟩
abbrev S2048 : Shape := ⟨1, ![2048]⟩
abbrev S2x4096x1024 : Shape := ⟨3, ![2, 4096, 1024]⟩
abbrev S2048x2048 : Shape := ⟨2, ![2048, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8192x1024, .bf16⟩
  | .hbm, ⟨2, _⟩ => ⟨S8192x1024, .bf16⟩
  | .hbm, ⟨3, _⟩ => ⟨S1x2048x2048, .f32⟩
  | .hbm, ⟨4, _⟩ => ⟨S2048, .f32⟩
  | .hbm, ⟨5, _⟩ => ⟨S8192x1024, .f32⟩
  | .hbm, ⟨6, _⟩ => ⟨S2x4096x1024, .f32⟩
  | .hbm, ⟨7, _⟩ => ⟨S8192x1024, .f32⟩
  | .hbm, ⟨8, _⟩ => ⟨S2x4096x1024, .f32⟩
  | .hbm, ⟨9, _⟩ => ⟨S2x4096x2048, .f32⟩
  | .hbm, ⟨10, _⟩ => ⟨S2048x2048, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S_, .f32⟩
  | .hbm, ⟨15, _⟩ => ⟨S2x4096, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x1, .f32⟩
  | .hbm, ⟨24, _⟩ => ⟨S2x4096x2048, .f32⟩
  | .hbm, ⟨25, _⟩ => ⟨S2x4096x2048, .f32⟩
  | .hbm, ⟨26, _⟩ => ⟨S1x1x2048, .f32⟩
  | .hbm, ⟨27, _⟩ => ⟨S2x4096x2048, .f32⟩
  | .hbm, ⟨28, _⟩ => ⟨S2x4096x2048, .f32⟩
  | .hbm, ⟨29, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== OutS.lean ====
abbrev S32x1x2048 : Shape := ⟨3, ![32, 1, 2048]⟩
abbrev S32x8x128 : Shape := ⟨3, ![32, 8, 128]⟩
abbrev S32x1x1024 : Shape := ⟨3, ![32, 1, 1024]⟩
abbrev S1x2048x2048 : Shape := ⟨3, ![1, 2048, 2048]⟩
abbrev S2048 : Shape := ⟨1, ![2048]⟩
abbrev S32x2048 : Shape := ⟨2, ![32, 2048]⟩
abbrev S32x1024 : Shape := ⟨2, ![32, 1024]⟩
abbrev S2048x2048 : Shape := ⟨2, ![2048, 2048]⟩
abbrev S1x2048 : Shape := ⟨2, ![1, 2048]⟩
abbrev S1024x2048 : Shape := ⟨2, ![1024, 2048]⟩
abbrev S32 : Shape := ⟨1, ![32]⟩
abbrev S32x1 : Shape := ⟨2, ![32, 1]⟩

abbrev nBuf : Space → Nat
  | .hbm => 12
  | .vmem => 7
  | .smem => 0
  | _ => 0

abbrev bufTy : (tb : Table) → Fin (tcTables nBuf tb) → BufTy
  | .hbm, ⟨0, _⟩ => ⟨S32x1x2048, .f32⟩
  | .hbm, ⟨1, _⟩ => ⟨S32x8x128, .f32⟩
  | .hbm, ⟨2, _⟩ => ⟨S32x1x1024, .bf16⟩
  | .hbm, ⟨3, _⟩ => ⟨S1x2048x2048, .f32⟩
  | .hbm, ⟨4, _⟩ => ⟨S2048, .f32⟩
  | .hbm, ⟨5, _⟩ => ⟨S32x2048, .f32⟩
  | .hbm, ⟨6, _⟩ => ⟨S32x1024, .f32⟩
  | .hbm, ⟨7, _⟩ => ⟨S32x1024, .bf16⟩
  | .hbm, ⟨8, _⟩ => ⟨S32x1024, .bf16⟩
  | .hbm, ⟨9, _⟩ => ⟨S2048x2048, .f32⟩
  | .hbm, ⟨10, _⟩ => ⟨S1x2048, .f32⟩
  | .hbm, ⟨11, _⟩ => ⟨S32x2048, .f32⟩
  | .local _ .vmem, ⟨0, _⟩ => ⟨S32x2048, .f32⟩
  | .local _ .vmem, ⟨1, _⟩ => ⟨S32x1024, .bf16⟩
  | .local _ .vmem, ⟨2, _⟩ => ⟨S32x1024, .bf16⟩
  | .local _ .vmem, ⟨3, _⟩ => ⟨S2048x2048, .f32⟩
  | .local _ .vmem, ⟨4, _⟩ => ⟨S1x2048, .f32⟩
  | .local _ .vmem, ⟨5, _⟩ => ⟨S32x2048, .f32⟩
  | .local _ .vmem, ⟨6, _⟩ => ⟨S2048x2048, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== OutSRefIdeal.lean ====
abbrev S32x1x2048 : Shape := ⟨3, ![32, 1, 2048]⟩
abbrev S32x8x128 : Shape := ⟨3, ![32, 8, 128]⟩
abbrev S32x1x1024 : Shape := ⟨3, ![32, 1, 1024]⟩
abbrev S1x2048x2048 : Shape := ⟨3, ![1, 2048, 2048]⟩
abbrev S2048 : Shape := ⟨1, ![2048]⟩
abbrev S2048x2048 : Shape := ⟨2, ![2048, 2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S32x2048 : Shape := ⟨2, ![32, 2048]⟩

abbrev nBuf : Space → Nat
  | .hbm => 28
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S32x8x128, .f32⟩
  | .hbm, ⟨2, _⟩ => ⟨S32x1x1024, .bf16⟩
  | .hbm, ⟨3, _⟩ => ⟨S1x2048x2048, .f32⟩
  | .hbm, ⟨4, _⟩ => ⟨S2048, .f32⟩
  | .hbm, ⟨5, _⟩ => ⟨S32x1x1024, .f32⟩
  | .hbm, ⟨6, _⟩ => ⟨S32x1x1024, .f32⟩
  | .hbm, ⟨7, _⟩ => ⟨S32x1x2048, .f32⟩
  | .hbm, ⟨8, _⟩ => ⟨S2048x2048, .f32⟩
  | .hbm, ⟨9, _⟩ => ⟨S32x1x2048, .f32⟩
  | .hbm, ⟨10, _⟩ => ⟨S32x1x2048, .f32⟩
  | .hbm, ⟨11, _⟩ => ⟨S32x1x2048, .f32⟩
  | .hbm, ⟨12, _⟩ => ⟨S_, .f32⟩
  | .hbm, ⟨13, _⟩ => ⟨S32x1, .f32⟩
  | .hbm, ⟨14, _⟩ => ⟨S32x1x1, .f32⟩
  | .hbm, ⟨15, _⟩ => ⟨S_, .f32⟩
  | .hbm, ⟨16, _⟩ => ⟨S32x1x1, .f32⟩
  | .hbm, ⟨17, _⟩ => ⟨S32x1x1, .f32⟩
  | .hbm, ⟨18, _⟩ => ⟨S_, .f32⟩
  | .hbm, ⟨19, _⟩ => ⟨S32x1x1, .f32⟩
  | .hbm, ⟨20, _⟩ => ⟨S32x1x1, .f32⟩
  | .hbm, ⟨21, _⟩ => ⟨S32x1x1, .f32⟩
  | .hbm, ⟨22, _⟩ => ⟨S32x1x2048, .f32⟩
  | .hbm, ⟨23, _⟩ => ⟨S32x1x2048, .f32⟩
  | .hbm, ⟨24, _⟩ => ⟨S1x1x2048, .f32⟩
  | .hbm, ⟨25, _⟩ => ⟨S32x1x2048, .f32⟩
  | .hbm, ⟨26, _⟩ => ⟨S32x1x2048, .f32⟩
  | .hbm, ⟨27, _⟩ => ⟨S32x2048, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Step.lean ====
abbrev S32x7168 : Shape := ⟨2, ![32, 7168]⟩
abbrev S32x128 : Shape := ⟨2, ![32, 128]⟩
abbrev S1x4 : Shape := ⟨2, ![1, 4]⟩
abbrev S1x1024 : Shape := ⟨2, ![1, 1024]⟩
abbrev S1x32x4x256x128 : Shape := ⟨5, ![1, 32, 4, 256, 128]⟩
abbrev S1x32x4x128 : Shape := ⟨4, ![1, 32, 4, 128]⟩
abbrev S1x32x4 : Shape := ⟨3, ![1, 32, 4]⟩
abbrev S32x1x7168 : Shape := ⟨3, ![32, 1, 7168]⟩
abbrev S32x1x128 : Shape := ⟨3, ![32, 1, 128]⟩
abbrev S4 : Shape := ⟨1, ![4]⟩
abbrev S1024 : Shape := ⟨1, ![1024]⟩
abbrev S32x4x256x128 : Shape := ⟨4, ![32, 4, 256, 128]⟩
abbrev S32x4x128 : Shape := ⟨3, ![32, 4, 128]⟩
abbrev S32x4x1x128 : Shape := ⟨4, ![32, 4, 1, 128]⟩
abbrev S32x4 : Shape := ⟨2, ![32, 4]⟩
abbrev S32x4x1x1 : Shape := ⟨4, ![32, 4, 1, 1]⟩
abbrev S32x1x1024 : Shape := ⟨3, ![32, 1, 1024]⟩
abbrev S1x1x512 : Shape := ⟨3, ![1, 1, 512]⟩
abbrev S1x1x1024 : Shape := ⟨3, ![1, 1, 1024]⟩
abbrev S1x1x128 : Shape := ⟨3, ![1, 1, 128]⟩
abbrev S1x4x256x128 : Shape := ⟨4, ![1, 4, 256, 128]⟩
abbrev S1x4x1x128 : Shape := ⟨4, ![1, 4, 1, 128]⟩
abbrev S1x128 : Shape := ⟨2, ![1, 128]⟩
abbrev S256x256 : Shape := ⟨2, ![256, 256]⟩
abbrev S1x1 : Shape := ⟨2, ![1, 1]⟩
abbrev S1 : Shape := ⟨1, ![1]⟩
abbrev S1x1x1x128 : Shape := ⟨4, ![1, 1, 1, 128]⟩
abbrev S1x512 : Shape := ⟨2, ![1, 512]⟩
abbrev S1x256 : Shape := ⟨2, ![1, 256]⟩
abbrev S256 : Shape := ⟨1, ![256]⟩
abbrev S256x1 : Shape := ⟨2, ![256, 1]⟩
abbrev S1x1x256x128 : Shape := ⟨4, ![1, 1, 256, 128]⟩
abbrev S256x128 : Shape := ⟨2, ![256, 128]⟩
abbrev S1x1x256 : Shape := ⟨3, ![1, 1, 256]⟩

abbrev nBuf : Space → Nat
  | .hbm => 29
  | .vmem => 27
  | .smem => 2
  | _ => 0

abbrev bufTy : (tb : Table) → Fin (tcTables nBuf tb) → BufTy
  | .hbm, ⟨0, _⟩ => ⟨S32x7168, .f32⟩
  | .hbm, ⟨1, _⟩ => ⟨S32x128, .f32⟩
  | .hbm, ⟨2, _⟩ => ⟨S1x4, .f32⟩
  | .hbm, ⟨3, _⟩ => ⟨S1x4, .f32⟩
  | .hbm, ⟨4, _⟩ => ⟨S1x1024, .f32⟩
  | .hbm, ⟨5, _⟩ => ⟨S1x32x4x256x128, .f32⟩
  | .hbm, ⟨6, _⟩ => ⟨S1x32x4x128, .f32⟩
  | .hbm, ⟨7, _⟩ => ⟨S1x32x4, .f32⟩
  | .hbm, ⟨8, _⟩ => ⟨S32x1x7168, .f32⟩
  | .hbm, ⟨9, _⟩ => ⟨S32x1x128, .f32⟩
  | .hbm, ⟨10, _⟩ => ⟨S4, .f32⟩
  | .hbm, ⟨11, _⟩ => ⟨S4, .f32⟩
  | .hbm, ⟨12, _⟩ => ⟨S1024, .f32⟩
  | .hbm, ⟨13, _⟩ => ⟨S32x4x256x128, .f32⟩
  | .hbm, ⟨14, _⟩ => ⟨S32x4x128, .f32⟩
  | .hbm, ⟨15, _⟩ => ⟨S32x4x1x128, .f32⟩
  | .hbm, ⟨16, _⟩ => ⟨S32x4, .f32⟩
  | .hbm, ⟨17, _⟩ => ⟨S32x4x1x1, .f32⟩
  | .hbm, ⟨18, _⟩ => ⟨S32x4x1x128, .f32⟩
  | .hbm, ⟨19, _⟩ => ⟨S1x1024, .f32⟩
  | .hbm, ⟨20, _⟩ => ⟨S32x1x1024, .bf16⟩
  | .hbm, ⟨21, _⟩ => ⟨S32x4x256x128, .f32⟩
  | .hbm, ⟨22, _⟩ => ⟨S32x4x1x128, .f32⟩
  | .hbm, ⟨23, _⟩ => ⟨S32x4x1x128, .f32⟩
  | .hbm, ⟨24, _⟩ => ⟨S1x32x4x256x128, .f32⟩
  | .hbm, ⟨25, _⟩ => ⟨S1x32x4x128, .f32⟩
  | .hbm, ⟨26, _⟩ => ⟨S32x4x1x1, .f32⟩
  | .hbm, ⟨27, _⟩ => ⟨S32x4, .f32⟩
  | .hbm, ⟨28, _⟩ => ⟨S1x32x4, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x128, .f32⟩
  | .local _ .vmem, ⟨11, _⟩ => ⟨S1x1x128, .f32⟩
  | .local _ .vmem, ⟨12, _⟩ => ⟨S1x1024, .f32⟩
  | .local _ .vmem, ⟨13, _⟩ => ⟨S1x4x256x128, .f32⟩
  | .local _ .vmem, ⟨14, _⟩ => ⟨S1x4x256x128, .f32⟩
  | .local _ .vmem, ⟨15, _⟩ => ⟨S1x4x1x128, .f32⟩
  | .local _ .vmem, ⟨16, _⟩ => ⟨S1x4x1x128, .f32⟩
  | .local _ .vmem, ⟨17, _⟩ => ⟨S1x4x1x128, .f32⟩
  | .local _ .vmem, ⟨18, _⟩ => ⟨S1x4x1x128, .f32⟩
  | .local _ .vmem, ⟨19, _⟩ => ⟨S1x1x1024, .bf16⟩
  | .local _ .vmem, ⟨20, _⟩ => ⟨S1x1x1024, .bf16⟩
  | .local _ .vmem, ⟨21, _⟩ => ⟨S1x4x256x128, .f32⟩
  | .local _ .vmem, ⟨22, _⟩ => ⟨S1x4x256x128, .f32⟩
  | .local _ .vmem, ⟨23, _⟩ => ⟨S1x4x1x128, .f32⟩
  | .local _ .vmem, ⟨24, _⟩ => ⟨S1x4x1x128, .f32⟩
  | .local _ .vmem, ⟨25, _⟩ => ⟨S1x4x1x128, .f32⟩
  | .local _ .vmem, ⟨26, _⟩ => ⟨S1x4x1x128, .f32⟩
  | .local _ .smem, ⟨0, _⟩ => ⟨S4, .f32⟩
  | .local _ .smem, ⟨1, _⟩ => ⟨S4, .f32⟩
  | _, _ => ⟨S32x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c12_i32 : BitVec 32 := 12#32
  let c0_i32_0 : BitVec 32 := 0#32
  ![arg0.toNat, c0_i32.toNat, c12_i32.toNat]

def cc0_transform_3 (i : grid0.Coords) : Fin 3 → Nat :=
  let arg0 : BitVec 32 := BitVec.ofNat 32 (i 0).val
  let c0_i32 : BitVec 32 := 0#32
  let c13_i32 : BitVec 32 := 13#32
  let c0_i32_0 : BitVec 32 := 0#32
  ![arg0.toNat, c0_i32.toNat, c13_i32.toNat]

def cc0_transform_4 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_5 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_6 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x4x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== StepRefIdeal.lean ====
abbrev S32x7168 : Shape := ⟨2, ![32, 7168]⟩
abbrev S32x128 : Shape := ⟨2, ![32, 128]⟩
abbrev S1x4 : Shape := ⟨2, ![1, 4]⟩
abbrev S1x1024 : Shape := ⟨2, ![1, 1024]⟩
abbrev S1x32x4x256x128 : Shape := ⟨5, ![1, 32, 4, 256, 128]⟩
abbrev S1x32x4x128 : Shape := ⟨4, ![1, 32, 4, 128]⟩
abbrev S1x32x4 : Shape := ⟨3, ![1, 32, 4]⟩
abbrev S32x1024 : Shape := ⟨2, ![32, 1024]⟩
abbrev S32x512 : Shape := ⟨2, ![32, 512]⟩
abbrev S32x4 : Shape := ⟨2, ![32, 4]⟩
abbrev S4 : Shape := ⟨1, ![4]⟩
abbrev S_ : Shape := ⟨0, ![]⟩
abbrev S32x4x256x128 : Shape := ⟨4, ![32, 4, 256, 128]⟩
abbrev S32x4x128 : Shape := ⟨3, ![32, 4, 128]⟩
abbrev S32x4x1x128 : Shape := ⟨4, ![32, 4, 1, 128]⟩
abbrev S32x4x1x256 : Shape := ⟨4, ![32, 4, 1, 256]⟩
abbrev S32x4x1 : Shape := ⟨3, ![32, 4, 1]⟩
abbrev S1x1 : Shape := ⟨2, ![1, 1]⟩
abbrev S32x4x1x1 : Shape := ⟨4, ![32, 4, 1, 1]⟩
abbrev S32x4x256 : Shape := ⟨3, ![32, 4, 256]⟩
abbrev S1024 : Shape := ⟨1, ![1024]⟩
abbrev S4x256 : Shape := ⟨2, ![4, 256]⟩
abbrev S1x4x256 : Shape := ⟨3, ![1, 4, 256]⟩
abbrev S32x1x1024 : Shape := ⟨3, ![32, 1, 1024]⟩

abbrev nBuf : Space → Nat
  | .hbm => 166
  | .vmem => 0
  | .smem => 0
  | _ => 0

abbrev hbmTy0_0 (i : Nat) : BufTy := match i % 128 with
  | 0 => ⟨S32x7168, .f32⟩
  | 1 => ⟨S32x128, .f32⟩
  | 2 => ⟨S1x4, .f32⟩
  | 3 => ⟨S1x4, .f32⟩
  | 4 => ⟨S1x1024, .f32⟩
  | 5 => ⟨S1x32x4x256x128, .f32⟩
  | 6 => ⟨S1x32x4x128, .f32⟩
  | 7 => ⟨S1x32x4, .f32⟩
  | 8 => ⟨S32x1024, .f32⟩
  | 9 => ⟨S32x1024, .f32⟩
  | 10 => ⟨S32x1024, .f32⟩
  | 11 => ⟨S32x512, .f32⟩
  | 12 => ⟨S32x512, .f32⟩
  | 13 => ⟨S32x4, .f32⟩
  | 14 => ⟨S4, .f32⟩
  | 15 => ⟨S1x4, .f32⟩
  | 16 => ⟨S32x4, .f32⟩
  | 17 => ⟨S32x4, .f32⟩
  | 18 => ⟨S32x4, .f32⟩
  | 19 => ⟨S4, .f32⟩
  | 20 => ⟨S1x4, .f32⟩
  | 21 => ⟨S32x4, .f32⟩
  | 22 => ⟨S32x4, .f32⟩
  | 23 => ⟨S32x4, .f32⟩
  | 24 => ⟨S_, .f32⟩
  | 25 => ⟨S32x4, .f32⟩
  | 26 => ⟨S32x4, .f32⟩
  | 27 => ⟨S32x4, .f32⟩
  | 28 => ⟨S32x4, .f32⟩
  | 29 => ⟨S32x4, .i1⟩
  | 30 => ⟨S32x4, .f32⟩
  | 31 => ⟨S32x4, .f32⟩
  | 32 => ⟨S32x4, .f32⟩
  | 33 => ⟨S32x4, .f32⟩
  | 34 => ⟨S32x4, .f32⟩
  | 35 => ⟨S32x4, .f32⟩
  | 36 => ⟨S32x4, .f32⟩
  | 37 => ⟨S32x4, .f32⟩
  | 38 => ⟨S32x4, .f32⟩
  | 39 => ⟨S32x4x256x128, .f32⟩
  | 40 => ⟨S32x4x128, .f32⟩
  | 41 => ⟨S32x4, .f32⟩
  | 42 => ⟨S32x4x1x128, .f32⟩
  | 43 => ⟨S32x4x1x128, .f32⟩
  | 44 => ⟨S32x4x1x256, .f32⟩
  | 45 => ⟨S32x4x1, .f32⟩
  | 46 => ⟨S32x4x1, .f32⟩
  | 47 => ⟨S_, .f32⟩
  | 48 => ⟨S_, .f32⟩
  | 49 => ⟨S32x4x1, .f32⟩
  | 50 => ⟨S_, .i1⟩
  | 51 => ⟨S1x1, .i1⟩
  | 52 => ⟨S1x1, .i32⟩
  | 53 => ⟨S_, .i32⟩
  | 54 => ⟨S1x1, .i32⟩
  | 55 => ⟨S1x1, .i32⟩
  | 56 => ⟨S1x1, .i32⟩
  | 57 => ⟨S1x1, .i1⟩
  | 58 => ⟨S_, .i1⟩
  | 59 => ⟨S1x1, .i1⟩
  | 60 => ⟨S1x1, .i1⟩
  | 61 => ⟨S32x4x1x1, .f32⟩
  | 62 => ⟨S32x4x1x1, .f32⟩
  | 63 => ⟨S32x4x1x1, .f32⟩
  | 64 => ⟨S32x4x1x1, .f32⟩
  | 65 => ⟨S32x4x1x1, .f32⟩
  | 66 => ⟨S_, .f32⟩
  | 67 => ⟨S_, .f32⟩
  | 68 => ⟨S32x4x1x1, .i1⟩
  | 69 => ⟨S32x4x1x1, .f32⟩
  | 70 => ⟨S32x4x1x1, .f32⟩
  | 71 => ⟨S32x4x1, .f32⟩
  | 72 => ⟨S32x4x1, .f32⟩
  | 73 => ⟨S_, .f32⟩
  | 74 => ⟨S32x4x1, .f32⟩
  | 75 => ⟨S32x4x1, .f32⟩
  | 76 => ⟨S32x4x1x1, .f32⟩
  | 77 => ⟨S32x4x1x1, .f32⟩
  | 78 => ⟨S32x4x1x1, .f32⟩
  | 79 => ⟨S32x4x1, .f32⟩
  | 80 => ⟨S32x4x1, .f32⟩
  | 81 => ⟨S32x4x1x1, .f32⟩
  | 82 => ⟨S32x4x1x1, .f32⟩
  | 83 => ⟨S32x4x1x1, .f32⟩
  | 84 => ⟨S32x4x1x256, .f32⟩
  | 85 => ⟨S32x4x1x256, .f32⟩
  | 86 => ⟨S32x4x1x256, .f32⟩
  | 87 => ⟨S32x4x1x256, .f32⟩
  | 88 => ⟨S32x4x1x256, .f32⟩
  | 89 => ⟨S32x4x1, .f32⟩
  | 90 => ⟨S32x4x1, .f32⟩
  | 91 => ⟨S_, .f32⟩
  | 92 => ⟨S32x4x1, .f32⟩
  | 93 => ⟨S32x4x1, .f32⟩
  | 94 => ⟨S32x4x1, .f32⟩
  | 95 => ⟨S32x4x1, .f32⟩
  | 96 => ⟨S32x4x1, .f32⟩
  | 97 => ⟨S32x4x1, .f32⟩
  | 98 => ⟨S32x4x1x1, .f32⟩
  | 99 => ⟨S32x4x1x256, .f32⟩
  | 100 => ⟨S32x4x1x256, .f32⟩
  | 101 => ⟨S32x4, .f32⟩
  | 102 => ⟨S32x4x1, .f32⟩
  | 103 => ⟨S32x4x1, .f32⟩
  | 104 => ⟨S32x4x1, .f32⟩
  | 105 => ⟨S32x4x1, .f32⟩
  | 106 => ⟨S32x4x1, .f32⟩
  | 107 => ⟨S32x4, .f32⟩
  | 108 => ⟨S32x4x1x1, .f32⟩
  | 109 => ⟨S32x4x256x128, .f32⟩
  | 110 => ⟨S32x4x256x128, .f32⟩
  | 111 => ⟨S32x4x1x1, .f32⟩
  | 112 => ⟨S32x4x1x128, .f32⟩
  | 113 => ⟨S32x4x1x128, .f32⟩
  | 114 => ⟨S32x4x256x128, .f32⟩
  | 115 => ⟨S32x4x256x128, .f32⟩
  | 116 => ⟨S32x4x1, .f32⟩
  | 117 => ⟨S32x4x128, .f32⟩
  | 118 => ⟨S32x4x128, .f32⟩
  | 119 => ⟨S32x4x128, .f32⟩
  | 120 => ⟨S32x4x128, .f32⟩
  | 121 => ⟨S32x4x256, .f32⟩
  | 122 => ⟨S32x4x256, .f32⟩
  | 123 => ⟨S_, .f32⟩
  | 124 => ⟨S32x4, .f32⟩
  | 125 => ⟨S32x4x1, .f32⟩
  | 126 => ⟨S_, .f32⟩
  | 127 => ⟨S32x4x1, .f32⟩
  | _ => ⟨S32x7168, .f32⟩

abbrev hbmTy0_1 (i : Nat) : BufTy := match i % 128 with
  | 0 => ⟨S32x4x1, .f32⟩
  | 1 => ⟨S_, .f32⟩
  | 2 => ⟨S32x4x1, .f32⟩
  | 3 => ⟨S32x4x1, .f32⟩
  | 4 => ⟨S32x4x1, .f32⟩
  | 5 => ⟨S32x4x256, .f32⟩
  | 6 => ⟨S32x4x256, .f32⟩
  | 7 => ⟨S1024, .f32⟩
  | 8 => ⟨S4x256, .f32⟩
  | 9 => ⟨S1x4x256, .f32⟩
  | 10 => ⟨S32x4x256, .f32⟩
  | 11 => ⟨S32x4x256, .f32⟩
  | 12 => ⟨S32x1x1024, .f32⟩
  | 13 => ⟨S32x1x1024, .f32⟩
  | 14 => ⟨S32x1x1024, .f32⟩
  | 15 => ⟨S32x1x1024, .f32⟩
  | 16 => ⟨S_, .f32⟩
  | 17 => ⟨S32x1x1024, .f32⟩
  | 18 => ⟨S32x1x1024, .f32⟩
  | 19 => ⟨S_, .f32⟩
  | 20 => ⟨S32x1x1024, .f32⟩
  | 21 => ⟨S32x1x1024, .f32⟩
  | 22 => ⟨S32x1x1024, .f32⟩
  | 23 => ⟨S32x1x1024, .f32⟩
  | 24 => ⟨S32x1x1024, .f32⟩
  | 25 => ⟨S32x1x1024, .f32⟩
  | 26 => ⟨S_, .f32⟩
  | 27 => ⟨S32x1x1024, .f32⟩
  | 28 => ⟨S32x1x1024, .f32⟩
  | 29 => ⟨S_, .f32⟩
  | 30 => ⟨S32x1x1024, .f32⟩
  | 31 => ⟨S32x1x1024, .f32⟩
  | 32 => ⟨S32x1x1024, .f32⟩
  | 33 => ⟨S32x1x1024, .f32⟩
  | 34 => ⟨S32x1x1024, .bf16⟩
  | 35 => ⟨S1x32x4x256x128, .f32⟩
  | 36 => ⟨S1x32x4x128, .f32⟩
  | 37 => ⟨S1x32x4, .f32⟩
  | _ => ⟨S32x7168, .f32⟩

abbrev hbmTy (i : Nat) : BufTy := match i / 128 with
  | 0 => hbmTy0_0 i
  | 1 => hbmTy0_1 i
  | _ => ⟨S32x7168, .f32⟩

abbrev bufTy : (tb : Table) → Fin (tcTables nBuf tb) → BufTy
  | .hbm, ⟨i, _⟩ => hbmTy i
  | _, _ => ⟨S32x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_call0_cst : Ref sig .tc := ⟨.hbm, 47, rfl⟩
abbrev main_call1_call0_v0 : Ref sig .tc := ⟨.hbm, 48, rfl⟩
abbrev main_v24 : Ref sig .tc := ⟨.hbm, 49, rfl⟩
abbrev main_c : Ref sig .tc := ⟨.hbm, 50, rfl⟩
abbrev main_v25 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_0 : Ref sig .tc := ⟨.hbm, 58, rfl⟩
abbrev main_call2_v5 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_0 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_1 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_2 : Ref sig .tc := ⟨.hbm, 123, rfl⟩
abbrev main_v83 : Ref sig .tc := ⟨.hbm, 124, rfl⟩
abbrev main_v84 : Ref sig .tc := ⟨.hbm, 125, rfl⟩
abbrev main_cst_3 : Ref sig .tc := ⟨.hbm, 126, rfl⟩
abbrev main_v85 : Ref sig .tc := ⟨.hbm, 127, rfl⟩
abbrev main_v86 : Ref sig .tc := ⟨.hbm, 128, rfl⟩
abbrev main_cst_4 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_5 : Ref sig .tc := ⟨.hbm, 144, rfl⟩
abbrev main_v101 : Ref sig .tc := ⟨.hbm, 145, rfl⟩
abbrev main_v102 : Ref sig .tc := ⟨.hbm, 146, rfl⟩
abbrev main_cst_6 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_call4_v0 : Ref sig .tc := ⟨.hbm, 152, rfl⟩
abbrev main_call4_v1 : Ref sig .tc := ⟨.hbm, 153, rfl⟩
abbrev main_call4_cst : Ref sig .tc := ⟨.hbm, 154, rfl⟩
abbrev main_call4_v2 : Ref sig .tc := ⟨.hbm, 155, rfl⟩
abbrev main_call4_v3 : Ref sig .tc := ⟨.hbm, 156, rfl⟩
abbrev main_call4_cst_0 : Ref sig .tc := ⟨.hbm, 157, rfl⟩
abbrev main_call4_v4 : Ref sig .tc := ⟨.hbm, 158, rfl⟩
abbrev main_call4_v5 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩

abbrev nD : Nat := 1
abbrev τ : Topo := Topo.v7x

variable {F : FTy → Type} [FloatOps F]
-- ==== Attend.lean ====
abbrev S32x7168 : Shape := ⟨2, ![32, 7168]⟩
abbrev S64x128 : Shape := ⟨2, ![64, 128]⟩
abbrev S32x8x128 : Shape := ⟨3, ![32, 8, 128]⟩
abbrev S16384x128 : Shape := ⟨2, ![16384, 128]⟩
abbrev S32x1024 : Shape := ⟨2, ![32, 1024]⟩
abbrev S32x2x128 : Shape := ⟨3, ![32, 2, 128]⟩
abbrev S32x2x4x128 : Shape := ⟨4, ![32, 2, 4, 128]⟩
abbrev S32x512x128 : Shape := ⟨3, ![32, 512, 128]⟩
abbrev S1x8x128 : Shape := ⟨3, ![1, 8, 128]⟩
abbrev S1x512x128 : Shape := ⟨3, ![1, 512, 128]⟩
abbrev S8x128 : Shape := ⟨2, ![8, 128]⟩
abbrev S8x512 : Shape := ⟨2, ![8, 512]⟩
abbrev S1x1 : Shape := ⟨2, ![1, 1]⟩
abbrev S512x128 : Shape := ⟨2, ![512, 128]⟩
abbrev S8 : Shape := ⟨1, ![8]⟩
abbrev S8x1 : Shape := ⟨2, ![8, 1]⟩

abbrev nBuf : Space → Nat
  | .hbm => 22
  | .vmem => 20
  | .smem => 0
  | _ => 0

abbrev bufTy : (tb : Table) → Fin (tcTables nBuf tb) → BufTy
  | .hbm, ⟨0, _⟩ => ⟨S32x7168, .f32⟩
  | .hbm, ⟨1, _⟩ => ⟨S64x128, .f32⟩
  | .hbm, ⟨2, _⟩ => ⟨S64x128, .f32⟩
  | .hbm, ⟨3, _⟩ => ⟨S32x8x128, .f32⟩
  | .hbm, ⟨4, _⟩ => ⟨S32x8x128, .f32⟩
  | .hbm, ⟨5, _⟩ => ⟨S32x8x128, .f32⟩
  | .hbm, ⟨6, _⟩ => ⟨S16384x128, .f32⟩
  | .hbm, ⟨7, _⟩ => ⟨S16384x128, .f32⟩
  | .hbm, ⟨8, _⟩ => ⟨S32x1024, .f32⟩
  | .hbm, ⟨9, _⟩ => ⟨S32x8x128, .f32⟩
  | .hbm, ⟨10, _⟩ => ⟨S32x8x128, .bf16⟩
  | .hbm, ⟨11, _⟩ => ⟨S32x1024, .f32⟩
  | .hbm, ⟨12, _⟩ => ⟨S32x8x128, .f32⟩
  | .hbm, ⟨13, _⟩ => ⟨S32x2x128, .f32⟩
  | .hbm, ⟨14, _⟩ => ⟨S32x2x4x128, .f32⟩
  | .hbm, ⟨15, _⟩ => ⟨S32x8x128, .f32⟩
  | .hbm, ⟨16, _⟩ => ⟨S32x2x128, .f32⟩
  | .hbm, ⟨17, _⟩ => ⟨S32x2x4x128, .f32⟩
  | .hbm, ⟨18, _⟩ => ⟨S32x8x128, .f32⟩
  | .hbm, ⟨19, _⟩ => ⟨S32x512x128, .f32⟩
  | .hbm, ⟨20, _⟩ => ⟨S32x512x128, .f32⟩
  | .hbm, ⟨21, _⟩ => ⟨S32x8x128, .f32⟩
  | .local _ .vmem, ⟨0, _⟩ => ⟨S1x8x128, .bf16⟩
  | .local _ .vmem, ⟨1, _⟩ => ⟨S1x8x128, .bf16⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x8x128, .f32⟩
  | .local _ .vmem, ⟨19, _⟩ => ⟨S1x8x128, .f32⟩
  | _, _ => ⟨S32x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttendIdeal.lean ====
variable {F : FTy → Type} [FloatOps F] [Named F]
def κ : String → Option EReal := fun
  | "masked" => some ⊥
  | _ => none
-- ==== AttendRefIdeal.lean ====
abbrev S32x7168 : Shape := ⟨2, ![32, 7168]⟩
abbrev S64x128 : Shape := ⟨2, ![64, 128]⟩
abbrev S32x8x128 : Shape := ⟨3, ![32, 8, 128]⟩
abbrev S16384x128 : Shape := ⟨2, ![16384, 128]⟩
abbrev S32x1024 : Shape := ⟨2, ![32, 1024]⟩
abbrev S32x2x4x128 : Shape := ⟨4, ![32, 2, 4, 128]⟩
abbrev S32x256x2x128 : Shape := ⟨4, ![32, 256, 2, 128]⟩
abbrev S32x1x2x128 : Shape := ⟨4, ![32, 1, 2, 128]⟩
abbrev S32x257x2x128 : Shape := ⟨4, ![32, 257, 2, 128]⟩
abbrev S32x1x1 : Shape := ⟨3, ![32, 1, 1]⟩
abbrev S32x1 : Shape := ⟨2, ![32, 1]⟩
abbrev S_ : Shape := ⟨0, ![]⟩
abbrev S256 : Shape := ⟨1, ![256]⟩
abbrev S1x256 : Shape := ⟨2, ![1, 256]⟩
abbrev S32x256 : Shape := ⟨2, ![32, 256]⟩
abbrev S32x257 : Shape := ⟨2, ![32, 257]⟩
abbrev S32x2x4x257 : Shape := ⟨4, ![32, 2, 4, 257]⟩
abbrev S32x1x1x257 : Shape := ⟨4, ![32, 1, 1, 257]⟩
abbrev S32x2x4 : Shape := ⟨3, ![32, 2, 4]⟩
abbrev S32x2x4x1 : Shape := ⟨4, ![32, 2, 4, 1]⟩

abbrev nBuf : Space → Nat
  | .hbm => 73
  | .vmem => 0
  | .smem => 0
  | _ => 0

abbrev bufTy : (tb : Table) → Fin (tcTables nBuf tb) → BufTy
  | .hbm, ⟨0, _⟩ => ⟨S32x7168, .f32⟩
  | .hbm, ⟨1, _⟩ => ⟨S64x128, .f32⟩
  | .hbm, ⟨2, _⟩ => ⟨S64x128, .f32⟩
  | .hbm, ⟨3, _⟩ => ⟨S32x8x128, .f32⟩
  | .hbm, ⟨4, _⟩ => ⟨S32x8x128, .f32⟩
  | .hbm, ⟨5, _⟩ => ⟨S32x8x128, .f32⟩
  | .hbm, ⟨6, _⟩ => ⟨S16384x128, .f32⟩
  | .hbm, ⟨7, _⟩ => ⟨S16384x128, .f32⟩
  | .hbm, ⟨8, _⟩ => ⟨S32x1024, .f32⟩
  | .hbm, ⟨9, _⟩ => ⟨S32x2x4x128, .f32⟩
  | .hbm, ⟨10, _⟩ => ⟨S32x1024, .f32⟩
  | .hbm, ⟨11, _⟩ => ⟨S32x8x128, .f32⟩
  | .hbm, ⟨12, _⟩ => ⟨S32x256x2x128, .f32⟩
  | .hbm, ⟨13, _⟩ => ⟨S32x1x2x128, .f32⟩
  | .hbm, ⟨14, _⟩ => ⟨S32x257x2x128, .f32⟩
  | .hbm, ⟨15, _⟩ => ⟨S32x256x2x128, .f32⟩
  | .hbm, ⟨16, _⟩ => ⟨S32x1x2x128, .f32⟩
  | .hbm, ⟨17, _⟩ => ⟨S32x257x2x128, .f32⟩
  | .hbm, ⟨18, _⟩ => ⟨S32x1x1, .f32⟩
  | .hbm, ⟨19, _⟩ => ⟨S32x1, .f32⟩
  | .hbm, ⟨20, _⟩ => ⟨S32x1x1, .f32⟩
  | .hbm, ⟨21, _⟩ => ⟨S32x1, .f32⟩
  | .hbm, ⟨22, _⟩ => ⟨S32x1x1, .f32⟩
  | .hbm, ⟨23, _⟩ => ⟨S32x1, .f32⟩
  | .hbm, ⟨24, _⟩ => ⟨S32x1x1, .f32⟩
  | .hbm, ⟨25, _⟩ => ⟨S32x1, .f32⟩
  | .hbm, ⟨26, _⟩ => ⟨S32x1, .i1⟩
  | .hbm, ⟨27, _⟩ => ⟨S32x1, .i1⟩
  | .hbm, ⟨28, _⟩ => ⟨S_, .f32⟩
  | .hbm, ⟨29, _⟩ => ⟨S32x1, .f32⟩
  | .hbm, ⟨30, _⟩ => ⟨S32x1, .i1⟩
  | .hbm, ⟨31, _⟩ => ⟨S32x1, .i1⟩
  | .hbm, ⟨32, _⟩ => ⟨S32x1, .i1⟩
  | .hbm, ⟨33, _⟩ => ⟨S256, .f32⟩
  | .hbm, ⟨34, _⟩ => ⟨S1x256, .f32⟩
  | .hbm, ⟨35, _⟩ => ⟨S32x1x1, .f32⟩
  | .hbm, ⟨36, _⟩ => ⟨S32x1, .f32⟩
  | .hbm, ⟨37, _⟩ => ⟨S32x256, .f32⟩
  | .hbm, ⟨38, _⟩ => ⟨S32x256, .f32⟩
  | .hbm, ⟨39, _⟩ => ⟨S32x256, .i1⟩
  | .hbm, ⟨40, _⟩ => ⟨S32x257, .i1⟩
  | .hbm, ⟨41, _⟩ => ⟨S32x2x4x257, .f32⟩
  | .hbm, ⟨42, _⟩ => ⟨S32x1x1x257, .i1⟩
  | .hbm, ⟨43, _⟩ => ⟨S_, .f32⟩
  | .hbm, ⟨44, _⟩ => ⟨S_, .f32⟩
  | .hbm, ⟨45, _⟩ => ⟨S32x2x4x257, .i1⟩
  | .hbm, ⟨46, _⟩ => ⟨S32x2x4x257, .f32⟩
  | .hbm, ⟨47, _⟩ => ⟨S32x2x4x257, .f32⟩
  | .hbm, ⟨48, _⟩ => ⟨S_, .f32⟩
  | .hbm, ⟨49, _⟩ => ⟨S32x2x4, .f32⟩
  | .hbm, ⟨50, _⟩ => ⟨S32x2x4x1, .f32⟩
  | .hbm, ⟨51, _⟩ => ⟨S32x2x4x257, .f32⟩
  | .hbm, ⟨52, _⟩ => ⟨S32x2x4x257, .f32⟩
  | .hbm, ⟨53, _⟩ => ⟨S_, .f32⟩
  | .hbm, ⟨54, _⟩ => ⟨S32x2x4x257, .f32⟩
  | .hbm, ⟨55, _⟩ => ⟨S32x2x4x257, .f32⟩
  | .hbm, ⟨56, _⟩ => ⟨S_, .f32⟩
  | .hbm, ⟨57, _⟩ => ⟨S32x2x4, .f32⟩
  | .hbm, ⟨58, _⟩ => ⟨S32x2x4x1, .f32⟩
  | .hbm, ⟨59, _⟩ => ⟨S32x2x4x257, .f32⟩
  | .hbm, ⟨60, _⟩ => ⟨S32x2x4x257, .f32⟩
  | .hbm, ⟨61, _⟩ => ⟨S32x2x4x128, .f32⟩
  | .hbm, ⟨62, _⟩ => ⟨S32x8x128, .f32⟩
  | .hbm, ⟨63, _⟩ => ⟨S32x8x128, .f32⟩
  | .hbm, ⟨64, _⟩ => ⟨S32x8x128, .f32⟩
  | .hbm, ⟨65, _⟩ => ⟨S_, .f32⟩
  | .hbm, ⟨66, _⟩ => ⟨S32x8x128, .f32⟩
  | .hbm, ⟨67, _⟩ => ⟨S32x8x128, .f32⟩
  | .hbm, ⟨68, _⟩ => ⟨S_, .f32⟩
  | .hbm, ⟨69, _⟩ => ⟨S32x8x128, .f32⟩
  | .hbm, ⟨70, _⟩ => ⟨S32x8x128, .f32⟩
  | .hbm, ⟨71, _⟩ => ⟨S32x8x128, .f32⟩
  | .hbm, ⟨72, _⟩ => ⟨S32x8x128, .f32⟩
  | _, _ => ⟨S32x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_0 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v34 : Ref sig .tc := ⟨.hbm, 47, rfl⟩
abbrev main_cst_1 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_2 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== Proof.Main.Table.lean ====
/-
  What the projection's pallas_call finds in memory when it starts: the table of starting rows and the tile scales
  (constants of the program), the transposed weight, the flattened activations and the norm weight; and that the
  element window the table places is inside the weight at every grid point.
-/
module

public import proofs.«01_k».proof.Defs
public import proofs.«01_k».proof.Proof.Gen.KernelIdeal.Frame
public import Idealize.ShloMosaic.Lib.Pipeline.Value
public import Idealize.ShloMosaic.Lib.StableHlo.Run
public import Idealize.ShloMosaic.Lib.Tactic

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]
variable (m : (ℓ : Loc nD τ sig) → Buf (Elt F) ℓ) (ρ : Dev nD → PrngReg)

/-- The table of starting rows, as the call finds it: the program's constant. -/
theorem V_c (c : Dev nD) : V m c main_c = (fun i => lit0 (S7.rowMajor i) : S7.Idx → BitVec 32) := by
  dsimp only [V, hostOps0]; after_results; rfl

/-- The tile scales, as the call finds them: the program's constant. -/
theorem V_cst (c : Dev nD) : V m c main_cst = (fun i => FloatOps.ofBits .f32 (lit1 (S14.rowMajor i)) : S14.Idx → F .f32) := by
  dsimp only [V, hostOps0]; after_results; rfl

/-- The weight, as the call finds it: the argument's one matrix, transposed. -/
theorem V_v1 (c : Dev nD) : V m c main_v1
    = (transpose S7768x2048 [1, 0] (shapeCast S2048x7768 (m ((c : Thread nD τ).loc main_arg2)) shapeCasts_S1x2048x7768_S2048x7768 : Vec F S2048x7768 .f32)
        transposes_S2048x7768_S7768x2048_1_0 : Vec F S7768x2048 .f32) := by
  dsimp only [V, hostOps0]; after_results; rfl

/-- The activations, as the call finds them: both batches' rows one after the other. -/
theorem V_v2 (c : Dev nD) : V m c main_v2
    = (shapeCast S8192x2048 (m ((c : Thread nD τ).loc main_arg0)) shapeCasts_S2x4096x2048_S8192x2048 : Vec F S8192x2048 .f32) := by
  dsimp only [V, hostOps0]; after_results; rfl

/-- The norm weight, as the call finds it: the argument's one row. -/
theorem V_v4 (c : Dev nD) : V m c main_v4
    = (shapeCast S1x2048 (shapeCast S2048 (m ((c : Thread nD τ).loc main_arg1)) shapeCasts_S1x2048_S2048 : Vec F S2048 .f32)
        shapeCasts_S2048_S1x2048 : Vec F S1x2048 .f32) := by
  dsimp only [V, hostOps0]; after_results; rfl

/-- The contents of the table, as a function of no memory. -/
def rows : pre0.Contents (Elt F) := fun | 0 => (fun i => lit0 (S7.rowMajor i) : S7.Idx → BitVec 32)

theorem tbl_eq : tbl m = rows := by
  funext j
  match j with
  | 0 => exact V_c m 0

/-- The starting row of weight tile `j`, in rows of the transposed weight. -/
def row0 : Fin 7 → Nat := fun | 0 => 0 | 1 => 1536 | 2 => 2640 | 3 => 4688 | 4 => 5720 | 5 => 6744 | 6 => 3664

theorem mult_bits : ∀ i : grid0.Coords, (8 : Int) ∣ (k0_mult1 (F := Bits) rows i).toInt := by
  decide +kernel

theorem trans_bits : ∀ i : grid0.Coords, cc0_transform_3 k0_off1_inb numel1_S1 (rows (F := Bits)) i = ![row0 (i 1), 0] := by
  decide +kernel

/-- The multiple of eight the index map states holds of every entry of the table (integers: the same at any float values). -/
theorem mult_nat (i : grid0.Coords) : (8 : Int) ∣ (k0_mult1 (F := F) rows i).toInt := mult_bits i

/-- The element window starts at the row the table places. -/
theorem trans_eq (i : grid0.Coords) : cc0_transform_3 k0_off1_inb numel1_S1 (rows (F := F)) i = ![row0 (i 1), 0] := trans_bits i

/-- The call's side condition on the table: every window it places is inside the weight. -/
theorem ok : Ok m := by
  show ok0 (tbl m)
  rw [tbl_eq]
  refine ⟨mult_nat, fun i => ⟨?_, Or.inl rfl⟩⟩
  rw [trans_eq]
  revert i
  decide +kernel

end Cert.KernelIdeal.Value
-- ==== Proof.Main.Body.lean ====
/-
  What one grid point of the projection leaves: the normalised rows kept in scratch (first column tile of a row block),
  and the output block, the product of those rows with one weight tile.
-/
module

public import proofs.«01_k».proof.Proof.Main.Table

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The scale of half tile `k` (0 or 1) of column tile `j`. -/
def scal (s : Vec F S14 .f32) (j : Fin 7) (k : Fin 2) : F .f32 :=
  s (fun a => ⟨2 * j.val + k.val, by
    have h1 : j.val < 7 := j.isLt
    have hk := k.isLt
    match a with
    | ⟨0, _⟩ => show 2 * j.val + k.val < 14; omega⟩)

theorem off2_eq : ∀ (i : grid0.Coords) (k : Fin 2), k0_off2 i (BitVec.ofNat 32 k.val) 0 = 2 * (i 1).val + k.val := by
  decide +kernel

/-- The scalar word the body loads is that scale. -/
theorem ld_scal (s : Vec F S14 .f32) (i : grid0.Coords) (k : Fin 2) (h : ∀ a, k0_off2 i (BitVec.ofNat 32 k.val) a + S1.size a ≤ S14.size a)
    (h1 : 0 < (Rect.unit (s := S14) (k0_off2 i (BitVec.ofNat 32 k.val)) S1.size h).shape.numel) :
    View.ld (Val := Elt F) (e' := .f32) s (Rect.unit (s := S14) (k0_off2 i (BitVec.ofNat 32 k.val)) S1.size h) (Shape.Idx.first h1) = scal s (i 1) k := by
  show s _ = s _
  congr 1
  funext a
  apply Fin.ext
  match a with
  | ⟨0, _⟩ =>
    show k0_off2 i (BitVec.ofNat 32 k.val) 0 + 1 * 0 = _
    rw [off2_eq]; rfl

/-- The output block of column tile `j`: the two halves of the weight tile, each times its scale, against the rows. -/
def blockOut (j : Fin 7) (s : Vec F S14 .f32) (w : Vec F S1024x2048 .f32) (hh : Vec F S1024x2048 .bf16) : Vec F S1024x1024 .bf16 :=
  k0_pay2 (View.ld (Val := Elt F) w (Rect.unit (s := S1024x2048) ![0, 0] S512x2048.size inb_S1024x2048_S512x2048_0_0))
    (scal s j 0)
    (View.ld (Val := Elt F) w (Rect.unit (s := S1024x2048) ![512, 0] S512x2048.size inb_S1024x2048_S512x2048_512_0))
    (scal s j 1) hh

section
variable (c : Dev nD) (i : grid0.Coords) (a3 : Memref sig .tc .smem S14 .f32) (h3 : a3.IsWhole)
    (a4 : Memref sig .tc .vmem S1024x2048 .f32) (h4 : a4.IsWhole) (a5 : Memref sig .tc .vmem S1x2048 .f32) (h5 : a5.IsWhole)
    (a6 : Memref sig .tc .vmem S1024x2048 .f32) (h6 : a6.IsWhole) (a7 : Memref sig .tc .vmem S1024x1024 .bf16) (h7 : a7.IsWhole)
    (a8 : Memref sig .tc .vmem S1024x2048 .bf16) (h8 : a8.IsWhole)

/-- At the first column tile the scratch ends at the normalised rows. -/
theorem sout_A (hc : cond0_0 i) (x0 : Vec F S14 .f32) (x1 : Vec F S1024x2048 .f32) (x2 : Vec F S1x2048 .f32)
    (x3 : Vec F S1024x2048 .f32) (xt : TbBuf0 (F := F) c tbM0_0) :
    sout0_A_0 c i a3 h3 a4 h4 a5 h5 a6 h6 a7 h7 a8 h8 hc x0 x1 x2 x3 xt = k0_pay1 x1 x2 := by
  unfold sout0_A_0
  rw [View.read_writes_eq_canon _ _ _ (scover0_A_0 c i a3 h3 a4 h4 a5 h5 a6 h6 a7 h7 a8 h8 hc x0 x1 x2 x3 xt)]
  unfold kernelRun0_A
  dsimp only
  sl_unfold_words
  rw [View.canon_unit_zero hz]
  simp only [View.readAt_eq_ld, h4.read_unread, h5.read_unread, View.ld_unit_zero (S := S1024x2048) hz, View.ld_unit_zero (S := S1x2048) hz]

/-- The output block at a column tile that is not the first, from the scratch it finds. -/
theorem out_B (hc : ¬cond0_0 i) (x0 : Vec F S14 .f32) (x1 : Vec F S1024x2048 .f32) (x2 : Vec F S1x2048 .f32)
    (x3 : Vec F S1024x2048 .f32) (xt : TbBuf0 (F := F) c tbM0_0) (xs : Vec F S1024x2048 .bf16) :
    out0_B_4 c i a3 h3 a4 h4 a5 h5 a6 h6 a7 h7 a8 h8 hc x0 x1 x2 x3 xt xs = blockOut (i 1) x0 x3 xs := by
  unfold out0_B_4
  rw [View.read_writes_eq_canon _ _ _ (cover0_B_4 c i a3 h3 a4 h4 a5 h5 a6 h6 a7 h7 a8 h8 hc x0 x1 x2 x3 xt xs)]
  unfold kernelRun0_B
  dsimp only
  sl_unfold_words
  rw [View.canon_unit_zero hz]
  simp only [View.readAt_eq_ld, h3.read_unread, h6.read_unread, h8.read_unread, View.ld_unit_zero (S := S1024x2048) hz]
  unfold blockOut
  rw [← ld_scal x0 i 0 (k0_off2_inb i 0) Nat.one_pos, ← ld_scal x0 i 1 (k0_off2_inb i 1) Nat.one_pos]
  rfl

/-- The output block at the first column tile: from the rows just normalised. -/
theorem out_A (hc : cond0_0 i) (x0 : Vec F S14 .f32) (x1 : Vec F S1024x2048 .f32) (x2 : Vec F S1x2048 .f32)
    (x3 : Vec F S1024x2048 .f32) (xt : TbBuf0 (F := F) c tbM0_0) :
    out0_A_4 c i a3 h3 a4 h4 a5 h5 a6 h6 a7 h7 a8 h8 hc x0 x1 x2 x3 xt = blockOut (i 1) x0 x3 (k0_pay1 x1 x2) := by
  unfold out0_A_4
  rw [View.read_writes_eq_canon _ _ _ (cover0_A_4 c i a3 h3 a4 h4 a5 h5 a6 h6 a7 h7 a8 h8 hc x0 x1 x2 x3 xt)]
  unfold kernelRun0_A
  dsimp only
  sl_unfold_words
  rw [View.canon_unit_zero hz]
  simp only [View.readCov_unit_zero (S := S1024x2048) _ hz, View.readAt_eq_ld, h3.read_unread, h4.read_unread, h5.read_unread, h6.read_unread, View.ld_unit_zero (S := S1024x2048) hz, View.ld_unit_zero (S := S1x2048) hz]
  unfold blockOut
  rw [← ld_scal x0 i 0 (k0_off2_inb i 0) Nat.one_pos, ← ld_scal x0 i 1 (k0_off2_inb i 1) Nat.one_pos]
  rfl

end

end Cert.KernelIdeal.Value
-- ==== Proof.Main.Array.lean ====
/-
  The projection's result array as one function of the arrays the call finds, and the run that ends with it.
-/
module

public import proofs.«01_k».proof.Proof.Main.Body

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]
variable (m : (ℓ : Loc nD τ sig) → Buf (Elt F) ℓ) (ρ : Dev nD → PrngReg)

theorem coords_eq : ∀ t : Fin grid0.N, (grid0.coords t 0).val = t.val / 7 ∧ (grid0.coords t 1).val = t.val % 7 := by
  decide +kernel

/-- Row block `r` of the activations. -/
def xBlk (X : Vec F S8192x2048 .f32) (r : Fin 8) : Vec F S1024x2048 .f32 := fun j =>
  X (fun | 0 => ⟨r.val * 1024 + (j 0).val, by have : (j 0).val < 1024 := (j 0).isLt; have := r.isLt; show _ < 8192; omega⟩
         | 1 => ⟨(j 1).val, (j 1).isLt⟩)

theorem row0_le : ∀ j : Fin 7, row0 j + 1024 ≤ 7768 := by decide

/-- Weight tile `j`: 1024 rows of the transposed weight from the row the table places. -/
def wBlk (W : Vec F S7768x2048 .f32) (j : Fin 7) : Vec F S1024x2048 .f32 := fun k =>
  W (fun | 0 => ⟨row0 j + (k 0).val, by have : (k 0).val < 1024 := (k 0).isLt; have := row0_le j; show _ < 7768; omega⟩
         | 1 => ⟨(k 1).val, (k 1).isLt⟩)

theorem iblk_x (c : Dev nD) (t : Fin grid0.N) :
    iblk m (ok m) c 1 t = xBlk (V m c main_v2) (grid0.coords t 0) := by
  refine funext fun (j : S1024x2048.Idx) => ?_
  show V m c main_v2 _ = V m c main_v2 _
  congr 1
  funext a
  apply Fin.ext
  match a with
  | ⟨0, _⟩ => show (BitVec.ofNat 32 (grid0.coords t 0).val).toNat * 1024 + 1 * (j 0).val = (grid0.coords t 0).val * 1024 + (j 0).val
              have : (grid0.coords t 0).val < 8 := (grid0.coords t 0).isLt
              rw [BitVec.toNat_ofNat, Nat.mod_eq_of_lt (by omega)]; omega
  | ⟨1, _⟩ => show 0 * 2048 + 1 * (j 1).val = (j 1).val; omega

theorem iblk_s (c : Dev nD) (t : Fin grid0.N) : iblk m (ok m) c 0 t = V m c main_cst := by
  refine funext fun (j : S14.Idx) => ?_
  show V m c main_cst _ = V m c main_cst _
  congr 1
  funext a
  apply Fin.ext
  match a with
  | ⟨0, _⟩ => show 0 * 14 + 1 * (j 0).val = (j 0).val; omega

theorem iblk_n (c : Dev nD) (t : Fin grid0.N) : iblk m (ok m) c 2 t = V m c main_v4 := by
  refine funext fun (j : S1x2048.Idx) => ?_
  show V m c main_v4 _ = V m c main_v4 _
  congr 1
  funext a
  apply Fin.ext
  match a with
  | ⟨0, _⟩ => show 0 * 1 + 1 * (j 0).val = (j 0).val; omega
  | ⟨1, _⟩ => show 0 * 2048 + 1 * (j 1).val = (j 1).val; omega

theorem iblk_w (c : Dev nD) (t : Fin grid0.N) :
    iblk m (ok m) c 3 t = wBlk (V m c main_v1) (grid0.coords t 1) := by
  have e := trans_eq (F := F) (grid0.coords t)
  rw [← tbl_eq m] at e
  refine funext fun (j : S1024x2048.Idx) => ?_
  show V m c main_v1 _ = V m c main_v1 _
  congr 1
  funext a
  apply Fin.ext
  match a with
  | ⟨0, _⟩ => show cc0_transform_3 k0_off1_inb numel1_S1 (tbl m) (grid0.coords t) 0 + 1 * (j 0).val = row0 (grid0.coords t 1) + (j 0).val
              rw [e]; show row0 _ + _ = _; omega
  | ⟨1, _⟩ => show cc0_transform_3 k0_off1_inb numel1_S1 (tbl m) (grid0.coords t) 1 + 1 * (j 1).val = (j 1).val
              rw [e]; show 0 + _ = _; omega

/-- The rows of block `r`, normalised: what the scratch holds while that row block's tiles are computed. -/
def hBlk (X : Vec F S8192x2048 .f32) (N : Vec F S1x2048 .f32) (r : Fin 8) : Vec F S1024x2048 .bf16 := k0_pay1 (xBlk X r) N

theorem hBlk_congr {x : Vec F S1024x2048 .f32} {n : Vec F S1x2048 .f32} {X : Vec F S8192x2048 .f32} {N : Vec F S1x2048 .f32} {r : Fin 8}
    (hx : x = xBlk X r) (hn : n = N) : k0_pay1 x n = hBlk X N r := by subst hx hn; rfl

theorem blockOut_congr {j : Fin 7} {s s' : Vec F S14 .f32} {w w' : Vec F S1024x2048 .f32} {h h' : Vec F S1024x2048 .bf16}
    (hs : s = s') (hw : w = w') (hh : h = h') : blockOut j s w h = blockOut j s' w' h' := by subst hs hw hh; rfl

/-- After point `n` the scratch holds the normalised rows of `n`'s row block: by induction on the point. -/
theorem scratch_eq (c : Dev nD) : ∀ (n : ℕ) (h : n < grid0.N),
    (outsAt0 m (ok m) c n h).2 = hBlk (V m c main_v2) (V m c main_v4) (grid0.coords ⟨n, h⟩ 0)
  | 0, h => by
    rw [outsAt0_A m (ok m) c ⟨0, h⟩ rfl]
    dsimp only
    refine (sout_A ..).trans ?_
    exact hBlk_congr (iblk_x m c ⟨0, h⟩) (iblk_n m c ⟨0, h⟩)
  | n + 1, h => by
    by_cases h0 : (n + 1) % 7 = 0
    · rw [outsAt0_A m (ok m) c ⟨n + 1, h⟩ h0]
      dsimp only
      refine (sout_A ..).trans ?_
      exact hBlk_congr (iblk_x m c ⟨n + 1, h⟩) (iblk_n m c ⟨n + 1, h⟩)
    · rw [outsAt0_B m (ok m) c ⟨n + 1, h⟩ h0]
      refine (scratch_eq c n (Nat.lt_of_succ_lt h)).trans ?_
      congr 1
      apply Fin.ext
      rw [(coords_eq _).1, (coords_eq _).1]
      show n / 7 = (n + 1) / 7
      omega

/-- What point `t` leaves in the output block. -/
theorem out_eq (c : Dev nD) (t : Fin grid0.N) :
    (outsAt0 m (ok m) c t.val t.isLt).1
      = blockOut (grid0.coords t 1) (V m c main_cst) (wBlk (V m c main_v1) (grid0.coords t 1)) (hBlk (V m c main_v2) (V m c main_v4) (grid0.coords t 0)) := by
  by_cases h0 : t.val % 7 = 0
  · rw [outsAt0_A m (ok m) c t h0]
    dsimp only
    refine (out_A ..).trans ?_
    exact blockOut_congr (iblk_s m c t) (iblk_w m c t) (hBlk_congr (iblk_x m c t) (iblk_n m c t))
  · rw [outsAt0_B m (ok m) c t h0]
    dsimp only
    refine (out_B ..).trans ?_
    refine blockOut_congr (iblk_s m c t) (iblk_w m c t) ((scratch_eq m c _ _).trans ?_)
    congr 1
    apply Fin.ext
    rw [(coords_eq _).1, (coords_eq _).1]
    show (t.val - 1) / 7 = t.val / 7
    omega

/-- The whole result: element (p, q) is in row block p/1024, column tile q/1024. -/
def G (S : Vec F S14 .f32) (X : Vec F S8192x2048 .f32) (N : Vec F S1x2048 .f32) (W : Vec F S7768x2048 .f32) : Vec F S8192x7168 .bf16 := fun i =>
  blockOut ⟨(i 1).val / 1024, by have : (i 1).val < 7168 := (i 1).isLt; omega⟩ S
    (wBlk W ⟨(i 1).val / 1024, by have : (i 1).val < 7168 := (i 1).isLt; omega⟩)
    (hBlk X N ⟨(i 0).val / 1024, by have : (i 0).val < 8192 := (i 0).isLt; omega⟩)
    (fun | 0 => ⟨(i 0).val % 1024, Nat.mod_lt _ (by decide)⟩ | 1 => ⟨(i 1).val % 1024, Nat.mod_lt _ (by decide)⟩)

/-- The result array, from what the call finds. -/
abbrev result (c : Dev nD) : Buf (Elt F) ((c : Thread nD τ).loc main_v5) :=
  G (V m c main_cst) (V m c main_v2) (V m c main_v4) (V m c main_v1)

theorem idx4 : ∀ t : Fin grid0.N, cc0_transform_4 (grid0.coords t) 0 = t.val / 7 ∧ cc0_transform_4 (grid0.coords t) 1 = t.val % 7 := by
  decide +kernel

/-- Element `j` of point `t`'s block is element (1024 (t/7) + j₀, 1024 (t%7) + j₁) of the whole result. -/
theorem G_at (S : Vec F S14 .f32) (X : Vec F S8192x2048 .f32) (N : Vec F S1x2048 .f32) (W : Vec F S7768x2048 .f32)
    (r : Fin 8) (q : Fin 7) (j : S1024x1024.Idx) (i : S8192x7168.Idx)
    (e0 : (i 0).val = r.val * 1024 + (j 0).val) (e1 : (i 1).val = q.val * 1024 + (j 1).val) :
    blockOut q S (wBlk W q) (hBlk X N r) j = G S X N W i := by
  have h0 : (j 0).val < 1024 := (j 0).isLt
  have h1 : (j 1).val < 1024 := (j 1).isLt
  unfold G
  have c1 : (⟨(i 1).val / 1024, by have := q.isLt; omega⟩ : Fin 7) = q := by
    apply Fin.ext; show _ / 1024 = _; omega
  have c0 : (⟨(i 0).val / 1024, by have := r.isLt; omega⟩ : Fin 8) = r := by
    apply Fin.ext; show _ / 1024 = _; omega
  rw [c1, c0]
  congr 1
  funext a
  apply Fin.ext
  match a with
  | ⟨0, _⟩ => show (j 0).val = (i 0).val % 1024; omega
  | ⟨1, _⟩ => show (j 1).val = (i 1).val % 1024; omega

/-- Point `t` writes back block (t/7, t%7) of the result. -/
theorem flushed_eq (c : Dev nD) (t : Fin (cfgM m (ok m)).N) (hf : ((cfgM m (ok m)).win 4).flush t = true) :
    (dats m (ok m) 0 c).flushed 4 t = (((cfgM m (ok m)).win 4).blk t).view.read (Elt F) (result m c) := by
  show ((cfgM m (ok m)).win 4).cut (grid0.coords t) ((dats m (ok m) 0 c).after 4 t) = _
  rw [after0_4]
  refine funext fun (j : S1024x1024.Idx) => ?_
  refine (congrFun (out_eq m c t) j).trans ?_
  show _ = result m c ((((cfgM m (ok m)).win 4).blk t).view.emb j)
  refine G_at _ _ _ _ _ _ _ _ ?_ ?_
  · show cc0_transform_4 (grid0.coords t) 0 * 1024 + 1 * (j 0).val = (grid0.coords t 0).val * 1024 + (j 0).val
    rw [(idx4 t).1, (coords_eq t).1]; omega
  · show cc0_transform_4 (grid0.coords t) 1 * 1024 + 1 * (j 1).val = (grid0.coords t 1).val * 1024 + (j 1).val
    rw [(idx4 t).2, (coords_eq t).2]; omega

/-- Every element of the result is in the block of some point. -/
theorem cover_o (i : S8192x7168.Idx) : ∃ t : Fin (cfgM m (ok m)).N, ((cfgM m (ok m)).win 4).flush t = true ∧ i ∈ (((cfgM m (ok m)).win 4).blk t).view.set := by
  have h0 : (i 0 : Nat) < 8192 := (i 0).isLt
  have h1 : (i 1 : Nat) < 7168 := (i 1).isLt
  let t : Fin grid0.N := ⟨(i 0).val / 1024 * 7 + (i 1).val / 1024, by rw [show grid0.N = 56 from N_0]; omega⟩
  refine ⟨t, flush0_4 _ t, ?_⟩
  show i ∈ ((View.whole main_v5).slice (((cfgM m (ok m)).win 4).rect t)).set
  refine (Finset.ext_iff.mp (View.set_slice_whole main_v5 (((cfgM m (ok m)).win 4).rect t)) i).mpr ?_
  refine Rect.mem_set_unit.mpr ?_
  intro a
  match a with
  | ⟨0, _⟩ => show cc0_transform_4 (grid0.coords t) 0 * 1024 ≤ (i 0 : Nat) ∧ (i 0 : Nat) < cc0_transform_4 (grid0.coords t) 0 * 1024 + 1024
              rw [(idx4 t).1, show t.val = (i 0).val / 1024 * 7 + (i 1).val / 1024 from rfl]; omega
  | ⟨1, _⟩ => show cc0_transform_4 (grid0.coords t) 1 * 1024 ≤ (i 1 : Nat) ∧ (i 1 : Nat) < cc0_transform_4 (grid0.coords t) 1 * 1024 + 1024
              rw [(idx4 t).2, show t.val = (i 0).val / 1024 * 7 + (i 1).val / 1024 from rfl]; omega

/-- So the result array ends at the whole function: the 56 blocks tile it. -/
theorem final_o (c : Dev nD) : (dats m (ok m) 0 c).arrAt 4 (cfgM m (ok m)).N = result m c :=
  (dats m (ok m) 0 c).arrAt_eq_of_cover 4 (result m c) (flushed_eq m c) (cover_o m)

/-- The run, read: the result array at the whole function of what the call finds, the arguments unchanged. -/
theorem run : θ_run defs (onTc (τ := τ) (main (F := F))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 4).trans (final_o m c), h.2.1 c⟩)
    (θ_run_and (run_main m ρ (ok m)) (frame m ρ (ok m)))

end Cert.KernelIdeal.Value
-- ==== Proof.Main.Arith.lean ====
/-
  The arithmetic of a projection over the extended reals: the root-mean-square factor of a row, and a constant scale
  moved across a sum of products.
-/
module

public import Idealize.ShloMosaic.PureOps.Ideal
public import Idealize.ShloMosaic.Lib.IdealHost
public import Idealize.ShloMosaic.Lib.Pointwise

@[expose] public section

noncomputable section

namespace Cert.Rms

open Idealize.ShloMosaic

/-- The factor a row is normalised by: one over the root of its mean square plus the small constant. -/
def rn (xs : Fin 2048 → EReal) : EReal :=
  Ideal.rsqrt (Ideal.div (∑ k, xs k * xs k) (Ideal.ofBits .f32 0x45000000#32) + Ideal.ofBits .f32 0x358637BD#32)

/-- A non-negative finite scale of every second factor is a scale of the sum of products. -/
theorem scale_sum {n : Nat} (s : EReal) (h0 : 0 ≤ s) (h1 : s ≠ ⊤) (f g : Fin n → EReal) :
    ∑ k, f k * (g k * s) = (∑ k, f k * g k) * s := by
  have : ∀ (t : Finset (Fin n)), ∑ k ∈ t, f k * (g k * s) = (∑ k ∈ t, f k * g k) * s := by
    intro t
    induction t using Finset.cons_induction with
    | empty => simp
    | cons a t ha ih =>
      rw [Finset.sum_cons, Finset.sum_cons, ih, mul_comm (_ + _) s, EReal.left_distrib_of_nonneg_of_ne_top h0 h1,
        mul_comm s, mul_comm s, mul_assoc]
  exact this Finset.univ

/-- A positive normal f32 word is a non-negative real. -/
theorem normal_real (w : BitVec 32) (hs : w.extractLsb' 31 1 = 0#1) (h1 : (w.extractLsb' 23 8).toNat ≠ 2 ^ 8 - 1)
    (h2 : (w.extractLsb' 23 8).toNat ≠ 0) : ∃ r : ℝ, 0 ≤ r ∧ Ideal.ofBits .f32 w = (r : EReal) := by
  show ∃ r : ℝ, 0 ≤ r ∧ Ideal.ieee 8 23 w = (r : EReal)
  unfold Ideal.ieee
  dsimp only
  rw [if_neg h1, if_neg h2, show (8 + 23 : Nat) = 31 from rfl, hs]
  refine ⟨_, ?_, rfl⟩
  simp only [BEq.rfl, show ((0#1 : BitVec 1) == 1#1) = false from rfl, Bool.false_eq_true, if_false, one_mul]
  positivity

/-- The query scale is a non-negative real. -/
theorem qscale : ∃ r : ℝ, 0 ≤ r ∧ Ideal.ofBits .f32 0x3E0293EE#32 = (r : EReal) :=
  normal_real _ (by decide) (by decide) (by decide)

/-- The key scale is a non-negative real. -/
theorem kscale : ∃ r : ℝ, 0 ≤ r ∧ Ideal.ofBits .f32 0x3DB504F3#32 = (r : EReal) :=
  normal_real _ (by decide) (by decide) (by decide)

/-- A scale given by such a word moves across a sum of products. -/
theorem scale_sum_of {n : Nat} {s : EReal} (h : ∃ r : ℝ, 0 ≤ r ∧ s = (r : EReal)) (f g : Fin n → EReal) :
    ∑ k, f k * (g k * s) = (∑ k, f k * g k) * s := by
  obtain ⟨r, h0, rfl⟩ := h
  exact scale_sum _ (EReal.coe_nonneg.mpr h0) (EReal.coe_ne_top r) f g

end Cert.Rms
-- ==== Proof.Main.Value.lean ====
/-
  The projection's result over the extended reals, element by element.
-/
module

public import proofs.«01_k».proof.Proof.Main.Array
public import proofs.«01_k».proof.Proof.Main.Arith

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Rms

/-- A row normalised, at an element. -/
theorem pay1_apply (x : Vec Ideal S1024x2048 .f32) (n : Vec Ideal S1x2048 .f32) (p : Fin 1024) (k : Fin 2048) :
    k0_pay1 (F := Ideal) x n (ix2 p k) = (x (ix2 p k) * rn (fun k' => x (ix2 p k')) * n (ix2 0 k) : EReal) := by
  pointwise [k0_pay1, rn]

/-- A block of the product, at an element. -/
theorem pay2_apply (a : Vec Ideal S512x2048 .f32) (s0 : EReal) (b : Vec Ideal S512x2048 .f32) (s1 : EReal)
    (h : Vec Ideal S1024x2048 .bf16) (p q : Fin 1024) :
    k0_pay2 (F := Ideal) a s0 b s1 h (ix2 p q)
      = ∑ k : Fin 2048, (h (ix2 p k) * (if hq : q.val < 512 then a (ix2 ⟨q.val, hq⟩ k) * s0 else b (ix2 ⟨q.val - 512, by omega⟩ k) * s1) : EReal) := by
  pointwise [k0_pay2]

/-- The column of the weight that result column `q` is computed from. -/
def colOf (q : Fin 7168) : Fin 7768 :=
  ⟨row0 ⟨q.val / 1024, by omega⟩ + q.val % 1024, by have := row0_le ⟨q.val / 1024, by omega⟩; omega⟩

/-- Element (p, q) of a block: the rows against the tile's row `q`, scaled by the scale of its half. -/
theorem blockOut_apply (j : Fin 7) (S : Vec Ideal S14 .f32) (w : Vec Ideal S1024x2048 .f32) (h : Vec Ideal S1024x2048 .bf16)
    (p q : Fin 1024) :
    blockOut (F := Ideal) j S w h (ix2 p q)
      = ∑ k : Fin 2048, (h (ix2 p k) * (w (ix2 q k) * S (ix1 ⟨2 * j.val + q.val / 512, by omega⟩)) : EReal) := by
  unfold blockOut
  rw [pay2_apply]
  refine Finset.sum_congr rfl fun k _ => ?_
  congr 1
  by_cases hq : q.val < 512
  · rw [dif_pos hq]
    congr 1
    · show w _ = w _
      congr 1; funext a; apply Fin.ext
      match a with
      | ⟨0, _⟩ => show 0 + 1 * q.val = q.val; omega
      | ⟨1, _⟩ => show 0 + 1 * k.val = k.val; omega
    · show S _ = S _
      congr 1; funext a; apply Fin.ext
      match a with
      | ⟨0, _⟩ => show 2 * j.val + 0 = 2 * j.val + q.val / 512; omega
  · rw [dif_neg hq]
    congr 1
    · show w _ = w _
      congr 1; funext a; apply Fin.ext
      match a with
      | ⟨0, _⟩ => show 512 + 1 * (q.val - 512) = q.val; omega
      | ⟨1, _⟩ => show 0 + 1 * k.val = k.val; omega
    · show S _ = S _
      congr 1; funext a; apply Fin.ext
      match a with
      | ⟨0, _⟩ => show 2 * j.val + 1 = 2 * j.val + q.val / 512; omega

/-- Element (r, q) of the whole result: row `r` normalised, against the weight's column, scaled. -/
theorem G_apply (S : Vec Ideal S14 .f32) (X : Vec Ideal S8192x2048 .f32) (N : Vec Ideal S1x2048 .f32) (W : Vec Ideal S7768x2048 .f32)
    (r : Fin 8192) (q : Fin 7168) :
    G (F := Ideal) S X N W (ix2 r q)
      = ∑ k : Fin 2048, (X (ix2 r k) * rn (fun k' => X (ix2 r k')) * N (ix2 0 k) * (W (ix2 (colOf q) k) * S (ix1 ⟨q.val / 512, by omega⟩)) : EReal) := by
  rw [← G_at S X N W ⟨r.val / 1024, by omega⟩ ⟨q.val / 1024, by omega⟩ (ix2 ⟨r.val % 1024, by omega⟩ ⟨q.val % 1024, by omega⟩) (ix2 r q)
    (by show r.val = r.val / 1024 * 1024 + r.val % 1024; omega) (by show q.val = q.val / 1024 * 1024 + q.val % 1024; omega)]
  rw [blockOut_apply]
  have hx : ∀ k, xBlk X ⟨r.val / 1024, by omega⟩ (ix2 ⟨r.val % 1024, by omega⟩ k) = X (ix2 r k) := by
    intro k
    show X _ = X _
    congr 1; funext a; apply Fin.ext
    match a with
    | ⟨0, _⟩ => show r.val / 1024 * 1024 + r.val % 1024 = r.val; omega
    | ⟨1, _⟩ => rfl
  refine Finset.sum_congr rfl fun k _ => ?_
  congr 1
  · unfold hBlk
    rw [pay1_apply]
    simp only [hx]
  · congr 1
    · show W _ = W _
      congr 1; funext a; apply Fin.ext
      match a with
      | ⟨0, _⟩ => rfl
      | ⟨1, _⟩ => rfl
    · congr 1; funext a; apply Fin.ext
      match a with
      | ⟨0, _⟩ => show 2 * (q.val / 1024) + q.val % 1024 / 512 = q.val / 512; omega

end Cert.KernelIdeal.Value
-- ==== Proof.Main.RefValue.lean ====
/-
  The reference's result over the extended reals, element by element.
-/
module

public import proofs.«01_k».proof.Proof.Main.Value
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Value

open Cert.ReferenceIdeal Cert.ReferenceIdeal.Read Cert.Rms
open Cert.KernelIdeal.Value (colOf row0)

variable (x0 : Vec Ideal S2x4096x2048 .f32) (x1 : Vec Ideal S1x2048 .f32) (x2 : Vec Ideal S1x2048x7768 .f32)

/-- A row of the activations normalised, at an element. -/
theorem v13_apply (b : Fin 2) (s : Fin 4096) (k : Fin 2048) :
    val_main_v13 (F := Ideal) x0 x1 (ix3 b s k) = (x0 (ix3 b s k) * rn (fun k' => x0 (ix3 b s k')) * x1 (ix2 0 k) : EReal) := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, rn]

/-- The projection at an element. -/
theorem v15_apply (b : Fin 2) (s : Fin 4096) (c : Fin 7768) :
    val_main_v15 (F := Ideal) x0 x1 x2 (ix3 b s c)
      = ∑ k : Fin 2048, (x0 (ix3 b s k) * rn (fun k' => x0 (ix3 b s k')) * x1 (ix2 0 k) * x2 (ix3 0 k c) : EReal) := by
  have e : val_main_v15 (F := Ideal) x0 x1 x2 (ix3 b s c)
      = ∑ k : Fin 2048, (val_main_v13 (F := Ideal) x0 x1 (ix3 b s k) * x2 (ix3 0 k c) : EReal) := by
    pointwise [val_main_v15, val_main_v14]
  rw [e]
  simp only [v13_apply]

/-- The scale of result column `q`. -/
def scq (q : Fin 7168) : EReal := Ideal.ofBits .f32 (Cert.KernelIdeal.lit1 ⟨q.val / 512, by omega⟩)

theorem colOf_of (q : Fin 7168) (j : Fin 7) (h : q.val / 1024 = j.val) : (colOf q).val = row0 j + q.val % 1024 := by
  have e : (⟨q.val / 1024, by omega⟩ : Fin 7) = j := Fin.ext h
  show row0 ⟨q.val / 1024, _⟩ + q.val % 1024 = _
  rw [e]

theorem scq_of (q : Fin 7168) (j : Fin 14) (h : q.val / 512 = j.val) : scq q = Ideal.ofBits .f32 (Cert.KernelIdeal.lit1 j) := by
  have e : (⟨q.val / 512, by omega⟩ : Fin 14) = j := Fin.ext h
  show Ideal.ofBits .f32 (Cert.KernelIdeal.lit1 ⟨q.val / 512, _⟩) = _
  rw [e]

/-- An unscaled part: the scale is one. -/
theorem scq_one (q : Fin 7168) (h0 : 2 ≤ q.val / 512) (h1 : q.val / 512 < 13) : scq q = 1 := by
  have hw : ∀ j : Fin 14, 2 ≤ j.val → j.val < 13 → Cert.KernelIdeal.lit1 j = 0x3F800000#32 := by decide
  rw [scq_of q ⟨q.val / 512, by omega⟩ rfl, hw _ h0 h1]
  exact Ideal.ofBits_one_f32

/-- The eight parts side by side: column `q` is the projection's column the kernel takes it from, times its scale. -/
theorem v34_apply (b : Fin 2) (s : Fin 4096) (q : Fin 7168) :
    val_main_v34 (F := Ideal) x0 x1 x2 (ix3 b s q) = (val_main_v15 (F := Ideal) x0 x1 x2 (ix3 b s (colOf q)) * scq q : EReal) := by
  unfold val_main_v34
  pointwise [val_main_v31, val_main_v30, val_main_cst_2, val_main_v33, val_main_v32, val_main_cst_3, val_main_v16, val_main_v19, val_main_v22, val_main_v23, val_main_v24, val_main_v25, val_main_v28, val_main_v29]
  have key : ∀ (c : Fin 7768) (j : Fin 7), q.val / 1024 = j.val → c.val = row0 j + q.val % 1024 → c = colOf q :=
    fun c j hj hc => Fin.ext (hc.trans (colOf_of q j hj).symm)
  have hq := q.isLt
  have sc0 : q.val < 1024 → scq q = Ideal.ofBits .f32 0x3E0293EE#32 := fun h => by
    have hw : ∀ j : Fin 14, j.val < 2 → Cert.KernelIdeal.lit1 j = 0x3E0293EE#32 := by decide
    rw [scq_of q ⟨q.val / 512, by omega⟩ rfl, hw _ (by show q.val / 512 < 2; omega)]
  have sc1 : 6656 ≤ q.val → scq q = Ideal.ofBits .f32 0x3DB504F3#32 := fun h =>
    scq_of q 13 (by show q.val / 512 = 13; omega)
  split
  · rename_i h
    rw [sc0 h, key ⟨q.val, by omega⟩ 0 (by show _ = 0; omega) (by show q.val = 0 + q.val % 1024; omega)]
  split
  · rename_i h0 h
    rw [scq_one q (by omega) (by omega), mul_one, key ⟨1536 + (q.val - 1024), by omega⟩ 1 (by show _ = 1; omega) (by show 1536 + (q.val - 1024) = 1536 + q.val % 1024; omega)]
  split
  · rename_i h0 h1 h
    rw [scq_one q (by omega) (by omega), mul_one, key ⟨2640 + (q.val - 1024 - 1024), by omega⟩ 2 (by show _ = 2; omega) (by show 2640 + (q.val - 1024 - 1024) = 2640 + q.val % 1024; omega)]
  split
  · rename_i h0 h1 h2 h
    rw [scq_one q (by omega) (by omega), mul_one, key ⟨4688 + (q.val - 1024 - 1024 - 1024), by omega⟩ 3 (by show _ = 3; omega) (by show 4688 + (q.val - 1024 - 1024 - 1024) = 4688 + q.val % 1024; omega)]
  split
  · rename_i h0 h1 h2 h3 h
    rw [scq_one q (by omega) (by omega), mul_one, key ⟨5720 + (q.val - 1024 - 1024 - 1024 - 1024), by omega⟩ 4 (by show _ = 4; omega) (by show 5720 + (q.val - 1024 - 1024 - 1024 - 1024) = 5720 + q.val % 1024; omega)]
  split
  · rename_i h0 h1 h2 h3 h4 h
    rw [scq_one q (by omega) (by omega), mul_one, key ⟨6744 + (q.val - 1024 - 1024 - 1024 - 1024 - 1024), by omega⟩ 5 (by show _ = 5; omega) (by show 6744 + (q.val - 1024 - 1024 - 1024 - 1024 - 1024) = 6744 + q.val % 1024; omega)]
  split
  · rename_i h0 h1 h2 h3 h4 h5 h
    rw [scq_one q (by omega) (by omega), mul_one, key ⟨3664 + (q.val - 1024 - 1024 - 1024 - 1024 - 1024 - 1024), by omega⟩ 6 (by show _ = 6; omega) (by show 3664 + (q.val - 1024 - 1024 - 1024 - 1024 - 1024 - 1024) = 3664 + q.val % 1024; omega)]
  · rename_i h0 h1 h2 h3 h4 h5 h
    rw [sc1 (by omega), key ⟨4176 + (q.val - 1024 - 1024 - 1024 - 1024 - 1024 - 1024 - 512), by omega⟩ 6 (by show _ = 6; omega) (by show 4176 + (q.val - 1024 - 1024 - 1024 - 1024 - 1024 - 1024 - 512) = 3664 + q.val % 1024; omega)]

/-- The scale of any column is a non-negative real. -/
theorem scq_real (q : Fin 7168) : ∃ r : ℝ, 0 ≤ r ∧ scq q = (r : EReal) := by
  have hw : ∀ j : Fin 14, (Cert.KernelIdeal.lit1 j).extractLsb' 31 1 = 0#1 ∧ ((Cert.KernelIdeal.lit1 j).extractLsb' 23 8).toNat ≠ 2 ^ 8 - 1
      ∧ ((Cert.KernelIdeal.lit1 j).extractLsb' 23 8).toNat ≠ 0 := by decide
  obtain ⟨a, b, c⟩ := hw ⟨q.val / 512, by omega⟩
  exact normal_real _ a b c

/-- The reference's result at an element. -/
theorem v36_apply (r : Fin 8192) (q : Fin 7168) :
    val_main_v36 (F := Ideal) x0 x1 x2 (ix2 r q)
      = (val_main_v15 (F := Ideal) x0 x1 x2 (ix3 ⟨r.val / 4096, by omega⟩ ⟨r.val % 4096, by omega⟩ (colOf q)) * scq q : EReal) := by
  have e : val_main_v36 (F := Ideal) x0 x1 x2 (ix2 r q)
      = val_main_v34 (F := Ideal) x0 x1 x2 (ix3 ⟨r.val / 4096, by omega⟩ ⟨r.val % 4096, by omega⟩ q) := by
    unfold val_main_v36 val_main_v35
    generalize val_main_v34 (F := Ideal) x0 x1 x2 = y
    pointwise []
  rw [e, v34_apply]

open Cert.KernelIdeal (S14 lit1) in
/-- The table of scales the kernel's call finds, at a column's tile. -/
theorem scale_at (q : Fin 7168) :
    (fun i => FloatOps.ofBits .f32 (lit1 (S14.rowMajor i)) : S14.Idx → Ideal .f32) (ix1 ⟨q.val / 512, by omega⟩) = scq q := by
  show FloatOps.ofBits (F := Ideal) .f32 (lit1 _) = FloatOps.ofBits (F := Ideal) .f32 (lit1 _)
  congr 2
  apply Fin.ext; rw [Shape.rowMajor_val_one]; rfl

open Cert.KernelIdeal (S14 S7768x2048 S8192x2048 S2048 S2048x7768 lit1) in
/-- The kernel's whole result, of the arrays its call finds, is the reference's. -/
theorem G_eq (S : Vec Ideal S14 .f32) (hs : ∀ q : Fin 7168, S (ix1 ⟨q.val / 512, by omega⟩) = scq q) :
    Cert.KernelIdeal.Value.G (F := Ideal) S
        (shapeCast S8192x2048 x0 Cert.KernelIdeal.Facts₀.shapeCasts_S2x4096x2048_S8192x2048 : Vec Ideal S8192x2048 .f32)
        (shapeCast S1x2048 (shapeCast S2048 x1 Cert.KernelIdeal.Facts₀.shapeCasts_S1x2048_S2048 : Vec Ideal S2048 .f32)
          Cert.KernelIdeal.Facts₀.shapeCasts_S2048_S1x2048 : Vec Ideal S1x2048 .f32)
        (transpose S7768x2048 [1, 0] (shapeCast S2048x7768 x2 Cert.KernelIdeal.Facts₀.shapeCasts_S1x2048x7768_S2048x7768 : Vec Ideal S2048x7768 .f32)
          Cert.KernelIdeal.Facts₀.transposes_S2048x7768_S7768x2048_1_0 : Vec Ideal S7768x2048 .f32)
      = val_main_v36 (F := Ideal) x0 x1 x2 := by
  refine funext fun (i : S8192x7168.Idx) => ?_
  obtain ⟨r, q, rfl⟩ : ∃ (r : Fin 8192) (q : Fin 7168), i = ix2 r q := ⟨i 0, i 1, eq_ix2 i⟩
  have hx : ∀ k : Fin 2048, (shapeCast S8192x2048 x0 Cert.KernelIdeal.Facts₀.shapeCasts_S2x4096x2048_S8192x2048 : Vec Ideal S8192x2048 .f32) (ix2 r k)
      = x0 (ix3 ⟨r.val / 4096, by omega⟩ ⟨r.val % 4096, by omega⟩ k) := fun k => by
    pointwise []
  have hn : ∀ k : Fin 2048, (shapeCast S1x2048 (shapeCast S2048 x1 Cert.KernelIdeal.Facts₀.shapeCasts_S1x2048_S2048 : Vec Ideal S2048 .f32)
          Cert.KernelIdeal.Facts₀.shapeCasts_S2048_S1x2048 : Vec Ideal S1x2048 .f32) (ix2 0 k) = x1 (ix2 0 k) := fun k => by
    pointwise []
  have hw : ∀ (c : Fin 7768) (k : Fin 2048), (transpose S7768x2048 [1, 0] (shapeCast S2048x7768 x2 Cert.KernelIdeal.Facts₀.shapeCasts_S1x2048x7768_S2048x7768 : Vec Ideal S2048x7768 .f32)
          Cert.KernelIdeal.Facts₀.transposes_S2048x7768_S7768x2048_1_0 : Vec Ideal S7768x2048 .f32) (ix2 c k) = x2 (ix3 0 k c) := fun c k => by
    pointwise []
  refine (Cert.KernelIdeal.Value.G_apply _ _ _ _ r q).trans ?_
  rw [v36_apply, v15_apply, ← scale_sum_of (scq_real q)]
  simp only [hs, hx, hn, hw]

end Cert.ReferenceIdeal.Value
-- ==== Proof.Main.Claim.lean ====
/-
  The in-projection's claims: the kernel's result is the reference's.
-/
module

public import proofs.«01_k».proof.Defs
public import proofs.«01_k».proof.Proof.Main.RefValue
public import proofs.«01_k».proof.Proof.Gen.ReferenceIdeal.Run
public import proofs.«01_k».proof.Proof.Gen.Kernel.Frame

@[expose] public section

set_option maxRecDepth 16384

noncomputable section

open Idealize.ShloMosaic Idealize.ShloMosaic.TcCoe Idealize.SL.Sem

namespace Cert.Proof.Main

/-- The side condition of the table, of the program as given: its text is the same. -/
theorem ok_kernel (m : (ℓ : Loc Cert.Kernel.nD Cert.Kernel.τ Cert.Kernel.sig) → Buf (Elt Bits) ℓ) : Cert.Kernel.Gen.Ok m :=
  Cert.KernelIdeal.Value.ok (F := Bits) m

/-- The kernel as given terminates, leaves its arguments and ends with every counter at zero. -/
theorem frame_kernel : Cert.quiescent_Kernel := fun m ρ _ => Cert.Kernel.Gen.frame (F := Bits) m ρ (ok_kernel m)

/-- The same of the kernel over the extended reals. -/
theorem frame_ideal : Cert.quiescent_KernelIdeal := fun m ρ _ =>
  Cert.KernelIdeal.Gen.frame m ρ (Cert.KernelIdeal.Value.ok m)

/-- The reference terminates, leaves its arguments, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- What the kernel's call leaves in its result is what the reference's operations leave in theirs, of the same arguments. -/
theorem result_eq (m : (ℓ : Loc Cert.KernelIdeal.nD Cert.KernelIdeal.τ Cert.KernelIdeal.sig) → Buf (Elt Ideal) ℓ) (c : Dev Cert.KernelIdeal.nD) :
    Cert.KernelIdeal.Value.result m c
      = Cert.ReferenceIdeal.Read.val_main_v36 (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  unfold Cert.KernelIdeal.Value.result
  rw [Cert.KernelIdeal.Value.V_cst, Cert.KernelIdeal.Value.V_v2, Cert.KernelIdeal.Value.V_v4, Cert.KernelIdeal.Value.V_v1]
  exact Cert.ReferenceIdeal.Value.G_eq _ _ _ _ Cert.ReferenceIdeal.Value.scale_at

/-- The kernel and the reference end with the same result, over the extended reals, from memories with the same arguments. -/
theorem value : Cert.algebraic_KernelIdeal_ReferenceIdeal := fun m ρ m' ρ' _ hag =>
  ⟨fun c => Cert.KernelIdeal.Value.result m c, Cert.KernelIdeal.Value.run m ρ,
    (θ_run _ _ _).mono (fun r h c => ⟨(h c).1.trans (by
        obtain ⟨a0, a1, a2⟩ := hag c
        rw [Cert.ReferenceIdeal.Read.val_main_v36_eq, a0, a1, a2]; exact (result_eq m c).symm), (h c).2⟩) (Cert.ReferenceIdeal.Value.run m' ρ')⟩

end Cert.Proof.Main
-- ==== Proof.Gather.Kit.lean ====
/-
  The row gather's launch as the SparseCore launch theorem sees it: the arrays and scratch, the rows each subcore writes,
  the contents the call leaves (`gath`), the contents after `k` chunks (`part`), and the payloads the handshakes carry.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Frame
public import Idealize.ShloMosaic.Lib.Pointwise.Index
public import Idealize.ShloMosaic.Lib.Tactic
public import proofs.«01_k».proof.Proof.Gen.GatherIdeal
public import proofs.«01_k».proof.Proof.Gen.GatherIdeal.Skeleton

@[expose] public section

noncomputable section

namespace Cert.Proof.Gather

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

variable (m : (ℓ : Loc nD τ sig) → Buf (Elt F) ℓ) (ρ : Dev nD → PrngReg)

abbrev iLoc (d : Dev nD) : Loc nD τ sig := (SparseCore.T d).loc main_v9
abbrev kLoc (d : Dev nD) : Loc nD τ sig := (SparseCore.T d).loc main_v10
abbrev vLoc (d : Dev nD) : Loc nD τ sig := (SparseCore.T d).loc main_v11
abbrev xLoc (d : Dev nD) : Loc nD τ sig := (SparseCore.T d).loc main_v12_0
abbrev yLoc (d : Dev nD) : Loc nD τ sig := (SparseCore.T d).loc main_v12_1

abbrev iV : Memref sig .scVector .hbm S16384 .i32 := Memref.whole main_v9_scv
abbrev kV : Memref sig .scVector .hbm S1310720x128 .f32 := Memref.whole main_v10_scv
abbrev vV : Memref sig .scVector .hbm S1310720x128 .f32 := Memref.whole main_v11_scv
abbrev xV : Memref sig .scVector .hbm S16384x128 .f32 := Memref.whole main_v12_0_scv
abbrev yV : Memref sig .scVector .hbm S16384x128 .f32 := Memref.whole main_v12_1_scv
abbrev sV : Memref sig .scVector .vmem S128 .i32 := Memref.whole cc0_scratch0
abbrev aV : Memref sig .scVector .vmem S128x128 .f32 := Memref.whole cc0_scratch1
abbrev bV : Memref sig .scVector .vmem S128x128 .f32 := Memref.whole cc0_scratch2

/-! ## Rows and values -/

/-- The gathered rows: row `r` of the result is the table's row named by word `r` of the index list. -/
def gath (tk : S1310720x128.Idx → Elt F .f32) (ix : S16384.Idx → BitVec 32) : S16384x128.Idx → Elt F .f32 :=
  fun x => tk (ix2 (n0 := 1310720) (n1 := 128) ⟨(ix (ix1 (n0 := 16384) (x 0))).toNat % 1310720, Nat.mod_lt _ (by decide)⟩ (x 1))

/-- A result buffer of which the rows below `n` are done: there `g`, elsewhere `f`. -/
def part (n : ℕ) (g f : S16384x128.Idx → Elt F .f32) : S16384x128.Idx → Elt F .f32 :=
  fun x => if (x 0).val < n then g x else f x

/-- The rows core `c` writes, -/
def coreSet (c : ℕ) : Finset S16384x128.Idx := Finset.univ.filter fun x => (x 0).val / 512 % 2 = c
/-- and its subcore `s`. -/
def tileSet (c s : ℕ) : Finset S16384x128.Idx := Finset.univ.filter fun x => (x 0).val / 512 = 2 * s + c

theorem mem_coreSet {c : ℕ} {x : S16384x128.Idx} : x ∈ coreSet c ↔ (x 0).val / 512 % 2 = c := by simp [coreSet]
theorem mem_tileSet {c s : ℕ} {x : S16384x128.Idx} : x ∈ tileSet c s ↔ (x 0).val / 512 = 2 * s + c := by simp [tileSet]

theorem core_disjoint : ∀ i ∈ (Finset.univ : Finset (Fin 2)), ∀ j ∈ (Finset.univ : Finset (Fin 2)), i ≠ j →
    Disjoint (coreSet i.val) (coreSet j.val) := by
  intro i _ j _ h
  rw [Finset.disjoint_left]; intro x hx hy
  rw [mem_coreSet] at hx hy
  exact h (Fin.ext (hx.symm.trans hy))
theorem core_cover : ((Finset.univ : Finset (Fin 2)).biUnion fun i => coreSet i.val) = Finset.univ := by
  ext x
  simp only [Finset.mem_biUnion, Finset.mem_univ, true_and, iff_true, mem_coreSet]
  exact ⟨⟨(x 0).val / 512 % 2, Nat.mod_lt _ (by decide)⟩, rfl⟩
theorem tile_disjoint (c : ℕ) : ∀ i ∈ (Finset.univ : Finset (Fin 16)), ∀ j ∈ (Finset.univ : Finset (Fin 16)), i ≠ j →
    Disjoint (tileSet c i.val) (tileSet c j.val) := by
  intro i _ j _ h
  rw [Finset.disjoint_left]; intro x hx hy
  rw [mem_tileSet] at hx hy
  exact h (Fin.ext (by omega))
theorem tile_cover {c : ℕ} (hc : c < 2) : ((Finset.univ : Finset (Fin 16)).biUnion fun i => tileSet c i.val) = coreSet c := by
  ext x
  have hx : (x 0).val < 16384 := (x 0).isLt
  simp only [Finset.mem_biUnion, Finset.mem_univ, true_and, mem_tileSet, mem_coreSet]
  constructor
  · rintro ⟨i, hi⟩; omega
  · intro h
    refine ⟨⟨(x 0).val / 512 / 2, by omega⟩, ?_⟩
    show (x 0).val / 512 = 2 * ((x 0).val / 512 / 2) + c
    omega

/-! ## Shares of the arrays read -/

abbrev qC (c : Fin 2) : PosShare TreeShare := pieceOf fullShare 2 (by decide) c
abbrev qT (c : Fin 2) (s : Fin 16) : PosShare TreeShare := pieceOf (qC c) 16 (by decide) s

/-! ## The values the host prepares, and what the handshakes carry -/

/-- The index list, the two tables and the two result buffers as the call finds them. -/
structure Args (F : FTy → Type) where
  ix : Dev nD → S16384.Idx → BitVec 32
  tk : Dev nD → S1310720x128.Idx → Elt F .f32
  tv : Dev nD → S1310720x128.Idx → Elt F .f32
  x₀ : Dev nD → S16384x128.Idx → Elt F .f32
  y₀ : Dev nD → S16384x128.Idx → Elt F .f32

/-- Every word of the index list names a row of the tables. -/
def Args.OK (A : Args F) : Prop := ∀ d j, (A.ix d j).toNat < 1310720

variable (A : Args F)

abbrev rdPts (d : Dev nD) (q : PosShare TreeShare) : sProp 𝕄 :=
  iprop((iLoc d ↦{q} A.ix d) ∗ (kLoc d ↦{q} A.tk d) ∗ (vLoc d ↦{q} A.tv d))
abbrev wrPts (d : Dev nD) (I : Finset S16384x128.Idx) (f g : S16384x128.Idx → Elt F .f32) : sProp 𝕄 :=
  iprop((xLoc d ↦[I]{fullShare} f) ∗ (yLoc d ↦[I]{fullShare} g))

abbrev gx (d : Dev nD) : S16384x128.Idx → Elt F .f32 := gath (A.tk d) (A.ix d)
abbrev gy (d : Dev nD) : S16384x128.Idx → Elt F .f32 := gath (A.tv d) (A.ix d)

abbrev stC (d : Dev nD) (c : Fin 2) : sProp 𝕄 := iprop(rdPts A d (qC c) ∗ wrPts d (coreSet c.val) (A.x₀ d) (A.y₀ d))
abbrev dnC (d : Dev nD) (c : Fin 2) : sProp 𝕄 := iprop(rdPts A d (qC c) ∗ wrPts d (coreSet c.val) (gx A d) (gy A d))
abbrev goT (d : Dev nD) (c : Fin 2) (s : Fin 16) : sProp 𝕄 := iprop(rdPts A d (qT c s) ∗ wrPts d (tileSet c.val s.val) (A.x₀ d) (A.y₀ d))
abbrev tdT (d : Dev nD) (c : Fin 2) (s : Fin 16) : sProp 𝕄 := iprop(rdPts A d (qT c s) ∗ wrPts d (tileSet c.val s.val) (gx A d) (gy A d))

/-- Each core takes a share of the arrays read and its rows of the results, and hands them back gathered; so each subcore. -/
def P : (K (F := F)).Pay (nD := nD) (Val := Elt F) (Name := ℕ) (U := UU) where
  st := fun q d c => match q with | 0 => stC A d (Fin.cast nCore_zero c)
  dn := fun q d c => match q with | 0 => dnC A d (Fin.cast nCore_zero c)
  go := fun q d c i => match q with | 0 => goT A d (Fin.cast nCore_zero c) (Fin.cast nSub_zero i)
  td := fun q d c i => match q with | 0 => tdT A d (Fin.cast nCore_zero c) (Fin.cast nSub_zero i)
  x := fun _ _ => iprop(emp)

instance P_storable : (P (F := F) A).IsStorable where
  st q d c := match q with
    | 0 => (inferInstance : BI.Storable (upEmb : UEmb _ 𝕄) (stC A d (Fin.cast nCore_zero c)))
  dn q d c := match q with
    | 0 => (inferInstance : BI.Storable (upEmb : UEmb _ 𝕄) (dnC A d (Fin.cast nCore_zero c)))
  go q d c i := match q with
    | 0 => (inferInstance : BI.Storable (upEmb : UEmb _ 𝕄) (goT A d (Fin.cast nCore_zero c) (Fin.cast nSub_zero i)))
  td q d c i := match q with
    | 0 => (inferInstance : BI.Storable (upEmb : UEmb _ 𝕄) (tdT A d (Fin.cast nCore_zero c) (Fin.cast nSub_zero i)))

/-! ## The splits -/

theorem pts_cores {ℓ : Loc nD τ sig} (f : Buf (Elt F) ℓ) :
    (ℓ ↦{fullShare} f : sProp 𝕄) = bigSep Finset.univ fun c : Fin 2 => ℓ ↦{qC c} f :=
  pointsTo_piecesOf Finset.univ f (by decide) fullShare
theorem pts_tiles {ℓ : Loc nD τ sig} (f : Buf (Elt F) ℓ) (c : Fin 2) :
    (ℓ ↦{qC c} f : sProp 𝕄) = bigSep Finset.univ fun i : Fin 16 => ℓ ↦{qT c i} f :=
  pointsTo_piecesOf Finset.univ f (by decide) (qC c)
theorem x_cores (d : Dev nD) (f : Buf (Elt F) (xLoc d)) :
    (xLoc d ↦{fullShare} f : sProp 𝕄) = bigSep Finset.univ fun c : Fin 2 => xLoc d ↦[coreSet c.val]{fullShare} f := by
  rw [← pointsTo_biUnion Finset.univ (ℓ := xLoc d) (fun c : Fin 2 => coreSet c.val) core_disjoint, core_cover]; try rfl
theorem y_cores (d : Dev nD) (f : Buf (Elt F) (yLoc d)) :
    (yLoc d ↦{fullShare} f : sProp 𝕄) = bigSep Finset.univ fun c : Fin 2 => yLoc d ↦[coreSet c.val]{fullShare} f := by
  rw [← pointsTo_biUnion Finset.univ (ℓ := yLoc d) (fun c : Fin 2 => coreSet c.val) core_disjoint, core_cover]; try rfl
theorem x_tiles (d : Dev nD) (c : Fin 2) (f : Buf (Elt F) (xLoc d)) :
    (xLoc d ↦[coreSet c.val]{fullShare} f : sProp 𝕄) = bigSep Finset.univ fun i : Fin 16 => xLoc d ↦[tileSet c.val i.val]{fullShare} f := by
  rw [← pointsTo_biUnion Finset.univ (ℓ := xLoc d) (fun i : Fin 16 => tileSet c.val i.val) (tile_disjoint c.val), tile_cover c.isLt]
theorem y_tiles (d : Dev nD) (c : Fin 2) (f : Buf (Elt F) (yLoc d)) :
    (yLoc d ↦[coreSet c.val]{fullShare} f : sProp 𝕄) = bigSep Finset.univ fun i : Fin 16 => yLoc d ↦[tileSet c.val i.val]{fullShare} f := by
  rw [← pointsTo_biUnion Finset.univ (ℓ := yLoc d) (fun i : Fin 16 => tileSet c.val i.val) (tile_disjoint c.val), tile_cover c.isLt]

/-- The whole arrays are the cores' parts at once, -/
theorem cores_eq (d : Dev nD) (f g : S16384x128.Idx → Elt F .f32) :
    (iprop(rdPts A d fullShare ∗ wrPts d Finset.univ f g) : sProp 𝕄)
      = bigSep Finset.univ fun c : Fin 2 => iprop(rdPts A d (qC c) ∗ wrPts d (coreSet c.val) f g) := by
  unfold rdPts wrPts
  simp only [bigSep_sep']
  rw [pts_cores (ℓ := iLoc d), pts_cores (ℓ := kLoc d), pts_cores (ℓ := vLoc d), x_cores, y_cores]
/-- and a core's parts its subcores'. -/
theorem tiles_eq (d : Dev nD) (c : Fin 2) (f g : S16384x128.Idx → Elt F .f32) :
    (iprop(rdPts A d (qC c) ∗ wrPts d (coreSet c.val) f g) : sProp 𝕄)
      = bigSep Finset.univ fun i : Fin 16 => iprop(rdPts A d (qT c i) ∗ wrPts d (tileSet c.val i.val) f g) := by
  unfold rdPts wrPts
  simp only [bigSep_sep']
  rw [pts_tiles (ℓ := iLoc d), pts_tiles (ℓ := kLoc d), pts_tiles (ℓ := vLoc d), x_tiles, y_tiles]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P A) 0 := by
  intro d c
  show stC A d (Fin.cast nCore_zero c) ⊢ |={Set.univ}=> iprop(
      (bigSep Finset.univ fun i : Fin ((K (F := F)).nSub 0) => goT A d (Fin.cast nCore_zero c) (Fin.cast nSub_zero i))
      ∗ ((bigSep Finset.univ fun i : Fin ((K (F := F)).nSub 0) => tdT A d (Fin.cast nCore_zero c) (Fin.cast nSub_zero i))
          -∗ dnC A d (Fin.cast nCore_zero c)))
  rw [bigSep_tasks (F := F) (fun i => goT A d (Fin.cast nCore_zero c) i),
    bigSep_tasks (F := F) (fun i => tdT A d (Fin.cast nCore_zero c) i), ← tiles_eq, ← tiles_eq]
  iintro H; imodintro
  isplitl [H]; · iexact H
  iintro H; iexact H

end Cert.Proof.Gather

end
-- ==== Proof.Gather.Tile.lean ====
/-
  One subcore's run of the row gather: four chunks of 128 rows, each fetching its part of the index list, gathering the
  named rows of the two tables into scratch and writing them out. The loop keeps `Inv`: after `k` chunks the subcore's rows
  of each result are the gathered ones below row `base + 128 k` and what they were above.
-/
module

public import proofs.«01_k».proof.Proof.Gather.Kit

@[expose] public section

noncomputable section

namespace Cert.Proof.Gather

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (A : Args F)

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)
abbrev thr (d : Dev nD) (L : grid0.Coords) : Thread nD τ := V d (cV L) (jV L)
/-- The first row the subcore writes. -/
abbrev base (L : grid0.Coords) : ℕ := 1024 * (L 1).val + 512 * (L 0).val

/-- The chunk's words of the index list, all of a table, and the chunk's rows of a result, as the subcore addresses them. -/
abbrev iK (L : grid0.Coords) (k : Fin k0_t1_loop.trips) : Memref sig .scVector .hbm S128 .i32 :=
  iV.slice (Rect.unit (s := S16384) (k0_off1 L k) S128.size (k0_off1_inb L k)) (fun _ => rfl)
abbrev kK : Memref sig .scVector .hbm S1310720x128 .f32 :=
  kV.slice (Rect.unit (s := S1310720x128) ![0, 0] S1310720x128.size inb_S1310720x128_S1310720x128_0_0) (fun _ => rfl)
abbrev vK : Memref sig .scVector .hbm S1310720x128 .f32 :=
  vV.slice (Rect.unit (s := S1310720x128) ![0, 0] S1310720x128.size inb_S1310720x128_S1310720x128_0_0) (fun _ => rfl)
abbrev xK (L : grid0.Coords) (k : Fin k0_t1_loop.trips) : Memref sig .scVector .hbm S128x128 .f32 :=
  xV.slice (Rect.unit (s := S16384x128) (k0_off2 L k) S128x128.size (k0_off2_inb L k)) (fun _ => rfl)
abbrev yK (L : grid0.Coords) (k : Fin k0_t1_loop.trips) : Memref sig .scVector .hbm S128x128 .f32 :=
  yV.slice (Rect.unit (s := S16384x128) (k0_off2 L k) S128x128.size (k0_off2_inb L k)) (fun _ => rfl)

/-- The chunk's rows. -/
abbrev chunk (L : grid0.Coords) (k : Fin k0_t1_loop.trips) : Finset S16384x128.Idx :=
  (Rect.unit (s := S16384x128) (k0_off2 L k) S128x128.size (k0_off2_inb L k)).set

omit [FloatOps F] in
theorem mem_chunk (k : Fin k0_t1_loop.trips) (x : S16384x128.Idx) :
    x ∈ chunk L k ↔ base L + 128 * k.val ≤ (x 0).val ∧ (x 0).val < base L + 128 * k.val + 128 := by
  unfold chunk
  rw [Rect.mem_set_unit]
  simp only [k0_off2_eq]
  constructor
  · intro h; exact h 0
  · intro h a
    match a with
    | 0 => exact h
    | 1 => exact ⟨Nat.zero_le _, by show (x 1).val < 0 + 128; have : (x 1).val < 128 := (x 1).isLt; omega⟩

omit [FloatOps F] in
theorem trips_le (k : Fin k0_t1_loop.trips) : k.val < 4 := lt_of_lt_of_le k.isLt k0_t1_abs.2.1

omit [FloatOps F] in
theorem chunk_sub (k : Fin k0_t1_loop.trips) : chunk L k ⊆ tileSet (cL L).val (jL L).val := by
  intro x hx
  rw [mem_chunk] at hx
  rw [mem_tileSet]
  have := trips_le k
  have e1 : (jL L).val = (L 1).val := rfl
  have e2 : (cL L).val = (L 0).val := rfl
  unfold base at hx
  omega

/-! ### The cells and the scratch -/

abbrev c0 : GSem nD τ sig := (thr d L, .dma cc0_scoped0.sem)
abbrev c1 : GSem nD τ sig := (thr d L, .dma cc0_scoped1.sem)
abbrev c2 : GSem nD τ sig := (thr d L, .dma cc0_scoped2.sem)
abbrev c3 : GSem nD τ sig := (thr d L, .dma cc0_scratch3.sem)
abbrev c4 : GSem nD τ sig := (thr d L, .dma cc0_scratch4.sem)

omit [FloatOps F] in
theorem cell_ne {a b : SemLoc sig} (h : a ≠ b) : ((thr d L, a) : GSem nD τ sig) ≠ (thr d L, b) := fun e => h (Prod.ext_iff.mp e).2

/-- What is left of the subcore's cells beside its five. -/
abbrev restCells : Finset (GSem nD τ sig) :=
  (((((ownCells (thr d L)).erase (c0 d L)).erase (c1 d L)).erase (c2 d L)).erase (c3 d L)).erase (c4 d L)

omit [FloatOps F] in
theorem ownSems0_V :
    (ownSems0 (thr d L) : sProp 𝕄)
      = iprop(semVal (c0 d L) 0 ∗ semVal (c1 d L) 0 ∗ semVal (c2 d L) 0 ∗ semVal (c3 d L) 0 ∗ semVal (c4 d L) 0
          ∗ bigSep (restCells d L) fun g => semVal g 0) := by
  unfold SparseCore.Cfg.ownSems0
  have m0 : c0 d L ∈ ownCells (thr d L) := (mem_ownCells (g := c0 d L)).mpr ⟨rfl, by
    show (SemLoc.dma cc0_scoped0.sem : SemLoc sig).isScoped .scVector = true; decide⟩
  have m1 : c1 d L ∈ ownCells (thr d L) := (mem_ownCells (g := c1 d L)).mpr ⟨rfl, by
    show (SemLoc.dma cc0_scoped1.sem : SemLoc sig).isScoped .scVector = true; decide⟩
  have m2 : c2 d L ∈ ownCells (thr d L) := (mem_ownCells (g := c2 d L)).mpr ⟨rfl, by
    show (SemLoc.dma cc0_scoped2.sem : SemLoc sig).isScoped .scVector = true; decide⟩
  have m3 : c3 d L ∈ ownCells (thr d L) := (mem_ownCells (g := c3 d L)).mpr ⟨rfl, by
    show (SemLoc.dma cc0_scratch3.sem : SemLoc sig).isScoped .scVector = true; decide⟩
  have m4 : c4 d L ∈ ownCells (thr d L) := (mem_ownCells (g := c4 d L)).mpr ⟨rfl, by
    show (SemLoc.dma cc0_scratch4.sem : SemLoc sig).isScoped .scVector = true; decide⟩
  have n {a b : SemLoc sig} (h : a ≠ b) := cell_ne d L h
  rw [SparseCore.bigSep_erase' m0,
    SparseCore.bigSep_erase' (Finset.mem_erase.mpr ⟨n (by decide), m1⟩),
    SparseCore.bigSep_erase' (Finset.mem_erase.mpr ⟨n (by decide), Finset.mem_erase.mpr ⟨n (by decide), m2⟩⟩),
    SparseCore.bigSep_erase' (Finset.mem_erase.mpr ⟨n (by decide), Finset.mem_erase.mpr ⟨n (by decide), Finset.mem_erase.mpr ⟨n (by decide), m3⟩⟩⟩),
    SparseCore.bigSep_erase' (Finset.mem_erase.mpr ⟨n (by decide), Finset.mem_erase.mpr ⟨n (by decide), Finset.mem_erase.mpr ⟨n (by decide),
      Finset.mem_erase.mpr ⟨n (by decide), m4⟩⟩⟩⟩)]

abbrev dref (b : Ref sig .scVector) : DevRef τ sig := (Proc.scVector (cV L) (jV L)).devRef b
/-- What is left of the subcore's buffers beside its three. -/
abbrev restBufs : Finset (DevRef τ sig) :=
  (((ownRefs (τ := τ) (.scVector (cV L) (jV L))).erase (dref L cc0_scratch0)).erase (dref L cc0_scratch1)).erase (dref L cc0_scratch2)

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep (restBufs L) fun b => iprop(∃ f, ((d, b) : Loc nD τ sig) ↦{fullShare} f)) := by
  unfold SparseCore.Cfg.ownBufs
  have n {a b : Ref sig .scVector} (h : a ≠ b) : dref L a ≠ dref L b := fun e => h (Proc.devRef_injective _ e)
  refine (SparseCore.bigSep_erase' (SparseCore.Cfg.mem_ownRefs_of_owner (p := Proc.scVector (cV L) (jV L))
    (b := dref L cc0_scratch0) rfl)).trans ?_
  rw [SparseCore.bigSep_erase' (Finset.mem_erase.mpr ⟨n (show (cc0_scratch1 : Ref sig .scVector) ≠ cc0_scratch0 by decide),
      SparseCore.Cfg.mem_ownRefs_of_owner (p := Proc.scVector (cV L) (jV L)) (b := dref L cc0_scratch1) rfl⟩),
    SparseCore.bigSep_erase' (Finset.mem_erase.mpr ⟨n (show (cc0_scratch2 : Ref sig .scVector) ≠ cc0_scratch1 by decide),
      Finset.mem_erase.mpr ⟨n (show (cc0_scratch2 : Ref sig .scVector) ≠ cc0_scratch0 by decide),
      SparseCore.Cfg.mem_ownRefs_of_owner (p := Proc.scVector (cV L) (jV L)) (b := dref L cc0_scratch2) rfl⟩⟩)]

/-! ### One chunk's values -/

omit [FloatOps F] in
/-- The words fetched are the chunk's. -/
theorem iK_read (k : Fin k0_t1_loop.trips) (f : S16384.Idx → BitVec 32) (j : S128.Idx) (h : base L + 128 * k.val + (j 0).val < 16384) :
    (iK L k).view.read (Elt F) f j = f (ix1 (n0 := 16384) ⟨base L + 128 * k.val + (j 0).val, h⟩) := by
  rw [View.read_apply]
  refine (cast_eq _ _).trans (congrArg f ?_)
  funext a
  match a with
  | 0 =>
    apply Fin.ext
    show k0_off1 L k 0 + 1 * (j 0).val = _
    rw [k0_off1_eq]
    show 1024 * (L 1).val + 512 * (L 0).val + 128 * k.val + 1 * (j 0).val = 1024 * (L 1).val + 512 * (L 0).val + 128 * k.val + (j 0).val
    omega

omit [FloatOps F] in
theorem row_lt (k : Fin k0_t1_loop.trips) (j : Fin 128) : base L + 128 * k.val + j.val < 16384 := by
  have h1 : (L 1).val < 16 := (L 1).isLt
  have h0 : (L 0).val < 2 := (L 0).isLt
  have := trips_le k
  have := j.isLt
  unfold base; omega

/-- The rows the chunk's words name. -/
def got (k : Fin k0_t1_loop.trips) (tk : S1310720x128.Idx → Elt F .f32) (ix : S16384.Idx → BitVec 32) : S128x128.Idx → Elt F .f32 :=
  fun y => gath tk ix (ix2 (n0 := 16384) (n1 := 128) ⟨base L + 128 * k.val + (y 0).val, row_lt L k (y 0)⟩ (y 1))

omit [FloatOps F] in
/-- The chunk's words name rows of the tables. -/
theorem inb (hA : A.OK) (k : Fin k0_t1_loop.trips) (fs : Buf (Elt F) ((thr d L).loc cc0_scratch0)) (pay : S128.Idx → Elt F .i32)
    (hpay : pay = (iK L k).view.read (Elt F) (A.ix d)) :
    ∀ x, (sV.view.read (Elt F) (View.write (Elt F) sV.view fs pay Finset.univ) x).toNat
      < S1310720x128.size gathers_S1310720x128_S128x128.axis := by
  subst hpay; intro x
  rw [View.write_whole_univ]
  simp only [Memref.view_whole, View.read_whole]
  rw [iK_read L k _ x (row_lt L k (x 0))]
  exact hA d _

omit [FloatOps F] in
theorem dest_part (k : Fin k0_t1_loop.trips) (g f : S16384x128.Idx → Elt F .f32) (pay : S128x128.Idx → Elt F .f32)
    (hp : ∀ y, pay y = g (ix2 (n0 := 16384) (n1 := 128) ⟨base L + 128 * k.val + (y 0).val, row_lt L k (y 0)⟩ (y 1))) :
    ∀ x ∈ chunk L k, (xK L k).view.write (Elt F) (part (base L + 128 * k.val) g f) pay Finset.univ x
      = part (base L + 128 * (k.val + 1)) g f x := by
  intro x hx
  have hx' := (mem_chunk L k x).1 hx
  obtain ⟨y, rfl⟩ : ∃ y, (xK L k).view.emb y = x := by
    have hs : x ∈ (xK L k).view.set := by
      rw [show (xK L k).view.set = chunk L k from View.set_slice_whole _ _]; exact hx
    obtain ⟨y, -, e⟩ := Finset.mem_map.1 hs
    exact ⟨y, e⟩
  refine (View.write_emb_of_mem _ _ (Finset.mem_univ y)).trans ((cast_eq _ _).trans ?_)
  rw [hp y]
  have e : (xK L k).view.emb y = ix2 (n0 := 16384) (n1 := 128) ⟨base L + 128 * k.val + (y 0).val, row_lt L k (y 0)⟩ (y 1) := by
    funext a
    match a with
    | 0 =>
      apply Fin.ext
      show k0_off2 L k 0 + 1 * (y 0).val = _
      rw [k0_off2_eq]
      show 1024 * (L 1).val + 512 * (L 0).val + 128 * k.val + 1 * (y 0).val = 1024 * (L 1).val + 512 * (L 0).val + 128 * k.val + (y 0).val
      omega
    | 1 =>
      apply Fin.ext
      show k0_off2 L k 1 + 1 * (y 1).val = _
      rw [k0_off2_eq]
      show 0 + 1 * (y 1).val = (y 1).val
      omega
  rw [e]
  unfold part
  rw [if_pos]
  show base L + 128 * k.val + (y 0).val < _
  have : (y 0).val < 128 := (y 0).isLt
  omega

omit [FloatOps F] in
theorem rest_part (k : Fin k0_t1_loop.trips) (g f : S16384x128.Idx → Elt F .f32) :
    ∀ x ∈ tileSet (cL L).val (jL L).val \ chunk L k, part (base L + 128 * k.val) g f x = part (base L + 128 * (k.val + 1)) g f x := by
  intro x hx
  have hx' := (Finset.mem_sdiff.1 hx).2
  rw [mem_chunk] at hx'
  unfold part
  by_cases h : (x 0).val < base L + 128 * k.val
  · rw [if_pos h, if_pos (by omega)]
  · rw [if_neg h, if_neg (by omega)]

omit [FloatOps F] in
theorem kK_read (f : S1310720x128.Idx → Elt F .f32) (j : S1310720x128.Idx) : kK.view.read (Elt F) f j = f j := by
  rw [View.read_apply]
  refine (cast_eq _ _).trans (congrArg f ?_)
  funext a
  match a with
  | 0 => apply Fin.ext; show 0 + 1 * (j 0).val = (j 0).val; omega
  | 1 => apply Fin.ext; show 0 + 1 * (j 1).val = (j 1).val; omega

omit [FloatOps F] in
/-- What the gather lands: the chunk's rows. -/
theorem payload_eq (hA : A.OK) (k : Fin k0_t1_loop.trips) (tk g : S1310720x128.Idx → Elt F .f32) (hg : ∀ j, g j = tk j)
    (w : S128.Idx → Elt F .i32) (hw : w = (iK L k).view.read (Elt F) (A.ix d))
    (hn : S128.numel = S128x128.size gathers_S1310720x128_S128x128.axis') (h) (y : S128x128.Idx) :
    SparseCore.gatherPayload (F := F) gathers_S1310720x128_S128x128 g (SparseCore.rows w hn h) y
      = gath tk (A.ix d) (ix2 (n0 := 16384) (n1 := 128) ⟨base L + 128 * k.val + (y 0).val, row_lt L k (y 0)⟩ (y 1)) := by
  subst hw
  unfold SparseCore.gatherPayload gath
  rw [hg]
  refine congrArg tk ?_
  have hm : S128.rowMajor.symm (Fin.cast hn.symm (y 0)) = ix1 (n0 := 128) (y 0) := by
    rw [Equiv.symm_apply_eq]; apply Fin.ext
    exact (Shape.rowMajor_val_one (d := ![128]) (ix1 (n0 := 128) (y 0))).symm
  funext a
  match a with
  | 0 =>
    refine (Shape.Gathers.idx_axis gathers_S1310720x128_S128x128 _ y).trans ?_
    apply Fin.ext
    show ((iK L k).view.read (Elt F) (A.ix d) (S128.rowMajor.symm (Fin.cast hn.symm (y 0)))).toNat = _
    rw [hm, iK_read L k _ _ (row_lt L k (y 0))]
    exact (Nat.mod_eq_of_lt (hA d _)).symm
  | 1 =>
    apply Fin.ext
    exact Shape.Gathers.idx_of_ne gathers_S1310720x128_S128x128 _ y 1 (by decide)

/-! ### The loop -/

/-- After `k` chunks: the arrays read at the subcore's share, its rows of each result done below `base + 128 k`, the three
    scratch buffers at some contents, the five cells at zero, the waits recorded beyond `W` the launch's none. -/
def Inv (O : CellTallies nD τ sig (HIx 1)) (W : Waits sig (HIx 1)) (k : Nat) (_ : PUnit) : sProp 𝕄 :=
  iprop(Transfers.MayWaits (thr d L) (default : HIx 1) O
    ∗ (iV.view.loc (thr d L) ↦{qT (cL L) (jL L)} A.ix d)
    ∗ (kV.view.loc (thr d L) ↦{qT (cL L) (jL L)} A.tk d)
    ∗ (vV.view.loc (thr d L) ↦{qT (cL L) (jL L)} A.tv d)
    ∗ (xLoc d ↦[tileSet (cL L).val (jL L).val]{fullShare} part (base L + 128 * k) (gx A d) (A.x₀ d))
    ∗ (yLoc d ↦[tileSet (cL L).val (jL L).val]{fullShare} part (base L + 128 * k) (gy A d) (A.y₀ d))
    ∗ (∃ f, sV.view.loc (thr d L) ↦{fullShare} f)
    ∗ (∃ f, aV.view.loc (thr d L) ↦{fullShare} f)
    ∗ (∃ f, bV.view.loc (thr d L) ↦{fullShare} f)
    ∗ semVal (c0 d L) 0 ∗ semVal (c1 d L) 0 ∗ semVal (c2 d L) 0 ∗ semVal (c3 d L) 0 ∗ semVal (c4 d L) 0
    ∗ ∃ W', ⌜∀ p ∈ W', p ∈ W ∨ p.2 = none⌝ ∗ owes (thr d L) O W')

abbrev body (k : Fin k0_t1_loop.trips) : Prog (TpuEff nD τ sig (Elt F) Λ₀ (.scVector ((L 0).castLE hcore0) ((L 1).castLE hsub0))) Unit :=
  k0_t1_body (F := F) L kV (Memref.isWhole_whole _) vV (Memref.isWhole_whole _) iV (Memref.isWhole_whole _) xV (Memref.isWhole_whole _)
    yV (Memref.isWhole_whole _) sV (Memref.isWhole_whole _) aV (Memref.isWhole_whole _) bV (Memref.isWhole_whole _)
    cc0_scratch3 cc0_scratch4 cc0_scoped0 cc0_scoped1 cc0_scoped2 k ⟨⟩

omit [FloatOps F] in
theorem pts_x (k : Fin k0_t1_loop.trips) (f : Buf (Elt F) (xLoc d)) :
    ((xK L k).view.loc (thr d L) ↦[(xK L k).view.set]{fullShare} f : sProp 𝕄) = xLoc d ↦[chunk L k]{fullShare} f := by
  rw [show (xK L k).view.set = chunk L k from View.set_slice_whole _ _]
omit [FloatOps F] in
theorem pts_y (k : Fin k0_t1_loop.trips) (f : Buf (Elt F) (yLoc d)) :
    ((yK L k).view.loc (thr d L) ↦[(yK L k).view.set]{fullShare} f : sProp 𝕄) = yLoc d ↦[chunk L k]{fullShare} f := by
  rw [show (yK L k).view.set = chunk L k from View.set_slice_whole _ _]

omit [FloatOps F] in
theorem dest_part_y (k : Fin k0_t1_loop.trips) (g f : S16384x128.Idx → Elt F .f32) (pay : S128x128.Idx → Elt F .f32)
    (hp : ∀ y, pay y = g (ix2 (n0 := 16384) (n1 := 128) ⟨base L + 128 * k.val + (y 0).val, row_lt L k (y 0)⟩ (y 1))) :
    ∀ x ∈ chunk L k, (yK L k).view.write (Elt F) (part (base L + 128 * k.val) g f) pay Finset.univ x
      = part (base L + 128 * (k.val + 1)) g f x :=
  dest_part L k g f pay hp

omit [FloatOps F] in
/-- The chunk written, the subcore's rows of the first result are done one chunk further; -/
theorem x_done (k : Fin k0_t1_loop.trips) (g f : S16384x128.Idx → Elt F .f32) (pay : S128x128.Idx → Elt F .f32)
    (hp : ∀ y, pay y = g (ix2 (n0 := 16384) (n1 := 128) ⟨base L + 128 * k.val + (y 0).val, row_lt L k (y 0)⟩ (y 1))) :
    (iprop(((xK L k).view.loc (thr d L) ↦[(xK L k).view.set]{fullShare}
          (xK L k).view.writes (Elt F) (part (base L + 128 * k.val) g f) [⟨Rect.whole S128x128, pay⟩])
        ∗ xLoc d ↦[tileSet (cL L).val (jL L).val \ chunk L k]{fullShare} part (base L + 128 * k.val) g f) : sProp 𝕄)
      ⊢ xLoc d ↦[tileSet (cL L).val (jL L).val]{fullShare} part (base L + 128 * (k.val + 1)) g f := by
  rw [pts_x, ← View.write_univ_eq_writes_whole _ _ [], View.writes_nil,
    pointsTo_congr (ℓ := xLoc d) (dest_part L k g f pay hp), pointsTo_congr (ℓ := xLoc d) (rest_part L k g f)]
  exact (pointsTo_split_subset (ℓ := xLoc d) (chunk_sub L k)).2
omit [FloatOps F] in
/-- and of the second. -/
theorem y_done (k : Fin k0_t1_loop.trips) (g f : S16384x128.Idx → Elt F .f32) (pay : S128x128.Idx → Elt F .f32)
    (hp : ∀ y, pay y = g (ix2 (n0 := 16384) (n1 := 128) ⟨base L + 128 * k.val + (y 0).val, row_lt L k (y 0)⟩ (y 1))) :
    (iprop(((yK L k).view.loc (thr d L) ↦[(yK L k).view.set]{fullShare}
          (yK L k).view.writes (Elt F) (part (base L + 128 * k.val) g f) [⟨Rect.whole S128x128, pay⟩])
        ∗ yLoc d ↦[tileSet (cL L).val (jL L).val \ chunk L k]{fullShare} part (base L + 128 * k.val) g f) : sProp 𝕄)
      ⊢ yLoc d ↦[tileSet (cL L).val (jL L).val]{fullShare} part (base L + 128 * (k.val + 1)) g f := by
  rw [pts_y, ← View.write_univ_eq_writes_whole _ _ [], View.writes_nil,
    pointsTo_congr (ℓ := yLoc d) (dest_part_y L k g f pay hp), pointsTo_congr (ℓ := yLoc d) (rest_part L k g f)]
  exact (pointsTo_split_subset (ℓ := yLoc d) (chunk_sub L k)).2

omit [FloatOps F] in
theorem words (k : Fin k0_t1_loop.trips) (fs : Buf (Elt F) ((thr d L).loc cc0_scratch0)) :
    sV.view.read (Elt F) (View.write (Elt F) sV.view fs ((iK L k).view.read (Elt F) (A.ix d)) Finset.univ)
      = (iK L k).view.read (Elt F) (A.ix d) := by
  rw [View.write_whole_univ]; rfl

set_option maxHeartbeats 4000000 in
/-- One chunk keeps the invariant. -/
theorem trip (hA : A.OK) (O : CellTallies nD τ sig (HIx 1)) (W : Waits sig (HIx 1)) (k : Fin k0_t1_loop.trips) :
    Inv A d L O W k.val ⟨⟩ ⊢ wp frame (wpE (defs₀ (F := F)) 𝒱₀ (thr d L) none) Set.univ (body (F := F) L k)
      fun _ => Inv A d L O W (k.val + 1) ⟨⟩ := by
  unfold body k0_t1_body Inv
  iintro ⟨#Hmw, Hi, Hk, Hv, Hx, Hy, ⟨%fs, Hs⟩, ⟨%fa, Ha⟩, ⟨%fb, Hb⟩, Hc0, Hc1, Hc2, Hc3, Hc4, %W', %hW', HO⟩
  sl_exec (disch := exact View.amount_pos _ _ (show 0 < S128.numel by decide))
  have hss : sV.view.set = Finset.univ := View.set_whole _
  have has : aV.view.set = Finset.univ := View.set_whole _
  have hbs : bV.view.set = Finset.univ := View.set_whole _
  ihave Hks := (pointsTo_split_subset (q := qT (cL L) (jL L)) (ℓ := kV.view.loc (thr d L)) (f := A.tk d) (S := Finset.univ) (Finset.subset_univ kK.view.set)).1 $$ Hk
  icases Hks with ⟨Hks, Hkr⟩
  ihave Hvs := (pointsTo_split_subset (q := qT (cL L) (jL L)) (ℓ := vV.view.loc (thr d L)) (f := A.tv d) (S := Finset.univ) (Finset.subset_univ vK.view.set)).1 $$ Hv
  icases Hvs with ⟨Hvs, Hvr⟩
  ihave Ha' := (Entails.of_eq (show (aV.view.loc (thr d L) ↦{fullShare} fa : sProp 𝕄)
      = aV.view.loc (thr d L) ↦[aV.view.set]{fullShare} fa by rw [has])) $$ Ha
  ihave Hb' := (Entails.of_eq (show (bV.view.loc (thr d L) ↦{fullShare} fb : sProp 𝕄)
      = bV.view.loc (thr d L) ↦[bV.view.set]{fullShare} fb by rw [hbs])) $$ Hb
  ihave Hs' := (Entails.of_eq (show (sV.view.loc (thr d L) ↦{fullShare} View.write (Elt F) sV.view fs (trip.sl.dma0 A d L k) Finset.univ : sProp 𝕄)
      = sV.view.loc (thr d L) ↦[sV.view.set]{fullShare} View.write (Elt F) sV.view fs (trip.sl.dma0 A d L k) Finset.univ by rw [hss])) $$ Hs
  ihave Hs2 := (pointsTo_share (PosShare.mem_left_op_right fullShare)).1 $$ Hs'
  icases Hs2 with ⟨Hsl, Hsr⟩
  have hN : ∀ h : S1310720x128.Gathers 0 S128x128, ∑ j, (aV.slice (S128x128.rowRect h.axis' j) (S128x128.stride_rowRect h.axis' j)).view.dmaCredit
      = aV.view.dmaCredit := by decide
  have hN' : ∀ h : S1310720x128.Gathers 0 S128x128, ∑ j, (bV.slice (S128x128.rowRect h.axis' j) (S128x128.stride_rowRect h.axis' j)).view.dmaCredit
      = bV.view.dmaCredit := by decide
  iapply (SparseCore.wp_indirectGatherLocal countersEmb 𝒱₀ (thr d L) none (hg := gathers_S1310720x128_S128x128) (default : HIx 1)
      aV.view.dmaCredit (hN _) (by decide) (inb A d L hA k fs _ rfl)) $$ [Hks Ha' Hsl Hc3]
  · isplitl [Hks]; · iexact Hks
    isplitl [Ha']; · iexact Ha'
    isplitl [Hsl]; · iexact Hsl
    iexact Hc3
  iintro Hfa
  sl_exec
  iapply (SparseCore.wp_indirectGatherLocal countersEmb 𝒱₀ (thr d L) none (hg := gathers_S1310720x128_S128x128) (default : HIx 1)
      bV.view.dmaCredit (hN' _) (by decide) (inb A d L hA k fs _ rfl)) $$ [Hvs Hb' Hsr Hc4]
  · isplitl [Hvs]; · iexact Hvs
    isplitl [Hb']; · iexact Hb'
    isplitl [Hsr]; · iexact Hsr
    iexact Hc4
  iintro Hfb
  sl_exec
  iapply (Transfers.wp_waitLocalO countersEmb 𝒱₀ (thr d L) none (default : HIx 1) (rfl : aV.view.dmaCredit = _)) $$ [Hfa HO]
  · isplitl [Hfa]; · iexact Hfa
    isplitl [HO]; · iexact HO
    iapply (Transfers.MayWaits.elim (SemLoc.dma cc0_scratch3.sem)) $$ Hmw
  iintro ⟨⟨Ha', Hks, Hsl⟩, Hc3, HO⟩
  sl_exec
  iapply (Transfers.wp_waitLocalO countersEmb 𝒱₀ (thr d L) none (default : HIx 1) (rfl : bV.view.dmaCredit = _)) $$ [Hfb HO]
  · isplitl [Hfb]; · iexact Hfb
    isplitl [HO]; · iexact HO
    iapply (Transfers.MayWaits.elim (SemLoc.dma cc0_scratch4.sem)) $$ Hmw
  iintro ⟨⟨Hb', Hvs, Hsr⟩, Hc4, HO⟩
  ihave Hk := (pointsTo_split_subset (q := qT (cL L) (jL L)) (ℓ := kV.view.loc (thr d L)) (f := A.tk d) (S := Finset.univ) (Finset.subset_univ kK.view.set)).2 $$ [Hks Hkr]
  · isplitl [Hks] <;> iassumption
  ihave Hv := (pointsTo_split_subset (q := qT (cL L) (jL L)) (ℓ := vV.view.loc (thr d L)) (f := A.tv d) (S := Finset.univ) (Finset.subset_univ vK.view.set)).2 $$ [Hvs Hvr]
  · isplitl [Hvs] <;> iassumption
  ihave Hs' := (pointsTo_share (PosShare.mem_left_op_right fullShare)).2 $$ [Hsl Hsr]
  · isplitl [Hsl] <;> iassumption
  ihave Hs := (Entails.of_eq (show (sV.view.loc (thr d L) ↦[sV.view.set]{fullShare} _ : sProp 𝕄)
      = sV.view.loc (thr d L) ↦{fullShare} _ by rw [hss])) $$ Hs'
  ihave Ha := (Entails.of_eq (show (aV.view.loc (thr d L) ↦[aV.view.set]{fullShare} _ : sProp 𝕄)
      = aV.view.loc (thr d L) ↦{fullShare} _ by rw [has])) $$ Ha'
  ihave Hb := (Entails.of_eq (show (bV.view.loc (thr d L) ↦[bV.view.set]{fullShare} _ : sProp 𝕄)
      = bV.view.loc (thr d L) ↦{fullShare} _ by rw [hbs])) $$ Hb'
  ihave Hxs := (pointsTo_split_subset (q := fullShare) (ℓ := xLoc d) (chunk_sub L k)).1 $$ Hx
  icases Hxs with ⟨Hxc, Hxr⟩
  ihave Hys := (pointsTo_split_subset (q := fullShare) (ℓ := yLoc d) (chunk_sub L k)).1 $$ Hy
  icases Hys with ⟨Hyc, Hyr⟩
  ihave Hxc' := (Entails.of_eq (pts_x (F := F) d L k _).symm) $$ Hxc
  ihave Hyc' := (Entails.of_eq (pts_y (F := F) d L k _).symm) $$ Hyc
  sl_exec (disch := exact View.amount_pos _ _ (show 0 < S128x128.numel by decide))
  sl_step
  isplitr; · iexact Hmw
  isplitl [Hi]; · iexact Hi
  isplitl [Hk]; · iexact Hk
  isplitl [Hv]; · iexact Hv
  isplitl [Hxc' Hxr]
  · iapply (x_done (F := F) d L k (gx A d) (A.x₀ d) (trip.sl.dma0_1 A d L hA k fs fa) ?_)
    · intro y
      unfold trip.sl.dma0_1
      rw [View.write_whole_univ]
      exact payload_eq A d L hA k (A.tk d) _ (kK_read _) _ (words A d L k fs) _ _ y
    · isplitl [Hxc']
      · iexact Hxc'
      · iexact Hxr
  isplitl [Hyc' Hyr]
  · iapply (y_done (F := F) d L k (gy A d) (A.y₀ d) (trip.sl.dma0_2 A d L hA k fs fb) ?_)
    · intro y
      unfold trip.sl.dma0_2
      rw [View.write_whole_univ]
      exact payload_eq A d L hA k (A.tv d) _ (kK_read _) _ (words A d L k fs) _ _ y
    · isplitl [Hyc']
      · iexact Hyc'
      · iexact Hyr
  isplitl [Hs]; · iexists _; iexact Hs
  isplitl [Ha]; · iexists _; iexact Ha
  isplitl [Hb]; · iexists _; iexact Hb
  isplitl [Hc0]; · iexact Hc0
  isplitl [Hc1]; · iexact Hc1
  isplitl [Hc2]; · iexact Hc2
  isplitl [Hc3]; · iexact Hc3
  isplitl [Hc4]; · iexact Hc4
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

omit [FloatOps F] in
/-- Before the first chunk nothing is done, -/
theorem part_zero (g f : S16384x128.Idx → Elt F .f32) :
    ∀ x ∈ tileSet (cL L).val (jL L).val, f x = part (base L + 128 * 0) g f x := by
  intro x hx
  rw [mem_tileSet] at hx
  have e1 : (jL L).val = (L 1).val := rfl
  have e2 : (cL L).val = (L 0).val := rfl
  unfold part base
  rw [if_neg (by omega)]
omit [FloatOps F] in
/-- and after the last everything. -/
theorem part_all (g f : S16384x128.Idx → Elt F .f32) :
    ∀ x ∈ tileSet (cL L).val (jL L).val, part (base L + 128 * k0_t1_loop.trips) g f x = g x := by
  intro x hx
  rw [mem_tileSet] at hx
  have e1 : (jL L).val = (L 1).val := rfl
  have e2 : (cL L).val = (L 0).val := rfl
  have ht : k0_t1_loop.trips = 4 := by decide
  unfold part base
  rw [if_pos (by omega)]

set_option maxHeartbeats 4000000 in
/-- The subcore's run: the four chunks. -/
theorem tile_body (hF : (K (F := F)).Facts) (hA : A.OK) (O : CellTallies nD τ sig (HIx 1)) (W : Waits sig (HIx 1)) (hO : ∀ g, O g none = 0) :
    iprop(levAts (K (F := F)).L (K (F := F)).lev ∗ emp ∗ goT A d (cL L) (jL L)
        ∗ scopedBufs (thr d L) ∗ scopedSems0 (thr d L) ∗ owes (thr d L) O W)
      ⊢ wp frame (wpE (defs₀ (F := F)) 𝒱₀ (thr d L) none) Set.univ
          (cc0_gather L kV (Memref.isWhole_whole _) vV (Memref.isWhole_whole _) iV (Memref.isWhole_whole _) xV (Memref.isWhole_whole _)
            yV (Memref.isWhole_whole _) sV (Memref.isWhole_whole _) aV (Memref.isWhole_whole _) bV (Memref.isWhole_whole _)
            cc0_scratch3 cc0_scratch4 cc0_scoped0 cc0_scoped1 cc0_scoped2)
          fun _ => iprop(tdT A d (cL L) (jL L)
            ∗ scopedBufs (thr d L) ∗ scopedSems0 (thr d L)
            ∗ ∃ W', ⌜∀ p ∈ W', p ∈ W ∨ p.2 = none⌝ ∗ owes (thr d L) O W') := by
  simp only [cc0_gather_eq_skeleton]; unfold cc0_gather_skel
  rw [(K (F := F)).scopedBufs_V hF d (cV L) (jV L), SparseCore.Cfg.scopedSems0_V (Val := Elt F) d (cV L) (jV L), ownSems0_V, ownBufs_V]
  unfold goT tdT rdPts wrPts
  rw [pointsTo_congr (ℓ := xLoc d) (part_zero L (gx A d) (A.x₀ d)), pointsTo_congr (ℓ := yLoc d) (part_zero L (gy A d) (A.y₀ d)),
    ← pointsTo_congr (ℓ := xLoc d) (part_all L (gx A d) (A.x₀ d)), ← pointsTo_congr (ℓ := yLoc d) (part_all L (gy A d) (A.y₀ d))]
  iintro ⟨#Hlv, -, ⟨⟨Hi, Hk, Hv⟩, Hx, Hy⟩, ⟨⟨%fs, Hs⟩, ⟨%fa, Ha⟩, ⟨%fb, Hb⟩, Hbufs⟩, ⟨Hc0, Hc1, Hc2, Hc3, Hc4, Hsems⟩, HO⟩
  ihave Hmw := (show levAts (K (F := F)).L (K (F := F)).lev ⊢ Transfers.MayWaits (thr d L) (default : HIx 1) O from
    (K (F := F)).mayWaits_none (thr := thr d L) hO) $$ Hlv
  sl_for (Inv A d L O W) $$ [Hmw Hi Hk Hv Hx Hy Hs Ha Hb Hc0 Hc1 Hc2 Hc3 Hc4 HO]
  case region =>
    intro k _
    exact trip A d L hA O W k
  · unfold Inv
    isplitl [Hmw]; · iexact Hmw
    isplitl [Hi]; · iexact Hi
    isplitl [Hk]; · iexact Hk
    isplitl [Hv]; · iexact Hv
    isplitl [Hx]; · iexact Hx
    isplitl [Hy]; · iexact Hy
    isplitl [Hs]; · iexists _; iexact Hs
    isplitl [Ha]; · iexists _; iexact Ha
    isplitl [Hb]; · iexists _; iexact Hb
    isplitl [Hc0]; · iexact Hc0
    isplitl [Hc1]; · iexact Hc1
    isplitl [Hc2]; · iexact Hc2
    isplitl [Hc3]; · iexact Hc3
    isplitl [Hc4]; · iexact Hc4
    iexists W; isplitr
    · ipureintro; exact fun p hp => .inl hp
    · iexact HO
  iintro %_ HI
  unfold Inv
  icases HI with ⟨-, Hi, Hk, Hv, Hx, Hy, Hs, Ha, Hb, Hc0, Hc1, Hc2, Hc3, Hc4, HW⟩
  sl_exec
  sl_step
  isplitl [Hi Hk Hv Hx Hy]
  · isplitl [Hi Hk Hv]
    · isplitl [Hi]; · iexact Hi
      isplitl [Hk]; · iexact Hk
      iexact Hv
    isplitl [Hx]; · iexact Hx
    iexact Hy
  isplitl [Hs Ha Hb Hbufs]
  · isplitl [Hs]; · iexact Hs
    isplitl [Ha]; · iexact Ha
    isplitl [Hb]; · iexact Hb
    iexact Hbufs
  isplitr [HW]
  · isplitl [Hc0]; · iexact Hc0
    isplitl [Hc1]; · iexact Hc1
    isplitl [Hc2]; · iexact Hc2
    isplitl [Hc3]; · iexact Hc3
    isplitl [Hc4]; · iexact Hc4
    iexact Hsems
  iexact HW

end Tile

end Cert.Proof.Gather

end
-- ==== Proof.Gather.Run.lean ====
/-
  The row gather's run: each subcore's obligation to the launch, the host operations before the call, the call, and what
  the memory then holds: the arguments as they were, both results gathered.
-/
module

public import proofs.«01_k».proof.Proof.Gather.Tile

@[expose] public section

noncomputable section

namespace Cert.Proof.Gather

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (after seq held wp_seq tcRefs unary_bufs_sub binary_bufs_sub nullary_bufs_sub reshape_bufs_sub launchContents)

variable {F : FTy → Type}

local notation "𝕄" => MT nD τ sig (HIx 1) (Elt F) ℕ UU ℕ

variable [FloatOps F]

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather (coordsV c s)
          kV (Memref.isWhole_whole _) vV (Memref.isWhole_whole _) iV (Memref.isWhole_whole _) xV (Memref.isWhole_whole _)
          yV (Memref.isWhole_whole _) sV (Memref.isWhole_whole _) aV (Memref.isWhole_whole _) bV (Memref.isWhole_whole _)
          cc0_scratch3 cc0_scratch4 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (A : Args F) (hF : (K (F := F)).Facts) (hA : A.OK) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A d (coordsV ⟨_, hci.1⟩ ⟨_, hci.2⟩) hF hA O W hO).trans (wp_mono frame _ _ fun _ => obl_post)

/-! ## The launch element of the certificate's ghost state -/

def u₀ : UU := (initOf (K (F := F)).hsCells (K (F := F)).hsToks, 1)

omit [FloatOps F] in
theorem bigSep_emps {I : Type} (s : Finset I) : (bigSep s fun _ => iprop(emp)) = (iprop(emp) : sProp 𝕄) := bigSep_emp_const s

theorem hu₀ (A : Args F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emps]; iempintro
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), bigSep_emps]
  iempintro

/-! ## The host's operations -/

/-- The operations before the call. -/
abbrev ops : List (HloOp τ sig (Elt F)) :=
  [StableHlo.unary main_arg2 main_v0 ((extractStridedSlice S32x256x1 ![0, 0, 0] · slices_S32x256x128_S32x256x1_0_0_0) : (⟨S32x256x128, .f32⟩ : BufTy).Contents (Elt F) → (⟨S32x256x1, .f32⟩ : BufTy).Contents (Elt F)),
   StableHlo.unary main_v0 main_v1 (fptosi 32 : (⟨S32x256x1, .f32⟩ : BufTy).Contents (Elt F) → (⟨S32x256x1, .i32⟩ : BufTy).Contents (Elt F)),
   StableHlo.nullary main_c (constantI S_ 32 2#32),
   StableHlo.unary main_c main_v2 (broadcastInDim S32x256x1 ![] bcast_S_S32x256x1 : (⟨S_, .i32⟩ : BufTy).Contents (Elt F) → (⟨S32x256x1, .i32⟩ : BufTy).Contents (Elt F)),
   StableHlo.binary main_v1 main_v2 main_v3 (muli : (⟨S32x256x1, .i32⟩ : BufTy).Contents (Elt F) → (⟨S32x256x1, .i32⟩ : BufTy).Contents (Elt F) → (⟨S32x256x1, .i32⟩ : BufTy).Contents (Elt F)),
   StableHlo.nullary main_v4 (iotaInDim S2 32 0),
   StableHlo.unary main_v4 main_v5 (broadcastInDim S1x1x2 ![2] bcast_S2_S1x1x2_2 : (⟨S2, .i32⟩ : BufTy).Contents (Elt F) → (⟨S1x1x2, .i32⟩ : BufTy).Contents (Elt F)),
   StableHlo.unary main_v3 main_v6 (broadcastInDim S32x256x2 ![0, 1, 2] bcast_S32x256x1_S32x256x2_0_1_2 : (⟨S32x256x1, .i32⟩ : BufTy).Contents (Elt F) → (⟨S32x256x2, .i32⟩ : BufTy).Contents (Elt F)),
   StableHlo.unary main_v5 main_v7 (broadcastInDim S32x256x2 ![0, 1, 2] bcast_S1x1x2_S32x256x2_0_1_2 : (⟨S1x1x2, .i32⟩ : BufTy).Contents (Elt F) → (⟨S32x256x2, .i32⟩ : BufTy).Contents (Elt F)),
   StableHlo.binary main_v6 main_v7 main_v8 (addi : (⟨S32x256x2, .i32⟩ : BufTy).Contents (Elt F) → (⟨S32x256x2, .i32⟩ : BufTy).Contents (Elt F) → (⟨S32x256x2, .i32⟩ : BufTy).Contents (Elt F)),
   StableHlo.reshape main_v8 main_v9 (rfl : (.i32 : EltTy) = .i32) shapeCasts_S32x256x2_S16384,
   StableHlo.reshape main_arg0 main_v10 (rfl : (.f32 : EltTy) = .f32) shapeCasts_S1x5120x128x2x128_S1310720x128,
   StableHlo.reshape main_arg1 main_v11 (rfl : (.f32 : EltTy) = .f32) shapeCasts_S1x5120x128x2x128_S1310720x128]

theorem ops_sub : (ops (F := F)).Forall fun op => op.bufs ⊆ tcRefs τ sig :=
  ⟨unary_bufs_sub .., unary_bufs_sub .., nullary_bufs_sub .., unary_bufs_sub .., binary_bufs_sub .., nullary_bufs_sub .., unary_bufs_sub .., unary_bufs_sub .., unary_bufs_sub .., binary_bufs_sub .., reshape_bufs_sub .., reshape_bufs_sub .., reshape_bufs_sub ..⟩

theorem main_eq (d : Dev nD) : main (F := F) d = seq ops >>= fun _ => ((K (F := F)).run d 0 >>= fun _ => pure ⟨⟩) := rfl

/-- The named rows, a word each, -/
def rowW (a : S32x256x128.Idx → Elt F .f32) : S32x256x1.Idx → BitVec 32 :=
  fptosi 32 (extractStridedSlice S32x256x1 ![0, 0, 0] a slices_S32x256x128_S32x256x1_0_0_0)
/-- and the index list: of each named row its two halves. -/
def ixOf (a : S32x256x128.Idx → Elt F .f32) : S16384.Idx → BitVec 32 :=
  shapeCast S16384 (addi
    (broadcastInDim S32x256x2 ![0, 1, 2] bcast_S32x256x1_S32x256x2_0_1_2
      (muli (rowW a) (broadcastInDim S32x256x1 ![] bcast_S_S32x256x1 (constantI S_ 32 2#32))))
    (broadcastInDim S32x256x2 ![0, 1, 2] bcast_S1x1x2_S32x256x2_0_1_2
      (broadcastInDim S1x1x2 ![2] bcast_S2_S1x1x2_2 (iotaInDim S2 32 0)))) shapeCasts_S32x256x2_S16384
/-- A table: the cache as rows of 128. -/
def tabOf (a : S1x5120x128x2x128.Idx → Elt F .f32) : S1310720x128.Idx → Elt F .f32 :=
  shapeCast S1310720x128 a shapeCasts_S1x5120x128x2x128_S1310720x128

variable (m : (ℓ : Loc nD τ sig) → Buf (Elt F) ℓ) (ρ : Dev nD → PrngReg)

abbrev a0 (d : Dev nD) : Loc nD τ sig := (SparseCore.T d).loc main_arg0
abbrev a1 (d : Dev nD) : Loc nD τ sig := (SparseCore.T d).loc main_arg1
abbrev a2 (d : Dev nD) : Loc nD τ sig := (SparseCore.T d).loc main_arg2

/-- The call's operands as the host leaves them. -/
def argsOf : Args F where
  ix := fun d => ixOf (m (a2 d))
  tk := fun d => tabOf (m (a0 d))
  tv := fun d => tabOf (m (a1 d))
  x₀ := fun d => m (xLoc d)
  y₀ := fun d => m (yLoc d)

/-- Contents after the host's operations. -/
abbrev VM (d : Dev nD) : Valuation τ sig (Elt F) := after ops (launchContents m d)
abbrev vref (b : Ref sig .tc) : DevRef τ sig := (Proc.tc : Proc τ).devRef b

theorem VM_arg0 (d : Dev nD) : VM m d (vref main_arg0) = m (a0 d) := by
  unfold VM; after_results
theorem VM_arg1 (d : Dev nD) : VM m d (vref main_arg1) = m (a1 d) := by
  unfold VM; after_results
theorem VM_arg2 (d : Dev nD) : VM m d (vref main_arg2) = m (a2 d) := by
  unfold VM; after_results
theorem VM_v9 (d : Dev nD) : VM m d (vref main_v9) = (argsOf m).ix d := by
  unfold VM; after_results; rfl
theorem VM_v10 (d : Dev nD) : VM m d (vref main_v10) = (argsOf m).tk d := by
  unfold VM; after_results; rfl
theorem VM_v11 (d : Dev nD) : VM m d (vref main_v11) = (argsOf m).tv d := by
  unfold VM; after_results; rfl
theorem VM_v12_0 (d : Dev nD) : VM m d (vref main_v12_0) = (argsOf m).x₀ d := by
  unfold VM; after_results; rfl
theorem VM_v12_1 (d : Dev nD) : VM m d (vref main_v12_1) = (argsOf m).y₀ d := by
  unfold VM; after_results; rfl

omit [FloatOps F] in
theorem unscopedBufs_eq (d : Dev nD) (W : (b : Ref sig .tc) → Buf (Elt F) ((d.tc : Thread nD τ).loc b)) :
    (unscopedBufs d W : sProp 𝕄) = iprop(((d.tc : Thread nD τ).loc main_arg0 ↦{fullShare} W main_arg0) ∗ ((d.tc : Thread nD τ).loc main_arg1 ↦{fullShare} W main_arg1) ∗ ((d.tc : Thread nD τ).loc main_arg2 ↦{fullShare} W main_arg2) ∗ ((d.tc : Thread nD τ).loc main_v9 ↦{fullShare} W main_v9) ∗ ((d.tc : Thread nD τ).loc main_v10 ↦{fullShare} W main_v10) ∗ ((d.tc : Thread nD τ).loc main_v11 ↦{fullShare} W main_v11) ∗ ((d.tc : Thread nD τ).loc main_v12_0 ↦{fullShare} W main_v12_0) ∗ ((d.tc : Thread nD τ).loc main_v12_1 ↦{fullShare} W main_v12_1) ∗ ((d.tc : Thread nD τ).loc main_v0 ↦{fullShare} W main_v0) ∗ ((d.tc : Thread nD τ).loc main_v1 ↦{fullShare} W main_v1) ∗ ((d.tc : Thread nD τ).loc main_c ↦{fullShare} W main_c) ∗ ((d.tc : Thread nD τ).loc main_v2 ↦{fullShare} W main_v2) ∗ ((d.tc : Thread nD τ).loc main_v3 ↦{fullShare} W main_v3) ∗ ((d.tc : Thread nD τ).loc main_v4 ↦{fullShare} W main_v4) ∗ ((d.tc : Thread nD τ).loc main_v5 ↦{fullShare} W main_v5) ∗ ((d.tc : Thread nD τ).loc main_v6 ↦{fullShare} W main_v6) ∗ ((d.tc : Thread nD τ).loc main_v7 ↦{fullShare} W main_v7) ∗ (d.tc : Thread nD τ).loc main_v8 ↦{fullShare} W main_v8) := by
  unfold unscopedBufs
  rw [show (Finset.univ.filter fun b : Ref sig .tc => ¬ b.isScoped) = {main_arg0, main_arg1, main_arg2, main_v9, main_v10, main_v11, main_v12_0, main_v12_1, main_v0, main_v1, main_c, main_v2, main_v3, main_v4, main_v5, main_v6, main_v7, main_v8} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem st0_eq (A : Args F) (d : Dev nD) : (bigSep Finset.univ fun c : Fin ((K (F := F)).nCore 0) => (P A).st 0 d c)
    = iprop(rdPts A d fullShare ∗ wrPts d Finset.univ (A.x₀ d) (A.y₀ d)) := by
  rw [cores_eq]; exact bigSep_cores (F := F) (fun c => stC A d c)
theorem dn0_eq (A : Args F) (d : Dev nD) : (bigSep Finset.univ fun c : Fin ((K (F := F)).nCore 0) => (P A).dn 0 d c)
    = iprop(rdPts A d fullShare ∗ wrPts d Finset.univ (gx A d) (gy A d)) := by
  rw [cores_eq]; exact bigSep_cores (F := F) (fun c => dnC A d c)

abbrev FIN (d : Dev nD) : sProp 𝕄 :=
  iprop((a0 d ↦{fullShare} m (a0 d)) ∗ (a1 d ↦{fullShare} m (a1 d)) ∗ (a2 d ↦{fullShare} m (a2 d))
    ∗ wrPts d Finset.univ (gx (argsOf m) d) (gy (argsOf m) d))

set_option maxHeartbeats 4000000 in
/-- @main on device `d`'s TensorCore: the host's operations, then the one call. -/
theorem hmain (κ : GSem nD τ sig → ℕ) (d : Dev nD) :
    iprop((K (F := F)).ctx EH (P (argsOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hbufs, Hts, -⟩, -⟩
  ihave Hh := (Entails.of_eq (Pipeline.unscopedBufs_held (Ix := HIx 1) (Name := ℕ) (U := UU) (Lvl := ℕ) d (launchContents m d))) $$ Hbufs
  iapply (wp_seq 𝒱 none Set.univ d (Pipeline.ucRefs τ sig) (fun _ => ((K (F := F)).run d 0 >>= fun _ => pure ⟨⟩)) ops
    (fun op h => Pipeline.sub_ucRefs op (List.forall_iff_forall_mem.mp ops_sub op h))
    (fun op h => by
      simp only [ops, List.mem_cons, List.not_mem_nil, or_false] at h
      rcases h with rfl | rfl | rfl | rfl | rfl | rfl | rfl | rfl | rfl | rfl | rfl | rfl | rfl <;> rfl) (launchContents m d)) $$ [Hb Hh]
  · isplitl [Hb] <;> iassumption
  iintro ⟨Hb, Hh⟩
  ihave Hbufs := (Entails.of_eq (Pipeline.unscopedBufs_held (Ix := HIx 1) (Name := ℕ) (U := UU) (Lvl := ℕ) d (VM m d)).symm) $$ Hh
  ihave Hall := (Entails.of_eq (unscopedBufs_eq d (fun b => VM m d (vref b)))) $$ Hbufs
  simp only [VM_arg0, VM_arg1, VM_arg2, VM_v9, VM_v10, VM_v11, VM_v12_0, VM_v12_1]
  icases Hall with ⟨H0, H1, H2, Hi, Hk, Hv, Hx, Hy, -⟩
  rw [wp_bind]
  simp only [wp_pure]
  iapply ((K (F := F)).wp_run (D (F := F)) 𝒱 (EH := EH) (P := P (argsOf m)) κ d 0) $$ [Hst Hi Hk Hv Hx Hy Hb Hts H0 H1 H2]
  isplitr; · iexact Hctx
  isplitl [Hst]; · iexact Hst
  isplitl [Hi Hk Hv Hx Hy]
  · rw [st0_eq]
    isplitl [Hi Hk Hv]
    · isplitl [Hi]; · iexact Hi
      isplitl [Hk]; · iexact Hk
      iexact Hv
    isplitl [Hx]; · iexact Hx
    iexact Hy
  iintro ⟨Hst, Hdn⟩
  ihave Hdn' := (Entails.of_eq (dn0_eq (argsOf m) d)) $$ Hdn
  icases Hdn' with ⟨-, Hw⟩
  imodintro
  isplitl [Hst]; · iexact Hst
  isplitr [Hb Hts]
  · isplitl [H0]; · iexact H0
    isplitl [H1]; · iexact H1
    isplitl [H2]; · iexact H2
    iexact Hw
  isplitl [Hb] <;> iassumption

/-- What device `d`'s memory holds at the end. -/
def fq (d : Dev nD) (s' : Phys nD τ sig (Elt F)) : Prop :=
  s'.mem.mem (xLoc d) = gx (argsOf m) d ∧ s'.mem.mem (yLoc d) = gy (argsOf m) d
    ∧ s'.mem.mem (a0 d) = m (a0 d) ∧ s'.mem.mem (a1 d) = m (a1 d) ∧ s'.mem.mem (a2 d) = m (a2 d)

omit [FloatOps F] in
theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, Hx, Hy⟩, HSI⟩
  ihave H := (agree s' (a0 d) (m (a0 d))) $$ [HSI H0]
  · isplitl [HSI] <;> iassumption
  icases H with ⟨%h0, HSI⟩
  ihave H := (agree s' (a1 d) (m (a1 d))) $$ [HSI H1]
  · isplitl [HSI] <;> iassumption
  icases H with ⟨%h1, HSI⟩
  ihave H := (agree s' (a2 d) (m (a2 d))) $$ [HSI H2]
  · isplitl [HSI] <;> iassumption
  icases H with ⟨%h2, HSI⟩
  ihave H := (agree s' (xLoc d) (gx (argsOf m) d)) $$ [HSI Hx]
  · isplitl [HSI] <;> iassumption
  icases H with ⟨%hx, HSI⟩
  ihave H := (agree s' (yLoc d) (gy (argsOf m) d)) $$ [HSI Hy]
  · isplitl [HSI] <;> iassumption
  icases H with ⟨%hy, HSI⟩
  ipureintro; exact ⟨hx, hy, h0, h1, h2⟩

/-! ## The program's run -/

def QC : PUnit × MemSt nD τ sig (Elt F) → Prop := fun r => (∀ c : Dev nD,
  r.2.mem (xLoc c) = gx (argsOf m) c ∧ r.2.mem (yLoc c) = gy (argsOf m) c
    ∧ r.2.mem (a0 c) = m (a0 c) ∧ r.2.mem (a1 c) = m (a1 c) ∧ r.2.mem (a2 c) = m (a2 c)) ∧ r.2.sem = fun _ => 0

/-- Where every word of the index list names a row of the tables, the program runs to its end with both results gathered,
    its arguments unchanged and every counter at zero. -/
theorem run_main [∀ e, Nonempty (Elt F e)] (hA : (argsOf m).OK) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P (argsOf m)) (A := ∅) facts v₀
    (fun q hq => match q with | 0 => nomatch hq)
    (fun q _ => match q with | 0 => tileObl (argsOf m) facts hA)
    (fun q _ => match q with | 0 => SparseCore.Cfg.VecSplit.of_plain (vecSplit (argsOf m)))
    m ρ main (fun _ => iprop(emp)) (FIN m) (u₀ (F := F)) (sep_elim_left.trans (hu₀ (argsOf m))) (hmain m ρ) (fq m) (hfin m) (QC m) (fun _ h hz => ⟨h, hz⟩)

end Cert.Proof.Gather

end
-- ==== Proof.Gather.Value.lean ====
/-
  The index list's words and the reference's gather, read entry by entry, and that the two programs' results are one.
-/
module

public import proofs.«01_k».proof.Proof.Gather.Run
public import proofs.«01_k».proof.Proof.Gen.GatherRefIdeal.Read
public import proofs.«01_k».proof.Proof.Gen.Pre_rows_in_cache
public import Idealize.ShloMosaic.Lib.Pointwise

@[expose] public section

noncomputable section

namespace Cert.Proof.Gather

open Idealize.ShloMosaic Idealize.ShloMosaic.TcCoe Idealize.SL.Sem
open Cert.GatherIdeal Cert.GatherIdeal.Gen
open Cert.GatherRefIdeal.Read (val_main_v4 val_main_v4_apply val_main_v3_apply val_main_v9 val_main_v9_apply val_main_v10 val_main_v10_apply val_main_v11 val_main_v21 val_main_v21_apply
  val_main_v22 val_main_v2 val_main_v2_apply val_main_v1_apply val_main_v6 val_main_v6_apply val_main_v5_apply val_main_c_apply)

variable {F : FTy → Type} [FloatOps F]

/-- Every named row is a row of the caches. -/
def Named (a : S32x256x128.Idx → Elt F .f32) : Prop := ∀ (b : Fin 32) (s : Fin 256), (rowW a (ix3 b s 0)).toNat < 655360

/-- The precondition's word at a place: the row there is not negative and lies under the number of rows. -/
theorem named_of_pre (x y : S1x5120x128x2x128.Idx → Elt F .f32) (a : S32x256x128.Idx → Elt F .f32)
    (h : letI := Cert.Pre_rows_in_cache.Gen.facts; Cert.Pre_rows_in_cache.fn (F := F) x y a = fun _ => 1#1) : Named a := by
  intro b s
  have h1 := congrFun h (ix3 b s 0)
  change BitVec.ofBool (BitVec.sle 0#32 (rowW a (ix3 b s 0))) &&& BitVec.ofBool (BitVec.slt (rowW a (ix3 b s 0)) 655360#32) = 1#1 at h1
  generalize rowW a (ix3 b s 0) = w at h1 ⊢
  have h2 : BitVec.sle 0#32 w = true ∧ BitVec.slt w 655360#32 = true := by
    revert h1
    cases BitVec.sle 0#32 w <;> cases BitVec.slt w 655360#32 <;> simp
  have h3 := h2.1; have h4 := h2.2
  rw [BitVec.sle_iff_toInt_le] at h3
  rw [BitVec.slt_iff_toInt_lt] at h4
  have e0 : (0#32 : BitVec 32).toInt = 0 := rfl
  have e1 : (655360#32 : BitVec 32).toInt = 655360 := rfl
  rw [e0] at h3; rw [e1] at h4
  have hw := w.isLt
  rw [BitVec.toInt_eq_toNat_cond] at h3 h4
  split at h3 <;> omega

/-- A word of the index list. -/
theorem ixOf_apply (a : S32x256x128.Idx → Elt F .f32) (b : Fin 32) (s : Fin 256) (h : Fin 2) (j : Fin 16384) (hj : j.val = (b.val * 256 + s.val) * 2 + h.val) :
    ixOf a (ix1 j) = rowW a (ix3 b s 0) * 2#32 + BitVec.ofNat 32 h.val := by
  obtain ⟨j, hlt⟩ := j
  dsimp only at hj
  subst hj
  unfold ixOf
  generalize rowW a = r
  pointwise []
  rfl

theorem ixOf_toNat (a : S32x256x128.Idx → Elt F .f32) (ha : Named a) (b : Fin 32) (s : Fin 256) (h : Fin 2) (j : Fin 16384) (hj : j.val = (b.val * 256 + s.val) * 2 + h.val) :
    (ixOf a (ix1 j)).toNat = (rowW a (ix3 b s 0)).toNat * 2 + h.val := by
  rw [ixOf_apply a b s h j hj]
  have h1 := ha b s
  have h2 := h.isLt
  rw [BitVec.toNat_add, BitVec.toNat_mul, BitVec.toNat_ofNat, BitVec.toNat_ofNat]
  omega

/-- Every word of the list names a row of the tables. -/
theorem ixOf_lt (a : S32x256x128.Idx → Elt F .f32) (ha : Named a) (i : S16384.Idx) : (ixOf a i).toNat < 1310720 := by
  obtain ⟨j, rfl⟩ : ∃ j : Fin 16384, i = ix1 j := ⟨i 0, funext fun x => by obtain rfl : x = 0 := Subsingleton.elim _ _; rfl⟩
  have hj := j.isLt
  rw [ixOf_toNat a ha ⟨j.val / 512, by omega⟩ ⟨j.val / 2 % 256, by omega⟩ ⟨j.val % 2, by omega⟩ j (by dsimp only; omega)]
  have h1 := ha ⟨j.val / 512, by omega⟩ ⟨j.val / 2 % 256, by omega⟩
  dsimp only
  omega

theorem ok (m : (ℓ : Loc nD τ sig) → Buf (Elt F) ℓ) (h : ∀ d, Named (m (a2 d))) : (argsOf m).OK :=
  fun d j => ixOf_lt _ (h d) j

/-! ## The reference -/

abbrev GD := Cert.GatherRefIdeal.gather_S655360x2x128_S32x256x1_S32x256x2x128_23_0_n_n_0_2_12128

/-- The reference's gather at an entry: the entry of the row its index names. -/
theorem gather_apply {α : Type} (x : Cert.GatherRefIdeal.S655360x2x128.Idx → α) (idx : IVec Cert.GatherRefIdeal.S32x256x1 32) (b : Fin 32) (s : Fin 256) (h : Fin 2) (l : Fin 128) :
    Host.gather GD x idx (ix4 b s h l) = x (ix3 ⟨min (idx (ix3 b s 0)).toInt.toNat 655359, by omega⟩ h l) := by
  unfold Host.gather
  congr 1
  funext a
  refine Fin.ext ?_
  show GD.start (ix4 b s h l) idx a + GD.batchCoord (ix4 b s h l) a + GD.offCoord (ix4 b s h l) a = _
  rw [GatherDims.batchCoord_eq_zero _ _ _ List.not_mem_nil, Nat.add_zero]
  have hc : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases hc with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ GD.startIndexMap from List.mem_singleton.mpr rfl)]
    have hsi : GD.siIdx (ix4 b s h l) ⟨List.idxOf (0 : Fin 3) GD.startIndexMap, List.idxOf_lt_length_iff.2 (List.mem_singleton.mpr rfl)⟩ = ix3 b s 0 := by
      funext c; refine Fin.ext ?_
      match c with
      | ⟨0, _⟩ => rfl
      | ⟨1, _⟩ => rfl
      | ⟨2, _⟩ => rfl
    exact congrArg (fun i => min (idx i).toInt.toNat 655359) hsi
  · unfold GatherDims.start GatherDims.offCoord
    rw [dif_neg (show ¬ (1 : Fin 3) ∈ GD.startIndexMap by decide), Nat.zero_add]
    rfl
  · unfold GatherDims.start GatherDims.offCoord
    rw [dif_neg (show ¬ (2 : Fin 3) ∈ GD.startIndexMap by decide), Nat.zero_add]
    rfl

/-- The row the reference reads: the named one, none being negative. -/
theorem v9_eq (a : S32x256x128.Idx → Elt F .f32) (ha : Named a) (b : Fin 32) (s : Fin 256) : val_main_v9 (F := F) a (ix2 b s) = rowW a (ix3 b s 0) := by
  have e2 : val_main_v2 (F := F) a (ix2 b s) = rowW a (ix3 b s 0) := by
    unfold val_main_v2 Cert.GatherRefIdeal.Read.val_main_v1 Cert.GatherRefIdeal.Read.val_main_v0 rowW
    pointwise []
  rw [val_main_v9_apply, val_main_v6_apply, val_main_v5_apply, val_main_c_apply, e2]
  have h1 := ha b s
  have h0 : BitVec.slt (rowW a (ix3 b s 0)) 0#32 = false := by
    generalize rowW a (ix3 b s 0) = w at h1 ⊢
    have e0 : (0#32 : BitVec 32).toInt = 0 := rfl
    rw [Bool.eq_false_iff, ne_eq, BitVec.slt_iff_toInt_lt, e0, BitVec.toInt_eq_toNat_of_lt (by omega)]
    omega
  show Scalar.select (BitVec.ofBool (BitVec.slt (rowW a (ix3 b s 0)) 0#32)) _ _ = _
  rw [h0]
  rfl

/-- The cache as rows of two halves, and as rows of 128: one entry. -/
theorem tab_eq (x : S1x5120x128x2x128.Idx → Elt F .f32) (r : Fin 655360) (h : Fin 2) (l : Fin 128) (R : Fin 1310720) (hR : R.val = r.val * 2 + h.val) :
    val_main_v4 (F := F) x (ix3 r h l) = tabOf x (ix2 R l) := by
  obtain ⟨R, hlt⟩ := R
  dsimp only at hR
  subst hR
  unfold val_main_v4 Cert.GatherRefIdeal.Read.val_main_v3 tabOf
  pointwise []
  have hh := h.isLt
  refine congrArg x (funext fun c => Fin.ext ?_)
  match c with
  | ⟨0, _⟩ => rfl
  | ⟨1, _⟩ => show r.val / 128 = (r.val * 2 + h.val) / 256; omega
  | ⟨2, _⟩ => show r.val % 128 = (r.val * 2 + h.val) / 2 % 128; omega
  | ⟨3, _⟩ => rfl
  | ⟨4, _⟩ => rfl

/-- The gathered table is the reference's result. -/
theorem value_eq (x : S1x5120x128x2x128.Idx → Elt F .f32) (a : S32x256x128.Idx → Elt F .f32) (ha : Named a) :
    gath (tabOf x) (ixOf a) = val_main_v21 (F := F) x a := by
  refine funext fun (i : S16384x128.Idx) => ?_
  obtain ⟨j, l, rfl⟩ : ∃ (j : Fin 16384) (l : Fin 128), i = ix2 j l :=
    ⟨i 0, i 1, by
      funext c
      match c with
      | ⟨0, _⟩ => rfl
      | ⟨1, _⟩ => rfl⟩
  have hj := j.isLt
  have hl := l.isLt
  let b : Fin 32 := ⟨j.val / 512, by omega⟩
  let s : Fin 256 := ⟨j.val / 2 % 256, by omega⟩
  let h : Fin 2 := ⟨j.val % 2, by omega⟩
  have hr := ha b s
  have en := ixOf_toNat a ha b s h j (by show j.val = (j.val / 512 * 256 + j.val / 2 % 256) * 2 + j.val % 2; omega)
  have ei : Cert.GatherRefIdeal.Read.idx_main_v21 (ix2 j l) = ix4 b s h l := by
    funext c; refine Fin.ext ?_
    match c with
    | ⟨0, _⟩ => show (j.val * 128 + l.val) / 65536 = j.val / 512; omega
    | ⟨1, _⟩ => show (j.val * 128 + l.val) / 256 % 256 = j.val / 2 % 256; omega
    | ⟨2, _⟩ => show (j.val * 128 + l.val) / 128 % 2 = j.val % 2; omega
    | ⟨3, _⟩ => show (j.val * 128 + l.val) % 128 = l.val; omega
  have ew : val_main_v10 (F := F) a (ix3 b s 0) = rowW a (ix3 b s 0) := by
    rw [val_main_v10_apply, ← v9_eq a ha b s]
    refine congrArg _ (funext fun c => ?_)
    match c with
    | ⟨0, _⟩ => rfl
    | ⟨1, _⟩ => rfl
  rw [val_main_v21_apply, ei]
  unfold val_main_v11
  rw [gather_apply]
  have hh := h.isLt
  rw [tab_eq x _ h l ⟨(rowW a (ix3 b s 0)).toNat * 2 + h.val, by omega⟩ (by
    dsimp only
    rw [ew, BitVec.toInt_eq_toNat_of_lt (by omega), Int.toNat_natCast, Nat.min_eq_left (by omega)])]
  unfold gath
  refine congrArg (fun R => tabOf x (ix2 R l)) (Fin.ext ?_)
  show (ixOf a (ix1 j)).toNat % 1310720 = _
  rw [en]
  exact Nat.mod_eq_of_lt (by omega)

/-- The two caches are read alike. -/
theorem v22_eq (x : S1x5120x128x2x128.Idx → Elt F .f32) (a : S32x256x128.Idx → Elt F .f32) : val_main_v22 (F := F) x a = val_main_v21 (F := F) x a := rfl

end Cert.Proof.Gather

end
-- ==== Proof.Gather.Claim.lean ====
/-
  The claims of the row gather: it ends well, and both of its results are the reference's, over the extended reals and
  bit for bit.
-/
module

public import proofs.«01_k».proof.Defs
public import proofs.«01_k».proof.Proof.Gather.Value
public import proofs.«01_k».proof.Proof.Gen.GatherIdeal
public import proofs.«01_k».proof.Proof.Gen.GatherIdeal.Skeleton
public import proofs.«01_k».proof.Proof.Gen.Gather
public import proofs.«01_k».proof.Proof.Gen.GatherRef
public import proofs.«01_k».proof.Proof.Gen.GatherRef.Run
public import proofs.«01_k».proof.Proof.Gen.GatherRef.Read
public import proofs.«01_k».proof.Proof.Gen.GatherRefIdeal
public import proofs.«01_k».proof.Proof.Gen.GatherRefIdeal.Run
public import proofs.«01_k».proof.Proof.Gen.GatherRefIdeal.Read
public import proofs.«01_k».proof.Proof.Gen.Pre_rows_in_cache

@[expose] public section

noncomputable section

open Idealize.ShloMosaic Idealize.ShloMosaic.TcCoe Idealize.SL.Sem

namespace Cert.Proof.Gather

/-- The two programs' body tables are one. -/
theorem bodies_eq : Cert.Gather.defs₀ (F := Bits) = Cert.GatherIdeal.defs₀ := rfl

/-- With the launch's own bodies the same holds. -/
theorem defs_eq : Cert.Gather.defs (F := Bits) = Cert.GatherIdeal.defs := by
  unfold Cert.Gather.defs Cert.GatherIdeal.defs
  exact congrArg (fun D => Cert.Gather.sc.defs (Pipeline.defs Cert.Gather.pcfgs D)) bodies_eq

/-- The threads' programs are one. -/
theorem threads_eq : Cert.Gather.threads (F := Bits) = Cert.GatherIdeal.threads := rfl

variable {F : FTy → Type} [FloatOps F]

/-- The run, with the results in the reference's words. -/
theorem run [∀ e, Nonempty (Elt F e)] (m : (ℓ : Loc Cert.GatherIdeal.nD Cert.GatherIdeal.τ Cert.GatherIdeal.sig) → Buf (Elt F) ℓ) (ρ : Dev Cert.GatherIdeal.nD → PrngReg) (h : ∀ d, Named (m (a2 d))) :
    θ_run (Cert.GatherIdeal.defs (F := F)) (Cert.GatherIdeal.threads (F := F)) ⟨m, fun _ => 0, ρ⟩ (fun r => (∀ c : Dev Cert.GatherIdeal.nD,
      r.2.mem (xLoc c) = Cert.GatherRefIdeal.Read.val_main_v21 (F := F) (m (a0 c)) (m (a2 c)) ∧ r.2.mem (yLoc c) = Cert.GatherRefIdeal.Read.val_main_v21 (F := F) (m (a1 c)) (m (a2 c))
        ∧ r.2.mem (a0 c) = m (a0 c) ∧ r.2.mem (a1 c) = m (a1 c) ∧ r.2.mem (a2 c) = m (a2 c)) ∧ r.2.sem = fun _ => 0) :=
  (θ_run _ _ _).mono (fun r hr => ⟨fun c => ⟨(hr.1 c).1.trans (value_eq (m (a0 c)) (m (a2 c)) (h c)), (hr.1 c).2.1.trans (value_eq (m (a1 c)) (m (a2 c)) (h c)), (hr.1 c).2.2⟩, hr.2⟩)
    (run_main m ρ (ok m h))

/-- The kernel as given terminates, leaves its arguments and ends with every counter at zero: the two programs have one text. -/
theorem frame_kernel : Cert.quiescent_Gather := fun m ρ hp => by
  rw [defs_eq, threads_eq]
  exact (θ_run _ _ _).mono (fun r hr => ⟨fun c => (hr.1 c).2.2, hr.2⟩) (run (F := Bits) m ρ fun d => named_of_pre _ _ _ (hp d))

/-- The same of the kernel over the extended reals. -/
theorem frame_ideal : Cert.quiescent_GatherIdeal := fun m ρ hp =>
  (θ_run _ _ _).mono (fun r hr => ⟨fun c => (hr.1 c).2.2, hr.2⟩) (run (F := Ideal) m ρ fun d => named_of_pre _ _ _ (hp d))

/-- The reference terminates, leaves its arguments, and has no semaphore. -/
theorem frame_reference : Cert.quiescent_GatherRefIdeal := fun m ρ _ =>
  (θ_run Cert.GatherRefIdeal.defs _ _).mono (fun r h => ⟨fun c => (h c).2.2, sem_eq_zero_of_no_sems (by decide) r.2⟩)
    (Cert.GatherRefIdeal.Value.run m ρ)

/-- The same, of the arguments whose rows are in the cache. -/
theorem frame_reference_pre : Cert.quiescent_GatherRefIdeal_pre_rows_in_cache := fun m ρ _ => frame_reference m ρ trivial

/-- The same of the reference on bits. -/
theorem frame_reference_bits : Cert.quiescent_GatherRef := fun m ρ _ =>
  (θ_run Cert.GatherRef.defs _ _).mono (fun r h => ⟨fun c => (h c).2.2, sem_eq_zero_of_no_sems (by decide) r.2⟩)
    (Cert.GatherRef.Value.run m ρ)

/-- Over the extended reals both results are the reference's. -/
theorem value : Cert.algebraic_GatherIdeal_GatherRefIdeal := fun m ρ m' ρ' hp hm =>
  ⟨fun c => Cert.GatherRefIdeal.Read.val_main_v21 (F := Ideal) (m (a0 c)) (m (a2 c)), fun c => Cert.GatherRefIdeal.Read.val_main_v21 (F := Ideal) (m (a1 c)) (m (a2 c)),
    (θ_run _ _ _).mono (fun r hr => hr.1) (run (F := Ideal) m ρ fun d => named_of_pre _ _ _ (hp d)),
    (θ_run Cert.GatherRefIdeal.defs _ _).mono (fun r h c => ⟨(h c).1.trans (congrArg₂ (fun x y => Cert.GatherRefIdeal.Read.val_main_v21 (F := Ideal) x y) (hm c).1 (hm c).2.2),
      (h c).2.1.trans (congrArg₂ (fun x y => Cert.GatherRefIdeal.Read.val_main_v22 (F := Ideal) x y) (hm c).2.1 (hm c).2.2), (h c).2.2⟩)
      (Cert.GatherRefIdeal.Value.run m' ρ')⟩

/-- Bit for bit both results are the reference's. -/
theorem bits : Cert.bitexact_Gather_GatherRef := fun m ρ m' ρ' hp hm =>
  ⟨fun c => Cert.GatherRefIdeal.Read.val_main_v21 (F := Bits) (m (a0 c)) (m (a2 c)), fun c => Cert.GatherRefIdeal.Read.val_main_v21 (F := Bits) (m (a1 c)) (m (a2 c)),
    (by
      rw [defs_eq, threads_eq]
      exact (θ_run _ _ _).mono (fun r hr => hr.1) (run (F := Bits) m ρ fun d => named_of_pre _ _ _ (hp d))),
    (θ_run Cert.GatherRef.defs _ _).mono (fun r h c => ⟨(h c).1.trans (congrArg₂ (fun x y => Cert.GatherRefIdeal.Read.val_main_v21 (F := Bits) x y) (hm c).1 (hm c).2.2),
      (h c).2.1.trans (congrArg₂ (fun x y => Cert.GatherRefIdeal.Read.val_main_v22 (F := Bits) x y) (hm c).2.1 (hm c).2.2), (h c).2.2⟩)
      (Cert.GatherRef.Value.run m' ρ')⟩

end Cert.Proof.Gather

end
-- ==== Proof.Small.Body.lean ====
/-
  One grid point of the projection onto the short parts (keys, values and the gates): its rows normalised, times the
  gathered weight rows, the keys and the values of the two heads stored to alternate rows. From it the run of the whole
  program and its frame.
-/
module

public import proofs.«01_k».proof.Proof.Gen.SmallIdeal.Frame
public import proofs.«01_k».proof.Proof.Gen.SmallIdeal.Skeleton
public import Idealize.ShloMosaic.Lib.Claim
public import Idealize.ShloMosaic.Lib.Pointwise
public import Idealize.ShloMosaic.Lib.Pipeline.ValueKit.Geometry

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.SmallIdeal.Value

open Cert.SmallIdeal Cert.SmallIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- Every second row of a block of keys or values, from row `0`: where the first head's rows are stored. -/
def evenRows : Rect S2048x128 := ⟨(⟨![0, 0], S1024x128.size, ![2, 1], inb_S2048x128_S1024x128_0_0_s_2_1⟩ : LoadRect S2048x128), spos_2_1⟩

/-- Every second row from row `1`: where the second head's rows are stored. -/
def oddRows : Rect S2048x128 := ⟨(⟨![1, 0], S1024x128.size, ![2, 1], inb_S2048x128_S1024x128_1_0_s_2_1⟩ : LoadRect S2048x128), spos_2_1⟩

theorem half_lt (y : S2048x128.Idx) : (y 0).val / 2 < 1024 := by
  have h : (y 0).val < 2048 := (y 0).isLt
  omega

/-- Two blocks of rows laid out alternately: row `2 r` is row `r` of the first, row `2 r + 1` row `r` of the second. -/
def woven (p q : Vec F S1024x128 .f32) : Vec F S2048x128 .f32 := fun y =>
  if (y 0).val % 2 = 0 then p (ix2 ⟨(y 0).val / 2, half_lt y⟩ (y 1)) else q (ix2 ⟨(y 0).val / 2, half_lt y⟩ (y 1))

theorem even_emb (x : S1024x128.Idx) : (evenRows.emb x 0).val = 2 * (x 0).val ∧ (evenRows.emb x 1).val = (x 1).val := by
  constructor
  · show 0 + 2 * (x 0).val = _; omega
  · show 0 + 1 * (x 1).val = _; omega

theorem odd_emb (x : S1024x128.Idx) : (oddRows.emb x 0).val = 2 * (x 0).val + 1 ∧ (oddRows.emb x 1).val = (x 1).val := by
  constructor
  · show 1 + 2 * (x 0).val = _; omega
  · show 0 + 1 * (x 1).val = _; omega

/-- The two sets of rows make up the block. -/
theorem rows_cover (p q : Vec F S1024x128 .f32) (y : S2048x128.Idx) :
    ∃ pc ∈ ([⟨oddRows, q⟩, ⟨evenRows, p⟩] : List (View.Piece (Elt F) S2048x128 .f32)), y ∈ pc.1.set := by
  by_cases hy : (y 0).val % 2 = 0
  · refine ⟨_, List.mem_cons_of_mem _ (List.mem_singleton_self _), ?_⟩
    have e : evenRows.emb (ix2 ⟨(y 0).val / 2, half_lt y⟩ (y 1)) = y := by
      funext a
      apply Fin.ext
      match a with
      | ⟨0, _⟩ => show 0 + 2 * ((y 0).val / 2) = (y 0).val; omega
      | ⟨1, _⟩ => show 0 + 1 * (y 1).val = (y 1).val; omega
    rw [← e]
    exact LoadRect.idx_mem _ _
  · refine ⟨_, List.mem_cons_self, ?_⟩
    have e : oddRows.emb (ix2 ⟨(y 0).val / 2, half_lt y⟩ (y 1)) = y := by
      funext a
      apply Fin.ext
      match a with
      | ⟨0, _⟩ => show 1 + 2 * ((y 0).val / 2) = (y 0).val; omega
      | ⟨1, _⟩ => show 0 + 1 * (y 1).val = (y 1).val; omega
    rw [← e]
    exact LoadRect.idx_mem _ _

/-- A buffer written on its even and on its odd rows holds the two woven, whatever it held before. -/
theorem read_woven {sp : Space} (v : View sig .tc sp S2048x128 .f32) (f : v.ty.Contents (Elt F)) (p q : Vec F S1024x128 .f32) :
    v.read (Elt F) (v.writes (Elt F) f [⟨oddRows, q⟩, ⟨evenRows, p⟩]) = woven p q := by
  rw [View.read_writes_eq_canon v f _ (rows_cover p q)]
  funext y
  refine View.canon_apply_of_pieces (woven p q) _ (fun pc hpc => ?_) y (rows_cover p q y)
  rcases List.mem_cons.1 hpc with rfl | h
  · intro (x : S1024x128.Idx)
    show q x = woven p q (oddRows.emb x)
    obtain ⟨h0, h1⟩ := odd_emb x
    unfold woven
    rw [if_neg (by omega)]
    congr 1
    funext a
    apply Fin.ext
    match a with
    | ⟨0, _⟩ => show (x 0).val = (oddRows.emb x 0).val / 2; omega
    | ⟨1, _⟩ => exact h1.symm
  · rcases List.mem_singleton.1 h with rfl
    intro (x : S1024x128.Idx)
    show p x = woven p q (evenRows.emb x)
    obtain ⟨h0, h1⟩ := even_emb x
    unfold woven
    rw [if_pos (by omega)]
    congr 1
    funext a
    apply Fin.ext
    match a with
    | ⟨0, _⟩ => show (x 0).val = (evenRows.emb x 0).val / 2; omega
    | ⟨1, _⟩ => exact h1.symm

/-- A block stored whole reads back as what was stored. -/
theorem read_one {sp : Space} (v : View sig .tc sp S1024x128 .f32) (f : v.ty.Contents (Elt F)) (p : Vec F S1024x128 .f32) :
    v.read (Elt F) (v.writes (Elt F) f [⟨Rect.unit (s := S1024x128) ![0, 0] S1024x128.size inb_S1024x128_S1024x128_0_0, p⟩]) = p := by
  have hc : ∀ y : S1024x128.Idx, ∃ pc ∈ ([⟨Rect.unit (s := S1024x128) ![0, 0] S1024x128.size inb_S1024x128_S1024x128_0_0, p⟩] : List (View.Piece (Elt F) S1024x128 .f32)), y ∈ pc.1.set :=
    fun y => ⟨_, List.mem_singleton_self _, View.mem_set_unit_zero (S := S1024x128) hz inb_S1024x128_S1024x128_0_0 y⟩
  rw [View.read_writes_eq_canon v f _ hc]
  exact View.canon_unit_zero (S := S1024x128) hz _ _

set_option maxHeartbeats 1000000 in
/-- The body on whole buffers: it leaves its inputs as they were, the keys' and the values' blocks woven from the two
    heads' rows, and the remaining columns in the last block. -/
theorem body_run (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S640x2048 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S1024x128 .f32) (harg6 : arg6.IsWhole)
    (x0 : Vec F S1024x2048 .f32) (x1 : Vec F S1x2048 .f32) (x2 : Vec F S640x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (woven (k0_pay2 x0 x1 x2) (k0_pay4 x0 x1 x2))
            ∗ owns (c : Thread nD τ) arg5 fullShare (woven (k0_pay3 x0 x1 x2) (k0_pay5 x0 x1 x2))
            ∗ owns (c : Thread nD τ) arg6 fullShare (k0_pay6 x0 x1 x2)) -∗ K ⟨⟩))
      ⊢ wp frame (wpE (defs₀ (F := F)) Variants.none c none) E (cc0_proj_small i arg1 harg1 arg2 harg2 arg3 harg3 arg4 harg4 arg5 harg5 arg6 harg6) K := by
  simp only [cc0_proj_small_eq_skeleton]; unfold cc0_proj_small_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg1.eq_unread hf0; obtain rfl := harg2.eq_unread hf1; obtain rfl := harg3.eq_unread hf2
  sl_exec
  sl_step
  simp only [View.readAt_eq_ld, harg1.read_unread, harg2.read_unread, harg3.read_unread, View.ld_unit_zero (S := S1024x2048) hz, View.ld_unit_zero (S := S1x2048) hz, View.ld_unit_zero (S := S640x2048) hz]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro; exact read_woven _ _ _ _
  isplitl [H4]
  · iexists _; isplitr
    swap; · iexact H4
    ipureintro; exact read_woven _ _ _ _
  iexists _; isplitr
  swap; · iexact H5
  ipureintro; exact read_one _ _ _

/-! ## The program's run -/

/-- What the three output blocks hold after grid point `t`: the keys, the values, the rest. -/
def outK (c : Dev nD) (t : Fin cfg0.N) : Vec F S2048x128 .f32 :=
  woven (k0_pay2 (iblk m c 0 t) (iblk m c 1 t) (iblk m c 2 t)) (k0_pay4 (iblk m c 0 t) (iblk m c 1 t) (iblk m c 2 t))
def outV (c : Dev nD) (t : Fin cfg0.N) : Vec F S2048x128 .f32 :=
  woven (k0_pay3 (iblk m c 0 t) (iblk m c 1 t) (iblk m c 2 t)) (k0_pay5 (iblk m c 0 t) (iblk m c 1 t) (iblk m c 2 t))
def outR (c : Dev nD) (t : Fin cfg0.N) : Vec F S1024x128 .f32 := k0_pay6 (iblk m c 0 t) (iblk m c 1 t) (iblk m c 2 t)

/-- The pipeline's data: the arrays as the host's first lines leave them, each input's block unchanged by the body, the
    three outputs' blocks as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outK m c t
    | ⟨4, _⟩ => outV m c t
    | ⟨5, _⟩ => outR m c t
    | ⟨_ + 6, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outK m c t := by dsimp only [dats]
theorem after_4 (c : Dev nD) (t : Fin cfg0.N) : (dats m 0 c).after 4 t = outV m c t := by dsimp only [dats]
theorem after_5 (c : Dev nD) (t : Fin cfg0.N) : (dats m 0 c).after 5 t = outR m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The six buffers as the body finds them at point `t`, beside the pipeline's invariant and what it owes, -/
def held (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and as it leaves them. -/
def left (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body takes the one to the other at every point. -/
theorem body_point (c : Dev nD) (t : Fin cfg0.N) :
    held m c t ⊢ wp frame (wpE (defs₀ (F := F)) Variants.none c none) Set.univ (bodyAt0 t) (fun _ => left m c t) := by
  unfold held left bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5]
  unfold outK outV outR
  iintro ⟨HΦ, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem row_eq (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, row_eq]
  exact triple_restated (body_point m c t) rfl .rfl fun _ => .rfl

set_option backward.isDefEq.respectTransparency.types false in
set_option maxHeartbeats 800000 in
/-- The whole program runs to the end, from any memory, every pipeline array at what the blocks above make of it, every
    other array as the host's last lines leave it, and no semaphore counter left up. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun _ w => by unfold Dat.share; split <;> rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The frame: the arguments end as they began, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.SmallIdeal.Value
-- ==== Proof.Small.Array.lean ====
/-
  The three arrays the short projection's grid fills, and the four results the host's last lines cut from them.
-/
module

public import proofs.«01_k».proof.Proof.Small.Body

@[expose] public section

set_option maxRecDepth 16384

noncomputable section

open Idealize.ShloMosaic Idealize.ShloMosaic.TcCoe Idealize.SL.Sem
open Idealize.ShloMosaic.Pipeline (Dat)

namespace Cert.SmallIdeal.Value

open Cert.SmallIdeal Cert.SmallIdeal.Gen

variable {F : FTy → Type} [FloatOps F]
variable (m : (ℓ : Loc nD τ sig) → Buf (Elt F) ℓ) (ρ : Dev nD → PrngReg)

/-! ## What the call finds -/

/-- The gathered weight rows: those of the keys, the values, the indexer's keys, its weights, the two gates, then zeros. -/
def gathered (w : Vec F S7768x2048 .f32) : Vec F S640x2048 .f32 :=
  concatenate S640x2048 0 [⟨S256x2048, extractStridedSlice S256x2048 ![1024, 0] w slices_S7768x2048_S256x2048_1024_0⟩,
    ⟨S256x2048, extractStridedSlice S256x2048 ![1280, 0] w slices_S7768x2048_S256x2048_1280_0⟩,
    ⟨S64x2048, extractStridedSlice S64x2048 ![2560, 0] w slices_S7768x2048_S64x2048_2560_0⟩,
    ⟨S16x2048, extractStridedSlice S16x2048 ![2624, 0] w slices_S7768x2048_S16x2048_2624_0⟩,
    ⟨S4x2048, extractStridedSlice S4x2048 ![5712, 0] w slices_S7768x2048_S4x2048_5712_0⟩,
    ⟨S4x2048, extractStridedSlice S4x2048 ![5716, 0] w slices_S7768x2048_S4x2048_5716_0⟩,
    ⟨S40x2048, broadcastInDim S40x2048 ![] bcast_S_S40x2048 (constant S_ .f32 0x00000000#32 : Vec F S_ .f32)⟩]
    concatenates_S256x2048_S256x2048_S64x2048_S16x2048_S4x2048_S4x2048_S40x2048_S640x2048_d0

/-- The gathered rows, as the call finds them. -/
theorem V_w (c : Dev nD) : V m c main_v9
    = gathered (transpose S7768x2048 [1, 0] (shapeCast S2048x7768 (m ((c : Thread nD τ).loc main_arg2)) shapeCasts_S1x2048x7768_S2048x7768 : Vec F S2048x7768 .f32)
        transposes_S2048x7768_S7768x2048_1_0 : Vec F S7768x2048 .f32) := by
  dsimp only [V, V0, hostOps0, List.flatten_cons, List.flatten_nil, List.append_nil, List.cons_append, List.nil_append]; after_results; rfl

/-- The activations, as the call finds them: one row for each position. -/
theorem V_x (c : Dev nD) : V m c main_v10
    = (shapeCast S8192x2048 (m ((c : Thread nD τ).loc main_arg0)) shapeCasts_S2x4096x2048_S8192x2048 : Vec F S8192x2048 .f32) := by
  dsimp only [V, V0, hostOps0, List.flatten_cons, List.flatten_nil, List.append_nil, List.cons_append, List.nil_append]; after_results; rfl

/-- The norm weight, as the call finds it. -/
theorem V_n (c : Dev nD) : V m c main_v12
    = (shapeCast S1x2048 (shapeCast S2048 (m ((c : Thread nD τ).loc main_arg1)) shapeCasts_S1x2048_S2048 : Vec F S2048 .f32) shapeCasts_S2048_S1x2048 : Vec F S1x2048 .f32) := by
  dsimp only [V, V0, hostOps0, List.flatten_cons, List.flatten_nil, List.append_nil, List.cons_append, List.nil_append]; after_results; rfl

/-! ## The blocks the body is given -/

/-- Rows `1024 r …` of the activations. -/
def xBlk (X : Vec F S8192x2048 .f32) (r : Fin 8) : Vec F S1024x2048 .f32 := fun j =>
  X (fun | 0 => ⟨r.val * 1024 + (j 0).val, by have : (j 0).val < 1024 := (j 0).isLt; have := r.isLt; show _ < 8192; omega⟩
         | 1 => ⟨(j 1).val, (j 1).isLt⟩)

theorem coords_eq : ∀ t : Fin grid0.N, (grid0.coords t 0).val = t.val := by decide +kernel

theorem iblk_x (c : Dev nD) (t : Fin grid0.N) : iblk m c 0 t = xBlk (V m c main_v10) (grid0.coords t 0) := by
  refine funext fun (j : S1024x2048.Idx) => ?_
  show V m c main_v10 _ = V m c main_v10 _
  congr 1
  funext a
  apply Fin.ext
  match a with
  | ⟨0, _⟩ => show (BitVec.ofNat 32 (grid0.coords t 0).val).toNat * 1024 + 1 * (j 0).val = (grid0.coords t 0).val * 1024 + (j 0).val
              have : (grid0.coords t 0).val < 8 := (grid0.coords t 0).isLt
              rw [BitVec.toNat_ofNat, Nat.mod_eq_of_lt (by omega)]; omega
  | ⟨1, _⟩ => show 0 * 2048 + 1 * (j 1).val = (j 1).val; omega

theorem iblk_n (c : Dev nD) (t : Fin grid0.N) : iblk m c 1 t = V m c main_v12 := by
  refine funext fun (j : S1x2048.Idx) => ?_
  show V m c main_v12 _ = V m c main_v12 _
  congr 1
  funext a
  apply Fin.ext
  match a with
  | ⟨0, _⟩ => show 0 * 1 + 1 * (j 0).val = (j 0).val; omega
  | ⟨1, _⟩ => show 0 * 2048 + 1 * (j 1).val = (j 1).val; omega

theorem iblk_w (c : Dev nD) (t : Fin grid0.N) : iblk m c 2 t = V m c main_v9 := by
  refine funext fun (j : S640x2048.Idx) => ?_
  show V m c main_v9 _ = V m c main_v9 _
  congr 1
  funext a
  apply Fin.ext
  match a with
  | ⟨0, _⟩ => show 0 * 640 + 1 * (j 0).val = (j 0).val; omega
  | ⟨1, _⟩ => show 0 * 2048 + 1 * (j 1).val = (j 1).val; omega

/-! ## The three arrays -/

/-- The blocks of the keys, of the values and of the rest, of the rows and the weights they are computed from. -/
def keyBlk (x : Vec F S1024x2048 .f32) (n : Vec F S1x2048 .f32) (w : Vec F S640x2048 .f32) : Vec F S2048x128 .f32 :=
  woven (k0_pay2 x n w) (k0_pay4 x n w)
def valBlk (x : Vec F S1024x2048 .f32) (n : Vec F S1x2048 .f32) (w : Vec F S640x2048 .f32) : Vec F S2048x128 .f32 :=
  woven (k0_pay3 x n w) (k0_pay5 x n w)

theorem blk_congr {α : Type} (f : Vec F S1024x2048 .f32 → Vec F S1x2048 .f32 → Vec F S640x2048 .f32 → α)
    {x x' : Vec F S1024x2048 .f32} {n n' : Vec F S1x2048 .f32} {w w' : Vec F S640x2048 .f32} (hx : x = x') (hn : n = n') (hw : w = w') :
    f x n w = f x' n' w' := by subst hx hn hw; rfl

/-- An array of eight blocks of 2048 rows. -/
def stack (f : Fin 8 → Vec F S2048x128 .f32) : Vec F S16384x128 .f32 := fun i =>
  f ⟨(i 0).val / 2048, by have : (i 0).val < 16384 := (i 0).isLt; omega⟩
    (fun | 0 => ⟨(i 0).val % 2048, Nat.mod_lt _ (by decide)⟩ | 1 => ⟨(i 1).val, (i 1).isLt⟩)

/-- An array of eight blocks of 1024 rows. -/
def stackR (f : Fin 8 → Vec F S1024x128 .f32) : Vec F S8192x128 .f32 := fun i =>
  f ⟨(i 0).val / 1024, by have : (i 0).val < 8192 := (i 0).isLt; omega⟩
    (fun | 0 => ⟨(i 0).val % 1024, Nat.mod_lt _ (by decide)⟩ | 1 => ⟨(i 1).val, (i 1).isLt⟩)

theorem stack_at (f : Fin 8 → Vec F S2048x128 .f32) (r : Fin 8) (j : S2048x128.Idx) (i : S16384x128.Idx)
    (e0 : (i 0).val = r.val * 2048 + (j 0).val) (e1 : (i 1).val = (j 1).val) : f r j = stack f i := by
  have h0 : (j 0).val < 2048 := (j 0).isLt
  unfold stack
  have c0 : (⟨(i 0).val / 2048, by have := r.isLt; omega⟩ : Fin 8) = r := by
    apply Fin.ext; show _ / 2048 = _; omega
  rw [c0]
  congr 1
  funext a
  apply Fin.ext
  match a with
  | ⟨0, _⟩ => show (j 0).val = (i 0).val % 2048; omega
  | ⟨1, _⟩ => show (j 1).val = (i 1).val; omega

theorem stackR_at (f : Fin 8 → Vec F S1024x128 .f32) (r : Fin 8) (j : S1024x128.Idx) (i : S8192x128.Idx)
    (e0 : (i 0).val = r.val * 1024 + (j 0).val) (e1 : (i 1).val = (j 1).val) : f r j = stackR f i := by
  have h0 : (j 0).val < 1024 := (j 0).isLt
  unfold stackR
  have c0 : (⟨(i 0).val / 1024, by have := r.isLt; omega⟩ : Fin 8) = r := by
    apply Fin.ext; show _ / 1024 = _; omega
  rw [c0]
  congr 1
  funext a
  apply Fin.ext
  match a with
  | ⟨0, _⟩ => show (j 0).val = (i 0).val % 1024; omega
  | ⟨1, _⟩ => show (j 1).val = (i 1).val; omega

/-- The keys' array, the values' and the rest's, of what the call finds. -/
def keys (X : Vec F S8192x2048 .f32) (N : Vec F S1x2048 .f32) (W : Vec F S640x2048 .f32) : Vec F S16384x128 .f32 :=
  stack fun r => keyBlk (xBlk X r) N W
def vals (X : Vec F S8192x2048 .f32) (N : Vec F S1x2048 .f32) (W : Vec F S640x2048 .f32) : Vec F S16384x128 .f32 :=
  stack fun r => valBlk (xBlk X r) N W
def rest (X : Vec F S8192x2048 .f32) (N : Vec F S1x2048 .f32) (W : Vec F S640x2048 .f32) : Vec F S8192x128 .f32 :=
  stackR fun r => k0_pay6 (xBlk X r) N W

theorem idx3 : ∀ t : Fin grid0.N, cc0_transform_3 (grid0.coords t) 0 = t.val ∧ cc0_transform_3 (grid0.coords t) 1 = 0 := by
  decide +kernel
theorem idx4 : ∀ t : Fin grid0.N, cc0_transform_4 (grid0.coords t) 0 = t.val ∧ cc0_transform_4 (grid0.coords t) 1 = 0 := by
  decide +kernel
theorem idx5 : ∀ t : Fin grid0.N, cc0_transform_5 (grid0.coords t) 0 = t.val ∧ cc0_transform_5 (grid0.coords t) 1 = 0 := by
  decide +kernel

/-- The keys' array ends whole. -/
theorem final_k (c : Dev nD) : (dats m 0 c).arrAt 3 cfg0.N = keys (V m c main_v10) (V m c main_v12) (V m c main_v9) := by
  refine (dats m 0 c).arrAt_eq_of_covers 3 _ (by decide +kernel) fun t hf => ?_
  refine fun (j : S2048x128.Idx) => ?_
  show (dats m 0 c).after 3 t j = _
  rw [after_3]
  refine (congrFun (blk_congr keyBlk (iblk_x m c t) (iblk_n m c t) (iblk_w m c t)) j).trans ?_
  refine stack_at (fun r => keyBlk (xBlk (V m c main_v10) r) (V m c main_v12) (V m c main_v9)) (grid0.coords t 0) j _ ?_ ?_
  · show cc0_transform_3 (grid0.coords t) 0 * 2048 + 1 * (j 0).val = (grid0.coords t 0).val * 2048 + (j 0).val
    rw [(idx3 t).1, coords_eq t]; omega
  · show cc0_transform_3 (grid0.coords t) 1 * 128 + 1 * (j 1).val = (j 1).val
    rw [(idx3 t).2]; omega

/-- The values' array ends whole. -/
theorem final_v (c : Dev nD) : (dats m 0 c).arrAt 4 cfg0.N = vals (V m c main_v10) (V m c main_v12) (V m c main_v9) := by
  refine (dats m 0 c).arrAt_eq_of_covers 4 _ (by decide +kernel) fun t hf => ?_
  refine fun (j : S2048x128.Idx) => ?_
  show (dats m 0 c).after 4 t j = _
  rw [after_4]
  refine (congrFun (blk_congr valBlk (iblk_x m c t) (iblk_n m c t) (iblk_w m c t)) j).trans ?_
  refine stack_at (fun r => valBlk (xBlk (V m c main_v10) r) (V m c main_v12) (V m c main_v9)) (grid0.coords t 0) j _ ?_ ?_
  · show cc0_transform_4 (grid0.coords t) 0 * 2048 + 1 * (j 0).val = (grid0.coords t 0).val * 2048 + (j 0).val
    rw [(idx4 t).1, coords_eq t]; omega
  · show cc0_transform_4 (grid0.coords t) 1 * 128 + 1 * (j 1).val = (j 1).val
    rw [(idx4 t).2]; omega

/-- The rest's array ends whole. -/
theorem final_r (c : Dev nD) : (dats m 0 c).arrAt 5 cfg0.N = rest (V m c main_v10) (V m c main_v12) (V m c main_v9) := by
  refine (dats m 0 c).arrAt_eq_of_covers 5 _ (by decide +kernel) fun t hf => ?_
  refine fun (j : S1024x128.Idx) => ?_
  show (dats m 0 c).after 5 t j = _
  rw [after_5]
  refine (congrFun (blk_congr k0_pay6 (iblk_x m c t) (iblk_n m c t) (iblk_w m c t)) j).trans ?_
  refine stackR_at (fun r => k0_pay6 (xBlk (V m c main_v10) r) (V m c main_v12) (V m c main_v9)) (grid0.coords t 0) j _ ?_ ?_
  · show cc0_transform_5 (grid0.coords t) 0 * 1024 + 1 * (j 0).val = (grid0.coords t 0).val * 1024 + (j 0).val
    rw [(idx5 t).1, coords_eq t]; omega
  · show cc0_transform_5 (grid0.coords t) 1 * 128 + 1 * (j 1).val = (j 1).val
    rw [(idx5 t).2]; omega

/-! ## The four results -/

theorem arr_inj : Function.Injective (Pipeline.arrRef spec0) := by decide

/-- The keys of every position, by head. -/
theorem tail_k (c : Dev nD) : Pipeline.afterTail₀ cfgs (dats m) 0 (V0 m) [hostOps1] c main_v14
    = (shapeCast S1x2x4096x2x128 (keys (V m c main_v10) (V m c main_v12) (V m c main_v9)) shapeCasts_S16384x128_S1x2x4096x2x128 : Vec F S1x2x4096x2x128 .f32) := by
  unfold Pipeline.afterTail₀
  dsimp only [hostOps1, List.flatten_cons, List.flatten_nil, List.append_nil, List.cons_append, List.nil_append]
  after_results
  exact congrArg (fun x : Vec F S16384x128 .f32 => (shapeCast S1x2x4096x2x128 x shapeCasts_S16384x128_S1x2x4096x2x128 : Vec F S1x2x4096x2x128 .f32))
    ((Pipeline.withArrays_arr spec0 arr_inj c (V0 m c) (fun w => (dats m 0 c).arrAt w cfg0.N) 3).trans (final_k m c))

/-- The values of every position, by head. -/
theorem tail_v (c : Dev nD) : Pipeline.afterTail₀ cfgs (dats m) 0 (V0 m) [hostOps1] c main_v15
    = (shapeCast S1x2x4096x2x128 (vals (V m c main_v10) (V m c main_v12) (V m c main_v9)) shapeCasts_S16384x128_S1x2x4096x2x128 : Vec F S1x2x4096x2x128 .f32) := by
  unfold Pipeline.afterTail₀
  dsimp only [hostOps1, List.flatten_cons, List.flatten_nil, List.append_nil, List.cons_append, List.nil_append]
  after_results
  exact congrArg (fun x : Vec F S16384x128 .f32 => (shapeCast S1x2x4096x2x128 x shapeCasts_S16384x128_S1x2x4096x2x128 : Vec F S1x2x4096x2x128 .f32))
    ((Pipeline.withArrays_arr spec0 arr_inj c (V0 m c) (fun w => (dats m 0 c).arrAt w cfg0.N) 4).trans (final_v m c))

/-- The indexer's keys of every position. -/
theorem tail_i (c : Dev nD) : Pipeline.afterTail₀ cfgs (dats m) 0 (V0 m) [hostOps1] c main_v17
    = (shapeCast S1x2x4096x64 (extractStridedSlice S8192x64 ![0, 0] (rest (V m c main_v10) (V m c main_v12) (V m c main_v9)) slices_S8192x128_S8192x64_0_0 : Vec F S8192x64 .f32)
        shapeCasts_S8192x64_S1x2x4096x64 : Vec F S1x2x4096x64 .f32) := by
  unfold Pipeline.afterTail₀
  dsimp only [hostOps1, List.flatten_cons, List.flatten_nil, List.append_nil, List.cons_append, List.nil_append]
  after_results
  exact congrArg (fun x : Vec F S8192x128 .f32 => (shapeCast S1x2x4096x64 (extractStridedSlice S8192x64 ![0, 0] x slices_S8192x128_S8192x64_0_0 : Vec F S8192x64 .f32) shapeCasts_S8192x64_S1x2x4096x64 : Vec F S1x2x4096x64 .f32))
    ((Pipeline.withArrays_arr spec0 arr_inj c (V0 m c) (fun w => (dats m 0 c).arrAt w cfg0.N) 5).trans (final_r m c))

/-- The indexer's weights and the two gates of every position. -/
theorem tail_g (c : Dev nD) : Pipeline.afterTail₀ cfgs (dats m) 0 (V0 m) [hostOps1] c main_v19
    = (shapeCast S2x4096x24 (extractStridedSlice S8192x24 ![0, 64] (rest (V m c main_v10) (V m c main_v12) (V m c main_v9)) slices_S8192x128_S8192x24_0_64 : Vec F S8192x24 .f32)
        shapeCasts_S8192x24_S2x4096x24 : Vec F S2x4096x24 .f32) := by
  unfold Pipeline.afterTail₀
  dsimp only [hostOps1, List.flatten_cons, List.flatten_nil, List.append_nil, List.cons_append, List.nil_append]
  after_results
  exact congrArg (fun x : Vec F S8192x128 .f32 => (shapeCast S2x4096x24 (extractStridedSlice S8192x24 ![0, 64] x slices_S8192x128_S8192x24_0_64 : Vec F S8192x24 .f32) shapeCasts_S8192x24_S2x4096x24 : Vec F S2x4096x24 .f32))
    ((Pipeline.withArrays_arr spec0 arr_inj c (V0 m c) (fun w => (dats m 0 c).arrAt w cfg0.N) 5).trans (final_r m c))

/-- The results, of what the call finds. -/
abbrev resK (c : Dev nD) : Buf (Elt F) ((c : Thread nD τ).loc main_v14) :=
  (shapeCast S1x2x4096x2x128 (keys (V m c main_v10) (V m c main_v12) (V m c main_v9)) shapeCasts_S16384x128_S1x2x4096x2x128 : Vec F S1x2x4096x2x128 .f32)
abbrev resV (c : Dev nD) : Buf (Elt F) ((c : Thread nD τ).loc main_v15) :=
  (shapeCast S1x2x4096x2x128 (vals (V m c main_v10) (V m c main_v12) (V m c main_v9)) shapeCasts_S16384x128_S1x2x4096x2x128 : Vec F S1x2x4096x2x128 .f32)
abbrev resI (c : Dev nD) : Buf (Elt F) ((c : Thread nD τ).loc main_v17) :=
  (shapeCast S1x2x4096x64 (extractStridedSlice S8192x64 ![0, 0] (rest (V m c main_v10) (V m c main_v12) (V m c main_v9)) slices_S8192x128_S8192x64_0_0 : Vec F S8192x64 .f32)
    shapeCasts_S8192x64_S1x2x4096x64 : Vec F S1x2x4096x64 .f32)
abbrev resG (c : Dev nD) : Buf (Elt F) ((c : Thread nD τ).loc main_v19) :=
  (shapeCast S2x4096x24 (extractStridedSlice S8192x24 ![0, 64] (rest (V m c main_v10) (V m c main_v12) (V m c main_v9)) slices_S8192x128_S8192x24_0_64 : Vec F S8192x24 .f32)
    shapeCasts_S8192x24_S2x4096x24 : Vec F S2x4096x24 .f32)

/-- The run, read: the four results at those functions of what the call finds, the arguments unchanged. -/
theorem run_out : θ_run defs (onTc (τ := τ) (main (F := F))) ⟨m, fun _ => 0, ρ⟩ fun r => ∀ c : Dev nD,
      r.2.mem ((c : Thread nD τ).loc main_v14) = resK m c
      ∧ r.2.mem ((c : Thread nD τ).loc main_v15) = resV m c
      ∧ r.2.mem ((c : Thread nD τ).loc main_v17) = resI m c
      ∧ r.2.mem ((c : Thread nD τ).loc main_v19) = resG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h.1 c).2 main_v14 (Pipeline.mem_restRefs_of main_v14 (by decide) (by decide))).trans (tail_k m c),
      ((h.1 c).2 main_v15 (Pipeline.mem_restRefs_of main_v15 (by decide) (by decide))).trans (tail_v m c),
      ((h.1 c).2 main_v17 (Pipeline.mem_restRefs_of main_v17 (by decide) (by decide))).trans (tail_i m c),
      ((h.1 c).2 main_v19 (Pipeline.mem_restRefs_of main_v19 (by decide) (by decide))).trans (tail_g m c),
      h.2 c⟩) (θ_run_and (run_main m ρ) (frame_of m ρ (dats m) (A_eq m) (run_main m ρ)))

end Cert.SmallIdeal.Value
-- ==== Proof.Small.Value.lean ====
/-
  The short projection over the extended reals, element by element, and the reference's.
-/
module

public import proofs.«01_k».proof.Proof.Small.Array
public import proofs.«01_k».proof.Proof.Main.Arith
public import proofs.«01_k».proof.Proof.Gen.SmallRefIdeal.Read
public import Idealize.ShloMosaic.Lib.Pointwise

@[expose] public section

noncomputable section

open Idealize.ShloMosaic Idealize.ShloMosaic.TcCoe Idealize.SL.Sem

namespace Cert.SmallIdeal.Value

open Cert.SmallIdeal Cert.SmallIdeal.Gen Cert.Rms

/-- One element of the projection: a normalised row against a weight row. -/
def proj (x n w : Fin 2048 → EReal) : EReal := ∑ k : Fin 2048, x k * rn x * n k * w k

theorem pay1_apply (x : Vec Ideal S1024x2048 .f32) (n : Vec Ideal S1x2048 .f32) (w : Vec Ideal S640x2048 .f32) (p : Fin 1024) (q : Fin 640) :
    k0_pay1 (F := Ideal) x n w (ix2 p q) = proj (fun k => x (ix2 p k)) (fun k => n (ix2 0 k)) (fun k => w (ix2 q k)) := by
  pointwise [k0_pay1, rn, proj]

theorem pay2_apply (x : Vec Ideal S1024x2048 .f32) (n : Vec Ideal S1x2048 .f32) (w : Vec Ideal S640x2048 .f32) (p : Fin 1024) (q : Fin 128) :
    k0_pay2 (F := Ideal) x n w (ix2 p q) = k0_pay1 (F := Ideal) x n w (ix2 p ⟨q.val, by omega⟩) := by
  unfold k0_pay2; generalize k0_pay1 (F := Ideal) x n w = y; pointwise []
theorem pay3_apply (x : Vec Ideal S1024x2048 .f32) (n : Vec Ideal S1x2048 .f32) (w : Vec Ideal S640x2048 .f32) (p : Fin 1024) (q : Fin 128) :
    k0_pay3 (F := Ideal) x n w (ix2 p q) = k0_pay1 (F := Ideal) x n w (ix2 p ⟨256 + q.val, by omega⟩) := by
  unfold k0_pay3; generalize k0_pay1 (F := Ideal) x n w = y; pointwise []
theorem pay4_apply (x : Vec Ideal S1024x2048 .f32) (n : Vec Ideal S1x2048 .f32) (w : Vec Ideal S640x2048 .f32) (p : Fin 1024) (q : Fin 128) :
    k0_pay4 (F := Ideal) x n w (ix2 p q) = k0_pay1 (F := Ideal) x n w (ix2 p ⟨128 + q.val, by omega⟩) := by
  unfold k0_pay4; generalize k0_pay1 (F := Ideal) x n w = y; pointwise []
theorem pay5_apply (x : Vec Ideal S1024x2048 .f32) (n : Vec Ideal S1x2048 .f32) (w : Vec Ideal S640x2048 .f32) (p : Fin 1024) (q : Fin 128) :
    k0_pay5 (F := Ideal) x n w (ix2 p q) = k0_pay1 (F := Ideal) x n w (ix2 p ⟨384 + q.val, by omega⟩) := by
  unfold k0_pay5; generalize k0_pay1 (F := Ideal) x n w = y; pointwise []
theorem pay6_apply (x : Vec Ideal S1024x2048 .f32) (n : Vec Ideal S1x2048 .f32) (w : Vec Ideal S640x2048 .f32) (p : Fin 1024) (q : Fin 128) :
    k0_pay6 (F := Ideal) x n w (ix2 p q) = k0_pay1 (F := Ideal) x n w (ix2 p ⟨512 + q.val, by omega⟩) := by
  unfold k0_pay6; generalize k0_pay1 (F := Ideal) x n w = y; pointwise []

/-- Of two blocks woven, row `2 p + h` is row `p` of the first (`h = 0`) or of the second (`h = 1`). -/
theorem woven_apply (a b : Vec Ideal S1024x128 .f32) (p : Fin 1024) (h : Fin 2) (q : Fin 128) (r : Fin 2048) (hr : r.val = 2 * p.val + h.val) :
    woven a b (ix2 r q) = if h.val = 0 then a (ix2 p q) else b (ix2 p q) := by
  have hh := h.isLt
  have e : (⟨r.val / 2, by omega⟩ : Fin 1024) = p := Fin.ext (by show r.val / 2 = p.val; omega)
  unfold woven
  show (if r.val % 2 = 0 then a (ix2 ⟨r.val / 2, _⟩ q) else b (ix2 ⟨r.val / 2, _⟩ q)) = _
  rw [e]
  by_cases h0 : h.val = 0
  · rw [if_pos (by omega), if_pos h0]
  · rw [if_neg (by omega), if_neg h0]

theorem xBlk_apply (X : Vec Ideal S8192x2048 .f32) (r : Fin 8) (p : Fin 1024) (k : Fin 2048) (R : Fin 8192) (hR : R.val = r.val * 1024 + p.val) :
    xBlk X r (ix2 p k) = X (ix2 R k) := by
  unfold xBlk
  congr 1
  funext a
  apply Fin.ext
  match a with
  | ⟨0, _⟩ => exact hR.symm
  | ⟨1, _⟩ => rfl

variable (X : Vec Ideal S8192x2048 .f32) (N : Vec Ideal S1x2048 .f32) (W : Vec Ideal S640x2048 .f32)

/-- Row `R` of the product against gathered row `q`. -/
theorem blk_apply (r : Fin 8) (p : Fin 1024) (q : Fin 640) (R : Fin 8192) (hR : R.val = r.val * 1024 + p.val) :
    k0_pay1 (F := Ideal) (xBlk X r) N W (ix2 p q) = proj (fun k => X (ix2 R k)) (fun k => N (ix2 0 k)) (fun k => W (ix2 q k)) := by
  rw [pay1_apply]
  simp only [fun k => xBlk_apply X r p k R hR]

/-- The keys' array: row `2 R + h` is position `R`'s key of head `h`. -/
theorem keys_apply (R : Fin 8192) (h : Fin 2) (d : Fin 128) (r : Fin 16384) (hr : r.val = 2 * R.val + h.val) :
    keys (F := Ideal) X N W (ix2 r d)
      = proj (fun k => X (ix2 R k)) (fun k => N (ix2 0 k)) (fun k => W (ix2 ⟨h.val * 128 + d.val, by omega⟩ k)) := by
  have hh := h.isLt
  have hR := R.isLt
  unfold keys
  rw [← stack_at _ ⟨r.val / 2048, by omega⟩ (ix2 ⟨r.val % 2048, by omega⟩ d) (ix2 r d)
    (by show r.val = r.val / 2048 * 2048 + r.val % 2048; omega) rfl]
  unfold keyBlk
  rw [woven_apply _ _ ⟨R.val % 1024, by omega⟩ h d _ (by show r.val % 2048 = 2 * (R.val % 1024) + h.val; omega), pay2_apply, pay4_apply,
    blk_apply X N W _ _ _ R (by show R.val = r.val / 2048 * 1024 + R.val % 1024; omega),
    blk_apply X N W _ _ _ R (by show R.val = r.val / 2048 * 1024 + R.val % 1024; omega)]
  split
  · rename_i h0
    have e : (⟨h.val * 128 + d.val, by omega⟩ : Fin 640) = ⟨d.val, by omega⟩ := Fin.ext (by show h.val * 128 + d.val = d.val; omega)
    rw [e]
  · rename_i h0
    have e : (⟨h.val * 128 + d.val, by omega⟩ : Fin 640) = ⟨128 + d.val, by omega⟩ := Fin.ext (by show h.val * 128 + d.val = 128 + d.val; omega)
    rw [e]

/-- The values' array likewise. -/
theorem vals_apply (R : Fin 8192) (h : Fin 2) (d : Fin 128) (r : Fin 16384) (hr : r.val = 2 * R.val + h.val) :
    vals (F := Ideal) X N W (ix2 r d)
      = proj (fun k => X (ix2 R k)) (fun k => N (ix2 0 k)) (fun k => W (ix2 ⟨256 + (h.val * 128 + d.val), by omega⟩ k)) := by
  have hh := h.isLt
  have hR := R.isLt
  unfold vals
  rw [← stack_at _ ⟨r.val / 2048, by omega⟩ (ix2 ⟨r.val % 2048, by omega⟩ d) (ix2 r d)
    (by show r.val = r.val / 2048 * 2048 + r.val % 2048; omega) rfl]
  unfold valBlk
  rw [woven_apply _ _ ⟨R.val % 1024, by omega⟩ h d _ (by show r.val % 2048 = 2 * (R.val % 1024) + h.val; omega), pay3_apply, pay5_apply,
    blk_apply X N W _ _ _ R (by show R.val = r.val / 2048 * 1024 + R.val % 1024; omega),
    blk_apply X N W _ _ _ R (by show R.val = r.val / 2048 * 1024 + R.val % 1024; omega)]
  split
  · rename_i h0
    have e : (⟨256 + (h.val * 128 + d.val), by omega⟩ : Fin 640) = ⟨256 + d.val, by omega⟩ := Fin.ext (by show 256 + (h.val * 128 + d.val) = 256 + d.val; omega)
    rw [e]
  · rename_i h0
    have e : (⟨256 + (h.val * 128 + d.val), by omega⟩ : Fin 640) = ⟨384 + d.val, by omega⟩ := Fin.ext (by show 256 + (h.val * 128 + d.val) = 384 + d.val; omega)
    rw [e]

/-- The rest's array. -/
theorem rest_apply (R : Fin 8192) (d : Fin 128) :
    rest (F := Ideal) X N W (ix2 R d)
      = proj (fun k => X (ix2 R k)) (fun k => N (ix2 0 k)) (fun k => W (ix2 ⟨512 + d.val, by omega⟩ k)) := by
  have hR := R.isLt
  unfold rest
  rw [← stackR_at _ ⟨R.val / 1024, by omega⟩ (ix2 ⟨R.val % 1024, by omega⟩ d) (ix2 R d)
    (by show R.val = R.val / 1024 * 1024 + R.val % 1024; omega) rfl]
  rw [pay6_apply, blk_apply X N W _ _ _ R (by show R.val = R.val / 1024 * 1024 + R.val % 1024; omega)]

/-- The weight row a gathered row is. -/
def rowOf (q : Fin 640) : Nat :=
  if q.val < 256 then 1024 + q.val else if q.val < 512 then 1280 + (q.val - 256) else if q.val < 576 then 2560 + (q.val - 512)
  else if q.val < 592 then 2624 + (q.val - 576) else if q.val < 596 then 5712 + (q.val - 592) else 5716 + (q.val - 596)

theorem gathered_apply (w : Vec Ideal S7768x2048 .f32) (q : Fin 640) (k : Fin 2048) (c : Fin 7768) (hq : q.val < 600) (hc : c.val = rowOf q) :
    gathered (F := Ideal) w (ix2 q k) = w (ix2 c k) := by
  unfold gathered
  pointwise []
  unfold rowOf at hc
  split
  · rename_i h; congr 2; apply Fin.ext; rw [if_pos h] at hc; exact hc.symm
  split
  · rename_i h0 h; congr 2; apply Fin.ext; rw [if_neg h0, if_pos (by omega)] at hc; exact hc.symm
  split
  · rename_i h0 h1 h; congr 2; apply Fin.ext; rw [if_neg h0, if_neg (by omega), if_pos (by omega)] at hc; show 2560 + (q.val - 256 - 256) = c.val; omega
  split
  · rename_i h0 h1 h2 h; congr 2; apply Fin.ext; rw [if_neg h0, if_neg (by omega), if_neg (by omega), if_pos (by omega)] at hc; show 2624 + (q.val - 256 - 256 - 64) = c.val; omega
  split
  · rename_i h0 h1 h2 h3 h; congr 2; apply Fin.ext; rw [if_neg h0, if_neg (by omega), if_neg (by omega), if_neg (by omega), if_pos (by omega)] at hc; show 5712 + (q.val - 256 - 256 - 64 - 16) = c.val; omega
  split
  · rename_i h0 h1 h2 h3 h4 h; congr 2; apply Fin.ext; rw [if_neg h0, if_neg (by omega), if_neg (by omega), if_neg (by omega), if_neg (by omega)] at hc; show 5716 + (q.val - 256 - 256 - 64 - 16 - 4) = c.val; omega
  · exfalso; omega

end Cert.SmallIdeal.Value

namespace Cert.SmallRefIdeal.Value

open Cert.SmallRefIdeal Cert.SmallRefIdeal.Read Cert.Rms
open Cert.SmallIdeal.Value (proj)

variable (x0 : Vec Ideal S2x4096x2048 .f32) (x1 : Vec Ideal S1x2048 .f32) (x2 : Vec Ideal S1x2048x7768 .f32)

/-- A row of the activations normalised, at an element. -/
theorem v13_apply (b : Fin 2) (t : Fin 4096) (k : Fin 2048) :
    val_main_v13 (F := Ideal) x0 x1 (ix3 b t k) = (x0 (ix3 b t k) * rn (fun k' => x0 (ix3 b t k')) * x1 (ix2 0 k) : EReal) := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, rn]

/-- The projection at an element. -/
theorem v15_apply (b : Fin 2) (t : Fin 4096) (c : Fin 7768) :
    val_main_v15 (F := Ideal) x0 x1 x2 (ix3 b t c)
      = proj (fun k => x0 (ix3 b t k)) (fun k => x1 (ix2 0 k)) (fun k => x2 (ix3 0 k c)) := by
  have e : val_main_v15 (F := Ideal) x0 x1 x2 (ix3 b t c)
      = ∑ k : Fin 2048, (val_main_v13 (F := Ideal) x0 x1 (ix3 b t k) * x2 (ix3 0 k c) : EReal) := by
    pointwise [val_main_v15, val_main_v14]
  rw [e]
  simp only [v13_apply]
  rfl

theorem v30_apply (b : Fin 2) (t : Fin 4096) (h : Fin 2) (d : Fin 128) :
    val_main_v30 (F := Ideal) x0 x1 x2 (ix5 0 b t h d) = val_main_v15 (F := Ideal) x0 x1 x2 (ix3 b t ⟨1024 + (h.val * 128 + d.val), by omega⟩) := by
  unfold val_main_v30 val_main_v17
  generalize val_main_v15 (F := Ideal) x0 x1 x2 = y
  pointwise []

theorem v31_apply (b : Fin 2) (t : Fin 4096) (h : Fin 2) (d : Fin 128) :
    val_main_v31 (F := Ideal) x0 x1 x2 (ix5 0 b t h d) = val_main_v15 (F := Ideal) x0 x1 x2 (ix3 b t ⟨1280 + (h.val * 128 + d.val), by omega⟩) := by
  unfold val_main_v31 val_main_v18
  generalize val_main_v15 (F := Ideal) x0 x1 x2 = y
  pointwise []

theorem v32_apply (b : Fin 2) (t : Fin 4096) (e : Fin 64) :
    val_main_v32 (F := Ideal) x0 x1 x2 (ix4 0 b t e) = val_main_v15 (F := Ideal) x0 x1 x2 (ix3 b t ⟨2560 + e.val, by omega⟩) := by
  unfold val_main_v32 val_main_v20
  generalize val_main_v15 (F := Ideal) x0 x1 x2 = y
  pointwise []

/-- The column of the projection a column of the gates is. -/
def colOf (e : Fin 24) : Nat := if e.val < 16 then 2624 + e.val else if e.val < 20 then 5712 + (e.val - 16) else 5716 + (e.val - 20)

theorem v33_apply (b : Fin 2) (t : Fin 4096) (e : Fin 24) (c : Fin 7768) (hc : c.val = colOf e) :
    val_main_v33 (F := Ideal) x0 x1 x2 (ix3 b t e) = val_main_v15 (F := Ideal) x0 x1 x2 (ix3 b t c) := by
  unfold val_main_v33 val_main_v21 val_main_v26 val_main_v27
  generalize val_main_v15 (F := Ideal) x0 x1 x2 = y
  pointwise []
  unfold colOf at hc
  split
  · rename_i h; congr 2; apply Fin.ext; rw [if_pos h] at hc; exact hc.symm
  split
  · rename_i h0 h; congr 2; apply Fin.ext; rw [if_neg h0, if_pos (by omega)] at hc; show 5712 + (e.val - 16) = c.val; omega
  · rename_i h0 h; congr 2; apply Fin.ext; rw [if_neg h0, if_neg (by omega)] at hc; show 5716 + (e.val - 16 - 4) = c.val; omega

end Cert.SmallRefIdeal.Value
-- ==== Proof.Small.Claim.lean ====
/-
  The claims of the short projection: it ends well, and the keys, the values, the indexer's keys and the gates it
  leaves are the reference's.
-/
module

public import proofs.«01_k».proof.Defs
public import proofs.«01_k».proof.Proof.Small.Value
public import proofs.«01_k».proof.Proof.Gen.SmallRefIdeal.Run
public import proofs.«01_k».proof.Proof.Gen.Small
public import proofs.«01_k».proof.Proof.Gen.Small.Launch
public import Idealize.ShloMosaic.Lib.Pointwise

@[expose] public section

noncomputable section

open Idealize.ShloMosaic Idealize.ShloMosaic.TcCoe Idealize.SL.Sem

namespace Cert.Proof.Small

/-- The two programs' body tables are one. -/
theorem bodies_eq : Cert.Small.defs₀ (F := Bits) = Cert.SmallIdeal.defs₀ := by
  unfold Cert.Small.defs₀ Cert.SmallIdeal.defs₀
  refine congrArg (Defs.onTc (Λ := Cert.Small.Λ₀)) (?_ : (_ : _) = _)
  funext f a
  match f with
  | ⟨0, _⟩ =>
    obtain ⟨t, s⟩ := a
    rfl

/-- With the call's region the same holds. -/
theorem defs_eq : Cert.Small.defs (F := Bits) = Cert.SmallIdeal.defs := by
  unfold Cert.Small.defs Cert.SmallIdeal.defs
  exact congrArg (Pipeline.defs Cert.Small.pcfgs) bodies_eq

/-- The kernel as given terminates, leaves its arguments and ends with every counter at zero: the two programs have one text. -/
theorem frame_kernel : Cert.quiescent_Small := fun m ρ _ => by
  rw [defs_eq]
  exact Cert.SmallIdeal.Value.frame (F := Bits) m ρ

/-- The same of the kernel over the extended reals. -/
theorem frame_ideal : Cert.quiescent_SmallIdeal := fun m ρ _ => Cert.SmallIdeal.Value.frame m ρ

/-- The reference terminates, leaves its arguments, and has no semaphore. -/
theorem frame_reference : Cert.quiescent_SmallRefIdeal := fun m ρ _ =>
  (θ_run Cert.SmallRefIdeal.defs _ _).mono (fun r h => ⟨fun c => (h c).2.2.2.2, sem_eq_zero_of_no_sems (by decide) r.2⟩)
    (Cert.SmallRefIdeal.Value.run m ρ)

open Cert.SmallIdeal (S2x4096x2048 S1x2048 S1x2048x7768 S8192x2048 S2048 S2048x7768 S7768x2048 S640x2048 S16384x128 S1x2x4096x2x128 S8192x128 S8192x64 S1x2x4096x64 S8192x24 S2x4096x24)
open Cert.SmallIdeal.Value (keys vals rest gathered proj rowOf)

section
variable (x0 : Vec Ideal S2x4096x2048 .f32) (x1 : Vec Ideal S1x2048 .f32) (x2 : Vec Ideal S1x2048x7768 .f32)

/-- The three arrays the call finds, of the arguments. -/
def argX : Vec Ideal S8192x2048 .f32 := shapeCast S8192x2048 x0 Cert.SmallIdeal.Facts₀.shapeCasts_S2x4096x2048_S8192x2048
def argN : Vec Ideal S1x2048 .f32 := shapeCast S1x2048 (shapeCast S2048 x1 Cert.SmallIdeal.Facts₀.shapeCasts_S1x2048_S2048 : Vec Ideal S2048 .f32) Cert.SmallIdeal.Facts₀.shapeCasts_S2048_S1x2048
def argT : Vec Ideal S7768x2048 .f32 := transpose S7768x2048 [1, 0] (shapeCast S2048x7768 x2 Cert.SmallIdeal.Facts₀.shapeCasts_S1x2048x7768_S2048x7768 : Vec Ideal S2048x7768 .f32)
  Cert.SmallIdeal.Facts₀.transposes_S2048x7768_S7768x2048_1_0

theorem argX_apply (b : Fin 2) (t : Fin 4096) (k : Fin 2048) (R : Fin 8192) (hR : R.val = b.val * 4096 + t.val) : argX x0 (ix2 R k) = x0 (ix3 b t k) := by
  obtain ⟨r, hr⟩ := R
  dsimp only at hR
  subst hR
  pointwise [argX]

theorem argN_apply (k : Fin 2048) : argN x1 (ix2 0 k) = x1 (ix2 0 k) := by
  pointwise [argN]

theorem argT_apply (c : Fin 7768) (k : Fin 2048) : argT x2 (ix2 c k) = x2 (ix3 0 k c) := by
  pointwise [argT]

/-- A row of the activations against a gathered row is the reference's projection at that row's column. -/
theorem proj_eq (b : Fin 2) (t : Fin 4096) (R : Fin 8192) (hR : R.val = b.val * 4096 + t.val) (q : Fin 640) (hq : q.val < 600) (c : Fin 7768) (hc : c.val = rowOf q) :
    proj (fun k => argX x0 (ix2 R k)) (fun k => argN x1 (ix2 0 k)) (fun k => gathered (F := Ideal) (argT x2) (ix2 q k))
      = Cert.SmallRefIdeal.Read.val_main_v15 (F := Ideal) x0 x1 x2 (ix3 b t c) := by
  rw [Cert.SmallRefIdeal.Value.v15_apply]
  simp only [fun k => argX_apply x0 b t k R hR, argN_apply, fun k => Cert.SmallIdeal.Value.gathered_apply (argT x2) q k c hq hc, argT_apply]

/-- The keys. -/
theorem keys_eq : (shapeCast S1x2x4096x2x128 (keys (F := Ideal) (argX x0) (argN x1) (gathered (argT x2))) Cert.SmallIdeal.Facts₀.shapeCasts_S16384x128_S1x2x4096x2x128 : Vec Ideal S1x2x4096x2x128 .f32)
    = Cert.SmallRefIdeal.Read.val_main_v30 (F := Ideal) x0 x1 x2 := by
  refine funext fun (i : S1x2x4096x2x128.Idx) => ?_
  obtain ⟨b, t, h, d, rfl⟩ : ∃ (b : Fin 2) (t : Fin 4096) (h : Fin 2) (d : Fin 128), i = ix5 0 b t h d :=
    ⟨i 1, i 2, i 3, i 4, by
      funext a
      match a with
      | ⟨0, _⟩ => exact Fin.ext (by show (i 0).val = 0; have : (i 0).val < 1 := (i 0).isLt; omega)
      | ⟨1, _⟩ => rfl
      | ⟨2, _⟩ => rfl
      | ⟨3, _⟩ => rfl
      | ⟨4, _⟩ => rfl⟩
  have e : (shapeCast S1x2x4096x2x128 (keys (F := Ideal) (argX x0) (argN x1) (gathered (argT x2))) Cert.SmallIdeal.Facts₀.shapeCasts_S16384x128_S1x2x4096x2x128 : Vec Ideal S1x2x4096x2x128 .f32) (ix5 0 b t h d)
      = keys (F := Ideal) (argX x0) (argN x1) (gathered (argT x2)) (ix2 ⟨b.val * 8192 + t.val * 2 + h.val, by omega⟩ d) := by
    generalize keys (F := Ideal) (argX x0) (argN x1) (gathered (argT x2)) = y
    pointwise []
  rw [e, Cert.SmallRefIdeal.Value.v30_apply, Cert.SmallIdeal.Value.keys_apply _ _ _ ⟨b.val * 4096 + t.val, by omega⟩ h d _ (by show b.val * 8192 + t.val * 2 + h.val = 2 * (b.val * 4096 + t.val) + h.val; omega)]
  exact proj_eq x0 x1 x2 b t _ rfl _ (by show h.val * 128 + d.val < 600; omega) _ (by
    unfold rowOf; rw [if_pos (by show h.val * 128 + d.val < 256; omega)])

/-- The values. -/
theorem vals_eq : (shapeCast S1x2x4096x2x128 (vals (F := Ideal) (argX x0) (argN x1) (gathered (argT x2))) Cert.SmallIdeal.Facts₀.shapeCasts_S16384x128_S1x2x4096x2x128 : Vec Ideal S1x2x4096x2x128 .f32)
    = Cert.SmallRefIdeal.Read.val_main_v31 (F := Ideal) x0 x1 x2 := by
  refine funext fun (i : S1x2x4096x2x128.Idx) => ?_
  obtain ⟨b, t, h, d, rfl⟩ : ∃ (b : Fin 2) (t : Fin 4096) (h : Fin 2) (d : Fin 128), i = ix5 0 b t h d :=
    ⟨i 1, i 2, i 3, i 4, by
      funext a
      match a with
      | ⟨0, _⟩ => exact Fin.ext (by show (i 0).val = 0; have : (i 0).val < 1 := (i 0).isLt; omega)
      | ⟨1, _⟩ => rfl
      | ⟨2, _⟩ => rfl
      | ⟨3, _⟩ => rfl
      | ⟨4, _⟩ => rfl⟩
  have e : (shapeCast S1x2x4096x2x128 (vals (F := Ideal) (argX x0) (argN x1) (gathered (argT x2))) Cert.SmallIdeal.Facts₀.shapeCasts_S16384x128_S1x2x4096x2x128 : Vec Ideal S1x2x4096x2x128 .f32) (ix5 0 b t h d)
      = vals (F := Ideal) (argX x0) (argN x1) (gathered (argT x2)) (ix2 ⟨b.val * 8192 + t.val * 2 + h.val, by omega⟩ d) := by
    generalize vals (F := Ideal) (argX x0) (argN x1) (gathered (argT x2)) = y
    pointwise []
  rw [e, Cert.SmallRefIdeal.Value.v31_apply, Cert.SmallIdeal.Value.vals_apply _ _ _ ⟨b.val * 4096 + t.val, by omega⟩ h d _ (by show b.val * 8192 + t.val * 2 + h.val = 2 * (b.val * 4096 + t.val) + h.val; omega)]
  exact proj_eq x0 x1 x2 b t _ rfl _ (by show 256 + (h.val * 128 + d.val) < 600; omega) _ (by
    unfold rowOf
    rw [if_neg (by show ¬ (256 + (h.val * 128 + d.val) < 256); omega), if_pos (by show 256 + (h.val * 128 + d.val) < 512; omega)]
    show 1280 + (h.val * 128 + d.val) = 1280 + (256 + (h.val * 128 + d.val) - 256)
    omega)

/-- The indexer's keys. -/
theorem idx_eq : (shapeCast S1x2x4096x64 (extractStridedSlice S8192x64 ![0, 0] (rest (F := Ideal) (argX x0) (argN x1) (gathered (argT x2))) Cert.SmallIdeal.Facts₀.slices_S8192x128_S8192x64_0_0 : Vec Ideal S8192x64 .f32)
      Cert.SmallIdeal.Facts₀.shapeCasts_S8192x64_S1x2x4096x64 : Vec Ideal S1x2x4096x64 .f32)
    = Cert.SmallRefIdeal.Read.val_main_v32 (F := Ideal) x0 x1 x2 := by
  refine funext fun (i : S1x2x4096x64.Idx) => ?_
  obtain ⟨b, t, d, rfl⟩ : ∃ (b : Fin 2) (t : Fin 4096) (d : Fin 64), i = ix4 0 b t d :=
    ⟨i 1, i 2, i 3, by
      funext a
      match a with
      | ⟨0, _⟩ => exact Fin.ext (by show (i 0).val = 0; have : (i 0).val < 1 := (i 0).isLt; omega)
      | ⟨1, _⟩ => rfl
      | ⟨2, _⟩ => rfl
      | ⟨3, _⟩ => rfl⟩
  have e : (shapeCast S1x2x4096x64 (extractStridedSlice S8192x64 ![0, 0] (rest (F := Ideal) (argX x0) (argN x1) (gathered (argT x2))) Cert.SmallIdeal.Facts₀.slices_S8192x128_S8192x64_0_0 : Vec Ideal S8192x64 .f32)
      Cert.SmallIdeal.Facts₀.shapeCasts_S8192x64_S1x2x4096x64 : Vec Ideal S1x2x4096x64 .f32) (ix4 0 b t d)
      = rest (F := Ideal) (argX x0) (argN x1) (gathered (argT x2)) (ix2 ⟨b.val * 4096 + t.val, by omega⟩ ⟨d.val, by omega⟩) := by
    generalize rest (F := Ideal) (argX x0) (argN x1) (gathered (argT x2)) = y
    pointwise []
  rw [e, Cert.SmallRefIdeal.Value.v32_apply, Cert.SmallIdeal.Value.rest_apply]
  exact proj_eq x0 x1 x2 b t _ rfl _ (by show 512 + d.val < 600; omega) _ (by
    unfold rowOf
    rw [if_neg (by show ¬ (512 + d.val < 256); omega), if_neg (by show ¬ (512 + d.val < 512); omega), if_pos (by show 512 + d.val < 576; omega)]
    show 2560 + d.val = 2560 + (512 + d.val - 512)
    omega)

/-- The column of the projection a column of the gates is, by either program. -/
theorem gate_col (d : Fin 24) : rowOf ⟨512 + (64 + d.val), by omega⟩ = Cert.SmallRefIdeal.Value.colOf d ∧ Cert.SmallRefIdeal.Value.colOf d < 7768 := by
  revert d; decide

/-- The indexer's weights and the gates. -/
theorem gates_eq : (shapeCast S2x4096x24 (extractStridedSlice S8192x24 ![0, 64] (rest (F := Ideal) (argX x0) (argN x1) (gathered (argT x2))) Cert.SmallIdeal.Facts₀.slices_S8192x128_S8192x24_0_64 : Vec Ideal S8192x24 .f32)
      Cert.SmallIdeal.Facts₀.shapeCasts_S8192x24_S2x4096x24 : Vec Ideal S2x4096x24 .f32)
    = Cert.SmallRefIdeal.Read.val_main_v33 (F := Ideal) x0 x1 x2 := by
  refine funext fun (i : S2x4096x24.Idx) => ?_
  obtain ⟨b, t, d, rfl⟩ : ∃ (b : Fin 2) (t : Fin 4096) (d : Fin 24), i = ix3 b t d :=
    ⟨i 0, i 1, i 2, by
      funext a
      match a with
      | ⟨0, _⟩ => rfl
      | ⟨1, _⟩ => rfl
      | ⟨2, _⟩ => rfl⟩
  have e : (shapeCast S2x4096x24 (extractStridedSlice S8192x24 ![0, 64] (rest (F := Ideal) (argX x0) (argN x1) (gathered (argT x2))) Cert.SmallIdeal.Facts₀.slices_S8192x128_S8192x24_0_64 : Vec Ideal S8192x24 .f32)
      Cert.SmallIdeal.Facts₀.shapeCasts_S8192x24_S2x4096x24 : Vec Ideal S2x4096x24 .f32) (ix3 b t d)
      = rest (F := Ideal) (argX x0) (argN x1) (gathered (argT x2)) (ix2 ⟨b.val * 4096 + t.val, by omega⟩ ⟨64 + d.val, by omega⟩) := by
    generalize rest (F := Ideal) (argX x0) (argN x1) (gathered (argT x2)) = y
    pointwise []
  obtain ⟨h1, h2⟩ := gate_col d
  rw [e, Cert.SmallRefIdeal.Value.v33_apply x0 x1 x2 b t d ⟨_, h2⟩ rfl, Cert.SmallIdeal.Value.rest_apply]
  exact proj_eq x0 x1 x2 b t _ rfl _ (by show 512 + (64 + d.val) < 600; omega) _ h1.symm

end

section
variable (m : (ℓ : Loc Cert.SmallIdeal.nD Cert.SmallIdeal.τ Cert.SmallIdeal.sig) → Buf (Elt Ideal) ℓ) (c : Dev Cert.SmallIdeal.nD)

/-- The four results are the reference's, of the same arguments. -/
theorem resK_eq : Cert.SmallIdeal.Value.resK m c
    = Cert.SmallRefIdeal.Read.val_main_v30 (m ((c.tc : Thread Cert.SmallIdeal.nD Cert.SmallIdeal.τ).loc Cert.SmallIdeal.main_arg0))
        (m ((c.tc : Thread Cert.SmallIdeal.nD Cert.SmallIdeal.τ).loc Cert.SmallIdeal.main_arg1)) (m ((c.tc : Thread Cert.SmallIdeal.nD Cert.SmallIdeal.τ).loc Cert.SmallIdeal.main_arg2)) := by
  unfold Cert.SmallIdeal.Value.resK
  rw [Cert.SmallIdeal.Value.V_x, Cert.SmallIdeal.Value.V_n, Cert.SmallIdeal.Value.V_w]
  exact keys_eq _ _ _
theorem resV_eq : Cert.SmallIdeal.Value.resV m c
    = Cert.SmallRefIdeal.Read.val_main_v31 (m ((c.tc : Thread Cert.SmallIdeal.nD Cert.SmallIdeal.τ).loc Cert.SmallIdeal.main_arg0))
        (m ((c.tc : Thread Cert.SmallIdeal.nD Cert.SmallIdeal.τ).loc Cert.SmallIdeal.main_arg1)) (m ((c.tc : Thread Cert.SmallIdeal.nD Cert.SmallIdeal.τ).loc Cert.SmallIdeal.main_arg2)) := by
  unfold Cert.SmallIdeal.Value.resV
  rw [Cert.SmallIdeal.Value.V_x, Cert.SmallIdeal.Value.V_n, Cert.SmallIdeal.Value.V_w]
  exact vals_eq _ _ _
theorem resI_eq : Cert.SmallIdeal.Value.resI m c
    = Cert.SmallRefIdeal.Read.val_main_v32 (m ((c.tc : Thread Cert.SmallIdeal.nD Cert.SmallIdeal.τ).loc Cert.SmallIdeal.main_arg0))
        (m ((c.tc : Thread Cert.SmallIdeal.nD Cert.SmallIdeal.τ).loc Cert.SmallIdeal.main_arg1)) (m ((c.tc : Thread Cert.SmallIdeal.nD Cert.SmallIdeal.τ).loc Cert.SmallIdeal.main_arg2)) := by
  unfold Cert.SmallIdeal.Value.resI
  rw [Cert.SmallIdeal.Value.V_x, Cert.SmallIdeal.Value.V_n, Cert.SmallIdeal.Value.V_w]
  exact idx_eq _ _ _
theorem resG_eq : Cert.SmallIdeal.Value.resG m c
    = Cert.SmallRefIdeal.Read.val_main_v33 (m ((c.tc : Thread Cert.SmallIdeal.nD Cert.SmallIdeal.τ).loc Cert.SmallIdeal.main_arg0))
        (m ((c.tc : Thread Cert.SmallIdeal.nD Cert.SmallIdeal.τ).loc Cert.SmallIdeal.main_arg1)) (m ((c.tc : Thread Cert.SmallIdeal.nD Cert.SmallIdeal.τ).loc Cert.SmallIdeal.main_arg2)) := by
  unfold Cert.SmallIdeal.Value.resG
  rw [Cert.SmallIdeal.Value.V_x, Cert.SmallIdeal.Value.V_n, Cert.SmallIdeal.Value.V_w]
  exact gates_eq _ _ _

end

/-- The kernel and the reference end with the same four results, over the extended reals, from memories with the same arguments. -/
theorem value : Cert.algebraic_SmallIdeal_SmallRefIdeal := fun m ρ m' ρ' _ hag =>
  ⟨fun c => Cert.SmallIdeal.Value.resK m c, fun c => Cert.SmallIdeal.Value.resV m c, fun c => Cert.SmallIdeal.Value.resI m c, fun c => Cert.SmallIdeal.Value.resG m c,
    Cert.SmallIdeal.Value.run_out m ρ,
    (θ_run _ _ _).mono (fun r h c => by
        obtain ⟨a0, a1, a2⟩ := hag c
        obtain ⟨h0, h1, h2, h3, h4⟩ := h c
        refine ⟨h0.trans ?_, h1.trans ?_, h2.trans ?_, h3.trans ?_, h4⟩
        · rw [Cert.SmallRefIdeal.Read.val_main_v30_eq, a0, a1, a2]; exact (resK_eq m c).symm
        · rw [Cert.SmallRefIdeal.Read.val_main_v31_eq, a0, a1, a2]; exact (resV_eq m c).symm
        · rw [Cert.SmallRefIdeal.Read.val_main_v32_eq, a0, a1, a2]; exact (resI_eq m c).symm
        · rw [Cert.SmallRefIdeal.Read.val_main_v33_eq, a0, a1, a2]; exact (resG_eq m c).symm) (Cert.SmallRefIdeal.Value.run m' ρ')⟩

end Cert.Proof.Small
-- ==== Proof.SmallS.Body.lean ====
/-
  One grid point of the projection onto the short parts (keys, values and the gates): its rows normalised, times the
  gathered weight rows, the keys and the values of the two heads stored to alternate rows. From it the run of the whole
  program and its frame.
-/
module

public import proofs.«01_k».proof.Proof.Gen.SmallSIdeal.Frame
public import proofs.«01_k».proof.Proof.Gen.SmallSIdeal.Skeleton
public import Idealize.ShloMosaic.Lib.Claim
public import Idealize.ShloMosaic.Lib.Pointwise
public import Idealize.ShloMosaic.Lib.Pipeline.ValueKit.Geometry

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.SmallSIdeal.Value

open Cert.SmallSIdeal Cert.SmallSIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- Every second row of a block of keys or values, from row `0`: where the first head's rows are stored. -/
def evenRows : Rect S64x128 := ⟨(⟨![0, 0], S32x128.size, ![2, 1], inb_S64x128_S32x128_0_0_s_2_1⟩ : LoadRect S64x128), spos_2_1⟩

/-- Every second row from row `1`: where the second head's rows are stored. -/
def oddRows : Rect S64x128 := ⟨(⟨![1, 0], S32x128.size, ![2, 1], inb_S64x128_S32x128_1_0_s_2_1⟩ : LoadRect S64x128), spos_2_1⟩

theorem half_lt (y : S64x128.Idx) : (y 0).val / 2 < 32 := by
  have h : (y 0).val < 64 := (y 0).isLt
  omega

/-- Two blocks of rows laid out alternately: row `2 r` is row `r` of the first, row `2 r + 1` row `r` of the second. -/
def woven (p q : Vec F S32x128 .f32) : Vec F S64x128 .f32 := fun y =>
  if (y 0).val % 2 = 0 then p (ix2 ⟨(y 0).val / 2, half_lt y⟩ (y 1)) else q (ix2 ⟨(y 0).val / 2, half_lt y⟩ (y 1))

theorem even_emb (x : S32x128.Idx) : (evenRows.emb x 0).val = 2 * (x 0).val ∧ (evenRows.emb x 1).val = (x 1).val := by
  constructor
  · show 0 + 2 * (x 0).val = _; omega
  · show 0 + 1 * (x 1).val = _; omega

theorem odd_emb (x : S32x128.Idx) : (oddRows.emb x 0).val = 2 * (x 0).val + 1 ∧ (oddRows.emb x 1).val = (x 1).val := by
  constructor
  · show 1 + 2 * (x 0).val = _; omega
  · show 0 + 1 * (x 1).val = _; omega

/-- The two sets of rows make up the block. -/
theorem rows_cover (p q : Vec F S32x128 .f32) (y : S64x128.Idx) :
    ∃ pc ∈ ([⟨oddRows, q⟩, ⟨evenRows, p⟩] : List (View.Piece (Elt F) S64x128 .f32)), y ∈ pc.1.set := by
  by_cases hy : (y 0).val % 2 = 0
  · refine ⟨_, List.mem_cons_of_mem _ (List.mem_singleton_self _), ?_⟩
    have e : evenRows.emb (ix2 ⟨(y 0).val / 2, half_lt y⟩ (y 1)) = y := by
      funext a
      apply Fin.ext
      match a with
      | ⟨0, _⟩ => show 0 + 2 * ((y 0).val / 2) = (y 0).val; omega
      | ⟨1, _⟩ => show 0 + 1 * (y 1).val = (y 1).val; omega
    rw [← e]
    exact LoadRect.idx_mem _ _
  · refine ⟨_, List.mem_cons_self, ?_⟩
    have e : oddRows.emb (ix2 ⟨(y 0).val / 2, half_lt y⟩ (y 1)) = y := by
      funext a
      apply Fin.ext
      match a with
      | ⟨0, _⟩ => show 1 + 2 * ((y 0).val / 2) = (y 0).val; omega
      | ⟨1, _⟩ => show 0 + 1 * (y 1).val = (y 1).val; omega
    rw [← e]
    exact LoadRect.idx_mem _ _

/-- A buffer written on its even and on its odd rows holds the two woven, whatever it held before. -/
theorem read_woven {sp : Space} (v : View sig .tc sp S64x128 .f32) (f : v.ty.Contents (Elt F)) (p q : Vec F S32x128 .f32) :
    v.read (Elt F) (v.writes (Elt F) f [⟨oddRows, q⟩, ⟨evenRows, p⟩]) = woven p q := by
  rw [View.read_writes_eq_canon v f _ (rows_cover p q)]
  funext y
  refine View.canon_apply_of_pieces (woven p q) _ (fun pc hpc => ?_) y (rows_cover p q y)
  rcases List.mem_cons.1 hpc with rfl | h
  · intro (x : S32x128.Idx)
    show q x = woven p q (oddRows.emb x)
    obtain ⟨h0, h1⟩ := odd_emb x
    unfold woven
    rw [if_neg (by omega)]
    congr 1
    funext a
    apply Fin.ext
    match a with
    | ⟨0, _⟩ => show (x 0).val = (oddRows.emb x 0).val / 2; omega
    | ⟨1, _⟩ => exact h1.symm
  · rcases List.mem_singleton.1 h with rfl
    intro (x : S32x128.Idx)
    show p x = woven p q (evenRows.emb x)
    obtain ⟨h0, h1⟩ := even_emb x
    unfold woven
    rw [if_pos (by omega)]
    congr 1
    funext a
    apply Fin.ext
    match a with
    | ⟨0, _⟩ => show (x 0).val = (evenRows.emb x 0).val / 2; omega
    | ⟨1, _⟩ => exact h1.symm

/-- A block stored whole reads back as what was stored. -/
theorem read_one {sp : Space} (v : View sig .tc sp S32x128 .f32) (f : v.ty.Contents (Elt F)) (p : Vec F S32x128 .f32) :
    v.read (Elt F) (v.writes (Elt F) f [⟨Rect.unit (s := S32x128) ![0, 0] S32x128.size inb_S32x128_S32x128_0_0, p⟩]) = p := by
  have hc : ∀ y : S32x128.Idx, ∃ pc ∈ ([⟨Rect.unit (s := S32x128) ![0, 0] S32x128.size inb_S32x128_S32x128_0_0, p⟩] : List (View.Piece (Elt F) S32x128 .f32)), y ∈ pc.1.set :=
    fun y => ⟨_, List.mem_singleton_self _, View.mem_set_unit_zero (S := S32x128) hz inb_S32x128_S32x128_0_0 y⟩
  rw [View.read_writes_eq_canon v f _ hc]
  exact View.canon_unit_zero (S := S32x128) hz _ _

set_option maxHeartbeats 1000000 in
/-- The body on whole buffers: it leaves its inputs as they were, the keys' and the values' blocks woven from the two
    heads' rows, and the remaining columns in the last block. -/
theorem body_run (c : Dev nD) (i : grid0.Coords) (arg1 : Memref sig .tc .vmem S32x2048 .f32) (harg1 : arg1.IsWhole) (arg2 : Memref sig .tc .vmem S1x2048 .f32) (harg2 : arg2.IsWhole) (arg3 : Memref sig .tc .vmem S640x2048 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S32x128 .f32) (harg6 : arg6.IsWhole)
    (x0 : Vec F S32x2048 .f32) (x1 : Vec F S1x2048 .f32) (x2 : Vec F S640x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (woven (k0_pay2 x0 x1 x2) (k0_pay4 x0 x1 x2))
            ∗ owns (c : Thread nD τ) arg5 fullShare (woven (k0_pay3 x0 x1 x2) (k0_pay5 x0 x1 x2))
            ∗ owns (c : Thread nD τ) arg6 fullShare (k0_pay6 x0 x1 x2)) -∗ K ⟨⟩))
      ⊢ wp frame (wpE (defs₀ (F := F)) Variants.none c none) E (cc0_proj_small_s i arg1 harg1 arg2 harg2 arg3 harg3 arg4 harg4 arg5 harg5 arg6 harg6) K := by
  simp only [cc0_proj_small_s_eq_skeleton]; unfold cc0_proj_small_s_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg1.eq_unread hf0; obtain rfl := harg2.eq_unread hf1; obtain rfl := harg3.eq_unread hf2
  sl_exec
  sl_step
  simp only [View.readAt_eq_ld, harg1.read_unread, harg2.read_unread, harg3.read_unread, View.ld_unit_zero (S := S32x2048) hz, View.ld_unit_zero (S := S1x2048) hz, View.ld_unit_zero (S := S640x2048) hz]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro; exact read_woven _ _ _ _
  isplitl [H4]
  · iexists _; isplitr
    swap; · iexact H4
    ipureintro; exact read_woven _ _ _ _
  iexists _; isplitr
  swap; · iexact H5
  ipureintro; exact read_one _ _ _

/-! ## The program's run -/

/-- What the three output blocks hold after grid point `t`: the keys, the values, the rest. -/
def outK (c : Dev nD) (t : Fin cfg0.N) : Vec F S64x128 .f32 :=
  woven (k0_pay2 (iblk m c 0 t) (iblk m c 1 t) (iblk m c 2 t)) (k0_pay4 (iblk m c 0 t) (iblk m c 1 t) (iblk m c 2 t))
def outV (c : Dev nD) (t : Fin cfg0.N) : Vec F S64x128 .f32 :=
  woven (k0_pay3 (iblk m c 0 t) (iblk m c 1 t) (iblk m c 2 t)) (k0_pay5 (iblk m c 0 t) (iblk m c 1 t) (iblk m c 2 t))
def outR (c : Dev nD) (t : Fin cfg0.N) : Vec F S32x128 .f32 := k0_pay6 (iblk m c 0 t) (iblk m c 1 t) (iblk m c 2 t)

/-- The pipeline's data: the arrays as the host's first lines leave them, each input's block unchanged by the body, the
    three outputs' blocks as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outK m c t
    | ⟨4, _⟩ => outV m c t
    | ⟨5, _⟩ => outR m c t
    | ⟨_ + 6, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outK m c t := by dsimp only [dats]
theorem after_4 (c : Dev nD) (t : Fin cfg0.N) : (dats m 0 c).after 4 t = outV m c t := by dsimp only [dats]
theorem after_5 (c : Dev nD) (t : Fin cfg0.N) : (dats m 0 c).after 5 t = outR m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The six buffers as the body finds them at point `t`, beside the pipeline's invariant and what it owes, -/
def held (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and as it leaves them. -/
def left (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body takes the one to the other at every point. -/
theorem body_point (c : Dev nD) (t : Fin cfg0.N) :
    held m c t ⊢ wp frame (wpE (defs₀ (F := F)) Variants.none c none) Set.univ (bodyAt0 t) (fun _ => left m c t) := by
  unfold held left bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5]
  unfold outK outV outR
  iintro ⟨HΦ, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem row_eq (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, row_eq]
  exact triple_restated (body_point m c t) rfl .rfl fun _ => .rfl

set_option backward.isDefEq.respectTransparency.types false in
set_option maxHeartbeats 800000 in
/-- The whole program runs to the end, from any memory, every pipeline array at what the blocks above make of it, every
    other array as the host's last lines leave it, and no semaphore counter left up. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun _ w => by unfold Dat.share; split <;> rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The frame: the arguments end as they began, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.SmallSIdeal.Value
-- ==== Proof.SmallS.Array.lean ====
/-
  The three arrays the short projection of the samples's grid fills, and the four results the host's last lines cut from them.
-/
module

public import proofs.«01_k».proof.Proof.SmallS.Body

@[expose] public section

set_option maxRecDepth 16384

noncomputable section

open Idealize.ShloMosaic Idealize.ShloMosaic.TcCoe Idealize.SL.Sem
open Idealize.ShloMosaic.Pipeline (Dat)

namespace Cert.SmallSIdeal.Value

open Cert.SmallSIdeal Cert.SmallSIdeal.Gen

variable {F : FTy → Type} [FloatOps F]
variable (m : (ℓ : Loc nD τ sig) → Buf (Elt F) ℓ) (ρ : Dev nD → PrngReg)

/-! ## What the call finds -/

/-- The gathered weight rows: those of the keys, the values, the indexer's keys, its weights, the two gates, then zeros. -/
def gathered (w : Vec F S7768x2048 .f32) : Vec F S640x2048 .f32 :=
  concatenate S640x2048 0 [⟨S256x2048, extractStridedSlice S256x2048 ![1024, 0] w slices_S7768x2048_S256x2048_1024_0⟩,
    ⟨S256x2048, extractStridedSlice S256x2048 ![1280, 0] w slices_S7768x2048_S256x2048_1280_0⟩,
    ⟨S64x2048, extractStridedSlice S64x2048 ![2560, 0] w slices_S7768x2048_S64x2048_2560_0⟩,
    ⟨S16x2048, extractStridedSlice S16x2048 ![2624, 0] w slices_S7768x2048_S16x2048_2624_0⟩,
    ⟨S4x2048, extractStridedSlice S4x2048 ![5712, 0] w slices_S7768x2048_S4x2048_5712_0⟩,
    ⟨S4x2048, extractStridedSlice S4x2048 ![5716, 0] w slices_S7768x2048_S4x2048_5716_0⟩,
    ⟨S40x2048, broadcastInDim S40x2048 ![] bcast_S_S40x2048 (constant S_ .f32 0x00000000#32 : Vec F S_ .f32)⟩]
    concatenates_S256x2048_S256x2048_S64x2048_S16x2048_S4x2048_S4x2048_S40x2048_S640x2048_d0

/-- The gathered rows, as the call finds them. -/
theorem V_w (c : Dev nD) : V m c main_v9
    = gathered (transpose S7768x2048 [1, 0] (shapeCast S2048x7768 (m ((c : Thread nD τ).loc main_arg2)) shapeCasts_S1x2048x7768_S2048x7768 : Vec F S2048x7768 .f32)
        transposes_S2048x7768_S7768x2048_1_0 : Vec F S7768x2048 .f32) := by
  dsimp only [V, V0, hostOps0, List.flatten_cons, List.flatten_nil, List.append_nil, List.cons_append, List.nil_append]; after_results; rfl

/-- The activations, as the call finds them: one row for each position. -/
theorem V_x (c : Dev nD) : V m c main_v10
    = (shapeCast S32x2048 (m ((c : Thread nD τ).loc main_arg0)) shapeCasts_S32x1x2048_S32x2048 : Vec F S32x2048 .f32) := by
  dsimp only [V, V0, hostOps0, List.flatten_cons, List.flatten_nil, List.append_nil, List.cons_append, List.nil_append]; after_results; rfl

/-- The norm weight, as the call finds it. -/
theorem V_n (c : Dev nD) : V m c main_v12
    = (shapeCast S1x2048 (shapeCast S2048 (m ((c : Thread nD τ).loc main_arg1)) shapeCasts_S1x2048_S2048 : Vec F S2048 .f32) shapeCasts_S2048_S1x2048 : Vec F S1x2048 .f32) := by
  dsimp only [V, V0, hostOps0, List.flatten_cons, List.flatten_nil, List.append_nil, List.cons_append, List.nil_append]; after_results; rfl

/-! ## The blocks the body is given -/

/-- Rows `1024 r …` of the activations. -/
def xBlk (X : Vec F S32x2048 .f32) (r : Fin 1) : Vec F S32x2048 .f32 := fun j =>
  X (fun | 0 => ⟨r.val * 32 + (j 0).val, by have : (j 0).val < 32 := (j 0).isLt; have := r.isLt; show _ < 32; omega⟩
         | 1 => ⟨(j 1).val, (j 1).isLt⟩)

theorem coords_eq : ∀ t : Fin grid0.N, (grid0.coords t 0).val = t.val := by decide +kernel

theorem iblk_x (c : Dev nD) (t : Fin grid0.N) : iblk m c 0 t = xBlk (V m c main_v10) (grid0.coords t 0) := by
  refine funext fun (j : S32x2048.Idx) => ?_
  show V m c main_v10 _ = V m c main_v10 _
  congr 1
  funext a
  apply Fin.ext
  match a with
  | ⟨0, _⟩ => show (BitVec.ofNat 32 (grid0.coords t 0).val).toNat * 32 + 1 * (j 0).val = (grid0.coords t 0).val * 32 + (j 0).val
              have : (grid0.coords t 0).val < 1 := (grid0.coords t 0).isLt
              rw [BitVec.toNat_ofNat, Nat.mod_eq_of_lt (by omega)]; omega
  | ⟨1, _⟩ => show 0 * 2048 + 1 * (j 1).val = (j 1).val; omega

theorem iblk_n (c : Dev nD) (t : Fin grid0.N) : iblk m c 1 t = V m c main_v12 := by
  refine funext fun (j : S1x2048.Idx) => ?_
  show V m c main_v12 _ = V m c main_v12 _
  congr 1
  funext a
  apply Fin.ext
  match a with
  | ⟨0, _⟩ => show 0 * 1 + 1 * (j 0).val = (j 0).val; omega
  | ⟨1, _⟩ => show 0 * 2048 + 1 * (j 1).val = (j 1).val; omega

theorem iblk_w (c : Dev nD) (t : Fin grid0.N) : iblk m c 2 t = V m c main_v9 := by
  refine funext fun (j : S640x2048.Idx) => ?_
  show V m c main_v9 _ = V m c main_v9 _
  congr 1
  funext a
  apply Fin.ext
  match a with
  | ⟨0, _⟩ => show 0 * 640 + 1 * (j 0).val = (j 0).val; omega
  | ⟨1, _⟩ => show 0 * 2048 + 1 * (j 1).val = (j 1).val; omega

/-! ## The three arrays -/

/-- The blocks of the keys, of the values and of the rest, of the rows and the weights they are computed from. -/
def keyBlk (x : Vec F S32x2048 .f32) (n : Vec F S1x2048 .f32) (w : Vec F S640x2048 .f32) : Vec F S64x128 .f32 :=
  woven (k0_pay2 x n w) (k0_pay4 x n w)
def valBlk (x : Vec F S32x2048 .f32) (n : Vec F S1x2048 .f32) (w : Vec F S640x2048 .f32) : Vec F S64x128 .f32 :=
  woven (k0_pay3 x n w) (k0_pay5 x n w)

theorem blk_congr {α : Type} (f : Vec F S32x2048 .f32 → Vec F S1x2048 .f32 → Vec F S640x2048 .f32 → α)
    {x x' : Vec F S32x2048 .f32} {n n' : Vec F S1x2048 .f32} {w w' : Vec F S640x2048 .f32} (hx : x = x') (hn : n = n') (hw : w = w') :
    f x n w = f x' n' w' := by subst hx hn hw; rfl

/-- An array of one block of 2048 rows. -/
def stack (f : Fin 1 → Vec F S64x128 .f32) : Vec F S64x128 .f32 := fun i =>
  f ⟨(i 0).val / 64, by have : (i 0).val < 64 := (i 0).isLt; omega⟩
    (fun | 0 => ⟨(i 0).val % 64, Nat.mod_lt _ (by decide)⟩ | 1 => ⟨(i 1).val, (i 1).isLt⟩)

/-- An array of one block of 1024 rows. -/
def stackR (f : Fin 1 → Vec F S32x128 .f32) : Vec F S32x128 .f32 := fun i =>
  f ⟨(i 0).val / 32, by have : (i 0).val < 32 := (i 0).isLt; omega⟩
    (fun | 0 => ⟨(i 0).val % 32, Nat.mod_lt _ (by decide)⟩ | 1 => ⟨(i 1).val, (i 1).isLt⟩)

theorem stack_at (f : Fin 1 → Vec F S64x128 .f32) (r : Fin 1) (j : S64x128.Idx) (i : S64x128.Idx)
    (e0 : (i 0).val = r.val * 64 + (j 0).val) (e1 : (i 1).val = (j 1).val) : f r j = stack f i := by
  have h0 : (j 0).val < 64 := (j 0).isLt
  unfold stack
  have c0 : (⟨(i 0).val / 64, by have := r.isLt; omega⟩ : Fin 1) = r := by
    apply Fin.ext; show _ / 64 = _; omega
  rw [c0]
  congr 1
  funext a
  apply Fin.ext
  match a with
  | ⟨0, _⟩ => show (j 0).val = (i 0).val % 64; omega
  | ⟨1, _⟩ => show (j 1).val = (i 1).val; omega

theorem stackR_at (f : Fin 1 → Vec F S32x128 .f32) (r : Fin 1) (j : S32x128.Idx) (i : S32x128.Idx)
    (e0 : (i 0).val = r.val * 32 + (j 0).val) (e1 : (i 1).val = (j 1).val) : f r j = stackR f i := by
  have h0 : (j 0).val < 32 := (j 0).isLt
  unfold stackR
  have c0 : (⟨(i 0).val / 32, by have := r.isLt; omega⟩ : Fin 1) = r := by
    apply Fin.ext; show _ / 32 = _; omega
  rw [c0]
  congr 1
  funext a
  apply Fin.ext
  match a with
  | ⟨0, _⟩ => show (j 0).val = (i 0).val % 32; omega
  | ⟨1, _⟩ => show (j 1).val = (i 1).val; omega

/-- The keys' array, the values' and the rest's, of what the call finds. -/
def keys (X : Vec F S32x2048 .f32) (N : Vec F S1x2048 .f32) (W : Vec F S640x2048 .f32) : Vec F S64x128 .f32 :=
  stack fun r => keyBlk (xBlk X r) N W
def vals (X : Vec F S32x2048 .f32) (N : Vec F S1x2048 .f32) (W : Vec F S640x2048 .f32) : Vec F S64x128 .f32 :=
  stack fun r => valBlk (xBlk X r) N W
def rest (X : Vec F S32x2048 .f32) (N : Vec F S1x2048 .f32) (W : Vec F S640x2048 .f32) : Vec F S32x128 .f32 :=
  stackR fun r => k0_pay6 (xBlk X r) N W

theorem idx3 : ∀ t : Fin grid0.N, cc0_transform_3 (grid0.coords t) 0 = t.val ∧ cc0_transform_3 (grid0.coords t) 1 = 0 := by
  decide +kernel
theorem idx4 : ∀ t : Fin grid0.N, cc0_transform_4 (grid0.coords t) 0 = t.val ∧ cc0_transform_4 (grid0.coords t) 1 = 0 := by
  decide +kernel
theorem idx5 : ∀ t : Fin grid0.N, cc0_transform_5 (grid0.coords t) 0 = t.val ∧ cc0_transform_5 (grid0.coords t) 1 = 0 := by
  decide +kernel

/-- The keys' array ends whole. -/
theorem final_k (c : Dev nD) : (dats m 0 c).arrAt 3 cfg0.N = keys (V m c main_v10) (V m c main_v12) (V m c main_v9) := by
  refine (dats m 0 c).arrAt_eq_of_covers 3 _ (by decide +kernel) fun t hf => ?_
  refine fun (j : S64x128.Idx) => ?_
  show (dats m 0 c).after 3 t j = _
  rw [after_3]
  refine (congrFun (blk_congr keyBlk (iblk_x m c t) (iblk_n m c t) (iblk_w m c t)) j).trans ?_
  refine stack_at (fun r => keyBlk (xBlk (V m c main_v10) r) (V m c main_v12) (V m c main_v9)) (grid0.coords t 0) j _ ?_ ?_
  · show cc0_transform_3 (grid0.coords t) 0 * 64 + 1 * (j 0).val = (grid0.coords t 0).val * 64 + (j 0).val
    rw [(idx3 t).1, coords_eq t]; omega
  · show cc0_transform_3 (grid0.coords t) 1 * 128 + 1 * (j 1).val = (j 1).val
    rw [(idx3 t).2]; omega

/-- The values' array ends whole. -/
theorem final_v (c : Dev nD) : (dats m 0 c).arrAt 4 cfg0.N = vals (V m c main_v10) (V m c main_v12) (V m c main_v9) := by
  refine (dats m 0 c).arrAt_eq_of_covers 4 _ (by decide +kernel) fun t hf => ?_
  refine fun (j : S64x128.Idx) => ?_
  show (dats m 0 c).after 4 t j = _
  rw [after_4]
  refine (congrFun (blk_congr valBlk (iblk_x m c t) (iblk_n m c t) (iblk_w m c t)) j).trans ?_
  refine stack_at (fun r => valBlk (xBlk (V m c main_v10) r) (V m c main_v12) (V m c main_v9)) (grid0.coords t 0) j _ ?_ ?_
  · show cc0_transform_4 (grid0.coords t) 0 * 64 + 1 * (j 0).val = (grid0.coords t 0).val * 64 + (j 0).val
    rw [(idx4 t).1, coords_eq t]; omega
  · show cc0_transform_4 (grid0.coords t) 1 * 128 + 1 * (j 1).val = (j 1).val
    rw [(idx4 t).2]; omega

/-- The rest's array ends whole. -/
theorem final_r (c : Dev nD) : (dats m 0 c).arrAt 5 cfg0.N = rest (V m c main_v10) (V m c main_v12) (V m c main_v9) := by
  refine (dats m 0 c).arrAt_eq_of_covers 5 _ (by decide +kernel) fun t hf => ?_
  refine fun (j : S32x128.Idx) => ?_
  show (dats m 0 c).after 5 t j = _
  rw [after_5]
  refine (congrFun (blk_congr k0_pay6 (iblk_x m c t) (iblk_n m c t) (iblk_w m c t)) j).trans ?_
  refine stackR_at (fun r => k0_pay6 (xBlk (V m c main_v10) r) (V m c main_v12) (V m c main_v9)) (grid0.coords t 0) j _ ?_ ?_
  · show cc0_transform_5 (grid0.coords t) 0 * 32 + 1 * (j 0).val = (grid0.coords t 0).val * 32 + (j 0).val
    rw [(idx5 t).1, coords_eq t]; omega
  · show cc0_transform_5 (grid0.coords t) 1 * 128 + 1 * (j 1).val = (j 1).val
    rw [(idx5 t).2]; omega

/-! ## The four results -/

theorem arr_inj : Function.Injective (Pipeline.arrRef spec0) := by decide

/-- The keys of every position, by head. -/
theorem tail_k (c : Dev nD) : Pipeline.afterTail₀ cfgs (dats m) 0 (V0 m) [hostOps1] c main_v14
    = (shapeCast S1x32x1x2x128 (keys (V m c main_v10) (V m c main_v12) (V m c main_v9)) shapeCasts_S64x128_S1x32x1x2x128 : Vec F S1x32x1x2x128 .f32) := by
  unfold Pipeline.afterTail₀
  dsimp only [hostOps1, List.flatten_cons, List.flatten_nil, List.append_nil, List.cons_append, List.nil_append]
  after_results
  exact congrArg (fun x : Vec F S64x128 .f32 => (shapeCast S1x32x1x2x128 x shapeCasts_S64x128_S1x32x1x2x128 : Vec F S1x32x1x2x128 .f32))
    ((Pipeline.withArrays_arr spec0 arr_inj c (V0 m c) (fun w => (dats m 0 c).arrAt w cfg0.N) 3).trans (final_k m c))

/-- The values of every position, by head. -/
theorem tail_v (c : Dev nD) : Pipeline.afterTail₀ cfgs (dats m) 0 (V0 m) [hostOps1] c main_v15
    = (shapeCast S1x32x1x2x128 (vals (V m c main_v10) (V m c main_v12) (V m c main_v9)) shapeCasts_S64x128_S1x32x1x2x128 : Vec F S1x32x1x2x128 .f32) := by
  unfold Pipeline.afterTail₀
  dsimp only [hostOps1, List.flatten_cons, List.flatten_nil, List.append_nil, List.cons_append, List.nil_append]
  after_results
  exact congrArg (fun x : Vec F S64x128 .f32 => (shapeCast S1x32x1x2x128 x shapeCasts_S64x128_S1x32x1x2x128 : Vec F S1x32x1x2x128 .f32))
    ((Pipeline.withArrays_arr spec0 arr_inj c (V0 m c) (fun w => (dats m 0 c).arrAt w cfg0.N) 4).trans (final_v m c))

/-- The indexer's keys of every position. -/
theorem tail_i (c : Dev nD) : Pipeline.afterTail₀ cfgs (dats m) 0 (V0 m) [hostOps1] c main_v17
    = (shapeCast S1x32x1x64 (extractStridedSlice S32x64 ![0, 0] (rest (V m c main_v10) (V m c main_v12) (V m c main_v9)) slices_S32x128_S32x64_0_0 : Vec F S32x64 .f32)
        shapeCasts_S32x64_S1x32x1x64 : Vec F S1x32x1x64 .f32) := by
  unfold Pipeline.afterTail₀
  dsimp only [hostOps1, List.flatten_cons, List.flatten_nil, List.append_nil, List.cons_append, List.nil_append]
  after_results
  exact congrArg (fun x : Vec F S32x128 .f32 => (shapeCast S1x32x1x64 (extractStridedSlice S32x64 ![0, 0] x slices_S32x128_S32x64_0_0 : Vec F S32x64 .f32) shapeCasts_S32x64_S1x32x1x64 : Vec F S1x32x1x64 .f32))
    ((Pipeline.withArrays_arr spec0 arr_inj c (V0 m c) (fun w => (dats m 0 c).arrAt w cfg0.N) 5).trans (final_r m c))

/-- The indexer's weights and the two gates of every position. -/
theorem tail_g (c : Dev nD) : Pipeline.afterTail₀ cfgs (dats m) 0 (V0 m) [hostOps1] c main_v19
    = (shapeCast S32x1x24 (extractStridedSlice S32x24 ![0, 64] (rest (V m c main_v10) (V m c main_v12) (V m c main_v9)) slices_S32x128_S32x24_0_64 : Vec F S32x24 .f32)
        shapeCasts_S32x24_S32x1x24 : Vec F S32x1x24 .f32) := by
  unfold Pipeline.afterTail₀
  dsimp only [hostOps1, List.flatten_cons, List.flatten_nil, List.append_nil, List.cons_append, List.nil_append]
  after_results
  exact congrArg (fun x : Vec F S32x128 .f32 => (shapeCast S32x1x24 (extractStridedSlice S32x24 ![0, 64] x slices_S32x128_S32x24_0_64 : Vec F S32x24 .f32) shapeCasts_S32x24_S32x1x24 : Vec F S32x1x24 .f32))
    ((Pipeline.withArrays_arr spec0 arr_inj c (V0 m c) (fun w => (dats m 0 c).arrAt w cfg0.N) 5).trans (final_r m c))

/-- The results, of what the call finds. -/
abbrev resK (c : Dev nD) : Buf (Elt F) ((c : Thread nD τ).loc main_v14) :=
  (shapeCast S1x32x1x2x128 (keys (V m c main_v10) (V m c main_v12) (V m c main_v9)) shapeCasts_S64x128_S1x32x1x2x128 : Vec F S1x32x1x2x128 .f32)
abbrev resV (c : Dev nD) : Buf (Elt F) ((c : Thread nD τ).loc main_v15) :=
  (shapeCast S1x32x1x2x128 (vals (V m c main_v10) (V m c main_v12) (V m c main_v9)) shapeCasts_S64x128_S1x32x1x2x128 : Vec F S1x32x1x2x128 .f32)
abbrev resI (c : Dev nD) : Buf (Elt F) ((c : Thread nD τ).loc main_v17) :=
  (shapeCast S1x32x1x64 (extractStridedSlice S32x64 ![0, 0] (rest (V m c main_v10) (V m c main_v12) (V m c main_v9)) slices_S32x128_S32x64_0_0 : Vec F S32x64 .f32)
    shapeCasts_S32x64_S1x32x1x64 : Vec F S1x32x1x64 .f32)
abbrev resG (c : Dev nD) : Buf (Elt F) ((c : Thread nD τ).loc main_v19) :=
  (shapeCast S32x1x24 (extractStridedSlice S32x24 ![0, 64] (rest (V m c main_v10) (V m c main_v12) (V m c main_v9)) slices_S32x128_S32x24_0_64 : Vec F S32x24 .f32)
    shapeCasts_S32x24_S32x1x24 : Vec F S32x1x24 .f32)

/-- The run, read: the four results at those functions of what the call finds, the arguments unchanged. -/
theorem run_out : θ_run defs (onTc (τ := τ) (main (F := F))) ⟨m, fun _ => 0, ρ⟩ fun r => ∀ c : Dev nD,
      r.2.mem ((c : Thread nD τ).loc main_v14) = resK m c
      ∧ r.2.mem ((c : Thread nD τ).loc main_v15) = resV m c
      ∧ r.2.mem ((c : Thread nD τ).loc main_v17) = resI m c
      ∧ r.2.mem ((c : Thread nD τ).loc main_v19) = resG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h.1 c).2 main_v14 (Pipeline.mem_restRefs_of main_v14 (by decide) (by decide))).trans (tail_k m c),
      ((h.1 c).2 main_v15 (Pipeline.mem_restRefs_of main_v15 (by decide) (by decide))).trans (tail_v m c),
      ((h.1 c).2 main_v17 (Pipeline.mem_restRefs_of main_v17 (by decide) (by decide))).trans (tail_i m c),
      ((h.1 c).2 main_v19 (Pipeline.mem_restRefs_of main_v19 (by decide) (by decide))).trans (tail_g m c),
      h.2 c⟩) (θ_run_and (run_main m ρ) (frame_of m ρ (dats m) (A_eq m) (run_main m ρ)))

end Cert.SmallSIdeal.Value
-- ==== Proof.SmallS.Value.lean ====
/-
  The short projection of the samples over the extended reals, element by element, and the reference's.
-/
module

public import proofs.«01_k».proof.Proof.SmallS.Array
public import proofs.«01_k».proof.Proof.Main.Arith
public import proofs.«01_k».proof.Proof.Gen.SmallSRefIdeal.Read
public import Idealize.ShloMosaic.Lib.Pointwise

@[expose] public section

noncomputable section

open Idealize.ShloMosaic Idealize.ShloMosaic.TcCoe Idealize.SL.Sem

namespace Cert.SmallSIdeal.Value

open Cert.SmallSIdeal Cert.SmallSIdeal.Gen Cert.Rms

/-- One element of the projection: a normalised row against a weight row. -/
def proj (x n w : Fin 2048 → EReal) : EReal := ∑ k : Fin 2048, x k * rn x * n k * w k

theorem pay1_apply (x : Vec Ideal S32x2048 .f32) (n : Vec Ideal S1x2048 .f32) (w : Vec Ideal S640x2048 .f32) (p : Fin 32) (q : Fin 640) :
    k0_pay1 (F := Ideal) x n w (ix2 p q) = proj (fun k => x (ix2 p k)) (fun k => n (ix2 0 k)) (fun k => w (ix2 q k)) := by
  pointwise [k0_pay1, rn, proj]

theorem pay2_apply (x : Vec Ideal S32x2048 .f32) (n : Vec Ideal S1x2048 .f32) (w : Vec Ideal S640x2048 .f32) (p : Fin 32) (q : Fin 128) :
    k0_pay2 (F := Ideal) x n w (ix2 p q) = k0_pay1 (F := Ideal) x n w (ix2 p ⟨q.val, by omega⟩) := by
  unfold k0_pay2; generalize k0_pay1 (F := Ideal) x n w = y; pointwise []
theorem pay3_apply (x : Vec Ideal S32x2048 .f32) (n : Vec Ideal S1x2048 .f32) (w : Vec Ideal S640x2048 .f32) (p : Fin 32) (q : Fin 128) :
    k0_pay3 (F := Ideal) x n w (ix2 p q) = k0_pay1 (F := Ideal) x n w (ix2 p ⟨256 + q.val, by omega⟩) := by
  unfold k0_pay3; generalize k0_pay1 (F := Ideal) x n w = y; pointwise []
theorem pay4_apply (x : Vec Ideal S32x2048 .f32) (n : Vec Ideal S1x2048 .f32) (w : Vec Ideal S640x2048 .f32) (p : Fin 32) (q : Fin 128) :
    k0_pay4 (F := Ideal) x n w (ix2 p q) = k0_pay1 (F := Ideal) x n w (ix2 p ⟨128 + q.val, by omega⟩) := by
  unfold k0_pay4; generalize k0_pay1 (F := Ideal) x n w = y; pointwise []
theorem pay5_apply (x : Vec Ideal S32x2048 .f32) (n : Vec Ideal S1x2048 .f32) (w : Vec Ideal S640x2048 .f32) (p : Fin 32) (q : Fin 128) :
    k0_pay5 (F := Ideal) x n w (ix2 p q) = k0_pay1 (F := Ideal) x n w (ix2 p ⟨384 + q.val, by omega⟩) := by
  unfold k0_pay5; generalize k0_pay1 (F := Ideal) x n w = y; pointwise []
theorem pay6_apply (x : Vec Ideal S32x2048 .f32) (n : Vec Ideal S1x2048 .f32) (w : Vec Ideal S640x2048 .f32) (p : Fin 32) (q : Fin 128) :
    k0_pay6 (F := Ideal) x n w (ix2 p q) = k0_pay1 (F := Ideal) x n w (ix2 p ⟨512 + q.val, by omega⟩) := by
  unfold k0_pay6; generalize k0_pay1 (F := Ideal) x n w = y; pointwise []

/-- Of two blocks woven, row `2 p + h` is row `p` of the first (`h = 0`) or of the second (`h = 1`). -/
theorem woven_apply (a b : Vec Ideal S32x128 .f32) (p : Fin 32) (h : Fin 2) (q : Fin 128) (r : Fin 64) (hr : r.val = 2 * p.val + h.val) :
    woven a b (ix2 r q) = if h.val = 0 then a (ix2 p q) else b (ix2 p q) := by
  have hh := h.isLt
  have e : (⟨r.val / 2, by omega⟩ : Fin 32) = p := Fin.ext (by show r.val / 2 = p.val; omega)
  unfold woven
  show (if r.val % 2 = 0 then a (ix2 ⟨r.val / 2, _⟩ q) else b (ix2 ⟨r.val / 2, _⟩ q)) = _
  rw [e]
  by_cases h0 : h.val = 0
  · rw [if_pos (by omega), if_pos h0]
  · rw [if_neg (by omega), if_neg h0]

theorem xBlk_apply (X : Vec Ideal S32x2048 .f32) (r : Fin 1) (p : Fin 32) (k : Fin 2048) (R : Fin 32) (hR : R.val = r.val * 32 + p.val) :
    xBlk X r (ix2 p k) = X (ix2 R k) := by
  unfold xBlk
  congr 1
  funext a
  apply Fin.ext
  match a with
  | ⟨0, _⟩ => exact hR.symm
  | ⟨1, _⟩ => rfl

variable (X : Vec Ideal S32x2048 .f32) (N : Vec Ideal S1x2048 .f32) (W : Vec Ideal S640x2048 .f32)

/-- Row `R` of the product against gathered row `q`. -/
theorem blk_apply (r : Fin 1) (p : Fin 32) (q : Fin 640) (R : Fin 32) (hR : R.val = r.val * 32 + p.val) :
    k0_pay1 (F := Ideal) (xBlk X r) N W (ix2 p q) = proj (fun k => X (ix2 R k)) (fun k => N (ix2 0 k)) (fun k => W (ix2 q k)) := by
  rw [pay1_apply]
  simp only [fun k => xBlk_apply X r p k R hR]

/-- The keys' array: row `2 R + h` is position `R`'s key of head `h`. -/
theorem keys_apply (R : Fin 32) (h : Fin 2) (d : Fin 128) (r : Fin 64) (hr : r.val = 2 * R.val + h.val) :
    keys (F := Ideal) X N W (ix2 r d)
      = proj (fun k => X (ix2 R k)) (fun k => N (ix2 0 k)) (fun k => W (ix2 ⟨h.val * 128 + d.val, by omega⟩ k)) := by
  have hh := h.isLt
  have hR := R.isLt
  unfold keys
  rw [← stack_at _ ⟨r.val / 64, by omega⟩ (ix2 ⟨r.val % 64, by omega⟩ d) (ix2 r d)
    (by show r.val = r.val / 64 * 64 + r.val % 64; omega) rfl]
  unfold keyBlk
  rw [woven_apply _ _ ⟨R.val % 32, by omega⟩ h d _ (by show r.val % 64 = 2 * (R.val % 32) + h.val; omega), pay2_apply, pay4_apply,
    blk_apply X N W _ _ _ R (by show R.val = r.val / 64 * 32 + R.val % 32; omega),
    blk_apply X N W _ _ _ R (by show R.val = r.val / 64 * 32 + R.val % 32; omega)]
  split
  · rename_i h0
    have e : (⟨h.val * 128 + d.val, by omega⟩ : Fin 640) = ⟨d.val, by omega⟩ := Fin.ext (by show h.val * 128 + d.val = d.val; omega)
    rw [e]
  · rename_i h0
    have e : (⟨h.val * 128 + d.val, by omega⟩ : Fin 640) = ⟨128 + d.val, by omega⟩ := Fin.ext (by show h.val * 128 + d.val = 128 + d.val; omega)
    rw [e]

/-- The values' array likewise. -/
theorem vals_apply (R : Fin 32) (h : Fin 2) (d : Fin 128) (r : Fin 64) (hr : r.val = 2 * R.val + h.val) :
    vals (F := Ideal) X N W (ix2 r d)
      = proj (fun k => X (ix2 R k)) (fun k => N (ix2 0 k)) (fun k => W (ix2 ⟨256 + (h.val * 128 + d.val), by omega⟩ k)) := by
  have hh := h.isLt
  have hR := R.isLt
  unfold vals
  rw [← stack_at _ ⟨r.val / 64, by omega⟩ (ix2 ⟨r.val % 64, by omega⟩ d) (ix2 r d)
    (by show r.val = r.val / 64 * 64 + r.val % 64; omega) rfl]
  unfold valBlk
  rw [woven_apply _ _ ⟨R.val % 32, by omega⟩ h d _ (by show r.val % 64 = 2 * (R.val % 32) + h.val; omega), pay3_apply, pay5_apply,
    blk_apply X N W _ _ _ R (by show R.val = r.val / 64 * 32 + R.val % 32; omega),
    blk_apply X N W _ _ _ R (by show R.val = r.val / 64 * 32 + R.val % 32; omega)]
  split
  · rename_i h0
    have e : (⟨256 + (h.val * 128 + d.val), by omega⟩ : Fin 640) = ⟨256 + d.val, by omega⟩ := Fin.ext (by show 256 + (h.val * 128 + d.val) = 256 + d.val; omega)
    rw [e]
  · rename_i h0
    have e : (⟨256 + (h.val * 128 + d.val), by omega⟩ : Fin 640) = ⟨384 + d.val, by omega⟩ := Fin.ext (by show 256 + (h.val * 128 + d.val) = 384 + d.val; omega)
    rw [e]

/-- The rest's array. -/
theorem rest_apply (R : Fin 32) (d : Fin 128) :
    rest (F := Ideal) X N W (ix2 R d)
      = proj (fun k => X (ix2 R k)) (fun k => N (ix2 0 k)) (fun k => W (ix2 ⟨512 + d.val, by omega⟩ k)) := by
  have hR := R.isLt
  unfold rest
  rw [← stackR_at _ ⟨R.val / 32, by omega⟩ (ix2 ⟨R.val % 32, by omega⟩ d) (ix2 R d)
    (by show R.val = R.val / 32 * 32 + R.val % 32; omega) rfl]
  rw [pay6_apply, blk_apply X N W _ _ _ R (by show R.val = R.val / 32 * 32 + R.val % 32; omega)]

/-- The weight row a gathered row is. -/
def rowOf (q : Fin 640) : Nat :=
  if q.val < 256 then 1024 + q.val else if q.val < 512 then 1280 + (q.val - 256) else if q.val < 576 then 2560 + (q.val - 512)
  else if q.val < 592 then 2624 + (q.val - 576) else if q.val < 596 then 5712 + (q.val - 592) else 5716 + (q.val - 596)

theorem gathered_apply (w : Vec Ideal S7768x2048 .f32) (q : Fin 640) (k : Fin 2048) (c : Fin 7768) (hq : q.val < 600) (hc : c.val = rowOf q) :
    gathered (F := Ideal) w (ix2 q k) = w (ix2 c k) := by
  unfold gathered
  pointwise []
  unfold rowOf at hc
  split
  · rename_i h; congr 2; apply Fin.ext; rw [if_pos h] at hc; exact hc.symm
  split
  · rename_i h0 h; congr 2; apply Fin.ext; rw [if_neg h0, if_pos (by omega)] at hc; exact hc.symm
  split
  · rename_i h0 h1 h; congr 2; apply Fin.ext; rw [if_neg h0, if_neg (by omega), if_pos (by omega)] at hc; show 2560 + (q.val - 256 - 256) = c.val; omega
  split
  · rename_i h0 h1 h2 h; congr 2; apply Fin.ext; rw [if_neg h0, if_neg (by omega), if_neg (by omega), if_pos (by omega)] at hc; show 2624 + (q.val - 256 - 256 - 64) = c.val; omega
  split
  · rename_i h0 h1 h2 h3 h; congr 2; apply Fin.ext; rw [if_neg h0, if_neg (by omega), if_neg (by omega), if_neg (by omega), if_pos (by omega)] at hc; show 5712 + (q.val - 256 - 256 - 64 - 16) = c.val; omega
  split
  · rename_i h0 h1 h2 h3 h4 h; congr 2; apply Fin.ext; rw [if_neg h0, if_neg (by omega), if_neg (by omega), if_neg (by omega), if_neg (by omega)] at hc; show 5716 + (q.val - 256 - 256 - 64 - 16 - 4) = c.val; omega
  · exfalso; omega

end Cert.SmallSIdeal.Value

namespace Cert.SmallSRefIdeal.Value

open Cert.SmallSRefIdeal Cert.SmallSRefIdeal.Read Cert.Rms
open Cert.SmallSIdeal.Value (proj)

variable (x0 : Vec Ideal S32x1x2048 .f32) (x1 : Vec Ideal S1x2048 .f32) (x2 : Vec Ideal S1x2048x7768 .f32)

/-- A row of the activations normalised, at an element. -/
theorem v13_apply (b : Fin 32) (t : Fin 1) (k : Fin 2048) :
    val_main_v13 (F := Ideal) x0 x1 (ix3 b t k) = (x0 (ix3 b t k) * rn (fun k' => x0 (ix3 b t k')) * x1 (ix2 0 k) : EReal) := by
  obtain rfl : t = 0 := Subsingleton.elim _ _
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, rn]

/-- The projection at an element. -/
theorem v15_apply (b : Fin 32) (t : Fin 1) (c : Fin 7768) :
    val_main_v15 (F := Ideal) x0 x1 x2 (ix3 b t c)
      = proj (fun k => x0 (ix3 b t k)) (fun k => x1 (ix2 0 k)) (fun k => x2 (ix3 0 k c)) := by
  have e : val_main_v15 (F := Ideal) x0 x1 x2 (ix3 b t c)
      = ∑ k : Fin 2048, (val_main_v13 (F := Ideal) x0 x1 (ix3 b t k) * x2 (ix3 0 k c) : EReal) := by
    obtain rfl : t = 0 := Subsingleton.elim _ _
    pointwise [val_main_v15, val_main_v14]
  rw [e]
  simp only [v13_apply]
  rfl

theorem v30_apply (b : Fin 32) (t : Fin 1) (h : Fin 2) (d : Fin 128) :
    val_main_v30 (F := Ideal) x0 x1 x2 (ix5 0 b t h d) = val_main_v15 (F := Ideal) x0 x1 x2 (ix3 b t ⟨1024 + (h.val * 128 + d.val), by omega⟩) := by
  obtain rfl : t = 0 := Subsingleton.elim _ _
  unfold val_main_v30 val_main_v17
  generalize val_main_v15 (F := Ideal) x0 x1 x2 = y
  pointwise []

theorem v31_apply (b : Fin 32) (t : Fin 1) (h : Fin 2) (d : Fin 128) :
    val_main_v31 (F := Ideal) x0 x1 x2 (ix5 0 b t h d) = val_main_v15 (F := Ideal) x0 x1 x2 (ix3 b t ⟨1280 + (h.val * 128 + d.val), by omega⟩) := by
  obtain rfl : t = 0 := Subsingleton.elim _ _
  unfold val_main_v31 val_main_v18
  generalize val_main_v15 (F := Ideal) x0 x1 x2 = y
  pointwise []

theorem v32_apply (b : Fin 32) (t : Fin 1) (e : Fin 64) :
    val_main_v32 (F := Ideal) x0 x1 x2 (ix4 0 b t e) = val_main_v15 (F := Ideal) x0 x1 x2 (ix3 b t ⟨2560 + e.val, by omega⟩) := by
  obtain rfl : t = 0 := Subsingleton.elim _ _
  unfold val_main_v32 val_main_v20
  generalize val_main_v15 (F := Ideal) x0 x1 x2 = y
  pointwise []

/-- The column of the projection a column of the gates is. -/
def colOf (e : Fin 24) : Nat := if e.val < 16 then 2624 + e.val else if e.val < 20 then 5712 + (e.val - 16) else 5716 + (e.val - 20)

theorem v33_apply (b : Fin 32) (t : Fin 1) (e : Fin 24) (c : Fin 7768) (hc : c.val = colOf e) :
    val_main_v33 (F := Ideal) x0 x1 x2 (ix3 b t e) = val_main_v15 (F := Ideal) x0 x1 x2 (ix3 b t c) := by
  obtain rfl : t = 0 := Subsingleton.elim _ _
  unfold val_main_v33 val_main_v21 val_main_v26 val_main_v27
  generalize val_main_v15 (F := Ideal) x0 x1 x2 = y
  pointwise []
  unfold colOf at hc
  split
  · rename_i h; congr 2; apply Fin.ext; rw [if_pos h] at hc; exact hc.symm
  split
  · rename_i h0 h; congr 2; apply Fin.ext; rw [if_neg h0, if_pos (by omega)] at hc; show 5712 + (e.val - 16) = c.val; omega
  · rename_i h0 h; congr 2; apply Fin.ext; rw [if_neg h0, if_neg (by omega)] at hc; show 5716 + (e.val - 16 - 4) = c.val; omega

end Cert.SmallSRefIdeal.Value
-- ==== Proof.SmallS.Claim.lean ====
/-
  The claims of the short projection of the samples: it ends well, and the keys, the values, the indexer's keys and the gates it
  leaves are the reference's.
-/
module

public import proofs.«01_k».proof.Defs
public import proofs.«01_k».proof.Proof.SmallS.Value
public import proofs.«01_k».proof.Proof.Gen.SmallSRefIdeal.Run
public import proofs.«01_k».proof.Proof.Gen.SmallS
public import proofs.«01_k».proof.Proof.Gen.SmallS.Launch
public import Idealize.ShloMosaic.Lib.Pointwise

@[expose] public section

noncomputable section

open Idealize.ShloMosaic Idealize.ShloMosaic.TcCoe Idealize.SL.Sem

namespace Cert.Proof.SmallS

/-- The two programs' body tables are one. -/
theorem bodies_eq : Cert.SmallS.defs₀ (F := Bits) = Cert.SmallSIdeal.defs₀ := by
  unfold Cert.SmallS.defs₀ Cert.SmallSIdeal.defs₀
  refine congrArg (Defs.onTc (Λ := Cert.SmallS.Λ₀)) (?_ : (_ : _) = _)
  funext f a
  match f with
  | ⟨0, _⟩ =>
    obtain ⟨t, s⟩ := a
    rfl

/-- With the call's region the same holds. -/
theorem defs_eq : Cert.SmallS.defs (F := Bits) = Cert.SmallSIdeal.defs := by
  unfold Cert.SmallS.defs Cert.SmallSIdeal.defs
  exact congrArg (Pipeline.defs Cert.SmallS.pcfgs) bodies_eq

/-- The kernel as given terminates, leaves its arguments and ends with every counter at zero: the two programs have one text. -/
theorem frame_kernel : Cert.quiescent_SmallS := fun m ρ _ => by
  rw [defs_eq]
  exact Cert.SmallSIdeal.Value.frame (F := Bits) m ρ

/-- The same of the kernel over the extended reals. -/
theorem frame_ideal : Cert.quiescent_SmallSIdeal := fun m ρ _ => Cert.SmallSIdeal.Value.frame m ρ

/-- The reference terminates, leaves its arguments, and has no semaphore. -/
theorem frame_reference : Cert.quiescent_SmallSRefIdeal := fun m ρ _ =>
  (θ_run Cert.SmallSRefIdeal.defs _ _).mono (fun r h => ⟨fun c => (h c).2.2.2.2, sem_eq_zero_of_no_sems (by decide) r.2⟩)
    (Cert.SmallSRefIdeal.Value.run m ρ)

open Cert.SmallSIdeal (S32x1x2048 S1x2048 S1x2048x7768 S32x2048 S2048 S2048x7768 S7768x2048 S640x2048 S64x128 S1x32x1x2x128 S32x128 S32x64 S1x32x1x64 S32x24 S32x1x24)
open Cert.SmallSIdeal.Value (keys vals rest gathered proj rowOf)

section
variable (x0 : Vec Ideal S32x1x2048 .f32) (x1 : Vec Ideal S1x2048 .f32) (x2 : Vec Ideal S1x2048x7768 .f32)

/-- The three arrays the call finds, of the arguments. -/
def argX : Vec Ideal S32x2048 .f32 := shapeCast S32x2048 x0 Cert.SmallSIdeal.Facts₀.shapeCasts_S32x1x2048_S32x2048
def argN : Vec Ideal S1x2048 .f32 := shapeCast S1x2048 (shapeCast S2048 x1 Cert.SmallSIdeal.Facts₀.shapeCasts_S1x2048_S2048 : Vec Ideal S2048 .f32) Cert.SmallSIdeal.Facts₀.shapeCasts_S2048_S1x2048
def argT : Vec Ideal S7768x2048 .f32 := transpose S7768x2048 [1, 0] (shapeCast S2048x7768 x2 Cert.SmallSIdeal.Facts₀.shapeCasts_S1x2048x7768_S2048x7768 : Vec Ideal S2048x7768 .f32)
  Cert.SmallSIdeal.Facts₀.transposes_S2048x7768_S7768x2048_1_0

theorem argX_apply (b : Fin 32) (t : Fin 1) (k : Fin 2048) (R : Fin 32) (hR : R.val = b.val * 1 + t.val) : argX x0 (ix2 R k) = x0 (ix3 b t k) := by
  obtain rfl : t = 0 := Subsingleton.elim _ _
  obtain ⟨r, hr⟩ := R
  dsimp only at hR
  subst hR
  pointwise [argX]

theorem argN_apply (k : Fin 2048) : argN x1 (ix2 0 k) = x1 (ix2 0 k) := by
  pointwise [argN]

theorem argT_apply (c : Fin 7768) (k : Fin 2048) : argT x2 (ix2 c k) = x2 (ix3 0 k c) := by
  pointwise [argT]

/-- A row of the activations against a gathered row is the reference's projection at that row's column. -/
theorem proj_eq (b : Fin 32) (t : Fin 1) (R : Fin 32) (hR : R.val = b.val * 1 + t.val) (q : Fin 640) (hq : q.val < 600) (c : Fin 7768) (hc : c.val = rowOf q) :
    proj (fun k => argX x0 (ix2 R k)) (fun k => argN x1 (ix2 0 k)) (fun k => gathered (F := Ideal) (argT x2) (ix2 q k))
      = Cert.SmallSRefIdeal.Read.val_main_v15 (F := Ideal) x0 x1 x2 (ix3 b t c) := by
  rw [Cert.SmallSRefIdeal.Value.v15_apply]
  simp only [fun k => argX_apply x0 b t k R hR, argN_apply, fun k => Cert.SmallSIdeal.Value.gathered_apply (argT x2) q k c hq hc, argT_apply]

/-- The keys. -/
theorem keys_eq : (shapeCast S1x32x1x2x128 (keys (F := Ideal) (argX x0) (argN x1) (gathered (argT x2))) Cert.SmallSIdeal.Facts₀.shapeCasts_S64x128_S1x32x1x2x128 : Vec Ideal S1x32x1x2x128 .f32)
    = Cert.SmallSRefIdeal.Read.val_main_v30 (F := Ideal) x0 x1 x2 := by
  refine funext fun (i : S1x32x1x2x128.Idx) => ?_
  obtain ⟨b, t, h, d, rfl⟩ : ∃ (b : Fin 32) (t : Fin 1) (h : Fin 2) (d : Fin 128), i = ix5 0 b t h d :=
    ⟨i 1, i 2, i 3, i 4, by
      funext a
      match a with
      | ⟨0, _⟩ => exact Fin.ext (by show (i 0).val = 0; have : (i 0).val < 1 := (i 0).isLt; omega)
      | ⟨1, _⟩ => rfl
      | ⟨2, _⟩ => rfl
      | ⟨3, _⟩ => rfl
      | ⟨4, _⟩ => rfl⟩
  obtain rfl : t = 0 := Subsingleton.elim _ _
  have e : (shapeCast S1x32x1x2x128 (keys (F := Ideal) (argX x0) (argN x1) (gathered (argT x2))) Cert.SmallSIdeal.Facts₀.shapeCasts_S64x128_S1x32x1x2x128 : Vec Ideal S1x32x1x2x128 .f32) (ix5 0 b 0 h d)
      = keys (F := Ideal) (argX x0) (argN x1) (gathered (argT x2)) (ix2 ⟨b.val * 2 + h.val, by omega⟩ d) := by
    generalize keys (F := Ideal) (argX x0) (argN x1) (gathered (argT x2)) = y
    pointwise []
  rw [e, Cert.SmallSRefIdeal.Value.v30_apply, Cert.SmallSIdeal.Value.keys_apply _ _ _ b h d _ (by show b.val * 2 + h.val = 2 * b.val + h.val; omega)]
  exact proj_eq x0 x1 x2 b 0 b (by show b.val = b.val * 1 + 0; omega) _ (by show h.val * 128 + d.val < 600; omega) _ (by
    unfold rowOf; rw [if_pos (by show h.val * 128 + d.val < 256; omega)])

/-- The values. -/
theorem vals_eq : (shapeCast S1x32x1x2x128 (vals (F := Ideal) (argX x0) (argN x1) (gathered (argT x2))) Cert.SmallSIdeal.Facts₀.shapeCasts_S64x128_S1x32x1x2x128 : Vec Ideal S1x32x1x2x128 .f32)
    = Cert.SmallSRefIdeal.Read.val_main_v31 (F := Ideal) x0 x1 x2 := by
  refine funext fun (i : S1x32x1x2x128.Idx) => ?_
  obtain ⟨b, t, h, d, rfl⟩ : ∃ (b : Fin 32) (t : Fin 1) (h : Fin 2) (d : Fin 128), i = ix5 0 b t h d :=
    ⟨i 1, i 2, i 3, i 4, by
      funext a
      match a with
      | ⟨0, _⟩ => exact Fin.ext (by show (i 0).val = 0; have : (i 0).val < 1 := (i 0).isLt; omega)
      | ⟨1, _⟩ => rfl
      | ⟨2, _⟩ => rfl
      | ⟨3, _⟩ => rfl
      | ⟨4, _⟩ => rfl⟩
  obtain rfl : t = 0 := Subsingleton.elim _ _
  have e : (shapeCast S1x32x1x2x128 (vals (F := Ideal) (argX x0) (argN x1) (gathered (argT x2))) Cert.SmallSIdeal.Facts₀.shapeCasts_S64x128_S1x32x1x2x128 : Vec Ideal S1x32x1x2x128 .f32) (ix5 0 b 0 h d)
      = vals (F := Ideal) (argX x0) (argN x1) (gathered (argT x2)) (ix2 ⟨b.val * 2 + h.val, by omega⟩ d) := by
    generalize vals (F := Ideal) (argX x0) (argN x1) (gathered (argT x2)) = y
    pointwise []
  rw [e, Cert.SmallSRefIdeal.Value.v31_apply, Cert.SmallSIdeal.Value.vals_apply _ _ _ b h d _ (by show b.val * 2 + h.val = 2 * b.val + h.val; omega)]
  exact proj_eq x0 x1 x2 b 0 b (by show b.val = b.val * 1 + 0; omega) _ (by show 256 + (h.val * 128 + d.val) < 600; omega) _ (by
    unfold rowOf
    rw [if_neg (by show ¬ (256 + (h.val * 128 + d.val) < 256); omega), if_pos (by show 256 + (h.val * 128 + d.val) < 512; omega)]
    show 1280 + (h.val * 128 + d.val) = 1280 + (256 + (h.val * 128 + d.val) - 256)
    omega)

/-- The indexer's keys. -/
theorem idx_eq : (shapeCast S1x32x1x64 (extractStridedSlice S32x64 ![0, 0] (rest (F := Ideal) (argX x0) (argN x1) (gathered (argT x2))) Cert.SmallSIdeal.Facts₀.slices_S32x128_S32x64_0_0 : Vec Ideal S32x64 .f32)
      Cert.SmallSIdeal.Facts₀.shapeCasts_S32x64_S1x32x1x64 : Vec Ideal S1x32x1x64 .f32)
    = Cert.SmallSRefIdeal.Read.val_main_v32 (F := Ideal) x0 x1 x2 := by
  refine funext fun (i : S1x32x1x64.Idx) => ?_
  obtain ⟨b, t, d, rfl⟩ : ∃ (b : Fin 32) (t : Fin 1) (d : Fin 64), i = ix4 0 b t d :=
    ⟨i 1, i 2, i 3, by
      funext a
      match a with
      | ⟨0, _⟩ => exact Fin.ext (by show (i 0).val = 0; have : (i 0).val < 1 := (i 0).isLt; omega)
      | ⟨1, _⟩ => rfl
      | ⟨2, _⟩ => rfl
      | ⟨3, _⟩ => rfl⟩
  obtain rfl : t = 0 := Subsingleton.elim _ _
  have e : (shapeCast S1x32x1x64 (extractStridedSlice S32x64 ![0, 0] (rest (F := Ideal) (argX x0) (argN x1) (gathered (argT x2))) Cert.SmallSIdeal.Facts₀.slices_S32x128_S32x64_0_0 : Vec Ideal S32x64 .f32)
      Cert.SmallSIdeal.Facts₀.shapeCasts_S32x64_S1x32x1x64 : Vec Ideal S1x32x1x64 .f32) (ix4 0 b 0 d)
      = rest (F := Ideal) (argX x0) (argN x1) (gathered (argT x2)) (ix2 b ⟨d.val, by omega⟩) := by
    generalize rest (F := Ideal) (argX x0) (argN x1) (gathered (argT x2)) = y
    pointwise []
  rw [e, Cert.SmallSRefIdeal.Value.v32_apply, Cert.SmallSIdeal.Value.rest_apply]
  exact proj_eq x0 x1 x2 b 0 b (by show b.val = b.val * 1 + 0; omega) _ (by show 512 + d.val < 600; omega) _ (by
    unfold rowOf
    rw [if_neg (by show ¬ (512 + d.val < 256); omega), if_neg (by show ¬ (512 + d.val < 512); omega), if_pos (by show 512 + d.val < 576; omega)]
    show 2560 + d.val = 2560 + (512 + d.val - 512)
    omega)

/-- The column of the projection a column of the gates is, by either program. -/
theorem gate_col (d : Fin 24) : rowOf ⟨512 + (64 + d.val), by omega⟩ = Cert.SmallSRefIdeal.Value.colOf d ∧ Cert.SmallSRefIdeal.Value.colOf d < 7768 := by
  revert d; decide

/-- The indexer's weights and the gates. -/
theorem gates_eq : (shapeCast S32x1x24 (extractStridedSlice S32x24 ![0, 64] (rest (F := Ideal) (argX x0) (argN x1) (gathered (argT x2))) Cert.SmallSIdeal.Facts₀.slices_S32x128_S32x24_0_64 : Vec Ideal S32x24 .f32)
      Cert.SmallSIdeal.Facts₀.shapeCasts_S32x24_S32x1x24 : Vec Ideal S32x1x24 .f32)
    = Cert.SmallSRefIdeal.Read.val_main_v33 (F := Ideal) x0 x1 x2 := by
  refine funext fun (i : S32x1x24.Idx) => ?_
  obtain ⟨b, t, d, rfl⟩ : ∃ (b : Fin 32) (t : Fin 1) (d : Fin 24), i = ix3 b t d :=
    ⟨i 0, i 1, i 2, by
      funext a
      match a with
      | ⟨0, _⟩ => rfl
      | ⟨1, _⟩ => rfl
      | ⟨2, _⟩ => rfl⟩
  obtain rfl : t = 0 := Subsingleton.elim _ _
  have e : (shapeCast S32x1x24 (extractStridedSlice S32x24 ![0, 64] (rest (F := Ideal) (argX x0) (argN x1) (gathered (argT x2))) Cert.SmallSIdeal.Facts₀.slices_S32x128_S32x24_0_64 : Vec Ideal S32x24 .f32)
      Cert.SmallSIdeal.Facts₀.shapeCasts_S32x24_S32x1x24 : Vec Ideal S32x1x24 .f32) (ix3 b 0 d)
      = rest (F := Ideal) (argX x0) (argN x1) (gathered (argT x2)) (ix2 b ⟨64 + d.val, by omega⟩) := by
    generalize rest (F := Ideal) (argX x0) (argN x1) (gathered (argT x2)) = y
    pointwise []
  obtain ⟨h1, h2⟩ := gate_col d
  rw [e, Cert.SmallSRefIdeal.Value.v33_apply x0 x1 x2 b 0 d ⟨_, h2⟩ rfl, Cert.SmallSIdeal.Value.rest_apply]
  exact proj_eq x0 x1 x2 b 0 b (by show b.val = b.val * 1 + 0; omega) _ (by show 512 + (64 + d.val) < 600; omega) _ h1.symm

end

section
variable (m : (ℓ : Loc Cert.SmallSIdeal.nD Cert.SmallSIdeal.τ Cert.SmallSIdeal.sig) → Buf (Elt Ideal) ℓ) (c : Dev Cert.SmallSIdeal.nD)

/-- The four results are the reference's, of the same arguments. -/
theorem resK_eq : Cert.SmallSIdeal.Value.resK m c
    = Cert.SmallSRefIdeal.Read.val_main_v30 (m ((c.tc : Thread Cert.SmallSIdeal.nD Cert.SmallSIdeal.τ).loc Cert.SmallSIdeal.main_arg0))
        (m ((c.tc : Thread Cert.SmallSIdeal.nD Cert.SmallSIdeal.τ).loc Cert.SmallSIdeal.main_arg1)) (m ((c.tc : Thread Cert.SmallSIdeal.nD Cert.SmallSIdeal.τ).loc Cert.SmallSIdeal.main_arg2)) := by
  unfold Cert.SmallSIdeal.Value.resK
  rw [Cert.SmallSIdeal.Value.V_x, Cert.SmallSIdeal.Value.V_n, Cert.SmallSIdeal.Value.V_w]
  exact keys_eq _ _ _
theorem resV_eq : Cert.SmallSIdeal.Value.resV m c
    = Cert.SmallSRefIdeal.Read.val_main_v31 (m ((c.tc : Thread Cert.SmallSIdeal.nD Cert.SmallSIdeal.τ).loc Cert.SmallSIdeal.main_arg0))
        (m ((c.tc : Thread Cert.SmallSIdeal.nD Cert.SmallSIdeal.τ).loc Cert.SmallSIdeal.main_arg1)) (m ((c.tc : Thread Cert.SmallSIdeal.nD Cert.SmallSIdeal.τ).loc Cert.SmallSIdeal.main_arg2)) := by
  unfold Cert.SmallSIdeal.Value.resV
  rw [Cert.SmallSIdeal.Value.V_x, Cert.SmallSIdeal.Value.V_n, Cert.SmallSIdeal.Value.V_w]
  exact vals_eq _ _ _
theorem resI_eq : Cert.SmallSIdeal.Value.resI m c
    = Cert.SmallSRefIdeal.Read.val_main_v32 (m ((c.tc : Thread Cert.SmallSIdeal.nD Cert.SmallSIdeal.τ).loc Cert.SmallSIdeal.main_arg0))
        (m ((c.tc : Thread Cert.SmallSIdeal.nD Cert.SmallSIdeal.τ).loc Cert.SmallSIdeal.main_arg1)) (m ((c.tc : Thread Cert.SmallSIdeal.nD Cert.SmallSIdeal.τ).loc Cert.SmallSIdeal.main_arg2)) := by
  unfold Cert.SmallSIdeal.Value.resI
  rw [Cert.SmallSIdeal.Value.V_x, Cert.SmallSIdeal.Value.V_n, Cert.SmallSIdeal.Value.V_w]
  exact idx_eq _ _ _
theorem resG_eq : Cert.SmallSIdeal.Value.resG m c
    = Cert.SmallSRefIdeal.Read.val_main_v33 (m ((c.tc : Thread Cert.SmallSIdeal.nD Cert.SmallSIdeal.τ).loc Cert.SmallSIdeal.main_arg0))
        (m ((c.tc : Thread Cert.SmallSIdeal.nD Cert.SmallSIdeal.τ).loc Cert.SmallSIdeal.main_arg1)) (m ((c.tc : Thread Cert.SmallSIdeal.nD Cert.SmallSIdeal.τ).loc Cert.SmallSIdeal.main_arg2)) := by
  unfold Cert.SmallSIdeal.Value.resG
  rw [Cert.SmallSIdeal.Value.V_x, Cert.SmallSIdeal.Value.V_n, Cert.SmallSIdeal.Value.V_w]
  exact gates_eq _ _ _

end

/-- The kernel and the reference end with the same four results, over the extended reals, from memories with the same arguments. -/
theorem value : Cert.algebraic_SmallSIdeal_SmallSRefIdeal := fun m ρ m' ρ' _ hag =>
  ⟨fun c => Cert.SmallSIdeal.Value.resK m c, fun c => Cert.SmallSIdeal.Value.resV m c, fun c => Cert.SmallSIdeal.Value.resI m c, fun c => Cert.SmallSIdeal.Value.resG m c,
    Cert.SmallSIdeal.Value.run_out m ρ,
    (θ_run _ _ _).mono (fun r h c => by
        obtain ⟨a0, a1, a2⟩ := hag c
        obtain ⟨h0, h1, h2, h3, h4⟩ := h c
        refine ⟨h0.trans ?_, h1.trans ?_, h2.trans ?_, h3.trans ?_, h4⟩
        · rw [Cert.SmallSRefIdeal.Read.val_main_v30_eq, a0, a1, a2]; exact (resK_eq m c).symm
        · rw [Cert.SmallSRefIdeal.Read.val_main_v31_eq, a0, a1, a2]; exact (resV_eq m c).symm
        · rw [Cert.SmallSRefIdeal.Read.val_main_v32_eq, a0, a1, a2]; exact (resI_eq m c).symm
        · rw [Cert.SmallSRefIdeal.Read.val_main_v33_eq, a0, a1, a2]; exact (resG_eq m c).symm) (Cert.SmallSRefIdeal.Value.run m' ρ')⟩

end Cert.Proof.SmallS
-- ==== Proof.MainS.Table.lean ====
/-
  What the projection's pallas_call finds in memory when it starts: the table of starting rows and the tile scales
  (constants of the program), the transposed weight, the flattened activations and the norm weight; and that the
  element window the table places is inside the weight at every grid point.
-/
module

public import proofs.«01_k».proof.Defs
public import proofs.«01_k».proof.Proof.Gen.MainSIdeal.Frame
public import Idealize.ShloMosaic.Lib.Pipeline.Value
public import Idealize.ShloMosaic.Lib.StableHlo.Run
public import Idealize.ShloMosaic.Lib.Tactic

@[expose] public section

noncomputable section

open Idealize.ShloMosaic Idealize.ShloMosaic.TcCoe Idealize.SL.Sem
open Idealize.ShloMosaic.Pipeline (Dat)

namespace Cert.MainSIdeal.Value

open Cert.MainSIdeal Cert.MainSIdeal.Gen

variable {F : FTy → Type} [FloatOps F]
variable (m : (ℓ : Loc nD τ sig) → Buf (Elt F) ℓ) (ρ : Dev nD → PrngReg)

/-- The table of starting rows, as the call finds it: the program's constant. -/
theorem V_c (c : Dev nD) : V m c main_c = (fun i => lit0 (S7.rowMajor i) : S7.Idx → BitVec 32) := by
  dsimp only [V, hostOps0]; after_results; rfl

/-- The tile scales, as the call finds them: the program's constant. -/
theorem V_cst (c : Dev nD) : V m c main_cst = (fun i => FloatOps.ofBits .f32 (lit1 (S14.rowMajor i)) : S14.Idx → F .f32) := by
  dsimp only [V, hostOps0]; after_results; rfl

/-- The weight, as the call finds it: the argument's one matrix, transposed. -/
theorem V_v3 (c : Dev nD) : V m c main_v3
    = (transpose S7768x2048 [1, 0] (shapeCast S2048x7768 (m ((c : Thread nD τ).loc main_arg2)) shapeCasts_S1x2048x7768_S2048x7768 : Vec F S2048x7768 .f32)
        transposes_S2048x7768_S7768x2048_1_0 : Vec F S7768x2048 .f32) := by
  dsimp only [V, hostOps0]; after_results; rfl

/-- The activations, as the call finds them: one row for each sample. -/
theorem V_v0 (c : Dev nD) : V m c main_v0
    = (shapeCast S32x2048 (m ((c : Thread nD τ).loc main_arg0)) shapeCasts_S32x1x2048_S32x2048 : Vec F S32x2048 .f32) := by
  dsimp only [V, hostOps0]; after_results; rfl

/-- The norm weight, as the call finds it: the argument's one row. -/
theorem V_v4 (c : Dev nD) : V m c main_v4
    = (shapeCast S1x2048 (shapeCast S2048 (m ((c : Thread nD τ).loc main_arg1)) shapeCasts_S1x2048_S2048 : Vec F S2048 .f32)
        shapeCasts_S2048_S1x2048 : Vec F S1x2048 .f32) := by
  dsimp only [V, hostOps0]; after_results; rfl

/-- The contents of the table, as a function of no memory. -/
def rows : pre0.Contents (Elt F) := fun | 0 => (fun i => lit0 (S7.rowMajor i) : S7.Idx → BitVec 32)

theorem tbl_eq : tbl m = rows := by
  funext j
  match j with
  | 0 => exact V_c m 0

/-- The starting row of weight tile `j`, in rows of the transposed weight. -/
def row0 : Fin 7 → Nat := fun | 0 => 0 | 1 => 1536 | 2 => 2640 | 3 => 4688 | 4 => 5720 | 5 => 6744 | 6 => 3664

theorem mult_bits : ∀ i : grid0.Coords, (8 : Int) ∣ (k0_mult1 (F := Bits) rows i).toInt := by
  decide +kernel

theorem trans_bits : ∀ i : grid0.Coords, cc0_transform_3 k0_off1_inb numel1_S1 (rows (F := Bits)) i = ![row0 (i 1), 0] := by
  decide +kernel

/-- The multiple of eight the index map states holds of every entry of the table (integers: the same at any float values). -/
theorem mult_nat (i : grid0.Coords) : (8 : Int) ∣ (k0_mult1 (F := F) rows i).toInt := mult_bits i

/-- The element window starts at the row the table places. -/
theorem trans_eq (i : grid0.Coords) : cc0_transform_3 k0_off1_inb numel1_S1 (rows (F := F)) i = ![row0 (i 1), 0] := trans_bits i

/-- The call's side condition on the table: every window it places is inside the weight. -/
theorem ok : Ok m := by
  show ok0 (tbl m)
  rw [tbl_eq]
  refine ⟨mult_nat, fun i => ⟨?_, Or.inl rfl⟩⟩
  rw [trans_eq]
  revert i
  decide +kernel

end Cert.MainSIdeal.Value
-- ==== Proof.MainS.Body.lean ====
/-
  What one grid point of the sample's projection leaves: the normalised rows kept in scratch (first column tile of a row block),
  and the output block, the product of those rows with one weight tile.
-/
module

public import proofs.«01_k».proof.Proof.MainS.Table

@[expose] public section

set_option maxRecDepth 16384

noncomputable section

open Idealize.ShloMosaic Idealize.ShloMosaic.TcCoe Idealize.SL.Sem
open Idealize.ShloMosaic.Pipeline (Dat)

namespace Cert.MainSIdeal.Value

open Cert.MainSIdeal Cert.MainSIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The scale of half tile `k` (0 or 1) of column tile `j`. -/
def scal (s : Vec F S14 .f32) (j : Fin 7) (k : Fin 2) : F .f32 :=
  s (fun a => ⟨2 * j.val + k.val, by
    have h1 : j.val < 7 := j.isLt
    have hk := k.isLt
    match a with
    | ⟨0, _⟩ => show 2 * j.val + k.val < 14; omega⟩)

theorem off2_eq : ∀ (i : grid0.Coords) (k : Fin 2), k0_off2 i (BitVec.ofNat 32 k.val) 0 = 2 * (i 1).val + k.val := by
  decide +kernel

/-- The scalar word the body loads is that scale. -/
theorem ld_scal (s : Vec F S14 .f32) (i : grid0.Coords) (k : Fin 2) (h : ∀ a, k0_off2 i (BitVec.ofNat 32 k.val) a + S1.size a ≤ S14.size a)
    (h1 : 0 < (Rect.unit (s := S14) (k0_off2 i (BitVec.ofNat 32 k.val)) S1.size h).shape.numel) :
    View.ld (Val := Elt F) (e' := .f32) s (Rect.unit (s := S14) (k0_off2 i (BitVec.ofNat 32 k.val)) S1.size h) (Shape.Idx.first h1) = scal s (i 1) k := by
  show s _ = s _
  congr 1
  funext a
  apply Fin.ext
  match a with
  | ⟨0, _⟩ =>
    show k0_off2 i (BitVec.ofNat 32 k.val) 0 + 1 * 0 = _
    rw [off2_eq]; rfl

/-- The output block of column tile `j`: the two halves of the weight tile, each times its scale, against the rows. -/
def blockOut (j : Fin 7) (s : Vec F S14 .f32) (w : Vec F S1024x2048 .f32) (hh : Vec F S32x2048 .bf16) : Vec F S32x1024 .f32 :=
  k0_pay2 (View.ld (Val := Elt F) w (Rect.unit (s := S1024x2048) ![0, 0] S512x2048.size inb_S1024x2048_S512x2048_0_0))
    (scal s j 0)
    (View.ld (Val := Elt F) w (Rect.unit (s := S1024x2048) ![512, 0] S512x2048.size inb_S1024x2048_S512x2048_512_0))
    (scal s j 1) hh

section
variable (c : Dev nD) (i : grid0.Coords) (a3 : Memref sig .tc .smem S14 .f32) (h3 : a3.IsWhole)
    (a4 : Memref sig .tc .vmem S32x2048 .f32) (h4 : a4.IsWhole) (a5 : Memref sig .tc .vmem S1x2048 .f32) (h5 : a5.IsWhole)
    (a6 : Memref sig .tc .vmem S1024x2048 .f32) (h6 : a6.IsWhole) (a7 : Memref sig .tc .vmem S32x1024 .f32) (h7 : a7.IsWhole)
    (a8 : Memref sig .tc .vmem S32x2048 .bf16) (h8 : a8.IsWhole)

/-- At the first column tile the scratch ends at the normalised rows. -/
theorem sout_A (hc : cond0_0 i) (x0 : Vec F S14 .f32) (x1 : Vec F S32x2048 .f32) (x2 : Vec F S1x2048 .f32)
    (x3 : Vec F S1024x2048 .f32) (xt : TbBuf0 (F := F) c tbM0_0) :
    sout0_A_0 c i a3 h3 a4 h4 a5 h5 a6 h6 a7 h7 a8 h8 hc x0 x1 x2 x3 xt = k0_pay1 x1 x2 := by
  unfold sout0_A_0
  rw [View.read_writes_eq_canon _ _ _ (scover0_A_0 c i a3 h3 a4 h4 a5 h5 a6 h6 a7 h7 a8 h8 hc x0 x1 x2 x3 xt)]
  unfold kernelRun0_A
  dsimp only
  sl_unfold_words
  rw [View.canon_unit_zero hz]
  simp only [View.readAt_eq_ld, h4.read_unread, h5.read_unread, View.ld_unit_zero (S := S32x2048) hz, View.ld_unit_zero (S := S1x2048) hz]

/-- The output block at a column tile that is not the first, from the scratch it finds. -/
theorem out_B (hc : ¬cond0_0 i) (x0 : Vec F S14 .f32) (x1 : Vec F S32x2048 .f32) (x2 : Vec F S1x2048 .f32)
    (x3 : Vec F S1024x2048 .f32) (xt : TbBuf0 (F := F) c tbM0_0) (xs : Vec F S32x2048 .bf16) :
    out0_B_4 c i a3 h3 a4 h4 a5 h5 a6 h6 a7 h7 a8 h8 hc x0 x1 x2 x3 xt xs = blockOut (i 1) x0 x3 xs := by
  unfold out0_B_4
  rw [View.read_writes_eq_canon _ _ _ (cover0_B_4 c i a3 h3 a4 h4 a5 h5 a6 h6 a7 h7 a8 h8 hc x0 x1 x2 x3 xt xs)]
  unfold kernelRun0_B
  dsimp only
  sl_unfold_words
  rw [View.canon_unit_zero hz]
  simp only [View.readAt_eq_ld, h3.read_unread, h6.read_unread, h8.read_unread, View.ld_unit_zero (S := S32x2048) hz]
  unfold blockOut
  rw [← ld_scal x0 i 0 (k0_off2_inb i 0) Nat.one_pos, ← ld_scal x0 i 1 (k0_off2_inb i 1) Nat.one_pos]
  rfl

/-- The output block at the first column tile: from the rows just normalised. -/
theorem out_A (hc : cond0_0 i) (x0 : Vec F S14 .f32) (x1 : Vec F S32x2048 .f32) (x2 : Vec F S1x2048 .f32)
    (x3 : Vec F S1024x2048 .f32) (xt : TbBuf0 (F := F) c tbM0_0) :
    out0_A_4 c i a3 h3 a4 h4 a5 h5 a6 h6 a7 h7 a8 h8 hc x0 x1 x2 x3 xt = blockOut (i 1) x0 x3 (k0_pay1 x1 x2) := by
  unfold out0_A_4
  rw [View.read_writes_eq_canon _ _ _ (cover0_A_4 c i a3 h3 a4 h4 a5 h5 a6 h6 a7 h7 a8 h8 hc x0 x1 x2 x3 xt)]
  unfold kernelRun0_A
  dsimp only
  sl_unfold_words
  rw [View.canon_unit_zero hz]
  simp only [View.readCov_unit_zero (S := S32x2048) _ hz, View.readAt_eq_ld, h3.read_unread, h4.read_unread, h5.read_unread, h6.read_unread, View.ld_unit_zero (S := S32x2048) hz, View.ld_unit_zero (S := S1x2048) hz]
  unfold blockOut
  rw [← ld_scal x0 i 0 (k0_off2_inb i 0) Nat.one_pos, ← ld_scal x0 i 1 (k0_off2_inb i 1) Nat.one_pos]
  rfl

end

end Cert.MainSIdeal.Value
-- ==== Proof.MainS.Array.lean ====
/-
  The projection's result array as one function of the arrays the call finds, and the run that ends with it.
-/
module

public import proofs.«01_k».proof.Proof.MainS.Body

@[expose] public section

set_option maxRecDepth 16384

noncomputable section

open Idealize.ShloMosaic Idealize.ShloMosaic.TcCoe Idealize.SL.Sem
open Idealize.ShloMosaic.Pipeline (Dat)

namespace Cert.MainSIdeal.Value

open Cert.MainSIdeal Cert.MainSIdeal.Gen

variable {F : FTy → Type} [FloatOps F]
variable (m : (ℓ : Loc nD τ sig) → Buf (Elt F) ℓ) (ρ : Dev nD → PrngReg)

theorem coords_eq : ∀ t : Fin grid0.N, (grid0.coords t 0).val = t.val / 7 ∧ (grid0.coords t 1).val = t.val % 7 := by
  decide +kernel

theorem row0_le : ∀ j : Fin 7, row0 j + 1024 ≤ 7768 := by decide

/-- Weight tile `j`: 1024 rows of the transposed weight from the row the table places. -/
def wBlk (W : Vec F S7768x2048 .f32) (j : Fin 7) : Vec F S1024x2048 .f32 := fun k =>
  W (fun | 0 => ⟨row0 j + (k 0).val, by have : (k 0).val < 1024 := (k 0).isLt; have := row0_le j; show _ < 7768; omega⟩
         | 1 => ⟨(k 1).val, (k 1).isLt⟩)

theorem idx1 : ∀ i : grid0.Coords, cc0_transform_1 i 0 = 0 := by decide +kernel

theorem iblk_x (c : Dev nD) (t : Fin grid0.N) : iblk m (ok m) c 1 t = V m c main_v0 := by
  refine funext fun (j : S32x2048.Idx) => ?_
  show V m c main_v0 _ = V m c main_v0 _
  congr 1
  funext a
  apply Fin.ext
  match a with
  | ⟨0, _⟩ => show cc0_transform_1 (grid0.coords t) 0 * 32 + 1 * (j 0).val = (j 0).val
              rw [idx1]; omega
  | ⟨1, _⟩ => show 0 * 2048 + 1 * (j 1).val = (j 1).val; omega

theorem iblk_s (c : Dev nD) (t : Fin grid0.N) : iblk m (ok m) c 0 t = V m c main_cst := by
  refine funext fun (j : S14.Idx) => ?_
  show V m c main_cst _ = V m c main_cst _
  congr 1
  funext a
  apply Fin.ext
  match a with
  | ⟨0, _⟩ => show 0 * 14 + 1 * (j 0).val = (j 0).val; omega

theorem iblk_n (c : Dev nD) (t : Fin grid0.N) : iblk m (ok m) c 2 t = V m c main_v4 := by
  refine funext fun (j : S1x2048.Idx) => ?_
  show V m c main_v4 _ = V m c main_v4 _
  congr 1
  funext a
  apply Fin.ext
  match a with
  | ⟨0, _⟩ => show 0 * 1 + 1 * (j 0).val = (j 0).val; omega
  | ⟨1, _⟩ => show 0 * 2048 + 1 * (j 1).val = (j 1).val; omega

theorem iblk_w (c : Dev nD) (t : Fin grid0.N) :
    iblk m (ok m) c 3 t = wBlk (V m c main_v3) (grid0.coords t 1) := by
  have e := trans_eq (F := F) (grid0.coords t)
  rw [← tbl_eq m] at e
  refine funext fun (j : S1024x2048.Idx) => ?_
  show V m c main_v3 _ = V m c main_v3 _
  congr 1
  funext a
  apply Fin.ext
  match a with
  | ⟨0, _⟩ => show cc0_transform_3 k0_off1_inb numel1_S1 (tbl m) (grid0.coords t) 0 + 1 * (j 0).val = row0 (grid0.coords t 1) + (j 0).val
              rw [e]; show row0 _ + _ = _; omega
  | ⟨1, _⟩ => show cc0_transform_3 k0_off1_inb numel1_S1 (tbl m) (grid0.coords t) 1 + 1 * (j 1).val = (j 1).val
              rw [e]; show 0 + _ = _; omega

theorem pay1_congr {x x' : Vec F S32x2048 .f32} {n n' : Vec F S1x2048 .f32} (hx : x = x') (hn : n = n') : k0_pay1 x n = k0_pay1 x' n' := by
  subst hx hn; rfl

theorem blockOut_congr {j : Fin 7} {s s' : Vec F S14 .f32} {w w' : Vec F S1024x2048 .f32} {h h' : Vec F S32x2048 .bf16}
    (hs : s = s') (hw : w = w') (hh : h = h') : blockOut j s w h = blockOut j s' w' h' := by subst hs hw hh; rfl

/-- After point `n` the scratch holds the normalised rows: by induction on the point. -/
theorem scratch_eq (c : Dev nD) : ∀ (n : ℕ) (h : n < grid0.N),
    (outsAt0 m (ok m) c n h).2 = k0_pay1 (V m c main_v0) (V m c main_v4)
  | 0, h => by
    rw [outsAt0_A m (ok m) c ⟨0, h⟩ rfl]
    dsimp only
    refine (sout_A ..).trans ?_
    exact pay1_congr (iblk_x m c ⟨0, h⟩) (iblk_n m c ⟨0, h⟩)
  | n + 1, h => by
    by_cases h0 : (n + 1) % 7 = 0
    · rw [outsAt0_A m (ok m) c ⟨n + 1, h⟩ h0]
      dsimp only
      refine (sout_A ..).trans ?_
      exact pay1_congr (iblk_x m c ⟨n + 1, h⟩) (iblk_n m c ⟨n + 1, h⟩)
    · rw [outsAt0_B m (ok m) c ⟨n + 1, h⟩ h0]
      exact scratch_eq c n (Nat.lt_of_succ_lt h)

/-- What point `t` leaves in the output block. -/
theorem out_eq (c : Dev nD) (t : Fin grid0.N) :
    (outsAt0 m (ok m) c t.val t.isLt).1
      = blockOut (grid0.coords t 1) (V m c main_cst) (wBlk (V m c main_v3) (grid0.coords t 1)) (k0_pay1 (V m c main_v0) (V m c main_v4)) := by
  by_cases h0 : t.val % 7 = 0
  · rw [outsAt0_A m (ok m) c t h0]
    dsimp only
    refine (out_A ..).trans ?_
    exact blockOut_congr (iblk_s m c t) (iblk_w m c t) (pay1_congr (iblk_x m c t) (iblk_n m c t))
  · rw [outsAt0_B m (ok m) c t h0]
    dsimp only
    refine (out_B ..).trans ?_
    refine blockOut_congr (iblk_s m c t) (iblk_w m c t) (scratch_eq m c _ _)

/-- The whole result: element (p, q) is in column tile q/1024. -/
def G (S : Vec F S14 .f32) (X : Vec F S32x2048 .f32) (N : Vec F S1x2048 .f32) (W : Vec F S7768x2048 .f32) : Vec F S32x7168 .f32 := fun i =>
  blockOut ⟨(i 1).val / 1024, by have : (i 1).val < 7168 := (i 1).isLt; omega⟩ S
    (wBlk W ⟨(i 1).val / 1024, by have : (i 1).val < 7168 := (i 1).isLt; omega⟩) (k0_pay1 X N)
    (fun | 0 => ⟨(i 0).val, (i 0).isLt⟩ | 1 => ⟨(i 1).val % 1024, Nat.mod_lt _ (by decide)⟩)

/-- The result array, from what the call finds. -/
abbrev result (c : Dev nD) : Buf (Elt F) ((c : Thread nD τ).loc main_v5) :=
  G (V m c main_cst) (V m c main_v0) (V m c main_v4) (V m c main_v3)

theorem idx4 : ∀ t : Fin grid0.N, cc0_transform_4 (grid0.coords t) 0 = t.val / 7 ∧ cc0_transform_4 (grid0.coords t) 1 = t.val % 7 := by
  decide +kernel

/-- Element `j` of column tile `q` is element (j₀, 1024 q + j₁) of the whole result. -/
theorem G_at (S : Vec F S14 .f32) (X : Vec F S32x2048 .f32) (N : Vec F S1x2048 .f32) (W : Vec F S7768x2048 .f32)
    (q : Fin 7) (j : S32x1024.Idx) (i : S32x7168.Idx)
    (e0 : (i 0).val = (j 0).val) (e1 : (i 1).val = q.val * 1024 + (j 1).val) :
    blockOut q S (wBlk W q) (k0_pay1 X N) j = G S X N W i := by
  have h1 : (j 1).val < 1024 := (j 1).isLt
  unfold G
  have c1 : (⟨(i 1).val / 1024, by have := q.isLt; omega⟩ : Fin 7) = q := by
    apply Fin.ext; show _ / 1024 = _; omega
  rw [c1]
  congr 1
  funext a
  apply Fin.ext
  match a with
  | ⟨0, _⟩ => show (j 0).val = (i 0).val; omega
  | ⟨1, _⟩ => show (j 1).val = (i 1).val % 1024; omega

/-- Point `t` writes back its column tile of the result. -/
theorem flushed_eq (c : Dev nD) (t : Fin (cfgM m (ok m)).N) (hf : ((cfgM m (ok m)).win 4).flush t = true) :
    (dats m (ok m) 0 c).flushed 4 t = (((cfgM m (ok m)).win 4).blk t).view.read (Elt F) (result m c) := by
  show ((cfgM m (ok m)).win 4).cut (grid0.coords t) ((dats m (ok m) 0 c).after 4 t) = _
  rw [after0_4]
  refine funext fun (j : S32x1024.Idx) => ?_
  refine (congrFun (out_eq m c t) j).trans ?_
  show _ = result m c ((((cfgM m (ok m)).win 4).blk t).view.emb j)
  refine G_at _ _ _ _ _ _ _ ?_ ?_
  · show cc0_transform_4 (grid0.coords t) 0 * 32 + 1 * (j 0).val = (j 0).val
    rw [(idx4 t).1]; have := t.isLt; have : t.val < 7 := this; omega
  · show cc0_transform_4 (grid0.coords t) 1 * 1024 + 1 * (j 1).val = (grid0.coords t 1).val * 1024 + (j 1).val
    rw [(idx4 t).2, (coords_eq t).2]; omega

/-- Every element of the result is in the block of some point. -/
theorem cover_o (i : S32x7168.Idx) : ∃ t : Fin (cfgM m (ok m)).N, ((cfgM m (ok m)).win 4).flush t = true ∧ i ∈ (((cfgM m (ok m)).win 4).blk t).view.set := by
  have h0 : (i 0 : Nat) < 32 := (i 0).isLt
  have h1 : (i 1 : Nat) < 7168 := (i 1).isLt
  let t : Fin grid0.N := ⟨(i 1).val / 1024, by rw [show grid0.N = 7 from N_0]; omega⟩
  refine ⟨t, flush0_4 _ t, ?_⟩
  show i ∈ ((View.whole main_v5).slice (((cfgM m (ok m)).win 4).rect t)).set
  refine (Finset.ext_iff.mp (View.set_slice_whole main_v5 (((cfgM m (ok m)).win 4).rect t)) i).mpr ?_
  refine Rect.mem_set_unit.mpr ?_
  intro a
  match a with
  | ⟨0, _⟩ => show cc0_transform_4 (grid0.coords t) 0 * 32 ≤ (i 0 : Nat) ∧ (i 0 : Nat) < cc0_transform_4 (grid0.coords t) 0 * 32 + 32
              rw [(idx4 t).1, show t.val = (i 1).val / 1024 from rfl]; omega
  | ⟨1, _⟩ => show cc0_transform_4 (grid0.coords t) 1 * 1024 ≤ (i 1 : Nat) ∧ (i 1 : Nat) < cc0_transform_4 (grid0.coords t) 1 * 1024 + 1024
              rw [(idx4 t).2, show t.val = (i 1).val / 1024 from rfl]; omega

/-- So the result array ends at the whole function: the seven blocks tile it. -/
theorem final_o (c : Dev nD) : (dats m (ok m) 0 c).arrAt 4 (cfgM m (ok m)).N = result m c :=
  (dats m (ok m) 0 c).arrAt_eq_of_cover 4 (result m c) (flushed_eq m c) (cover_o m)

/-- The run, read: the result array at the whole function of what the call finds, the arguments unchanged. -/
theorem run : θ_run defs (onTc (τ := τ) (main (F := F))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 4).trans (final_o m c), h.2.1 c⟩)
    (θ_run_and (run_main m ρ (ok m)) (frame m ρ (ok m)))

end Cert.MainSIdeal.Value
-- ==== Proof.MainS.Value.lean ====
/-
  The projection's result over the extended reals, element by element.
-/
module

public import proofs.«01_k».proof.Proof.MainS.Array
public import proofs.«01_k».proof.Proof.Main.Arith

@[expose] public section

set_option maxRecDepth 16384

noncomputable section

open Idealize.ShloMosaic Idealize.ShloMosaic.TcCoe Idealize.SL.Sem
open Idealize.ShloMosaic.Pipeline (Dat)

namespace Cert.MainSIdeal.Value

open Cert.MainSIdeal Cert.MainSIdeal.Gen Cert.Rms

/-- A row normalised, at an element. -/
theorem pay1_apply (x : Vec Ideal S32x2048 .f32) (n : Vec Ideal S1x2048 .f32) (p : Fin 32) (k : Fin 2048) :
    k0_pay1 (F := Ideal) x n (ix2 p k) = (x (ix2 p k) * rn (fun k' => x (ix2 p k')) * n (ix2 0 k) : EReal) := by
  pointwise [k0_pay1, rn]

/-- A block of the product, at an element. -/
theorem pay2_apply (a : Vec Ideal S512x2048 .f32) (s0 : EReal) (b : Vec Ideal S512x2048 .f32) (s1 : EReal)
    (h : Vec Ideal S32x2048 .bf16) (p : Fin 32) (q : Fin 1024) :
    k0_pay2 (F := Ideal) a s0 b s1 h (ix2 p q)
      = ∑ k : Fin 2048, (h (ix2 p k) * (if hq : q.val < 512 then a (ix2 ⟨q.val, hq⟩ k) * s0 else b (ix2 ⟨q.val - 512, by omega⟩ k) * s1) : EReal) := by
  pointwise [k0_pay2]

/-- The column of the weight that result column `q` is computed from. -/
def colOf (q : Fin 7168) : Fin 7768 :=
  ⟨row0 ⟨q.val / 1024, by omega⟩ + q.val % 1024, by have := row0_le ⟨q.val / 1024, by omega⟩; omega⟩

/-- Element (p, q) of a block: the rows against the tile's row `q`, scaled by the scale of its half. -/
theorem blockOut_apply (j : Fin 7) (S : Vec Ideal S14 .f32) (w : Vec Ideal S1024x2048 .f32) (h : Vec Ideal S32x2048 .bf16)
    (p : Fin 32) (q : Fin 1024) :
    blockOut (F := Ideal) j S w h (ix2 p q)
      = ∑ k : Fin 2048, (h (ix2 p k) * (w (ix2 q k) * S (ix1 ⟨2 * j.val + q.val / 512, by omega⟩)) : EReal) := by
  unfold blockOut
  rw [pay2_apply]
  refine Finset.sum_congr rfl fun k _ => ?_
  congr 1
  by_cases hq : q.val < 512
  · rw [dif_pos hq]
    congr 1
    · show w _ = w _
      congr 1; funext a; apply Fin.ext
      match a with
      | ⟨0, _⟩ => show 0 + 1 * q.val = q.val; omega
      | ⟨1, _⟩ => show 0 + 1 * k.val = k.val; omega
    · show S _ = S _
      congr 1; funext a; apply Fin.ext
      match a with
      | ⟨0, _⟩ => show 2 * j.val + 0 = 2 * j.val + q.val / 512; omega
  · rw [dif_neg hq]
    congr 1
    · show w _ = w _
      congr 1; funext a; apply Fin.ext
      match a with
      | ⟨0, _⟩ => show 512 + 1 * (q.val - 512) = q.val; omega
      | ⟨1, _⟩ => show 0 + 1 * k.val = k.val; omega
    · show S _ = S _
      congr 1; funext a; apply Fin.ext
      match a with
      | ⟨0, _⟩ => show 2 * j.val + 1 = 2 * j.val + q.val / 512; omega

/-- Element (r, q) of the whole result: row `r` normalised, against the weight's column, scaled. -/
theorem G_apply (S : Vec Ideal S14 .f32) (X : Vec Ideal S32x2048 .f32) (N : Vec Ideal S1x2048 .f32) (W : Vec Ideal S7768x2048 .f32)
    (r : Fin 32) (q : Fin 7168) :
    G (F := Ideal) S X N W (ix2 r q)
      = ∑ k : Fin 2048, (X (ix2 r k) * rn (fun k' => X (ix2 r k')) * N (ix2 0 k) * (W (ix2 (colOf q) k) * S (ix1 ⟨q.val / 512, by omega⟩)) : EReal) := by
  rw [← G_at S X N W ⟨q.val / 1024, by omega⟩ (ix2 r ⟨q.val % 1024, by omega⟩) (ix2 r q)
    rfl (by show q.val = q.val / 1024 * 1024 + q.val % 1024; omega)]
  rw [blockOut_apply]
  refine Finset.sum_congr rfl fun k _ => ?_
  congr 1
  · rw [pay1_apply]
  · congr 1
    · show W _ = W _
      congr 1; funext a; apply Fin.ext
      match a with
      | ⟨0, _⟩ => rfl
      | ⟨1, _⟩ => rfl
    · congr 1; funext a; apply Fin.ext
      match a with
      | ⟨0, _⟩ => show 2 * (q.val / 1024) + q.val % 1024 / 512 = q.val / 512; omega

end Cert.MainSIdeal.Value
-- ==== Proof.MainS.RefValue.lean ====
/-
  The reference's result over the extended reals, element by element.
-/
module

public import proofs.«01_k».proof.Proof.MainS.Value
public import proofs.«01_k».proof.Proof.Gen.MainSRefIdeal.Read

@[expose] public section

set_option maxRecDepth 16384

noncomputable section

open Idealize.ShloMosaic Idealize.ShloMosaic.TcCoe Idealize.SL.Sem

namespace Cert.MainSRefIdeal.Value

open Cert.MainSRefIdeal Cert.MainSRefIdeal.Read Cert.Rms
open Cert.MainSIdeal.Value (colOf row0)

variable (x0 : Vec Ideal S32x1x2048 .f32) (x1 : Vec Ideal S1x2048 .f32) (x2 : Vec Ideal S1x2048x7768 .f32)

/-- A row of the activations normalised, at an element. -/
theorem v13_apply (b : Fin 32) (k : Fin 2048) :
    val_main_v13 (F := Ideal) x0 x1 (ix3 b 0 k) = (x0 (ix3 b 0 k) * rn (fun k' => x0 (ix3 b 0 k')) * x1 (ix2 0 k) : EReal) := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, rn]

/-- The projection at an element. -/
theorem v15_apply (b : Fin 32) (c : Fin 7768) :
    val_main_v15 (F := Ideal) x0 x1 x2 (ix3 b 0 c)
      = ∑ k : Fin 2048, (x0 (ix3 b 0 k) * rn (fun k' => x0 (ix3 b 0 k')) * x1 (ix2 0 k) * x2 (ix3 0 k c) : EReal) := by
  have e : val_main_v15 (F := Ideal) x0 x1 x2 (ix3 b 0 c)
      = ∑ k : Fin 2048, (val_main_v13 (F := Ideal) x0 x1 (ix3 b 0 k) * x2 (ix3 0 k c) : EReal) := by
    pointwise [val_main_v15, val_main_v14]
  rw [e]
  simp only [v13_apply]

/-- The scale of result column `q`. -/
def scq (q : Fin 7168) : EReal := Ideal.ofBits .f32 (Cert.MainSIdeal.lit1 ⟨q.val / 512, by omega⟩)

theorem colOf_of (q : Fin 7168) (j : Fin 7) (h : q.val / 1024 = j.val) : (colOf q).val = row0 j + q.val % 1024 := by
  have e : (⟨q.val / 1024, by omega⟩ : Fin 7) = j := Fin.ext h
  show row0 ⟨q.val / 1024, _⟩ + q.val % 1024 = _
  rw [e]

theorem scq_of (q : Fin 7168) (j : Fin 14) (h : q.val / 512 = j.val) : scq q = Ideal.ofBits .f32 (Cert.MainSIdeal.lit1 j) := by
  have e : (⟨q.val / 512, by omega⟩ : Fin 14) = j := Fin.ext h
  show Ideal.ofBits .f32 (Cert.MainSIdeal.lit1 ⟨q.val / 512, _⟩) = _
  rw [e]

/-- An unscaled part: the scale is one. -/
theorem scq_one (q : Fin 7168) (h0 : 2 ≤ q.val / 512) (h1 : q.val / 512 < 13) : scq q = 1 := by
  have hw : ∀ j : Fin 14, 2 ≤ j.val → j.val < 13 → Cert.MainSIdeal.lit1 j = 0x3F800000#32 := by decide
  rw [scq_of q ⟨q.val / 512, by omega⟩ rfl, hw _ h0 h1]
  exact Ideal.ofBits_one_f32

/-- The eight parts side by side: column `q` is the projection's column the kernel takes it from, times its scale. -/
theorem v34_apply (b : Fin 32) (q : Fin 7168) :
    val_main_v34 (F := Ideal) x0 x1 x2 (ix3 b 0 q) = (val_main_v15 (F := Ideal) x0 x1 x2 (ix3 b 0 (colOf q)) * scq q : EReal) := by
  unfold val_main_v34
  pointwise [val_main_v31, val_main_v30, val_main_cst_2, val_main_v33, val_main_v32, val_main_cst_3, val_main_v16, val_main_v19, val_main_v22, val_main_v23, val_main_v24, val_main_v25, val_main_v28, val_main_v29]
  have key : ∀ (c : Fin 7768) (j : Fin 7), q.val / 1024 = j.val → c.val = row0 j + q.val % 1024 → c = colOf q :=
    fun c j hj hc => Fin.ext (hc.trans (colOf_of q j hj).symm)
  have hq := q.isLt
  have sc0 : q.val < 1024 → scq q = Ideal.ofBits .f32 0x3E0293EE#32 := fun h => by
    have hw : ∀ j : Fin 14, j.val < 2 → Cert.MainSIdeal.lit1 j = 0x3E0293EE#32 := by decide
    rw [scq_of q ⟨q.val / 512, by omega⟩ rfl, hw _ (by show q.val / 512 < 2; omega)]
  have sc1 : 6656 ≤ q.val → scq q = Ideal.ofBits .f32 0x3DB504F3#32 := fun h =>
    scq_of q 13 (by show q.val / 512 = 13; omega)
  split
  · rename_i h
    rw [sc0 h, key ⟨q.val, by omega⟩ 0 (by show _ = 0; omega) (by show q.val = 0 + q.val % 1024; omega)]
  split
  · rename_i h0 h
    rw [scq_one q (by omega) (by omega), mul_one, key ⟨1536 + (q.val - 1024), by omega⟩ 1 (by show _ = 1; omega) (by show 1536 + (q.val - 1024) = 1536 + q.val % 1024; omega)]
  split
  · rename_i h0 h1 h
    rw [scq_one q (by omega) (by omega), mul_one, key ⟨2640 + (q.val - 1024 - 1024), by omega⟩ 2 (by show _ = 2; omega) (by show 2640 + (q.val - 1024 - 1024) = 2640 + q.val % 1024; omega)]
  split
  · rename_i h0 h1 h2 h
    rw [scq_one q (by omega) (by omega), mul_one, key ⟨4688 + (q.val - 1024 - 1024 - 1024), by omega⟩ 3 (by show _ = 3; omega) (by show 4688 + (q.val - 1024 - 1024 - 1024) = 4688 + q.val % 1024; omega)]
  split
  · rename_i h0 h1 h2 h3 h
    rw [scq_one q (by omega) (by omega), mul_one, key ⟨5720 + (q.val - 1024 - 1024 - 1024 - 1024), by omega⟩ 4 (by show _ = 4; omega) (by show 5720 + (q.val - 1024 - 1024 - 1024 - 1024) = 5720 + q.val % 1024; omega)]
  split
  · rename_i h0 h1 h2 h3 h4 h
    rw [scq_one q (by omega) (by omega), mul_one, key ⟨6744 + (q.val - 1024 - 1024 - 1024 - 1024 - 1024), by omega⟩ 5 (by show _ = 5; omega) (by show 6744 + (q.val - 1024 - 1024 - 1024 - 1024 - 1024) = 6744 + q.val % 1024; omega)]
  split
  · rename_i h0 h1 h2 h3 h4 h5 h
    rw [scq_one q (by omega) (by omega), mul_one, key ⟨3664 + (q.val - 1024 - 1024 - 1024 - 1024 - 1024 - 1024), by omega⟩ 6 (by show _ = 6; omega) (by show 3664 + (q.val - 1024 - 1024 - 1024 - 1024 - 1024 - 1024) = 3664 + q.val % 1024; omega)]
  · rename_i h0 h1 h2 h3 h4 h5 h
    rw [sc1 (by omega), key ⟨4176 + (q.val - 1024 - 1024 - 1024 - 1024 - 1024 - 1024 - 512), by omega⟩ 6 (by show _ = 6; omega) (by show 4176 + (q.val - 1024 - 1024 - 1024 - 1024 - 1024 - 1024 - 512) = 3664 + q.val % 1024; omega)]

/-- The scale of any column is a non-negative real. -/
theorem scq_real (q : Fin 7168) : ∃ r : ℝ, 0 ≤ r ∧ scq q = (r : EReal) := by
  have hw : ∀ j : Fin 14, (Cert.MainSIdeal.lit1 j).extractLsb' 31 1 = 0#1 ∧ ((Cert.MainSIdeal.lit1 j).extractLsb' 23 8).toNat ≠ 2 ^ 8 - 1
      ∧ ((Cert.MainSIdeal.lit1 j).extractLsb' 23 8).toNat ≠ 0 := by decide
  obtain ⟨a, b, c⟩ := hw ⟨q.val / 512, by omega⟩
  exact normal_real _ a b c

/-- The reference's result at an element. -/
theorem v35_apply (r : Fin 32) (q : Fin 7168) :
    val_main_v35 (F := Ideal) x0 x1 x2 (ix2 r q)
      = (val_main_v15 (F := Ideal) x0 x1 x2 (ix3 r 0 (colOf q)) * scq q : EReal) := by
  have e : val_main_v35 (F := Ideal) x0 x1 x2 (ix2 r q)
      = val_main_v34 (F := Ideal) x0 x1 x2 (ix3 r 0 q) := by
    unfold val_main_v35
    generalize val_main_v34 (F := Ideal) x0 x1 x2 = y
    pointwise []
  rw [e, v34_apply]

open Cert.MainSIdeal (S14 lit1) in
/-- The table of scales the kernel's call finds, at a column's tile. -/
theorem scale_at (q : Fin 7168) :
    (fun i => FloatOps.ofBits .f32 (lit1 (S14.rowMajor i)) : S14.Idx → Ideal .f32) (ix1 ⟨q.val / 512, by omega⟩) = scq q := by
  show FloatOps.ofBits (F := Ideal) .f32 (lit1 _) = FloatOps.ofBits (F := Ideal) .f32 (lit1 _)
  congr 2
  apply Fin.ext; rw [Shape.rowMajor_val_one]; rfl

open Cert.MainSIdeal (S14 S7768x2048 S32x2048 S2048 S2048x7768 lit1) in
/-- The kernel's whole result, of the arrays its call finds, is the reference's. -/
theorem G_eq (S : Vec Ideal S14 .f32) (hs : ∀ q : Fin 7168, S (ix1 ⟨q.val / 512, by omega⟩) = scq q) :
    Cert.MainSIdeal.Value.G (F := Ideal) S
        (shapeCast S32x2048 x0 Cert.MainSIdeal.Facts₀.shapeCasts_S32x1x2048_S32x2048 : Vec Ideal S32x2048 .f32)
        (shapeCast S1x2048 (shapeCast S2048 x1 Cert.MainSIdeal.Facts₀.shapeCasts_S1x2048_S2048 : Vec Ideal S2048 .f32)
          Cert.MainSIdeal.Facts₀.shapeCasts_S2048_S1x2048 : Vec Ideal S1x2048 .f32)
        (transpose S7768x2048 [1, 0] (shapeCast S2048x7768 x2 Cert.MainSIdeal.Facts₀.shapeCasts_S1x2048x7768_S2048x7768 : Vec Ideal S2048x7768 .f32)
          Cert.MainSIdeal.Facts₀.transposes_S2048x7768_S7768x2048_1_0 : Vec Ideal S7768x2048 .f32)
      = val_main_v35 (F := Ideal) x0 x1 x2 := by
  refine funext fun (i : S32x7168.Idx) => ?_
  obtain ⟨r, q, rfl⟩ : ∃ (r : Fin 32) (q : Fin 7168), i = ix2 r q := ⟨i 0, i 1, eq_ix2 i⟩
  have hx : ∀ k : Fin 2048, (shapeCast S32x2048 x0 Cert.MainSIdeal.Facts₀.shapeCasts_S32x1x2048_S32x2048 : Vec Ideal S32x2048 .f32) (ix2 r k)
      = x0 (ix3 r 0 k) := fun k => by
    pointwise []
  have hn : ∀ k : Fin 2048, (shapeCast S1x2048 (shapeCast S2048 x1 Cert.MainSIdeal.Facts₀.shapeCasts_S1x2048_S2048 : Vec Ideal S2048 .f32)
          Cert.MainSIdeal.Facts₀.shapeCasts_S2048_S1x2048 : Vec Ideal S1x2048 .f32) (ix2 0 k) = x1 (ix2 0 k) := fun k => by
    pointwise []
  have hw : ∀ (c : Fin 7768) (k : Fin 2048), (transpose S7768x2048 [1, 0] (shapeCast S2048x7768 x2 Cert.MainSIdeal.Facts₀.shapeCasts_S1x2048x7768_S2048x7768 : Vec Ideal S2048x7768 .f32)
          Cert.MainSIdeal.Facts₀.transposes_S2048x7768_S7768x2048_1_0 : Vec Ideal S7768x2048 .f32) (ix2 c k) = x2 (ix3 0 k c) := fun c k => by
    pointwise []
  refine (Cert.MainSIdeal.Value.G_apply _ _ _ _ r q).trans ?_
  rw [v35_apply, v15_apply, ← scale_sum_of (scq_real q)]
  simp only [hs, hx, hn, hw]

end Cert.MainSRefIdeal.Value
-- ==== Proof.MainS.Claim.lean ====
/-
  The sample's in-projection's claims: the kernel's result is the reference's.
-/
module

public import proofs.«01_k».proof.Defs
public import proofs.«01_k».proof.Proof.MainS.RefValue
public import proofs.«01_k».proof.Proof.Gen.MainSRefIdeal.Run
public import proofs.«01_k».proof.Proof.Gen.MainS.Frame

@[expose] public section

set_option maxRecDepth 16384

noncomputable section

open Idealize.ShloMosaic Idealize.ShloMosaic.TcCoe Idealize.SL.Sem

namespace Cert.Proof.MainS

/-- The side condition of the table, of the program as given: its text is the same. -/
theorem ok_kernel (m : (ℓ : Loc Cert.MainS.nD Cert.MainS.τ Cert.MainS.sig) → Buf (Elt Bits) ℓ) : Cert.MainS.Gen.Ok m :=
  Cert.MainSIdeal.Value.ok (F := Bits) m

/-- The kernel as given terminates, leaves its arguments and ends with every counter at zero. -/
theorem frame_kernel : Cert.quiescent_MainS := fun m ρ _ => Cert.MainS.Gen.frame (F := Bits) m ρ (ok_kernel m)

/-- The same of the kernel over the extended reals. -/
theorem frame_ideal : Cert.quiescent_MainSIdeal := fun m ρ _ =>
  Cert.MainSIdeal.Gen.frame m ρ (Cert.MainSIdeal.Value.ok m)

/-- The reference terminates, leaves its arguments, and has no semaphore. -/
theorem frame_reference : Cert.quiescent_MainSRefIdeal := fun m ρ _ =>
  (θ_run Cert.MainSRefIdeal.defs _ _).mono (fun r h => ⟨fun c => (h c).2, sem_eq_zero_of_no_sems (by decide) r.2⟩)
    (Cert.MainSRefIdeal.Value.run m ρ)

/-- What the kernel's call leaves in its result is what the reference's operations leave in theirs, of the same arguments. -/
theorem result_eq (m : (ℓ : Loc Cert.MainSIdeal.nD Cert.MainSIdeal.τ Cert.MainSIdeal.sig) → Buf (Elt Ideal) ℓ) (c : Dev Cert.MainSIdeal.nD) :
    Cert.MainSIdeal.Value.result m c
      = Cert.MainSRefIdeal.Read.val_main_v35 (m ((c.tc : Thread Cert.MainSIdeal.nD Cert.MainSIdeal.τ).loc Cert.MainSIdeal.main_arg0))
          (m ((c.tc : Thread Cert.MainSIdeal.nD Cert.MainSIdeal.τ).loc Cert.MainSIdeal.main_arg1))
          (m ((c.tc : Thread Cert.MainSIdeal.nD Cert.MainSIdeal.τ).loc Cert.MainSIdeal.main_arg2)) := by
  unfold Cert.MainSIdeal.Value.result
  rw [Cert.MainSIdeal.Value.V_cst, Cert.MainSIdeal.Value.V_v0, Cert.MainSIdeal.Value.V_v4, Cert.MainSIdeal.Value.V_v3]
  exact Cert.MainSRefIdeal.Value.G_eq _ _ _ _ Cert.MainSRefIdeal.Value.scale_at

/-- The kernel and the reference end with the same result, over the extended reals, from memories with the same arguments. -/
theorem value : Cert.algebraic_MainSIdeal_MainSRefIdeal := fun m ρ m' ρ' _ hag =>
  ⟨fun c => Cert.MainSIdeal.Value.result m c, Cert.MainSIdeal.Value.run m ρ,
    (θ_run _ _ _).mono (fun r h c => ⟨(h c).1.trans (by
        obtain ⟨a0, a1, a2⟩ := hag c
        rw [Cert.MainSRefIdeal.Read.val_main_v35_eq, a0, a1, a2]; exact (result_eq m c).symm), (h c).2⟩) (Cert.MainSRefIdeal.Value.run m' ρ')⟩

end Cert.Proof.MainS
-- ==== Proof.Out.Array.lean ====
/-
  The out-projection's call: what one grid point leaves (the weight rounded once into scratch, a block of 256 rows of the
  result), and the whole result array, over any float values.
-/
module

public import proofs.«01_k».proof.Proof.Gen.OutIdeal.Value
public import Idealize.ShloMosaic.Lib.Pipeline.ReadBack
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)

namespace Cert.OutIdeal.Value

open Cert.OutIdeal Cert.OutIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The activations, as the call finds them: both batches' rows one after the other. -/
theorem V_v0 (c : Dev nD) : V m c main_v0
    = (shapeCast S8192x2048 (m ((c : Thread nD τ).loc main_arg0)) shapeCasts_S2x4096x2048_S8192x2048 : Vec F S8192x2048 .f32) := by
  dsimp only [V, hostOps0]; after_results; rfl

/-- The weight, as the call finds it: the argument's one matrix. -/
theorem V_v1 (c : Dev nD) : V m c main_v1
    = (shapeCast S2048x2048 (m ((c : Thread nD τ).loc main_arg3)) shapeCasts_S1x2048x2048_S2048x2048 : Vec F S2048x2048 .f32) := by
  dsimp only [V, hostOps0]; after_results; rfl

/-- The norm weight, as the call finds it: as one row. -/
theorem V_v2 (c : Dev nD) : V m c main_v2
    = (shapeCast S1x2048 (m ((c : Thread nD τ).loc main_arg4)) shapeCasts_S2048_S1x2048 : Vec F S1x2048 .f32) := by
  dsimp only [V, hostOps0]; after_results; rfl

/-- The sparse attention's output, as the call finds it. -/
theorem V_a1 (c : Dev nD) : V m c main_arg1 = m ((c : Thread nD τ).loc main_arg1) := by
  dsimp only [V, hostOps0]; after_results

/-- The recurrent mixer's output, as the call finds it. -/
theorem V_a2 (c : Dev nD) : V m c main_arg2 = m ((c : Thread nD τ).loc main_arg2) := by
  dsimp only [V, hostOps0]; after_results

/-- A block of the result: both mixers' rows against their halves of the weight, the residual, the final norm. -/
def blockOut (x : Vec F S256x2048 .f32) (a ml : Vec F S256x1024 .bf16) (w : Vec F S2048x2048 .bf16) (n : Vec F S1x2048 .f32) : Vec F S256x2048 .f32 :=
  k0_pay2 x a (View.ld (Val := Elt F) w (Rect.unit (s := S2048x2048) ![0, 0] S1024x2048.size inb_S2048x2048_S1024x2048_0_0))
    ml (View.ld (Val := Elt F) w (Rect.unit (s := S2048x2048) ![1024, 0] S1024x2048.size inb_S2048x2048_S1024x2048_1024_0)) n

section
variable (c : Dev nD) (i : grid0.Coords) (a1 : Memref sig .tc .vmem S256x2048 .f32) (h1 : a1.IsWhole)
    (a2 : Memref sig .tc .vmem S256x1024 .bf16) (h2 : a2.IsWhole) (a3 : Memref sig .tc .vmem S256x1024 .bf16) (h3 : a3.IsWhole)
    (a4 : Memref sig .tc .vmem S2048x2048 .f32) (h4 : a4.IsWhole) (a5 : Memref sig .tc .vmem S1x2048 .f32) (h5 : a5.IsWhole)
    (a6 : Memref sig .tc .vmem S256x2048 .f32) (h6 : a6.IsWhole) (a7 : Memref sig .tc .vmem S2048x2048 .bf16) (h7 : a7.IsWhole)
    (x0 : Vec F S256x2048 .f32) (x1 x2 : Vec F S256x1024 .bf16) (x3 : Vec F S2048x2048 .f32) (x4 : Vec F S1x2048 .f32)

/-- At the first point the scratch ends at the rounded weight. -/
theorem sout_A (hc : cond0_0 i) :
    sout0_A_0 c i a1 h1 a2 h2 a3 h3 a4 h4 a5 h5 a6 h6 a7 h7 hc x0 x1 x2 x3 x4 = k0_pay1 x3 := by
  unfold sout0_A_0
  rw [View.read_writes_eq_canon _ _ _ (scover0_A_0 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h4.read_unread, View.ld_unit_zero (S := S2048x2048) hz]

/-- The block at a later point, from the scratch it finds. -/
theorem out_B (hc : ¬cond0_0 i) (xs : Vec F S2048x2048 .bf16) :
    out0_B_5 c i a1 h1 a2 h2 a3 h3 a4 h4 a5 h5 a6 h6 a7 h7 hc x0 x1 x2 x3 x4 xs = blockOut x0 x1 x2 xs x4 := by
  unfold out0_B_5
  rw [View.read_writes_eq_canon _ _ _ (cover0_B_5 c i a1 h1 a2 h2 a3 h3 a4 h4 a5 h5 a6 h6 a7 h7 hc x0 x1 x2 x3 x4 xs)]
  unfold kernelRun0_B
  dsimp only
  sl_unfold_words
  rw [View.canon_unit_zero hz]
  simp only [View.readAt_eq_ld, h1.read_unread, h2.read_unread, h3.read_unread, h5.read_unread, h7.read_unread, View.ld_unit_zero (S := S256x2048) hz, View.ld_unit_zero (S := S256x1024) hz, View.ld_unit_zero (S := S1x2048) hz]
  rfl

/-- The block at the first point: from the weight just rounded. -/
theorem out_A (hc : cond0_0 i) :
    out0_A_5 c i a1 h1 a2 h2 a3 h3 a4 h4 a5 h5 a6 h6 a7 h7 hc x0 x1 x2 x3 x4 = blockOut x0 x1 x2 (k0_pay1 x3) x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S256x2048) hz, View.ld_unit_zero (S := S256x1024) hz, View.ld_unit_zero (S := S2048x2048) hz, View.ld_unit_zero (S := S1x2048) hz]
  rw [View.readCov_eq_canon', View.readCov_eq_canon', View.canon_unit_zero hz]
  generalize k0_pay1 x3 = w
  rfl

end

/-- Rows `256 r …` of the activations. -/
def xBlk (X : Vec F S8192x2048 .f32) (r : Fin 32) : Vec F S256x2048 .f32 := fun j =>
  X (fun | 0 => ⟨r.val * 256 + (j 0).val, by have : (j 0).val < 256 := (j 0).isLt; have := r.isLt; show _ < 8192; omega⟩
         | 1 => ⟨(j 1).val, (j 1).isLt⟩)

/-- Rows `256 r …` of a mixer's output. -/
def aBlk (X : Vec F S8192x1024 .bf16) (r : Fin 32) : Vec F S256x1024 .bf16 := fun j =>
  X (fun | 0 => ⟨r.val * 256 + (j 0).val, by have : (j 0).val < 256 := (j 0).isLt; have := r.isLt; show _ < 8192; omega⟩
         | 1 => ⟨(j 1).val, (j 1).isLt⟩)

theorem coords_eq : ∀ t : Fin grid0.N, (grid0.coords t 0).val = t.val := by decide +kernel

theorem iblk_x (c : Dev nD) (t : Fin grid0.N) : iblk m c 0 t = xBlk (V m c main_v0) (grid0.coords t 0) := by
  refine funext fun (j : S256x2048.Idx) => ?_
  show V m c main_v0 _ = V m c main_v0 _
  congr 1
  funext a
  apply Fin.ext
  match a with
  | ⟨0, _⟩ => show (BitVec.ofNat 32 (grid0.coords t 0).val).toNat * 256 + 1 * (j 0).val = (grid0.coords t 0).val * 256 + (j 0).val
              have : (grid0.coords t 0).val < 32 := (grid0.coords t 0).isLt
              rw [BitVec.toNat_ofNat, Nat.mod_eq_of_lt (by omega)]; omega
  | ⟨1, _⟩ => show 0 * 2048 + 1 * (j 1).val = (j 1).val; omega

theorem iblk_a (c : Dev nD) (t : Fin grid0.N) : iblk m c 1 t = aBlk (V m c main_arg1) (grid0.coords t 0) := by
  refine funext fun (j : S256x1024.Idx) => ?_
  show V m c main_arg1 _ = V m c main_arg1 _
  congr 1
  funext a
  apply Fin.ext
  match a with
  | ⟨0, _⟩ => show (BitVec.ofNat 32 (grid0.coords t 0).val).toNat * 256 + 1 * (j 0).val = (grid0.coords t 0).val * 256 + (j 0).val
              have : (grid0.coords t 0).val < 32 := (grid0.coords t 0).isLt
              rw [BitVec.toNat_ofNat, Nat.mod_eq_of_lt (by omega)]; omega
  | ⟨1, _⟩ => show 0 * 1024 + 1 * (j 1).val = (j 1).val; omega

theorem iblk_m (c : Dev nD) (t : Fin grid0.N) : iblk m c 2 t = aBlk (V m c main_arg2) (grid0.coords t 0) := by
  refine funext fun (j : S256x1024.Idx) => ?_
  show V m c main_arg2 _ = V m c main_arg2 _
  congr 1
  funext a
  apply Fin.ext
  match a with
  | ⟨0, _⟩ => show (BitVec.ofNat 32 (grid0.coords t 0).val).toNat * 256 + 1 * (j 0).val = (grid0.coords t 0).val * 256 + (j 0).val
              have : (grid0.coords t 0).val < 32 := (grid0.coords t 0).isLt
              rw [BitVec.toNat_ofNat, Nat.mod_eq_of_lt (by omega)]; omega
  | ⟨1, _⟩ => show 0 * 1024 + 1 * (j 1).val = (j 1).val; omega

theorem iblk_w (c : Dev nD) (t : Fin grid0.N) : iblk m c 3 t = V m c main_v1 := by
  refine funext fun (j : S2048x2048.Idx) => ?_
  show V m c main_v1 _ = V m c main_v1 _
  congr 1
  funext a
  apply Fin.ext
  match a with
  | ⟨0, _⟩ => show 0 * 2048 + 1 * (j 0).val = (j 0).val; omega
  | ⟨1, _⟩ => show 0 * 2048 + 1 * (j 1).val = (j 1).val; omega

theorem iblk_n (c : Dev nD) (t : Fin grid0.N) : iblk m c 4 t = V m c main_v2 := by
  refine funext fun (j : S1x2048.Idx) => ?_
  show V m c main_v2 _ = V m c main_v2 _
  congr 1
  funext a
  apply Fin.ext
  match a with
  | ⟨0, _⟩ => show 0 * 1 + 1 * (j 0).val = (j 0).val; omega
  | ⟨1, _⟩ => show 0 * 2048 + 1 * (j 1).val = (j 1).val; omega

theorem pay1_congr {x y : Vec F S2048x2048 .f32} (h : x = y) : k0_pay1 x = k0_pay1 y := by subst h; rfl

theorem blockOut_congr {x x' : Vec F S256x2048 .f32} {a a' l l' : Vec F S256x1024 .bf16} {w w' : Vec F S2048x2048 .bf16} {n n' : Vec F S1x2048 .f32}
    (hx : x = x') (ha : a = a') (hl : l = l') (hw : w = w') (hn : n = n') : blockOut x a l w n = blockOut x' a' l' w' n' := by
  subst hx ha hl hw hn; rfl

/-- After every point the scratch holds the rounded weight: by induction on the point. -/
theorem scratch_eq (c : Dev nD) : ∀ (n : ℕ) (h : n < grid0.N), (outsAt0 m c n h).2 = k0_pay1 (V m c main_v1)
  | 0, h => by
    rw [outsAt0_A m c ⟨0, h⟩ rfl]
    dsimp only
    refine (sout_A ..).trans ?_
    exact pay1_congr (iblk_w m c ⟨0, h⟩)
  | n + 1, h => by
    have hn : n + 1 < 32 := h
    rw [outsAt0_B m c ⟨n + 1, h⟩ (by show ¬ (n + 1) % 32 = 0; omega)]
    exact scratch_eq c n (Nat.lt_of_succ_lt h)

/-- What point `t` leaves in the output block. -/
theorem out_eq (c : Dev nD) (t : Fin grid0.N) :
    (outsAt0 m c t.val t.isLt).1
      = blockOut (xBlk (V m c main_v0) (grid0.coords t 0)) (aBlk (V m c main_arg1) (grid0.coords t 0))
          (aBlk (V m c main_arg2) (grid0.coords t 0)) (k0_pay1 (V m c main_v1)) (V m c main_v2) := by
  by_cases h0 : t.val % 32 = 0
  · rw [outsAt0_A m c t h0]
    dsimp only
    refine (out_A ..).trans ?_
    exact blockOut_congr (iblk_x m c t) (iblk_a m c t) (iblk_m m c t) (pay1_congr (iblk_w m c t)) (iblk_n m c t)
  · rw [outsAt0_B m c t h0]
    dsimp only
    refine (out_B ..).trans ?_
    exact blockOut_congr (iblk_x m c t) (iblk_a m c t) (iblk_m m c t) (scratch_eq m c _ _) (iblk_n m c t)

/-- The whole result: row `p` is in row block p/256. -/
def G (X : Vec F S8192x2048 .f32) (A L : Vec F S8192x1024 .bf16) (W : Vec F S2048x2048 .f32) (N : Vec F S1x2048 .f32) : Vec F S8192x2048 .f32 := fun i =>
  blockOut (xBlk X ⟨(i 0).val / 256, by have : (i 0).val < 8192 := (i 0).isLt; omega⟩)
    (aBlk A ⟨(i 0).val / 256, by have : (i 0).val < 8192 := (i 0).isLt; omega⟩)
    (aBlk L ⟨(i 0).val / 256, by have : (i 0).val < 8192 := (i 0).isLt; omega⟩) (k0_pay1 W) N
    (fun | 0 => ⟨(i 0).val % 256, Nat.mod_lt _ (by decide)⟩ | 1 => ⟨(i 1).val, (i 1).isLt⟩)

/-- The result array, from what the call finds. -/
abbrev result (c : Dev nD) : Buf (Elt F) ((c : Thread nD τ).loc main_v3) :=
  G (V m c main_v0) (V m c main_arg1) (V m c main_arg2) (V m c main_v1) (V m c main_v2)

/-- Element `j` of block `r` is element (256 r + j₀, j₁) of the whole result. -/
theorem G_at (X : Vec F S8192x2048 .f32) (A L : Vec F S8192x1024 .bf16) (W : Vec F S2048x2048 .f32) (N : Vec F S1x2048 .f32)
    (r : Fin 32) (j : S256x2048.Idx) (i : S8192x2048.Idx)
    (e0 : (i 0).val = r.val * 256 + (j 0).val) (e1 : (i 1).val = (j 1).val) :
    blockOut (xBlk X r) (aBlk A r) (aBlk L r) (k0_pay1 W) N j = G X A L W N i := by
  have h0 : (j 0).val < 256 := (j 0).isLt
  unfold G
  have c0 : (⟨(i 0).val / 256, by have := r.isLt; omega⟩ : Fin 32) = r := by
    apply Fin.ext; show _ / 256 = _; omega
  rw [c0]
  congr 1
  funext a
  apply Fin.ext
  match a with
  | ⟨0, _⟩ => show (j 0).val = (i 0).val % 256; omega
  | ⟨1, _⟩ => show (j 1).val = (i 1).val; omega

theorem idx5 : ∀ t : Fin grid0.N, cc0_transform_5 (grid0.coords t) 0 = t.val ∧ cc0_transform_5 (grid0.coords t) 1 = 0 := by
  decide +kernel

/-- So the result array ends at the whole function: the 32 blocks tile it. -/
theorem final_o (c : Dev nD) : (dats m 0 c).arrAt 5 cfg0.N = result m c := by
  refine (dats m 0 c).arrAt_eq_of_covers 5 _ (by decide +kernel) fun t hf => ?_
  refine fun (j : S256x2048.Idx) => ?_
  show (dats m 0 c).after 5 t j = _
  rw [after0_5]
  refine (congrFun (out_eq m c t) j).trans ?_
  refine G_at _ _ _ _ _ _ _ _ ?_ ?_
  · show cc0_transform_5 (grid0.coords t) 0 * 256 + 1 * (j 0).val = (grid0.coords t 0).val * 256 + (j 0).val
    rw [(idx5 t).1, coords_eq t]; omega
  · show cc0_transform_5 (grid0.coords t) 1 * 2048 + 1 * (j 1).val = (j 1).val
    rw [(idx5 t).2]; omega

/-- The run, read: the result array at the whole function of what the call finds, the arguments unchanged. -/
theorem run_out : θ_run defs (onTc (τ := τ) (main (F := F))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1).trans (final_o m c), (h c).2⟩) (run_blocks m ρ)

end Cert.OutIdeal.Value
-- ==== Proof.Out.Value.lean ====
/-
  The out-projection's elements over the extended reals: the kernel's block and the reference's operations.
-/
module

public import proofs.«01_k».proof.Proof.Out.Array
public import proofs.«01_k».proof.Proof.Main.Arith
public import proofs.«01_k».proof.Proof.Gen.OutRefIdeal.Read
public import Idealize.ShloMosaic.Lib.Pointwise

@[expose] public section

set_option maxRecDepth 16384

noncomputable section

open Idealize.ShloMosaic Idealize.ShloMosaic.TcCoe Idealize.SL.Sem

namespace Cert.OutIdeal.Value

open Cert.OutIdeal Cert.OutIdeal.Gen Cert.Rms

/-- A row before the final norm: the residual and both mixers against their halves of the weight. -/
def pre (x : Fin 2048 → EReal) (a l : Fin 1024 → EReal) (w : Fin 2048 → Fin 2048 → EReal) (q : Fin 2048) : EReal :=
  x q + ∑ k : Fin 1024, a k * w ⟨k.val, by omega⟩ q + ∑ k : Fin 1024, l k * w ⟨1024 + k.val, by omega⟩ q

/-- The payload at an element. -/
theorem pay2_apply (x : Vec Ideal S256x2048 .f32) (a : Vec Ideal S256x1024 .bf16) (w1 : Vec Ideal S1024x2048 .bf16)
    (l : Vec Ideal S256x1024 .bf16) (w2 : Vec Ideal S1024x2048 .bf16) (n : Vec Ideal S1x2048 .f32) (p : Fin 256) (q : Fin 2048) :
    k0_pay2 (F := Ideal) x a w1 l w2 n (ix2 p q)
      = ((fun q' => x (ix2 p q') + ∑ k : Fin 1024, a (ix2 p k) * w1 (ix2 k q') + ∑ k : Fin 1024, l (ix2 p k) * w2 (ix2 k q')) q
          * rn (fun q' => x (ix2 p q') + ∑ k : Fin 1024, a (ix2 p k) * w1 (ix2 k q') + ∑ k : Fin 1024, l (ix2 p k) * w2 (ix2 k q'))
          * n (ix2 0 q) : EReal) := by
  pointwise [k0_pay2, rn]

/-- The rounded weight over the extended reals: the weight. -/
theorem pay1_apply (w : Vec Ideal S2048x2048 .f32) (p q : Fin 2048) : k0_pay1 (F := Ideal) w (ix2 p q) = w (ix2 p q) := by
  pointwise [k0_pay1]

theorem blockOut_apply (x : Vec Ideal S256x2048 .f32) (a l : Vec Ideal S256x1024 .bf16) (w : Vec Ideal S2048x2048 .f32) (n : Vec Ideal S1x2048 .f32)
    (p : Fin 256) (q : Fin 2048) :
    blockOut (F := Ideal) x a l (k0_pay1 w) n (ix2 p q)
      = (pre (fun q => x (ix2 p q)) (fun k => a (ix2 p k)) (fun k => l (ix2 p k)) (fun k q => w (ix2 k q)) q
          * rn (pre (fun q => x (ix2 p q)) (fun k => a (ix2 p k)) (fun k => l (ix2 p k)) (fun k q => w (ix2 k q))) * n (ix2 0 q) : EReal) := by
  have e1 : ∀ (k : Fin 1024) (q : Fin 2048), View.ld (Val := Elt Ideal) (k0_pay1 (F := Ideal) w) (Rect.unit (s := S2048x2048) ![0, 0] S1024x2048.size inb_S2048x2048_S1024x2048_0_0) (ix2 k q)
      = w (ix2 ⟨k.val, by omega⟩ q) := by
    intro k q
    refine Eq.trans ?_ (pay1_apply w ⟨k.val, by omega⟩ q)
    show k0_pay1 w _ = k0_pay1 w _
    congr 1; funext b; apply Fin.ext
    match b with
    | ⟨0, _⟩ => show 0 + 1 * k.val = k.val; omega
    | ⟨1, _⟩ => show 0 + 1 * q.val = q.val; omega
  have e2 : ∀ (k : Fin 1024) (q : Fin 2048), View.ld (Val := Elt Ideal) (k0_pay1 (F := Ideal) w) (Rect.unit (s := S2048x2048) ![1024, 0] S1024x2048.size inb_S2048x2048_S1024x2048_1024_0) (ix2 k q)
      = w (ix2 ⟨1024 + k.val, by omega⟩ q) := by
    intro k q
    refine Eq.trans ?_ (pay1_apply w ⟨1024 + k.val, by omega⟩ q)
    show k0_pay1 w _ = k0_pay1 w _
    congr 1; funext b; apply Fin.ext
    match b with
    | ⟨0, _⟩ => show 1024 + 1 * k.val = 1024 + k.val; omega
    | ⟨1, _⟩ => show 0 + 1 * q.val = q.val; omega
  unfold blockOut
  rw [pay2_apply]
  simp only [e1, e2]
  rfl

/-- Element (r, q) of the whole result. -/
theorem G_apply (X : Vec Ideal S8192x2048 .f32) (A L : Vec Ideal S8192x1024 .bf16) (W : Vec Ideal S2048x2048 .f32) (N : Vec Ideal S1x2048 .f32)
    (r : Fin 8192) (q : Fin 2048) :
    G (F := Ideal) X A L W N (ix2 r q)
      = (pre (fun q => X (ix2 r q)) (fun k => A (ix2 r k)) (fun k => L (ix2 r k)) (fun k q => W (ix2 k q)) q
          * rn (pre (fun q => X (ix2 r q)) (fun k => A (ix2 r k)) (fun k => L (ix2 r k)) (fun k q => W (ix2 k q))) * N (ix2 0 q) : EReal) := by
  rw [← G_at X A L W N ⟨r.val / 256, by omega⟩ (ix2 ⟨r.val % 256, by omega⟩ q) (ix2 r q)
    (by show r.val = r.val / 256 * 256 + r.val % 256; omega) rfl]
  rw [blockOut_apply]
  have hx : ∀ k, xBlk X ⟨r.val / 256, by omega⟩ (ix2 ⟨r.val % 256, by omega⟩ k) = X (ix2 r k) := by
    intro k
    show X _ = X _
    congr 1; funext a; apply Fin.ext
    match a with
    | ⟨0, _⟩ => show r.val / 256 * 256 + r.val % 256 = r.val; omega
    | ⟨1, _⟩ => rfl
  have ha : ∀ (B : Vec Ideal S8192x1024 .bf16) k, aBlk B ⟨r.val / 256, by omega⟩ (ix2 ⟨r.val % 256, by omega⟩ k) = B (ix2 r k) := by
    intro B k
    show B _ = B _
    congr 1; funext a; apply Fin.ext
    match a with
    | ⟨0, _⟩ => show r.val / 256 * 256 + r.val % 256 = r.val; omega
    | ⟨1, _⟩ => rfl
  simp only [hx, ha]

end Cert.OutIdeal.Value

namespace Cert.OutRefIdeal.Value

open Cert.OutRefIdeal Cert.OutRefIdeal.Read Cert.Rms
open Cert.OutIdeal.Value (pre)

variable (x0 : Vec Ideal S2x4096x2048 .f32) (x1 x2 : Vec Ideal S8192x1024 .bf16) (x3 : Vec Ideal S1x2048x2048 .f32) (x4 : Vec Ideal S2048 .f32)

/-- A row of the reference before the final norm. -/
theorem v7_apply (b : Fin 2) (s : Fin 4096) (q : Fin 2048) :
    val_main_v7 (F := Ideal) x0 x1 x2 x3 (ix3 b s q)
      = pre (fun q => x0 (ix3 b s q)) (fun k => x1 (ix2 ⟨b.val * 4096 + s.val, by omega⟩ k)) (fun k => x2 (ix2 ⟨b.val * 4096 + s.val, by omega⟩ k)) (fun k q => x3 (ix3 0 k q)) q := by
  have e : val_main_v7 (F := Ideal) x0 x1 x2 x3 (ix3 b s q)
      = (x0 (ix3 b s q) + ∑ k : Fin 2048, val_main_v4 (F := Ideal) x1 x2 (ix3 b s k) * x3 (ix3 0 k q) : EReal) := by
    pointwise [val_main_v7, val_main_v6, val_main_v5]
  rw [e, Fin.sum_univ_add (a := 1024) (b := 1024) (fun k => (val_main_v4 (F := Ideal) x1 x2 (ix3 b s k) * x3 (ix3 0 k q) : EReal)), ← add_assoc]
  unfold pre
  congr 1
  · congr 1
    refine Finset.sum_congr rfl fun k _ => ?_
    congr 1
    pointwise [val_main_v4, val_main_v0, val_main_v1, val_main_v2, val_main_v3]
    exact (dif_pos k.isLt)
  · refine Finset.sum_congr rfl fun k _ => ?_
    congr 1
    pointwise [val_main_v4, val_main_v0, val_main_v1, val_main_v2, val_main_v3]
    rw [dif_neg (by show ¬ (1024 + k.val < 1024); omega)]
    congr 2
    apply Fin.ext
    show 1024 + k.val - 1024 = k.val
    omega

/-- The reference's result at an element. -/
theorem v20_apply (b : Fin 2) (s : Fin 4096) (q : Fin 2048) :
    val_main_v20 (F := Ideal) x0 x1 x2 x3 x4 (ix3 b s q)
      = (val_main_v7 (F := Ideal) x0 x1 x2 x3 (ix3 b s q) * rn (fun q => val_main_v7 (F := Ideal) x0 x1 x2 x3 (ix3 b s q)) * x4 (ix1 q) : EReal) := by
  pointwise [val_main_v20, val_main_v19, val_main_v18, val_main_v17, val_main_v16, val_main_v15, val_main_v14, val_main_v13, val_main_v12, val_main_v11,
    val_main_v10, val_main_v9, val_main_v8, val_main_cst, val_main_cst_0, val_main_cst_1, rn]

theorem v21_apply (r : Fin 8192) (q : Fin 2048) :
    val_main_v21 (F := Ideal) x0 x1 x2 x3 x4 (ix2 r q)
      = val_main_v20 (F := Ideal) x0 x1 x2 x3 x4 (ix3 ⟨r.val / 4096, by omega⟩ ⟨r.val % 4096, by omega⟩ q) := by
  pointwise [val_main_v21]

end Cert.OutRefIdeal.Value
-- ==== Proof.Out.Claim.lean ====
/-
  The prompt out-projection's claims: the kernel's result is the reference's.
-/
module

public import proofs.«01_k».proof.Defs
public import proofs.«01_k».proof.Proof.Out.Value
public import proofs.«01_k».proof.Proof.Gen.OutRefIdeal.Run
public import proofs.«01_k».proof.Proof.Gen.Out.Frame

@[expose] public section

set_option maxRecDepth 16384

noncomputable section

open Idealize.ShloMosaic Idealize.ShloMosaic.TcCoe Idealize.SL.Sem

namespace Cert.Proof.Out

/-- The kernel as given terminates, leaves its arguments and ends with every counter at zero. -/
theorem frame_kernel : Cert.quiescent_Out := fun m ρ _ => Cert.Out.Gen.frame (F := Bits) m ρ

/-- The same of the kernel over the extended reals. -/
theorem frame_ideal : Cert.quiescent_OutIdeal := fun m ρ _ => Cert.OutIdeal.Gen.frame m ρ

/-- The reference terminates, leaves its arguments, and has no semaphore. -/
theorem frame_reference : Cert.quiescent_OutRefIdeal := fun m ρ _ =>
  (θ_run Cert.OutRefIdeal.defs _ _).mono (fun r h => ⟨fun c => (h c).2, sem_eq_zero_of_no_sems (by decide) r.2⟩)
    (Cert.OutRefIdeal.Value.run m ρ)

/-- Both arrays as functions of the same arguments. -/
theorem G_eq (x0 : Vec Ideal Cert.OutIdeal.S2x4096x2048 .f32) (x1 x2 : Vec Ideal Cert.OutIdeal.S8192x1024 .bf16)
    (x3 : Vec Ideal Cert.OutIdeal.S1x2048x2048 .f32) (x4 : Vec Ideal Cert.OutIdeal.S2048 .f32) :
    Cert.OutIdeal.Value.G (F := Ideal) (shapeCast Cert.OutIdeal.S8192x2048 x0 Cert.OutIdeal.Facts₀.shapeCasts_S2x4096x2048_S8192x2048) x1 x2
        (shapeCast Cert.OutIdeal.S2048x2048 x3 Cert.OutIdeal.Facts₀.shapeCasts_S1x2048x2048_S2048x2048)
        (shapeCast Cert.OutIdeal.S1x2048 x4 Cert.OutIdeal.Facts₀.shapeCasts_S2048_S1x2048)
      = Cert.OutRefIdeal.Read.val_main_v21 (F := Ideal) x0 x1 x2 x3 x4 := by
  refine funext fun (i : Cert.OutIdeal.S8192x2048.Idx) => ?_
  obtain ⟨r, q, rfl⟩ : ∃ (r : Fin 8192) (q : Fin 2048), i = ix2 r q := ⟨i 0, i 1, by funext a; match a with | ⟨0, _⟩ => rfl | ⟨1, _⟩ => rfl⟩
  rw [Cert.OutIdeal.Value.G_apply, Cert.OutRefIdeal.Value.v21_apply, Cert.OutRefIdeal.Value.v20_apply]
  simp only [Cert.OutRefIdeal.Value.v7_apply]
  have ex : ∀ q, shapeCast Cert.OutIdeal.S8192x2048 x0 Cert.OutIdeal.Facts₀.shapeCasts_S2x4096x2048_S8192x2048 (ix2 r q)
      = x0 (ix3 ⟨r.val / 4096, by omega⟩ ⟨r.val % 4096, by omega⟩ q) := by intro q; pointwise []
  have ew : ∀ k q, shapeCast Cert.OutIdeal.S2048x2048 x3 Cert.OutIdeal.Facts₀.shapeCasts_S1x2048x2048_S2048x2048 (ix2 k q) = x3 (ix3 0 k q) := by
    intro k q; pointwise []
  have en : shapeCast Cert.OutIdeal.S1x2048 x4 Cert.OutIdeal.Facts₀.shapeCasts_S2048_S1x2048 (ix2 0 q) = x4 (ix1 q) := by pointwise []
  have er : (⟨r.val / 4096 * 4096 + r.val % 4096, by omega⟩ : Fin 8192) = r := by
    apply Fin.ext; show r.val / 4096 * 4096 + r.val % 4096 = r.val; omega
  simp only [ex, ew, en, er]

/-- What the kernel's call leaves in its result is what the reference's operations leave in theirs, of the same arguments. -/
theorem result_eq (m : (ℓ : Loc Cert.OutIdeal.nD Cert.OutIdeal.τ Cert.OutIdeal.sig) → Buf (Elt Ideal) ℓ) (c : Dev Cert.OutIdeal.nD) :
    Cert.OutIdeal.Value.result m c
      = Cert.OutRefIdeal.Read.val_main_v21 (m ((c.tc : Thread Cert.OutIdeal.nD Cert.OutIdeal.τ).loc Cert.OutIdeal.main_arg0))
          (m ((c.tc : Thread Cert.OutIdeal.nD Cert.OutIdeal.τ).loc Cert.OutIdeal.main_arg1))
          (m ((c.tc : Thread Cert.OutIdeal.nD Cert.OutIdeal.τ).loc Cert.OutIdeal.main_arg2))
          (m ((c.tc : Thread Cert.OutIdeal.nD Cert.OutIdeal.τ).loc Cert.OutIdeal.main_arg3))
          (m ((c.tc : Thread Cert.OutIdeal.nD Cert.OutIdeal.τ).loc Cert.OutIdeal.main_arg4)) := by
  unfold Cert.OutIdeal.Value.result
  rw [Cert.OutIdeal.Value.V_v0, Cert.OutIdeal.Value.V_v1, Cert.OutIdeal.Value.V_v2, Cert.OutIdeal.Value.V_a1, Cert.OutIdeal.Value.V_a2]
  exact G_eq _ _ _ _ _

/-- The kernel and the reference end with the same result, over the extended reals, from memories with the same arguments. -/
theorem value : Cert.algebraic_OutIdeal_OutRefIdeal := fun m ρ m' ρ' _ hag =>
  ⟨fun c => Cert.OutIdeal.Value.result m c, Cert.OutIdeal.Value.run_out m ρ,
    (θ_run _ _ _).mono (fun r h c => ⟨(h c).1.trans (by
        obtain ⟨a0, a1, a2, a3, a4⟩ := hag c
        rw [Cert.OutRefIdeal.Read.val_main_v21_eq, a0, a1, a2, a3, a4]; exact (result_eq m c).symm), (h c).2⟩) (Cert.OutRefIdeal.Value.run m' ρ')⟩

end Cert.Proof.Out
-- ==== Proof.OutS.Array.lean ====
/-
  The sample's out-projection call: what its one grid point leaves (the weight rounded into scratch, the 32 rows of the
  result), and so the result array, over any float values.
-/
module

public import proofs.«01_k».proof.Proof.Gen.OutSIdeal.Value
public import Idealize.ShloMosaic.Lib.Pipeline.ReadBack
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)

namespace Cert.OutSIdeal.Value

open Cert.OutSIdeal Cert.OutSIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The activations, as the call finds them: one row for each sample. -/
theorem V_v0 (c : Dev nD) : V m c main_v0
    = (shapeCast S32x2048 (m ((c : Thread nD τ).loc main_arg0)) shapeCasts_S32x1x2048_S32x2048 : Vec F S32x2048 .f32) := by
  dsimp only [V, hostOps0]; after_results; rfl

/-- The sparse attention's output, as the call finds it: its heads side by side, rounded. -/
theorem V_v2 (c : Dev nD) : V m c main_v2
    = (truncf .bf16 (shapeCast S32x1024 (m ((c : Thread nD τ).loc main_arg1)) shapeCasts_S32x8x128_S32x1024 : Vec F S32x1024 .f32) bitsLt_bf16_f32 : Vec F S32x1024 .bf16) := by
  dsimp only [V, hostOps0]; after_results; rfl

/-- The recurrent mixer's output, as the call finds it. -/
theorem V_v3 (c : Dev nD) : V m c main_v3
    = (shapeCast S32x1024 (m ((c : Thread nD τ).loc main_arg2)) shapeCasts_S32x1x1024_S32x1024 : Vec F S32x1024 .bf16) := by
  dsimp only [V, hostOps0]; after_results; rfl

/-- The weight, as the call finds it: the argument's one matrix. -/
theorem V_v4 (c : Dev nD) : V m c main_v4
    = (shapeCast S2048x2048 (m ((c : Thread nD τ).loc main_arg3)) shapeCasts_S1x2048x2048_S2048x2048 : Vec F S2048x2048 .f32) := by
  dsimp only [V, hostOps0]; after_results; rfl

/-- The norm weight, as the call finds it: as one row. -/
theorem V_v5 (c : Dev nD) : V m c main_v5
    = (shapeCast S1x2048 (m ((c : Thread nD τ).loc main_arg4)) shapeCasts_S2048_S1x2048 : Vec F S1x2048 .f32) := by
  dsimp only [V, hostOps0]; after_results; rfl

/-- A block of the result: both mixers' rows against their halves of the weight, the residual, the final norm. -/
def blockOut (x : Vec F S32x2048 .f32) (a ml : Vec F S32x1024 .bf16) (w : Vec F S2048x2048 .bf16) (n : Vec F S1x2048 .f32) : Vec F S32x2048 .f32 :=
  k0_pay2 x a (View.ld (Val := Elt F) w (Rect.unit (s := S2048x2048) ![0, 0] S1024x2048.size inb_S2048x2048_S1024x2048_0_0))
    ml (View.ld (Val := Elt F) w (Rect.unit (s := S2048x2048) ![1024, 0] S1024x2048.size inb_S2048x2048_S1024x2048_1024_0)) n

section
variable (c : Dev nD) (i : grid0.Coords) (a1 : Memref sig .tc .vmem S32x2048 .f32) (h1 : a1.IsWhole)
    (a2 : Memref sig .tc .vmem S32x1024 .bf16) (h2 : a2.IsWhole) (a3 : Memref sig .tc .vmem S32x1024 .bf16) (h3 : a3.IsWhole)
    (a4 : Memref sig .tc .vmem S2048x2048 .f32) (h4 : a4.IsWhole) (a5 : Memref sig .tc .vmem S1x2048 .f32) (h5 : a5.IsWhole)
    (a6 : Memref sig .tc .vmem S32x2048 .f32) (h6 : a6.IsWhole) (a7 : Memref sig .tc .vmem S2048x2048 .bf16) (h7 : a7.IsWhole)
    (x0 : Vec F S32x2048 .f32) (x1 x2 : Vec F S32x1024 .bf16) (x3 : Vec F S2048x2048 .f32) (x4 : Vec F S1x2048 .f32)

/-- The block at the point: from the weight just rounded. -/
theorem out_A (hc : cond0_0 i) :
    out0_A_5 c i a1 h1 a2 h2 a3 h3 a4 h4 a5 h5 a6 h6 a7 h7 hc x0 x1 x2 x3 x4 = blockOut x0 x1 x2 (k0_pay1 x3) x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S32x2048) hz, View.ld_unit_zero (S := S32x1024) hz, View.ld_unit_zero (S := S2048x2048) hz, View.ld_unit_zero (S := S1x2048) hz]
  rw [View.readCov_eq_canon', View.readCov_eq_canon', View.canon_unit_zero hz]
  generalize k0_pay1 x3 = w
  rfl

end

theorem idx0 : ∀ t : Fin grid0.N, cc0_transform_0 (grid0.coords t) 0 = 0 := by decide +kernel

theorem idx1 : ∀ t : Fin grid0.N, cc0_transform_1 (grid0.coords t) 0 = 0 := by decide +kernel

theorem idx2 : ∀ t : Fin grid0.N, cc0_transform_2 (grid0.coords t) 0 = 0 := by decide +kernel

theorem iblk_x (c : Dev nD) (t : Fin grid0.N) : iblk m c 0 t = V m c main_v0 := by
  refine funext fun (j : S32x2048.Idx) => ?_
  show V m c main_v0 _ = V m c main_v0 _
  congr 1
  funext a
  apply Fin.ext
  match a with
  | ⟨0, _⟩ => show cc0_transform_0 (grid0.coords t) 0 * 32 + 1 * (j 0).val = (j 0).val
              rw [idx0 t]; omega
  | ⟨1, _⟩ => show 0 * 2048 + 1 * (j 1).val = (j 1).val; omega

theorem iblk_a (c : Dev nD) (t : Fin grid0.N) : iblk m c 1 t = V m c main_v2 := by
  refine funext fun (j : S32x1024.Idx) => ?_
  show V m c main_v2 _ = V m c main_v2 _
  congr 1
  funext a
  apply Fin.ext
  match a with
  | ⟨0, _⟩ => show cc0_transform_1 (grid0.coords t) 0 * 32 + 1 * (j 0).val = (j 0).val
              rw [idx1 t]; omega
  | ⟨1, _⟩ => show 0 * 1024 + 1 * (j 1).val = (j 1).val; omega

theorem iblk_m (c : Dev nD) (t : Fin grid0.N) : iblk m c 2 t = V m c main_v3 := by
  refine funext fun (j : S32x1024.Idx) => ?_
  show V m c main_v3 _ = V m c main_v3 _
  congr 1
  funext a
  apply Fin.ext
  match a with
  | ⟨0, _⟩ => show cc0_transform_2 (grid0.coords t) 0 * 32 + 1 * (j 0).val = (j 0).val
              rw [idx2 t]; omega
  | ⟨1, _⟩ => show 0 * 1024 + 1 * (j 1).val = (j 1).val; omega

theorem iblk_w (c : Dev nD) (t : Fin grid0.N) : iblk m c 3 t = V m c main_v4 := by
  refine funext fun (j : S2048x2048.Idx) => ?_
  show V m c main_v4 _ = V m c main_v4 _
  congr 1
  funext a
  apply Fin.ext
  match a with
  | ⟨0, _⟩ => show 0 * 2048 + 1 * (j 0).val = (j 0).val; omega
  | ⟨1, _⟩ => show 0 * 2048 + 1 * (j 1).val = (j 1).val; omega

theorem iblk_n (c : Dev nD) (t : Fin grid0.N) : iblk m c 4 t = V m c main_v5 := by
  refine funext fun (j : S1x2048.Idx) => ?_
  show V m c main_v5 _ = V m c main_v5 _
  congr 1
  funext a
  apply Fin.ext
  match a with
  | ⟨0, _⟩ => show 0 * 1 + 1 * (j 0).val = (j 0).val; omega
  | ⟨1, _⟩ => show 0 * 2048 + 1 * (j 1).val = (j 1).val; omega

theorem pay1_congr {x y : Vec F S2048x2048 .f32} (h : x = y) : k0_pay1 x = k0_pay1 y := by subst h; rfl

theorem blockOut_congr {x x' : Vec F S32x2048 .f32} {a a' l l' : Vec F S32x1024 .bf16} {w w' : Vec F S2048x2048 .bf16} {n n' : Vec F S1x2048 .f32}
    (hx : x = x') (ha : a = a') (hl : l = l') (hw : w = w') (hn : n = n') : blockOut x a l w n = blockOut x' a' l' w' n' := by
  subst hx ha hl hw hn; rfl

/-- The result array, from what the call finds. -/
abbrev result (c : Dev nD) : Buf (Elt F) ((c : Thread nD τ).loc main_v6) :=
  blockOut (V m c main_v0) (V m c main_v2) (V m c main_v3) (k0_pay1 (V m c main_v4)) (V m c main_v5)

/-- What the point leaves in the output block: the whole result. -/
theorem out_eq (c : Dev nD) (t : Fin grid0.N) : outsAt0 m c t = result m c := by
  unfold outsAt0
  refine (out_A ..).trans ?_
  exact blockOut_congr (iblk_x m c t) (iblk_a m c t) (iblk_m m c t) (pay1_congr (iblk_w m c t)) (iblk_n m c t)

theorem idx5 : ∀ t : Fin grid0.N, cc0_transform_5 (grid0.coords t) 0 = 0 ∧ cc0_transform_5 (grid0.coords t) 1 = 0 := by
  decide +kernel

/-- So the result array ends at it: the one block is the array. -/
theorem final_o (c : Dev nD) : (dats m 0 c).arrAt 5 cfg0.N = result m c := by
  refine (dats m 0 c).arrAt_eq_of_covers 5 _ (by decide +kernel) fun t hf => ?_
  refine fun (j : S32x2048.Idx) => ?_
  show (dats m 0 c).after 5 t j = _
  rw [after0_5]
  refine (congrFun (out_eq m c t) j).trans ?_
  show result m c _ = result m c _
  congr 1
  funext a
  apply Fin.ext
  match a with
  | ⟨0, _⟩ => show (j 0).val = cc0_transform_5 (grid0.coords t) 0 * 32 + 1 * (j 0).val
              rw [(idx5 t).1]; omega
  | ⟨1, _⟩ => show (j 1).val = cc0_transform_5 (grid0.coords t) 1 * 2048 + 1 * (j 1).val
              rw [(idx5 t).2]; omega

/-- The run, read: the result array at that function of what the call finds, the arguments unchanged. -/
theorem run_out : θ_run defs (onTc (τ := τ) (main (F := F))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1).trans (final_o m c), (h c).2⟩) (run_blocks m ρ)

end Cert.OutSIdeal.Value
-- ==== Proof.OutS.Value.lean ====
/-
  The sample's out-projection's elements over the extended reals: the kernel's block and the reference's operations.
-/
module

public import proofs.«01_k».proof.Proof.OutS.Array
public import proofs.«01_k».proof.Proof.Out.Value
public import proofs.«01_k».proof.Proof.Gen.OutSRefIdeal.Read
public import proofs.«01_k».proof.Proof.Gen.OutSRefIdeal.Read
public import Idealize.ShloMosaic.Lib.Pointwise

@[expose] public section

set_option maxRecDepth 16384

noncomputable section

open Idealize.ShloMosaic Idealize.ShloMosaic.TcCoe Idealize.SL.Sem

namespace Cert.OutSIdeal.Value

open Cert.OutSIdeal Cert.OutSIdeal.Gen Cert.Rms
open Cert.OutIdeal.Value (pre)

/-- The payload at an element. -/
theorem pay2_apply (x : Vec Ideal S32x2048 .f32) (a : Vec Ideal S32x1024 .bf16) (w1 : Vec Ideal S1024x2048 .bf16)
    (l : Vec Ideal S32x1024 .bf16) (w2 : Vec Ideal S1024x2048 .bf16) (n : Vec Ideal S1x2048 .f32) (p : Fin 32) (q : Fin 2048) :
    k0_pay2 (F := Ideal) x a w1 l w2 n (ix2 p q)
      = ((fun q' => x (ix2 p q') + ∑ k : Fin 1024, a (ix2 p k) * w1 (ix2 k q') + ∑ k : Fin 1024, l (ix2 p k) * w2 (ix2 k q')) q
          * rn (fun q' => x (ix2 p q') + ∑ k : Fin 1024, a (ix2 p k) * w1 (ix2 k q') + ∑ k : Fin 1024, l (ix2 p k) * w2 (ix2 k q'))
          * n (ix2 0 q) : EReal) := by
  pointwise [k0_pay2, rn]

/-- The rounded weight over the extended reals: the weight. -/
theorem pay1_apply (w : Vec Ideal S2048x2048 .f32) (p q : Fin 2048) : k0_pay1 (F := Ideal) w (ix2 p q) = w (ix2 p q) := by
  pointwise [k0_pay1]

theorem blockOut_apply (x : Vec Ideal S32x2048 .f32) (a l : Vec Ideal S32x1024 .bf16) (w : Vec Ideal S2048x2048 .f32) (n : Vec Ideal S1x2048 .f32)
    (p : Fin 32) (q : Fin 2048) :
    blockOut (F := Ideal) x a l (k0_pay1 w) n (ix2 p q)
      = (pre (fun q => x (ix2 p q)) (fun k => a (ix2 p k)) (fun k => l (ix2 p k)) (fun k q => w (ix2 k q)) q
          * rn (pre (fun q => x (ix2 p q)) (fun k => a (ix2 p k)) (fun k => l (ix2 p k)) (fun k q => w (ix2 k q))) * n (ix2 0 q) : EReal) := by
  have e1 : ∀ (k : Fin 1024) (q : Fin 2048), View.ld (Val := Elt Ideal) (k0_pay1 (F := Ideal) w) (Rect.unit (s := S2048x2048) ![0, 0] S1024x2048.size inb_S2048x2048_S1024x2048_0_0) (ix2 k q)
      = w (ix2 ⟨k.val, by omega⟩ q) := by
    intro k q
    refine Eq.trans ?_ (pay1_apply w ⟨k.val, by omega⟩ q)
    show k0_pay1 w _ = k0_pay1 w _
    congr 1; funext b; apply Fin.ext
    match b with
    | ⟨0, _⟩ => show 0 + 1 * k.val = k.val; omega
    | ⟨1, _⟩ => show 0 + 1 * q.val = q.val; omega
  have e2 : ∀ (k : Fin 1024) (q : Fin 2048), View.ld (Val := Elt Ideal) (k0_pay1 (F := Ideal) w) (Rect.unit (s := S2048x2048) ![1024, 0] S1024x2048.size inb_S2048x2048_S1024x2048_1024_0) (ix2 k q)
      = w (ix2 ⟨1024 + k.val, by omega⟩ q) := by
    intro k q
    refine Eq.trans ?_ (pay1_apply w ⟨1024 + k.val, by omega⟩ q)
    show k0_pay1 w _ = k0_pay1 w _
    congr 1; funext b; apply Fin.ext
    match b with
    | ⟨0, _⟩ => show 1024 + 1 * k.val = 1024 + k.val; omega
    | ⟨1, _⟩ => show 0 + 1 * q.val = q.val; omega
  unfold blockOut
  rw [pay2_apply]
  simp only [e1, e2]
  rfl

end Cert.OutSIdeal.Value

namespace Cert.OutSRefIdeal.Value

open Cert.OutSRefIdeal Cert.OutSRefIdeal.Read Cert.Rms
open Cert.OutIdeal.Value (pre)

variable (x0 : Vec Ideal S32x1x2048 .f32) (x1 : Vec Ideal S32x8x128 .f32) (x2 : Vec Ideal S32x1x1024 .bf16) (x3 : Vec Ideal S1x2048x2048 .f32) (x4 : Vec Ideal S2048 .f32)

/-- A row of the reference before the final norm. -/
theorem v5_apply (b : Fin 32) (q : Fin 2048) :
    val_main_v5 (F := Ideal) x0 x1 x2 x3 (ix3 b 0 q)
      = pre (fun q => x0 (ix3 b 0 q)) (fun k => x1 (ix3 b ⟨k.val / 128, by omega⟩ ⟨k.val % 128, by omega⟩)) (fun k => x2 (ix3 b 0 k)) (fun k q => x3 (ix3 0 k q)) q := by
  have e : val_main_v5 (F := Ideal) x0 x1 x2 x3 (ix3 b 0 q)
      = (x0 (ix3 b 0 q) + ∑ k : Fin 2048, val_main_v2 (F := Ideal) x1 x2 (ix3 b 0 k) * x3 (ix3 0 k q) : EReal) := by
    pointwise [val_main_v5, val_main_v4, val_main_v3]
  rw [e, Fin.sum_univ_add (a := 1024) (b := 1024) (fun k => (val_main_v2 (F := Ideal) x1 x2 (ix3 b 0 k) * x3 (ix3 0 k q) : EReal)), ← add_assoc]
  unfold pre
  congr 1
  · congr 1
    refine Finset.sum_congr rfl fun k _ => ?_
    congr 1
    pointwise [val_main_v2, val_main_v0, val_main_v1]
    exact (dif_pos k.isLt)
  · refine Finset.sum_congr rfl fun k _ => ?_
    congr 1
    pointwise [val_main_v2, val_main_v0, val_main_v1]
    rw [dif_neg (by show ¬ (1024 + k.val < 1024); omega)]
    congr 2
    apply Fin.ext
    show 1024 + k.val - 1024 = k.val
    omega

/-- The reference's result at an element. -/
theorem v18_apply (b : Fin 32) (q : Fin 2048) :
    val_main_v18 (F := Ideal) x0 x1 x2 x3 x4 (ix3 b 0 q)
      = (val_main_v5 (F := Ideal) x0 x1 x2 x3 (ix3 b 0 q) * rn (fun q => val_main_v5 (F := Ideal) x0 x1 x2 x3 (ix3 b 0 q)) * x4 (ix1 q) : EReal) := by
  pointwise [val_main_v18, val_main_v17, val_main_v16, val_main_v15, val_main_v14, val_main_v13, val_main_v12, val_main_v11,
    val_main_v10, val_main_v9, val_main_v8, val_main_v7, val_main_v6, val_main_cst, val_main_cst_0, val_main_cst_1, rn]

theorem v19_apply (r : Fin 32) (q : Fin 2048) :
    val_main_v19 (F := Ideal) x0 x1 x2 x3 x4 (ix2 r q) = val_main_v18 (F := Ideal) x0 x1 x2 x3 x4 (ix3 r 0 q) := by
  pointwise [val_main_v19]

end Cert.OutSRefIdeal.Value
-- ==== Proof.OutS.Claim.lean ====
/-
  The sample's out-projection's claims: the kernel's result is the reference's.
-/
module

public import proofs.«01_k».proof.Defs
public import proofs.«01_k».proof.Proof.OutS.Value
public import proofs.«01_k».proof.Proof.Gen.OutSRefIdeal.Run
public import proofs.«01_k».proof.Proof.Gen.OutS.Frame

@[expose] public section

set_option maxRecDepth 16384

noncomputable section

open Idealize.ShloMosaic Idealize.ShloMosaic.TcCoe Idealize.SL.Sem

namespace Cert.Proof.OutS

/-- The kernel as given terminates, leaves its arguments and ends with every counter at zero. -/
theorem frame_kernel : Cert.quiescent_OutS := fun m ρ _ => Cert.OutS.Gen.frame (F := Bits) m ρ

/-- The same of the kernel over the extended reals. -/
theorem frame_ideal : Cert.quiescent_OutSIdeal := fun m ρ _ => Cert.OutSIdeal.Gen.frame m ρ

/-- The reference terminates, leaves its arguments, and has no semaphore. -/
theorem frame_reference : Cert.quiescent_OutSRefIdeal := fun m ρ _ =>
  (θ_run Cert.OutSRefIdeal.defs _ _).mono (fun r h => ⟨fun c => (h c).2, sem_eq_zero_of_no_sems (by decide) r.2⟩)
    (Cert.OutSRefIdeal.Value.run m ρ)

/-- Both arrays as functions of the same arguments. -/
theorem G_eq (x0 : Vec Ideal Cert.OutSIdeal.S32x1x2048 .f32) (x1 : Vec Ideal Cert.OutSIdeal.S32x8x128 .f32) (x2 : Vec Ideal Cert.OutSIdeal.S32x1x1024 .bf16)
    (x3 : Vec Ideal Cert.OutSIdeal.S1x2048x2048 .f32) (x4 : Vec Ideal Cert.OutSIdeal.S2048 .f32) :
    Cert.OutSIdeal.Value.blockOut (F := Ideal) (shapeCast Cert.OutSIdeal.S32x2048 x0 Cert.OutSIdeal.Facts₀.shapeCasts_S32x1x2048_S32x2048)
        (truncf (F := Ideal) .bf16 (shapeCast Cert.OutSIdeal.S32x1024 x1 Cert.OutSIdeal.Facts₀.shapeCasts_S32x8x128_S32x1024 : Vec Ideal Cert.OutSIdeal.S32x1024 .f32) Cert.OutSIdeal.Facts₀.bitsLt_bf16_f32 : Vec Ideal Cert.OutSIdeal.S32x1024 .bf16)
        (shapeCast Cert.OutSIdeal.S32x1024 x2 Cert.OutSIdeal.Facts₀.shapeCasts_S32x1x1024_S32x1024)
        (Cert.OutSIdeal.Gen.k0_pay1 (shapeCast Cert.OutSIdeal.S2048x2048 x3 Cert.OutSIdeal.Facts₀.shapeCasts_S1x2048x2048_S2048x2048))
        (shapeCast Cert.OutSIdeal.S1x2048 x4 Cert.OutSIdeal.Facts₀.shapeCasts_S2048_S1x2048)
      = Cert.OutSRefIdeal.Read.val_main_v19 (F := Ideal) x0 x1 x2 x3 x4 := by
  refine funext fun (i : Cert.OutSIdeal.S32x2048.Idx) => ?_
  obtain ⟨r, q, rfl⟩ : ∃ (r : Fin 32) (q : Fin 2048), i = ix2 r q := ⟨i 0, i 1, by funext a; match a with | ⟨0, _⟩ => rfl | ⟨1, _⟩ => rfl⟩
  rw [Cert.OutSIdeal.Value.blockOut_apply, Cert.OutSRefIdeal.Value.v19_apply, Cert.OutSRefIdeal.Value.v18_apply]
  simp only [Cert.OutSRefIdeal.Value.v5_apply]
  have ex : ∀ q, shapeCast Cert.OutSIdeal.S32x2048 x0 Cert.OutSIdeal.Facts₀.shapeCasts_S32x1x2048_S32x2048 (ix2 r q) = x0 (ix3 r 0 q) := by intro q; pointwise []
  have ea : ∀ k : Fin 1024, truncf (F := Ideal) .bf16 (shapeCast Cert.OutSIdeal.S32x1024 x1 Cert.OutSIdeal.Facts₀.shapeCasts_S32x8x128_S32x1024 : Vec Ideal Cert.OutSIdeal.S32x1024 .f32) Cert.OutSIdeal.Facts₀.bitsLt_bf16_f32 (ix2 r k)
      = x1 (ix3 r ⟨k.val / 128, by omega⟩ ⟨k.val % 128, by omega⟩) := by intro k; pointwise []
  have el : ∀ k, shapeCast Cert.OutSIdeal.S32x1024 x2 Cert.OutSIdeal.Facts₀.shapeCasts_S32x1x1024_S32x1024 (ix2 r k) = x2 (ix3 r 0 k) := by intro k; pointwise []
  have ew : ∀ k q, shapeCast Cert.OutSIdeal.S2048x2048 x3 Cert.OutSIdeal.Facts₀.shapeCasts_S1x2048x2048_S2048x2048 (ix2 k q) = x3 (ix3 0 k q) := by
    intro k q; pointwise []
  have en : shapeCast Cert.OutSIdeal.S1x2048 x4 Cert.OutSIdeal.Facts₀.shapeCasts_S2048_S1x2048 (ix2 0 q) = x4 (ix1 q) := by pointwise []
  simp only [ex, ea, el, ew, en]

/-- What the kernel's call leaves in its result is what the reference's operations leave in theirs, of the same arguments. -/
theorem result_eq (m : (ℓ : Loc Cert.OutSIdeal.nD Cert.OutSIdeal.τ Cert.OutSIdeal.sig) → Buf (Elt Ideal) ℓ) (c : Dev Cert.OutSIdeal.nD) :
    Cert.OutSIdeal.Value.result m c
      = Cert.OutSRefIdeal.Read.val_main_v19 (m ((c.tc : Thread Cert.OutSIdeal.nD Cert.OutSIdeal.τ).loc Cert.OutSIdeal.main_arg0))
          (m ((c.tc : Thread Cert.OutSIdeal.nD Cert.OutSIdeal.τ).loc Cert.OutSIdeal.main_arg1))
          (m ((c.tc : Thread Cert.OutSIdeal.nD Cert.OutSIdeal.τ).loc Cert.OutSIdeal.main_arg2))
          (m ((c.tc : Thread Cert.OutSIdeal.nD Cert.OutSIdeal.τ).loc Cert.OutSIdeal.main_arg3))
          (m ((c.tc : Thread Cert.OutSIdeal.nD Cert.OutSIdeal.τ).loc Cert.OutSIdeal.main_arg4)) := by
  unfold Cert.OutSIdeal.Value.result
  rw [Cert.OutSIdeal.Value.V_v0, Cert.OutSIdeal.Value.V_v2, Cert.OutSIdeal.Value.V_v3, Cert.OutSIdeal.Value.V_v4, Cert.OutSIdeal.Value.V_v5]
  exact G_eq _ _ _ _ _

/-- The kernel and the reference end with the same result, over the extended reals, from memories with the same arguments. -/
theorem value : Cert.algebraic_OutSIdeal_OutSRefIdeal := fun m ρ m' ρ' _ hag =>
  ⟨fun c => Cert.OutSIdeal.Value.result m c, Cert.OutSIdeal.Value.run_out m ρ,
    (θ_run _ _ _).mono (fun r h c => ⟨(h c).1.trans (by
        obtain ⟨a0, a1, a2, a3, a4⟩ := hag c
        rw [Cert.OutSRefIdeal.Read.val_main_v19_eq, a0, a1, a2, a3, a4]; exact (result_eq m c).symm), (h c).2⟩) (Cert.OutSRefIdeal.Value.run m' ρ')⟩

end Cert.Proof.OutS
-- ==== Proof.Step.Body.lean ====
/-
  What one grid point of the one-step recurrence leaves, over the extended reals: the new state of each head and the
  row it puts out, as functions of the point's blocks.
-/
module

public import proofs.«01_k».proof.Defs
public import proofs.«01_k».proof.Proof.Gen.StepIdeal.Frame
public import Idealize.ShloMosaic.Lib.Pointwise

@[expose] public section

noncomputable section

open Idealize.ShloMosaic Idealize.ShloMosaic.TcCoe Idealize.SL.Sem

namespace Cert.StepIdeal.Value

open Cert.StepIdeal Cert.StepIdeal.Gen

/-- An index at position `x` of the newest store's rectangle reads its payload at `x`. -/
theorem canon_at {s : Shape} {e : EltTy} {off size : Fin s.rank → ℕ} (inb : ∀ a, off a + size a ≤ s.size a)
    (w : (Rect.unit off size inb).shape.Idx → Elt Ideal e) (L : List (View.Piece (Elt Ideal) s e)) (y : s.Idx)
    (x : (Rect.unit off size inb).shape.Idx) (hx : ∀ a, (y a).val = off a + (x a).val) :
    View.canon ((⟨Rect.unit off size inb, w⟩ : View.Piece (Elt Ideal) s e) :: L) y = w x := by
  have hy : (Rect.unit off size inb).emb x = y := funext fun a => Fin.ext (by
    show off a + 1 * (x a).val = (y a).val
    rw [hx a, Nat.one_mul])
  exact hy ▸ View.canon_cons_emb _ w L x

/-- An index that misses the newest store's rectangle on axis `a` reads the earlier stores. -/
theorem canon_off {s : Shape} {e : EltTy} {off size : Fin s.rank → ℕ} (inb : ∀ a, off a + size a ≤ s.size a)
    (w : (Rect.unit off size inb).shape.Idx → Elt Ideal e) (L : List (View.Piece (Elt Ideal) s e)) (y : s.Idx)
    (a : Fin s.rank) (ha : (y a).val < off a) :
    View.canon ((⟨Rect.unit off size inb, w⟩ : View.Piece (Elt Ideal) s e) :: L) y = View.canon L y :=
  View.canon_cons_of_not_mem _ L fun hy => absurd ((Rect.mem_set_unit (inb := inb)).mp hy a).1 (Nat.not_le.mpr ha)

/-- The logarithm of the logistic function, as the body computes it. -/
def lsg (x : EReal) : EReal := min x 0 - Ideal.log (1 + Ideal.exp (0 - max x (-x)))

section
variable (x0 x1 : Vec Ideal S4 .f32) (x7 : Vec Ideal S1x1x128 .f32) (x11 : Vec Ideal S1x4x1x128 .f32) (h : Fin 4)

/-- The input gate, the decayed old maximum, the new maximum and the two weights of a head. -/
def igE : EReal := x7 (ix3 0 0 ⟨80 + h.val, by omega⟩) + x0 (ix1 h)
def laE : EReal := lsg (x7 (ix3 0 0 ⟨84 + h.val, by omega⟩) + x1 (ix1 h)) + x11 (ix4 0 h 0 0)
def mtE : EReal := max (laE x1 x7 x11 h) (igE x0 x7 h)
def dE : EReal := Ideal.exp (igE x0 x7 h - mtE x0 x1 x7 x11 h)
def aE : EReal := Ideal.exp (laE x1 x7 x11 h - mtE x0 x1 x7 x11 h)

end

section
variable (x0 x1 : Vec Ideal S4 .f32) (x2 x3 : Vec Ideal S1x1x512 .f32) (x4 x5 x6 : Vec Ideal S1x1x1024 .f32)
  (x7 : Vec Ideal S1x1x128 .f32) (x8 : Vec Ideal S1x1024 .f32) (x9 : Vec Ideal S1x4x256x128 .f32)
  (x10 x11 : Vec Ideal S1x4x1x128 .f32) (h : Fin 4)

/-- The query, key and value of a head. -/
def qE (k : Fin 128) : EReal := x2 (ix3 0 0 ⟨h.val * 128 + k.val, by omega⟩)
def vE (v : Fin 256) : EReal := x4 (ix3 0 0 ⟨h.val * 256 + v.val, by omega⟩)
def wE (v : Fin 256) : EReal := x8 (ix2 0 ⟨h.val * 256 + v.val, by omega⟩)

theorem qE_zero (k : Fin 128) : qE x2 0 k = x2 (ix3 0 0 ⟨k.val, by omega⟩) := by simp [qE]
theorem vE_zero (v : Fin 256) : vE x4 0 v = x4 (ix3 0 0 ⟨v.val, by omega⟩) := by simp [vE]
theorem wE_zero (v : Fin 256) : wE x8 0 v = x8 (ix2 0 ⟨v.val, by omega⟩) := by simp [wE]

/-- The new normaliser and the new state of a head. -/
def nE (k : Fin 128) : EReal := aE x0 x1 x7 x11 h * x10 (ix4 0 h 0 k) + dE x0 x1 x7 x11 h * qE x3 h k
def cE (v : Fin 256) (k : Fin 128) : EReal :=
  aE x0 x1 x7 x11 h * x9 (ix4 0 h v k) + dE x0 x1 x7 x11 h * vE x4 h v * qE x3 h k

/-- The row a head puts out: its output over the normaliser, -/
def hE (v : Fin 256) : EReal :=
  Ideal.div
    (aE x0 x1 x7 x11 h * (∑ k : Fin 128, x9 (ix4 0 h v k) * qE x2 h k)
      + (∑ k : Fin 128, qE x2 h k * qE x3 h k) * dE x0 x1 x7 x11 h * vE x4 h v)
    (max
      (FloatOps.absf (F := Ideal) (φ := .f32)
        (aE x0 x1 x7 x11 h * (∑ k : Fin 128, x10 (ix4 0 h 0 k) * qE x2 h k)
          + (∑ k : Fin 128, qE x2 h k * qE x3 h k) * dE x0 x1 x7 x11 h))
      (Ideal.exp (0 - mtE x0 x1 x7 x11 h)))

/-- half a hyperbolic tangent, -/
def thE (x : EReal) : EReal :=
  Ideal.ofBits FTy.f32 1056964608#32 * Ideal.tanh (Ideal.ofBits FTy.f32 1056964608#32 * x)
    + Ideal.ofBits FTy.f32 1056964608#32

/-- and the row normalised, scaled and gated. -/
def oE (v : Fin 256) : EReal :=
  hE x0 x1 x2 x3 x4 x7 x9 x10 x11 h v
      * Ideal.rsqrt (Ideal.div
          (∑ u : Fin 256, hE x0 x1 x2 x3 x4 x7 x9 x10 x11 h u * hE x0 x1 x2 x3 x4 x7 x9 x10 x11 h u)
          (Ideal.ofBits FTy.f32 1132462080#32) + Ideal.ofBits FTy.f32 897988541#32)
      * wE x8 h v
    * (thE (vE x5 h v) * (vE x6 h v * thE (vE x6 h v)))

end

/-- A sum over the identity mask keeps the one place it holds at: along a row, -/
theorem eye_row (v : Fin 256) (f : Fin 256 → EReal) :
    (∑ x : Fin 256, Scalar.select ((k0_pay3 : S256x256.Idx → BitVec 1) (ix2 v x)) (f x) 0) = f v := by
  have e : ∀ x : Fin 256, Scalar.select ((k0_pay3 : S256x256.Idx → BitVec 1) (ix2 v x)) (f x) (0 : EReal)
      = if x = v then f x else 0 := fun x => by
    pointwise [k0_pay3]
    have hv := v.isLt
    have hx := x.isLt
    rw [WordCmp.cmpi_eq_ofNat (by omega) (by omega), WordCmp.select_ofBool]
    by_cases e : x = v
    · subst e; simp
    · have h : ¬ v.val = x.val := fun h => e (Fin.ext h.symm)
      simp [e, h]
  rw [Finset.sum_congr rfl fun x _ => e x, Finset.sum_ite_eq' Finset.univ v f, if_pos (Finset.mem_univ v)]

/-- and along a column. -/
theorem eye_col (v : Fin 256) (f : Fin 256 → EReal) :
    (∑ x : Fin 256, Scalar.select ((k0_pay3 : S256x256.Idx → BitVec 1) (ix2 x v)) (f x) 0) = f v := by
  have e : ∀ x : Fin 256, Scalar.select ((k0_pay3 : S256x256.Idx → BitVec 1) (ix2 x v)) (f x) (0 : EReal)
      = if x = v then f x else 0 := fun x => by
    pointwise [k0_pay3]
    have hv := v.isLt
    have hx := x.isLt
    rw [WordCmp.cmpi_eq_ofNat (by omega) (by omega), WordCmp.select_ofBool]
    by_cases e : x = v
    · subst e; simp
    · have h : ¬ x.val = v.val := fun h => e (Fin.ext h)
      simp [e, h]
  rw [Finset.sum_congr rfl fun x _ => e x, Finset.sum_ite_eq' Finset.univ v f, if_pos (Finset.mem_univ v)]

variable (m : (ℓ : Loc nD τ sig) → Buf (Elt Ideal) ℓ)

/-- The new maxima. -/
theorem out15 (c : Dev nD) (t : Fin cfg0.N) (h : Fin 4) (l : Fin 128) :
    (outsAt0 m c t).2.2.2 (ix4 0 h 0 l)
      = mtE (iblk m c 0 t) (iblk m c 1 t) (iblk m c 7 t) (iblk m c 11 t) h := by
  unfold outsAt0
  dsimp only
  unfold out0_A_15
  rw [View.read_writes_eq_canon _ _ _ (cover0_A_15 _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread]
  generalize iblk m c 0 t = x0, iblk m c 1 t = x1, iblk m c 2 t = x2, iblk m c 3 t = x3, iblk m c 4 t = x4, iblk m c 5 t = x5, iblk m c 6 t = x6, iblk m c 7 t = x7, iblk m c 8 t = x8, iblk m c 9 t = x9, iblk m c 10 t = x10, iblk m c 11 t = x11
  match h with
  | 0 =>
    refine (canon_off _ _ _ _ 1 (by simp)).trans ?_
    refine (canon_off _ _ _ _ 1 (by simp)).trans ?_
    refine (canon_off _ _ _ _ 1 (by simp)).trans ?_
    refine (canon_at _ _ _ _ (ix4 0 0 0 l) (by intro a; fin_cases a <;> simp)).trans ?_
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay2, k0_pay1]
    rfl
  | 1 =>
    refine (canon_off _ _ _ _ 1 (by simp)).trans ?_
    refine (canon_off _ _ _ _ 1 (by simp)).trans ?_
    refine (canon_at _ _ _ _ (ix4 0 0 0 l) (by intro a; fin_cases a <;> simp)).trans ?_
    pointwise [k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay2, k0_pay1]
    rfl
  | 2 =>
    refine (canon_off _ _ _ _ 1 (by simp)).trans ?_
    refine (canon_at _ _ _ _ (ix4 0 0 0 l) (by intro a; fin_cases a <;> simp)).trans ?_
    pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay2, k0_pay1]
    rfl
  | 3 =>
    refine (canon_at _ _ _ _ (ix4 0 0 0 l) (by intro a; fin_cases a <;> simp)).trans ?_
    pointwise [k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay2, k0_pay1]
    rfl

/-- The new normalisers. -/
theorem out14 (c : Dev nD) (t : Fin cfg0.N) (h : Fin 4) (k : Fin 128) :
    (outsAt0 m c t).2.2.1 (ix4 0 h 0 k)
      = nE (iblk m c 0 t) (iblk m c 1 t) (iblk m c 3 t) (iblk m c 7 t) (iblk m c 10 t) (iblk m c 11 t) h k := by
  unfold outsAt0
  dsimp only
  unfold out0_A_14
  rw [View.read_writes_eq_canon _ _ _ (cover0_A_14 _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread]
  generalize iblk m c 0 t = x0, iblk m c 1 t = x1, iblk m c 2 t = x2, iblk m c 3 t = x3, iblk m c 4 t = x4, iblk m c 5 t = x5, iblk m c 6 t = x6, iblk m c 7 t = x7, iblk m c 8 t = x8, iblk m c 9 t = x9, iblk m c 10 t = x10, iblk m c 11 t = x11
  match h with
  | 0 =>
    refine (canon_off _ _ _ _ 1 (by simp)).trans ?_
    refine (canon_off _ _ _ _ 1 (by simp)).trans ?_
    refine (canon_off _ _ _ _ 1 (by simp)).trans ?_
    refine (canon_at _ _ _ _ (ix4 0 0 0 k) (by intro a; fin_cases a <;> simp)).trans ?_
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay2, k0_pay1]
    simp only [nE, cE, oE, hE, qE_zero, vE_zero, wE_zero]
    rfl
  | 1 =>
    refine (canon_off _ _ _ _ 1 (by simp)).trans ?_
    refine (canon_off _ _ _ _ 1 (by simp)).trans ?_
    refine (canon_at _ _ _ _ (ix4 0 0 0 k) (by intro a; fin_cases a <;> simp)).trans ?_
    pointwise [k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay2, k0_pay1]
    rfl
  | 2 =>
    refine (canon_off _ _ _ _ 1 (by simp)).trans ?_
    refine (canon_at _ _ _ _ (ix4 0 0 0 k) (by intro a; fin_cases a <;> simp)).trans ?_
    pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay2, k0_pay1]
    rfl
  | 3 =>
    refine (canon_at _ _ _ _ (ix4 0 0 0 k) (by intro a; fin_cases a <;> simp)).trans ?_
    pointwise [k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay2, k0_pay1]
    rfl

/-- The new states. -/
theorem out13 (c : Dev nD) (t : Fin cfg0.N) (h : Fin 4) (v : Fin 256) (k : Fin 128) :
    (outsAt0 m c t).2.1 (ix4 0 h v k)
      = cE (iblk m c 0 t) (iblk m c 1 t) (iblk m c 3 t) (iblk m c 4 t) (iblk m c 7 t) (iblk m c 9 t) (iblk m c 11 t) h v k := by
  unfold outsAt0
  dsimp only
  unfold out0_A_13
  rw [View.read_writes_eq_canon _ _ _ (cover0_A_13 _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread]
  generalize iblk m c 0 t = x0, iblk m c 1 t = x1, iblk m c 2 t = x2, iblk m c 3 t = x3, iblk m c 4 t = x4, iblk m c 5 t = x5, iblk m c 6 t = x6, iblk m c 7 t = x7, iblk m c 8 t = x8, iblk m c 9 t = x9, iblk m c 10 t = x10, iblk m c 11 t = x11
  match h with
  | 0 =>
    refine (canon_off _ _ _ _ 1 (by simp)).trans ?_
    refine (canon_off _ _ _ _ 1 (by simp)).trans ?_
    refine (canon_off _ _ _ _ 1 (by simp)).trans ?_
    refine (canon_at _ _ _ _ (ix4 0 0 v k) (by intro a; fin_cases a <;> simp)).trans ?_
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay2, k0_pay1]
    simp only [eye_row]
    simp only [nE, cE, oE, hE, qE_zero, vE_zero, wE_zero]
    rfl
  | 1 =>
    refine (canon_off _ _ _ _ 1 (by simp)).trans ?_
    refine (canon_off _ _ _ _ 1 (by simp)).trans ?_
    refine (canon_at _ _ _ _ (ix4 0 0 v k) (by intro a; fin_cases a <;> simp)).trans ?_
    pointwise [k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay2, k0_pay1]
    simp only [eye_row]
    rfl
  | 2 =>
    refine (canon_off _ _ _ _ 1 (by simp)).trans ?_
    refine (canon_at _ _ _ _ (ix4 0 0 v k) (by intro a; fin_cases a <;> simp)).trans ?_
    pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay2, k0_pay1]
    simp only [eye_row]
    rfl
  | 3 =>
    refine (canon_at _ _ _ _ (ix4 0 0 v k) (by intro a; fin_cases a <;> simp)).trans ?_
    pointwise [k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay2, k0_pay1]
    simp only [eye_row]
    rfl

/-- The row put out. -/
theorem out12 (c : Dev nD) (t : Fin cfg0.N) (h : Fin 4) (v : Fin 256) :
    (outsAt0 m c t).1 (ix3 0 0 ⟨h.val * 256 + v.val, by omega⟩)
      = oE (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) h v := by
  unfold outsAt0
  dsimp only
  unfold out0_A_12
  rw [View.read_writes_eq_canon _ _ _ (cover0_A_12 _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread]
  generalize iblk m c 0 t = x0, iblk m c 1 t = x1, iblk m c 2 t = x2, iblk m c 3 t = x3, iblk m c 4 t = x4, iblk m c 5 t = x5, iblk m c 6 t = x6, iblk m c 7 t = x7, iblk m c 8 t = x8, iblk m c 9 t = x9, iblk m c 10 t = x10, iblk m c 11 t = x11
  match h with
  | 0 =>
    refine (canon_off _ _ _ _ 2 (by simp <;> omega)).trans ?_
    refine (canon_off _ _ _ _ 2 (by simp <;> omega)).trans ?_
    refine (canon_off _ _ _ _ 2 (by simp <;> omega)).trans ?_
    refine (canon_at _ _ _ _ (ix3 0 0 v) (by intro a; fin_cases a <;> simp)).trans ?_
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay2, k0_pay1]
    simp only [eye_row, eye_col]
    simp only [nE, cE, oE, hE, qE_zero, vE_zero, wE_zero]
    rfl
  | 1 =>
    refine (canon_off _ _ _ _ 2 (by simp <;> omega)).trans ?_
    refine (canon_off _ _ _ _ 2 (by simp <;> omega)).trans ?_
    refine (canon_at _ _ _ _ (ix3 0 0 v) (by intro a; fin_cases a <;> simp)).trans ?_
    pointwise [k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay2, k0_pay1]
    simp only [eye_row, eye_col]
    rfl
  | 2 =>
    refine (canon_off _ _ _ _ 2 (by simp <;> omega)).trans ?_
    refine (canon_at _ _ _ _ (ix3 0 0 v) (by intro a; fin_cases a <;> simp)).trans ?_
    pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay2, k0_pay1]
    simp only [eye_row, eye_col]
    rfl
  | 3 =>
    refine (canon_at _ _ _ _ (ix3 0 0 v) (by intro a; fin_cases a <;> simp)).trans ?_
    pointwise [k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay2, k0_pay1]
    simp only [eye_row, eye_col]
    rfl

end Cert.StepIdeal.Value
-- ==== Proof.Step.Array.lean ====
/-
  The one-step recurrence: the blocks a grid point reads, named from the arguments, and the result arrays, over the
  extended reals.
-/
module

public import proofs.«01_k».proof.Proof.Step.Body
public import Idealize.ShloMosaic.Lib.Pipeline.ReadBack
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)

namespace Cert.StepIdeal.Value

open Cert.StepIdeal Cert.StepIdeal.Gen

/-! ## A sample's blocks, from the arguments -/

section
variable (A0 : Vec Ideal S32x7168 .f32) (A1 : Vec Ideal S32x128 .f32) (A2 : Vec Ideal S1x4 .f32) (A4 : Vec Ideal S1x1024 .f32)
  (A5 : Vec Ideal S1x32x4x256x128 .f32) (A6 : Vec Ideal S1x32x4x128 .f32) (A7 : Vec Ideal S1x32x4 .f32) (b : Fin 32)

/-- A bias; the projection's columns from `o`; the gate columns; the states. -/
def X0 : Vec Ideal S4 .f32 := fun i => A2 (ix2 0 (i 0))
def X2 (o : ℕ) (ho : o + 512 ≤ 7168) : Vec Ideal S1x1x512 .f32 := fun i => A0 (ix2 b ⟨o + (i 2).val, by have : (i 2).val < 512 := (i 2).isLt; omega⟩)
def X4 (o : ℕ) (ho : o + 1024 ≤ 7168) : Vec Ideal S1x1x1024 .f32 := fun i => A0 (ix2 b ⟨o + (i 2).val, by have : (i 2).val < 1024 := (i 2).isLt; omega⟩)
def X7 : Vec Ideal S1x1x128 .f32 := fun i => A1 (ix2 b (i 2))
def X9 : Vec Ideal S1x4x256x128 .f32 := fun i => A5 (ix5 0 b (i 1) (i 2) (i 3))
def X10 : Vec Ideal S1x4x1x128 .f32 := fun i => A6 (ix4 0 b (i 1) (i 3))
def X11 : Vec Ideal S1x4x1x128 .f32 := fun i => A7 (ix3 0 b (i 1))
end

variable (m : (ℓ : Loc nD τ sig) → Buf (Elt Ideal) ℓ) (ρ : Dev nD → PrngReg)

abbrev a0 (c : Dev nD) : Vec Ideal S32x7168 .f32 := m ((c : Thread nD τ).loc main_arg0)
abbrev a1 (c : Dev nD) : Vec Ideal S32x128 .f32 := m ((c : Thread nD τ).loc main_arg1)
abbrev a2 (c : Dev nD) : Vec Ideal S1x4 .f32 := m ((c : Thread nD τ).loc main_arg2)
abbrev a3 (c : Dev nD) : Vec Ideal S1x4 .f32 := m ((c : Thread nD τ).loc main_arg3)
abbrev a4 (c : Dev nD) : Vec Ideal S1x1024 .f32 := m ((c : Thread nD τ).loc main_arg4)
abbrev a5 (c : Dev nD) : Vec Ideal S1x32x4x256x128 .f32 := m ((c : Thread nD τ).loc main_arg5)
abbrev a6 (c : Dev nD) : Vec Ideal S1x32x4x128 .f32 := m ((c : Thread nD τ).loc main_arg6)
abbrev a7 (c : Dev nD) : Vec Ideal S1x32x4 .f32 := m ((c : Thread nD τ).loc main_arg7)

/-! ## What the call finds -/

theorem V_v0 (c : Dev nD) : V m c main_v0
    = (shapeCast S32x1x7168 (a0 m c) shapeCasts_S32x7168_S32x1x7168 : Vec Ideal S32x1x7168 .f32) := by
  dsimp only [V, V0, hostOps0, List.flatten_cons, List.flatten_nil, List.append_nil, List.cons_append, List.nil_append]; after_results; rfl

theorem V_v1 (c : Dev nD) : V m c main_v1
    = (shapeCast S32x1x128 (a1 m c) shapeCasts_S32x128_S32x1x128 : Vec Ideal S32x1x128 .f32) := by
  dsimp only [V, V0, hostOps0, List.flatten_cons, List.flatten_nil, List.append_nil, List.cons_append, List.nil_append]; after_results; rfl

theorem V_v2 (c : Dev nD) : V m c main_v2
    = (shapeCast S4 (a2 m c) shapeCasts_S1x4_S4 : Vec Ideal S4 .f32) := by
  dsimp only [V, V0, hostOps0, List.flatten_cons, List.flatten_nil, List.append_nil, List.cons_append, List.nil_append]; after_results; rfl

theorem V_v3 (c : Dev nD) : V m c main_v3
    = (shapeCast S4 (a3 m c) shapeCasts_S1x4_S4 : Vec Ideal S4 .f32) := by
  dsimp only [V, V0, hostOps0, List.flatten_cons, List.flatten_nil, List.append_nil, List.cons_append, List.nil_append]; after_results; rfl

theorem V_v11 (c : Dev nD) : V m c main_v11
    = (shapeCast S1x1024 (shapeCast S1024 (a4 m c) shapeCasts_S1x1024_S1024 : Vec Ideal S1024 .f32) shapeCasts_S1024_S1x1024 : Vec Ideal S1x1024 .f32) := by
  dsimp only [V, V0, hostOps0, List.flatten_cons, List.flatten_nil, List.append_nil, List.cons_append, List.nil_append]; after_results; rfl

theorem V_v5 (c : Dev nD) : V m c main_v5
    = (shapeCast S32x4x256x128 (a5 m c) shapeCasts_S1x32x4x256x128_S32x4x256x128 : Vec Ideal S32x4x256x128 .f32) := by
  dsimp only [V, V0, hostOps0, List.flatten_cons, List.flatten_nil, List.append_nil, List.cons_append, List.nil_append]; after_results; rfl

theorem V_v7 (c : Dev nD) : V m c main_v7
    = (shapeCast S32x4x1x128 (shapeCast S32x4x128 (a6 m c) shapeCasts_S1x32x4x128_S32x4x128 : Vec Ideal S32x4x128 .f32) shapeCasts_S32x4x128_S32x4x1x128 : Vec Ideal S32x4x1x128 .f32) := by
  dsimp only [V, V0, hostOps0, List.flatten_cons, List.flatten_nil, List.append_nil, List.cons_append, List.nil_append]; after_results; rfl

theorem V_v10 (c : Dev nD) : V m c main_v10
    = (broadcastInDim S32x4x1x128 ![0, 1, 2, 3] bcast_S32x4x1x1_S32x4x1x128_0_1_2_3 (broadcastInDim S32x4x1x1 ![0, 1] bcast_S32x4_S32x4x1x1_0_1 (shapeCast S32x4 (a7 m c) shapeCasts_S1x32x4_S32x4 : Vec Ideal S32x4 .f32)) : Vec Ideal S32x4x1x128 .f32) := by
  dsimp only [V, V0, hostOps0, List.flatten_cons, List.flatten_nil, List.append_nil, List.cons_append, List.nil_append]; after_results; rfl

/-! ## The blocks of a point -/

/-- The sample of a point. -/
abbrev bOf (t : Fin cfg0.N) : Fin 32 := ⟨t.val, t.isLt⟩

theorem idx0 : ∀ t : Fin grid0.N, cc0_transform_0 (grid0.coords t) 0 = 0 := by
  decide +kernel

theorem iblk0 (c : Dev nD) (t : Fin cfg0.N) : iblk m c 0 t = X0 (a2 m c) := by
  refine funext fun (j : S4.Idx) => ?_
  have e : iblk m c 0 t j = V m c main_v2 (ix1 (j 0)) := by
    show V m c main_v2 _ = V m c main_v2 _
    congr 1
    funext a
    apply Fin.ext
    match a with
    | ⟨0, _⟩ => have h : (j 0).val < 4 := (j 0).isLt
                show cc0_transform_0 (grid0.coords t) 0 * 4 + 1 * (j 0).val = (j 0).val
                rw [(idx0 t)]; omega
  refine e.trans ?_
  rw [V_v2]
  pointwise [X0, X2, X4, X7, X9, X10, X11]

theorem idx1 : ∀ t : Fin grid0.N, cc0_transform_1 (grid0.coords t) 0 = 0 := by
  decide +kernel

theorem iblk1 (c : Dev nD) (t : Fin cfg0.N) : iblk m c 1 t = X0 (a3 m c) := by
  refine funext fun (j : S4.Idx) => ?_
  have e : iblk m c 1 t j = V m c main_v3 (ix1 (j 0)) := by
    show V m c main_v3 _ = V m c main_v3 _
    congr 1
    funext a
    apply Fin.ext
    match a with
    | ⟨0, _⟩ => have h : (j 0).val < 4 := (j 0).isLt
                show cc0_transform_1 (grid0.coords t) 0 * 4 + 1 * (j 0).val = (j 0).val
                rw [(idx1 t)]; omega
  refine e.trans ?_
  rw [V_v3]
  pointwise [X0, X2, X4, X7, X9, X10, X11]

theorem idx2 : ∀ t : Fin grid0.N, cc0_transform_2 (grid0.coords t) 0 = t.val ∧ cc0_transform_2 (grid0.coords t) 1 = 0 ∧ cc0_transform_2 (grid0.coords t) 2 = 12 := by
  decide +kernel

theorem iblk2 (c : Dev nD) (t : Fin cfg0.N) : iblk m c 2 t = X2 (a0 m c) (bOf t) 6144 (by decide) := by
  refine funext fun (j : S1x1x512.Idx) => ?_
  have e : iblk m c 2 t j = V m c main_v0 (ix3 (bOf t) (j 1) ⟨6144 + (j 2).val, by have : (j 2).val < 512 := (j 2).isLt; omega⟩) := by
    show V m c main_v0 _ = V m c main_v0 _
    congr 1
    funext a
    apply Fin.ext
    match a with
    | ⟨0, _⟩ => have h : (j 0).val < 1 := (j 0).isLt
                show cc0_transform_2 (grid0.coords t) 0 * 1 + 1 * (j 0).val = t.val
                rw [(idx2 t).1]; omega
    | ⟨1, _⟩ => have h : (j 1).val < 1 := (j 1).isLt
                show cc0_transform_2 (grid0.coords t) 1 * 1 + 1 * (j 1).val = (j 1).val
                rw [(idx2 t).2.1]; omega
    | ⟨2, _⟩ => have h : (j 2).val < 512 := (j 2).isLt
                show cc0_transform_2 (grid0.coords t) 2 * 512 + 1 * (j 2).val = 6144 + (j 2).val
                rw [(idx2 t).2.2]; omega
  refine e.trans ?_
  rw [V_v0]
  pointwise [X0, X2, X4, X7, X9, X10, X11]

theorem idx3 : ∀ t : Fin grid0.N, cc0_transform_3 (grid0.coords t) 0 = t.val ∧ cc0_transform_3 (grid0.coords t) 1 = 0 ∧ cc0_transform_3 (grid0.coords t) 2 = 13 := by
  decide +kernel

theorem iblk3 (c : Dev nD) (t : Fin cfg0.N) : iblk m c 3 t = X2 (a0 m c) (bOf t) 6656 (by decide) := by
  refine funext fun (j : S1x1x512.Idx) => ?_
  have e : iblk m c 3 t j = V m c main_v0 (ix3 (bOf t) (j 1) ⟨6656 + (j 2).val, by have : (j 2).val < 512 := (j 2).isLt; omega⟩) := by
    show V m c main_v0 _ = V m c main_v0 _
    congr 1
    funext a
    apply Fin.ext
    match a with
    | ⟨0, _⟩ => have h : (j 0).val < 1 := (j 0).isLt
                show cc0_transform_3 (grid0.coords t) 0 * 1 + 1 * (j 0).val = t.val
                rw [(idx3 t).1]; omega
    | ⟨1, _⟩ => have h : (j 1).val < 1 := (j 1).isLt
                show cc0_transform_3 (grid0.coords t) 1 * 1 + 1 * (j 1).val = (j 1).val
                rw [(idx3 t).2.1]; omega
    | ⟨2, _⟩ => have h : (j 2).val < 512 := (j 2).isLt
                show cc0_transform_3 (grid0.coords t) 2 * 512 + 1 * (j 2).val = 6656 + (j 2).val
                rw [(idx3 t).2.2]; omega
  refine e.trans ?_
  rw [V_v0]
  pointwise [X0, X2, X4, X7, X9, X10, X11]

theorem idx4 : ∀ t : Fin grid0.N, cc0_transform_4 (grid0.coords t) 0 = t.val ∧ cc0_transform_4 (grid0.coords t) 1 = 0 ∧ cc0_transform_4 (grid0.coords t) 2 = 3 := by
  decide +kernel

theorem iblk4 (c : Dev nD) (t : Fin cfg0.N) : iblk m c 4 t = X4 (a0 m c) (bOf t) 3072 (by decide) := by
  refine funext fun (j : S1x1x1024.Idx) => ?_
  have e : iblk m c 4 t j = V m c main_v0 (ix3 (bOf t) (j 1) ⟨3072 + (j 2).val, by have : (j 2).val < 1024 := (j 2).isLt; omega⟩) := by
    show V m c main_v0 _ = V m c main_v0 _
    congr 1
    funext a
    apply Fin.ext
    match a with
    | ⟨0, _⟩ => have h : (j 0).val < 1 := (j 0).isLt
                show cc0_transform_4 (grid0.coords t) 0 * 1 + 1 * (j 0).val = t.val
                rw [(idx4 t).1]; omega
    | ⟨1, _⟩ => have h : (j 1).val < 1 := (j 1).isLt
                show cc0_transform_4 (grid0.coords t) 1 * 1 + 1 * (j 1).val = (j 1).val
                rw [(idx4 t).2.1]; omega
    | ⟨2, _⟩ => have h : (j 2).val < 1024 := (j 2).isLt
                show cc0_transform_4 (grid0.coords t) 2 * 1024 + 1 * (j 2).val = 3072 + (j 2).val
                rw [(idx4 t).2.2]; omega
  refine e.trans ?_
  rw [V_v0]
  pointwise [X0, X2, X4, X7, X9, X10, X11]

theorem idx5 : ∀ t : Fin grid0.N, cc0_transform_5 (grid0.coords t) 0 = t.val ∧ cc0_transform_5 (grid0.coords t) 1 = 0 ∧ cc0_transform_5 (grid0.coords t) 2 = 4 := by
  decide +kernel

theorem iblk5 (c : Dev nD) (t : Fin cfg0.N) : iblk m c 5 t = X4 (a0 m c) (bOf t) 4096 (by decide) := by
  refine funext fun (j : S1x1x1024.Idx) => ?_
  have e : iblk m c 5 t j = V m c main_v0 (ix3 (bOf t) (j 1) ⟨4096 + (j 2).val, by have : (j 2).val < 1024 := (j 2).isLt; omega⟩) := by
    show V m c main_v0 _ = V m c main_v0 _
    congr 1
    funext a
    apply Fin.ext
    match a with
    | ⟨0, _⟩ => have h : (j 0).val < 1 := (j 0).isLt
                show cc0_transform_5 (grid0.coords t) 0 * 1 + 1 * (j 0).val = t.val
                rw [(idx5 t).1]; omega
    | ⟨1, _⟩ => have h : (j 1).val < 1 := (j 1).isLt
                show cc0_transform_5 (grid0.coords t) 1 * 1 + 1 * (j 1).val = (j 1).val
                rw [(idx5 t).2.1]; omega
    | ⟨2, _⟩ => have h : (j 2).val < 1024 := (j 2).isLt
                show cc0_transform_5 (grid0.coords t) 2 * 1024 + 1 * (j 2).val = 4096 + (j 2).val
                rw [(idx5 t).2.2]; omega
  refine e.trans ?_
  rw [V_v0]
  pointwise [X0, X2, X4, X7, X9, X10, X11]

theorem idx6 : ∀ t : Fin grid0.N, cc0_transform_6 (grid0.coords t) 0 = t.val ∧ cc0_transform_6 (grid0.coords t) 1 = 0 ∧ cc0_transform_6 (grid0.coords t) 2 = 5 := by
  decide +kernel

theorem iblk6 (c : Dev nD) (t : Fin cfg0.N) : iblk m c 6 t = X4 (a0 m c) (bOf t) 5120 (by decide) := by
  refine funext fun (j : S1x1x1024.Idx) => ?_
  have e : iblk m c 6 t j = V m c main_v0 (ix3 (bOf t) (j 1) ⟨5120 + (j 2).val, by have : (j 2).val < 1024 := (j 2).isLt; omega⟩) := by
    show V m c main_v0 _ = V m c main_v0 _
    congr 1
    funext a
    apply Fin.ext
    match a with
    | ⟨0, _⟩ => have h : (j 0).val < 1 := (j 0).isLt
                show cc0_transform_6 (grid0.coords t) 0 * 1 + 1 * (j 0).val = t.val
                rw [(idx6 t).1]; omega
    | ⟨1, _⟩ => have h : (j 1).val < 1 := (j 1).isLt
                show cc0_transform_6 (grid0.coords t) 1 * 1 + 1 * (j 1).val = (j 1).val
                rw [(idx6 t).2.1]; omega
    | ⟨2, _⟩ => have h : (j 2).val < 1024 := (j 2).isLt
                show cc0_transform_6 (grid0.coords t) 2 * 1024 + 1 * (j 2).val = 5120 + (j 2).val
                rw [(idx6 t).2.2]; omega
  refine e.trans ?_
  rw [V_v0]
  pointwise [X0, X2, X4, X7, X9, X10, X11]

theorem idx7 : ∀ t : Fin grid0.N, cc0_transform_7 (grid0.coords t) 0 = t.val ∧ cc0_transform_7 (grid0.coords t) 1 = 0 ∧ cc0_transform_7 (grid0.coords t) 2 = 0 := by
  decide +kernel

theorem iblk7 (c : Dev nD) (t : Fin cfg0.N) : iblk m c 7 t = X7 (a1 m c) (bOf t) := by
  refine funext fun (j : S1x1x128.Idx) => ?_
  have e : iblk m c 7 t j = V m c main_v1 (ix3 (bOf t) (j 1) (j 2)) := by
    show V m c main_v1 _ = V m c main_v1 _
    congr 1
    funext a
    apply Fin.ext
    match a with
    | ⟨0, _⟩ => have h : (j 0).val < 1 := (j 0).isLt
                show cc0_transform_7 (grid0.coords t) 0 * 1 + 1 * (j 0).val = t.val
                rw [(idx7 t).1]; omega
    | ⟨1, _⟩ => have h : (j 1).val < 1 := (j 1).isLt
                show cc0_transform_7 (grid0.coords t) 1 * 1 + 1 * (j 1).val = (j 1).val
                rw [(idx7 t).2.1]; omega
    | ⟨2, _⟩ => have h : (j 2).val < 128 := (j 2).isLt
                show cc0_transform_7 (grid0.coords t) 2 * 128 + 1 * (j 2).val = (j 2).val
                rw [(idx7 t).2.2]; omega
  refine e.trans ?_
  rw [V_v1]
  pointwise [X0, X2, X4, X7, X9, X10, X11]

theorem idx8 : ∀ t : Fin grid0.N, cc0_transform_8 (grid0.coords t) 0 = 0 ∧ cc0_transform_8 (grid0.coords t) 1 = 0 := by
  decide +kernel

theorem iblk8 (c : Dev nD) (t : Fin cfg0.N) : iblk m c 8 t = a4 m c := by
  refine funext fun (j : S1x1024.Idx) => ?_
  have e : iblk m c 8 t j = V m c main_v11 (ix2 (j 0) (j 1)) := by
    show V m c main_v11 _ = V m c main_v11 _
    congr 1
    funext a
    apply Fin.ext
    match a with
    | ⟨0, _⟩ => have h : (j 0).val < 1 := (j 0).isLt
                show cc0_transform_8 (grid0.coords t) 0 * 1 + 1 * (j 0).val = (j 0).val
                rw [(idx8 t).1]; omega
    | ⟨1, _⟩ => have h : (j 1).val < 1024 := (j 1).isLt
                show cc0_transform_8 (grid0.coords t) 1 * 1024 + 1 * (j 1).val = (j 1).val
                rw [(idx8 t).2]; omega
  refine e.trans ?_
  rw [V_v11]
  pointwise [X0, X2, X4, X7, X9, X10, X11]

theorem idx9 : ∀ t : Fin grid0.N, cc0_transform_9 (grid0.coords t) 0 = t.val ∧ cc0_transform_9 (grid0.coords t) 1 = 0 ∧ cc0_transform_9 (grid0.coords t) 2 = 0 ∧ cc0_transform_9 (grid0.coords t) 3 = 0 := by
  decide +kernel

theorem iblk9 (c : Dev nD) (t : Fin cfg0.N) : iblk m c 9 t = X9 (a5 m c) (bOf t) := by
  refine funext fun (j : S1x4x256x128.Idx) => ?_
  have e : iblk m c 9 t j = V m c main_v5 (ix4 (bOf t) (j 1) (j 2) (j 3)) := by
    show V m c main_v5 _ = V m c main_v5 _
    congr 1
    funext a
    apply Fin.ext
    match a with
    | ⟨0, _⟩ => have h : (j 0).val < 1 := (j 0).isLt
                show cc0_transform_9 (grid0.coords t) 0 * 1 + 1 * (j 0).val = t.val
                rw [(idx9 t).1]; omega
    | ⟨1, _⟩ => have h : (j 1).val < 4 := (j 1).isLt
                show cc0_transform_9 (grid0.coords t) 1 * 4 + 1 * (j 1).val = (j 1).val
                rw [(idx9 t).2.1]; omega
    | ⟨2, _⟩ => have h : (j 2).val < 256 := (j 2).isLt
                show cc0_transform_9 (grid0.coords t) 2 * 256 + 1 * (j 2).val = (j 2).val
                rw [(idx9 t).2.2.1]; omega
    | ⟨3, _⟩ => have h : (j 3).val < 128 := (j 3).isLt
                show cc0_transform_9 (grid0.coords t) 3 * 128 + 1 * (j 3).val = (j 3).val
                rw [(idx9 t).2.2.2]; omega
  refine e.trans ?_
  rw [V_v5]
  pointwise [X0, X2, X4, X7, X9, X10, X11]

theorem idx10 : ∀ t : Fin grid0.N, cc0_transform_10 (grid0.coords t) 0 = t.val ∧ cc0_transform_10 (grid0.coords t) 1 = 0 ∧ cc0_transform_10 (grid0.coords t) 2 = 0 ∧ cc0_transform_10 (grid0.coords t) 3 = 0 := by
  decide +kernel

theorem iblk10 (c : Dev nD) (t : Fin cfg0.N) : iblk m c 10 t = X10 (a6 m c) (bOf t) := by
  refine funext fun (j : S1x4x1x128.Idx) => ?_
  have e : iblk m c 10 t j = V m c main_v7 (ix4 (bOf t) (j 1) (j 2) (j 3)) := by
    show V m c main_v7 _ = V m c main_v7 _
    congr 1
    funext a
    apply Fin.ext
    match a with
    | ⟨0, _⟩ => have h : (j 0).val < 1 := (j 0).isLt
                show cc0_transform_10 (grid0.coords t) 0 * 1 + 1 * (j 0).val = t.val
                rw [(idx10 t).1]; omega
    | ⟨1, _⟩ => have h : (j 1).val < 4 := (j 1).isLt
                show cc0_transform_10 (grid0.coords t) 1 * 4 + 1 * (j 1).val = (j 1).val
                rw [(idx10 t).2.1]; omega
    | ⟨2, _⟩ => have h : (j 2).val < 1 := (j 2).isLt
                show cc0_transform_10 (grid0.coords t) 2 * 1 + 1 * (j 2).val = (j 2).val
                rw [(idx10 t).2.2.1]; omega
    | ⟨3, _⟩ => have h : (j 3).val < 128 := (j 3).isLt
                show cc0_transform_10 (grid0.coords t) 3 * 128 + 1 * (j 3).val = (j 3).val
                rw [(idx10 t).2.2.2]; omega
  refine e.trans ?_
  rw [V_v7]
  pointwise [X0, X2, X4, X7, X9, X10, X11]

theorem idx11 : ∀ t : Fin grid0.N, cc0_transform_11 (grid0.coords t) 0 = t.val ∧ cc0_transform_11 (grid0.coords t) 1 = 0 ∧ cc0_transform_11 (grid0.coords t) 2 = 0 ∧ cc0_transform_11 (grid0.coords t) 3 = 0 := by
  decide +kernel

theorem iblk11 (c : Dev nD) (t : Fin cfg0.N) : iblk m c 11 t = X11 (a7 m c) (bOf t) := by
  refine funext fun (j : S1x4x1x128.Idx) => ?_
  have e : iblk m c 11 t j = V m c main_v10 (ix4 (bOf t) (j 1) (j 2) (j 3)) := by
    show V m c main_v10 _ = V m c main_v10 _
    congr 1
    funext a
    apply Fin.ext
    match a with
    | ⟨0, _⟩ => have h : (j 0).val < 1 := (j 0).isLt
                show cc0_transform_11 (grid0.coords t) 0 * 1 + 1 * (j 0).val = t.val
                rw [(idx11 t).1]; omega
    | ⟨1, _⟩ => have h : (j 1).val < 4 := (j 1).isLt
                show cc0_transform_11 (grid0.coords t) 1 * 4 + 1 * (j 1).val = (j 1).val
                rw [(idx11 t).2.1]; omega
    | ⟨2, _⟩ => have h : (j 2).val < 1 := (j 2).isLt
                show cc0_transform_11 (grid0.coords t) 2 * 1 + 1 * (j 2).val = (j 2).val
                rw [(idx11 t).2.2.1]; omega
    | ⟨3, _⟩ => have h : (j 3).val < 128 := (j 3).isLt
                show cc0_transform_11 (grid0.coords t) 3 * 128 + 1 * (j 3).val = (j 3).val
                rw [(idx11 t).2.2.2]; omega
  refine e.trans ?_
  rw [V_v10]
  pointwise [X0, X2, X4, X7, X9, X10, X11]
  rfl

end Cert.StepIdeal.Value
-- ==== Proof.Step.Final.lean ====
/-
  The one-step recurrence: the result arrays the run ends with, as functions of the arguments, over the extended reals.
-/
module

public import proofs.«01_k».proof.Proof.Step.Array

@[expose] public section

set_option maxRecDepth 16384

noncomputable section

open Idealize.ShloMosaic Idealize.ShloMosaic.TcCoe Idealize.SL.Sem
open Idealize.ShloMosaic.Pipeline (Dat)

namespace Cert.StepIdeal.Value

open Cert.StepIdeal Cert.StepIdeal.Gen

section
variable (A0 : Vec Ideal S32x7168 .f32) (A1 : Vec Ideal S32x128 .f32) (A2 A3 : Vec Ideal S1x4 .f32) (A4 : Vec Ideal S1x1024 .f32)
  (A5 : Vec Ideal S1x32x4x256x128 .f32) (A6 : Vec Ideal S1x32x4x128 .f32) (A7 : Vec Ideal S1x32x4 .f32) (b : Fin 32) (h : Fin 4)

/-- The four results at an index, of the arguments: the row put out, the new state, the new normaliser, the new maximum. -/
def oF (v : Fin 256) : EReal :=
  oE (X0 A2) (X0 A3) (X2 A0 b 6144 (by decide)) (X2 A0 b 6656 (by decide)) (X4 A0 b 3072 (by decide)) (X4 A0 b 4096 (by decide)) (X4 A0 b 5120 (by decide)) (X7 A1 b) A4 (X9 A5 b) (X10 A6 b) (X11 A7 b) h v
def cF (v : Fin 256) (k : Fin 128) : EReal :=
  cE (X0 A2) (X0 A3) (X2 A0 b 6656 (by decide)) (X4 A0 b 3072 (by decide)) (X7 A1 b) (X9 A5 b) (X11 A7 b) h v k
def nF (k : Fin 128) : EReal := nE (X0 A2) (X0 A3) (X2 A0 b 6656 (by decide)) (X7 A1 b) (X10 A6 b) (X11 A7 b) h k
def mF : EReal := mtE (X0 A2) (X0 A3) (X7 A1 b) (X11 A7 b) h
end

variable (m : (ℓ : Loc nD τ sig) → Buf (Elt Ideal) ℓ) (ρ : Dev nD → PrngReg)

/-- The arrays the call writes. -/
def arrO (c : Dev nD) : Vec Ideal S32x1x1024 .bf16 := fun i =>
  oF (a0 m c) (a1 m c) (a2 m c) (a3 m c) (a4 m c) (a5 m c) (a6 m c) (a7 m c) (i 0) ⟨(i 2).val / 256, by have : (i 2).val < 1024 := (i 2).isLt; omega⟩ ⟨(i 2).val % 256, by omega⟩
def arrC (c : Dev nD) : Vec Ideal S32x4x256x128 .f32 := fun i =>
  cF (a0 m c) (a1 m c) (a2 m c) (a3 m c) (a5 m c) (a7 m c) (i 0) (i 1) (i 2) (i 3)
def arrN (c : Dev nD) : Vec Ideal S32x4x1x128 .f32 := fun i =>
  nF (a0 m c) (a1 m c) (a2 m c) (a3 m c) (a6 m c) (a7 m c) (i 0) (i 1) (i 3)
def arrM (c : Dev nD) : Vec Ideal S32x4x1x128 .f32 := fun i =>
  mF (a1 m c) (a2 m c) (a3 m c) (a7 m c) (i 0) (i 1)

theorem idx12 : ∀ t : Fin grid0.N, cc0_transform_12 (grid0.coords t) 0 = t.val ∧ cc0_transform_12 (grid0.coords t) 1 = 0 ∧ cc0_transform_12 (grid0.coords t) 2 = 0 := by
  decide +kernel

theorem blk12 (c : Dev nD) (t : Fin cfg0.N) (h : Fin 4) (v : Fin 256) : (outsAt0 m c t).1 (ix3 0 0 ⟨h.val * 256 + v.val, by omega⟩) = oF (a0 m c) (a1 m c) (a2 m c) (a3 m c) (a4 m c) (a5 m c) (a6 m c) (a7 m c) (bOf t) h v := by
  refine (out12 m c t h v).trans ?_
  rw [iblk0 m c t, iblk1 m c t, iblk2 m c t, iblk3 m c t, iblk4 m c t, iblk5 m c t, iblk6 m c t, iblk7 m c t, iblk8 m c t, iblk9 m c t, iblk10 m c t, iblk11 m c t]
  rfl

/-- Window 12's array ends at it. -/
theorem final12 (c : Dev nD) : (dats m 0 c).arrAt 12 cfg0.N = arrO m c := by
  refine (dats m 0 c).arrAt_eq_of_covers 12 _ (by decide +kernel) fun t hf => ?_
  refine fun (j : S1x1x1024.Idx) => ?_
  show (dats m 0 c).after 12 t j = _
  rw [after0_12]
  obtain ⟨h, v, rfl⟩ : ∃ (h : Fin 4) (v : Fin 256), j = ix3 0 0 ⟨h.val * 256 + v.val, by omega⟩ :=
    ⟨⟨(j 2).val / 256, by have : (j 2).val < 1024 := (j 2).isLt; omega⟩, ⟨(j 2).val % 256, by omega⟩, by
      funext a
      apply Fin.ext
      match a with
      | ⟨0, _⟩ => show (j 0).val = 0; have : (j 0).val < 1 := (j 0).isLt; omega
      | ⟨1, _⟩ => show (j 1).val = 0; have : (j 1).val < 1 := (j 1).isLt; omega
      | ⟨2, _⟩ => show (j 2).val = (j 2).val / 256 * 256 + (j 2).val % 256; omega⟩
  refine (blk12 m c t h v).trans ?_
  have e : oF (a0 m c) (a1 m c) (a2 m c) (a3 m c) (a4 m c) (a5 m c) (a6 m c) (a7 m c) (bOf t) h v = arrO m c (ix3 (bOf t) 0 ⟨h.val * 256 + v.val, by omega⟩) := by
    show oF _ _ _ _ _ _ _ _ _ _ _ = oF _ _ _ _ _ _ _ _ _ _ _
    congr 1
    · exact Fin.ext (by show h.val = (h.val * 256 + v.val) / 256; omega)
    · exact Fin.ext (by show v.val = (h.val * 256 + v.val) % 256; omega)
  refine e.trans ?_
  show arrO m c _ = arrO m c _
  congr 1
  funext a
  apply Fin.ext
  match a with
  | ⟨0, _⟩ => show t.val = cc0_transform_12 (grid0.coords t) 0 * 1 + 1 * 0
              rw [(idx12 t).1]; omega
  | ⟨1, _⟩ => show 0 = cc0_transform_12 (grid0.coords t) 1 * 1 + 1 * 0
              rw [(idx12 t).2.1]
  | ⟨2, _⟩ => show h.val * 256 + v.val = cc0_transform_12 (grid0.coords t) 2 * 1024 + 1 * (h.val * 256 + v.val)
              rw [(idx12 t).2.2]; omega

theorem idx13 : ∀ t : Fin grid0.N, cc0_transform_13 (grid0.coords t) 0 = t.val ∧ cc0_transform_13 (grid0.coords t) 1 = 0 ∧ cc0_transform_13 (grid0.coords t) 2 = 0 ∧ cc0_transform_13 (grid0.coords t) 3 = 0 := by
  decide +kernel

theorem blk13 (c : Dev nD) (t : Fin cfg0.N) (h : Fin 4) (v : Fin 256) (k : Fin 128) : (outsAt0 m c t).2.1 (ix4 0 h v k) = cF (a0 m c) (a1 m c) (a2 m c) (a3 m c) (a5 m c) (a7 m c) (bOf t) h v k := by
  refine (out13 m c t h v k).trans ?_
  rw [iblk0 m c t, iblk1 m c t, iblk3 m c t, iblk4 m c t, iblk7 m c t, iblk9 m c t, iblk11 m c t]
  rfl

/-- Window 13's array ends at it. -/
theorem final13 (c : Dev nD) : (dats m 0 c).arrAt 13 cfg0.N = arrC m c := by
  refine (dats m 0 c).arrAt_eq_of_covers 13 _ (by decide +kernel) fun t hf => ?_
  refine fun (j : S1x4x256x128.Idx) => ?_
  show (dats m 0 c).after 13 t j = _
  rw [after0_13]
  obtain ⟨h, v, k, rfl⟩ : ∃ (h : Fin 4) (v : Fin 256) (k : Fin 128), j = ix4 0 h v k :=
    ⟨j 1, j 2, j 3, by
      funext a
      apply Fin.ext
      match a with
      | ⟨0, _⟩ => show (j 0).val = 0; have : (j 0).val < 1 := (j 0).isLt; omega
      | ⟨1, _⟩ => rfl
      | ⟨2, _⟩ => rfl
      | ⟨3, _⟩ => rfl⟩
  refine (blk13 m c t h v k).trans ?_
  have e : cF (a0 m c) (a1 m c) (a2 m c) (a3 m c) (a5 m c) (a7 m c) (bOf t) h v k = arrC m c (ix4 (bOf t) h v k) := by
    rfl
  refine e.trans ?_
  show arrC m c _ = arrC m c _
  congr 1
  funext a
  apply Fin.ext
  match a with
  | ⟨0, _⟩ => show t.val = cc0_transform_13 (grid0.coords t) 0 * 1 + 1 * 0
              rw [(idx13 t).1]; omega
  | ⟨1, _⟩ => show h.val = cc0_transform_13 (grid0.coords t) 1 * 4 + 1 * h.val
              rw [(idx13 t).2.1]; omega
  | ⟨2, _⟩ => show v.val = cc0_transform_13 (grid0.coords t) 2 * 256 + 1 * v.val
              rw [(idx13 t).2.2.1]; omega
  | ⟨3, _⟩ => show k.val = cc0_transform_13 (grid0.coords t) 3 * 128 + 1 * k.val
              rw [(idx13 t).2.2.2]; omega

theorem idx14 : ∀ t : Fin grid0.N, cc0_transform_14 (grid0.coords t) 0 = t.val ∧ cc0_transform_14 (grid0.coords t) 1 = 0 ∧ cc0_transform_14 (grid0.coords t) 2 = 0 ∧ cc0_transform_14 (grid0.coords t) 3 = 0 := by
  decide +kernel

theorem blk14 (c : Dev nD) (t : Fin cfg0.N) (h : Fin 4) (k : Fin 128) : (outsAt0 m c t).2.2.1 (ix4 0 h 0 k) = nF (a0 m c) (a1 m c) (a2 m c) (a3 m c) (a6 m c) (a7 m c) (bOf t) h k := by
  refine (out14 m c t h k).trans ?_
  rw [iblk0 m c t, iblk1 m c t, iblk3 m c t, iblk7 m c t, iblk10 m c t, iblk11 m c t]
  rfl

/-- Window 14's array ends at it. -/
theorem final14 (c : Dev nD) : (dats m 0 c).arrAt 14 cfg0.N = arrN m c := by
  refine (dats m 0 c).arrAt_eq_of_covers 14 _ (by decide +kernel) fun t hf => ?_
  refine fun (j : S1x4x1x128.Idx) => ?_
  show (dats m 0 c).after 14 t j = _
  rw [after0_14]
  obtain ⟨h, k, rfl⟩ : ∃ (h : Fin 4) (k : Fin 128), j = ix4 0 h 0 k :=
    ⟨j 1, j 3, by
      funext a
      apply Fin.ext
      match a with
      | ⟨0, _⟩ => show (j 0).val = 0; have : (j 0).val < 1 := (j 0).isLt; omega
      | ⟨1, _⟩ => rfl
      | ⟨2, _⟩ => show (j 2).val = 0; have : (j 2).val < 1 := (j 2).isLt; omega
      | ⟨3, _⟩ => rfl⟩
  refine (blk14 m c t h k).trans ?_
  have e : nF (a0 m c) (a1 m c) (a2 m c) (a3 m c) (a6 m c) (a7 m c) (bOf t) h k = arrN m c (ix4 (bOf t) h 0 k) := by
    rfl
  refine e.trans ?_
  show arrN m c _ = arrN m c _
  congr 1
  funext a
  apply Fin.ext
  match a with
  | ⟨0, _⟩ => show t.val = cc0_transform_14 (grid0.coords t) 0 * 1 + 1 * 0
              rw [(idx14 t).1]; omega
  | ⟨1, _⟩ => show h.val = cc0_transform_14 (grid0.coords t) 1 * 4 + 1 * h.val
              rw [(idx14 t).2.1]; omega
  | ⟨2, _⟩ => show 0 = cc0_transform_14 (grid0.coords t) 2 * 1 + 1 * 0
              rw [(idx14 t).2.2.1]
  | ⟨3, _⟩ => show k.val = cc0_transform_14 (grid0.coords t) 3 * 128 + 1 * k.val
              rw [(idx14 t).2.2.2]; omega

theorem idx15 : ∀ t : Fin grid0.N, cc0_transform_15 (grid0.coords t) 0 = t.val ∧ cc0_transform_15 (grid0.coords t) 1 = 0 ∧ cc0_transform_15 (grid0.coords t) 2 = 0 ∧ cc0_transform_15 (grid0.coords t) 3 = 0 := by
  decide +kernel

theorem blk15 (c : Dev nD) (t : Fin cfg0.N) (h : Fin 4) (k : Fin 128) : (outsAt0 m c t).2.2.2 (ix4 0 h 0 k) = mF (a1 m c) (a2 m c) (a3 m c) (a7 m c) (bOf t) h := by
  refine (out15 m c t h k).trans ?_
  rw [iblk0 m c t, iblk1 m c t, iblk7 m c t, iblk11 m c t]
  rfl

/-- Window 15's array ends at it. -/
theorem final15 (c : Dev nD) : (dats m 0 c).arrAt 15 cfg0.N = arrM m c := by
  refine (dats m 0 c).arrAt_eq_of_covers 15 _ (by decide +kernel) fun t hf => ?_
  refine fun (j : S1x4x1x128.Idx) => ?_
  show (dats m 0 c).after 15 t j = _
  rw [after0_15]
  obtain ⟨h, k, rfl⟩ : ∃ (h : Fin 4) (k : Fin 128), j = ix4 0 h 0 k :=
    ⟨j 1, j 3, by
      funext a
      apply Fin.ext
      match a with
      | ⟨0, _⟩ => show (j 0).val = 0; have : (j 0).val < 1 := (j 0).isLt; omega
      | ⟨1, _⟩ => rfl
      | ⟨2, _⟩ => show (j 2).val = 0; have : (j 2).val < 1 := (j 2).isLt; omega
      | ⟨3, _⟩ => rfl⟩
  refine (blk15 m c t h k).trans ?_
  have e : mF (a1 m c) (a2 m c) (a3 m c) (a7 m c) (bOf t) h = arrM m c (ix4 (bOf t) h 0 k) := by
    rfl
  refine e.trans ?_
  show arrM m c _ = arrM m c _
  congr 1
  funext a
  apply Fin.ext
  match a with
  | ⟨0, _⟩ => show t.val = cc0_transform_15 (grid0.coords t) 0 * 1 + 1 * 0
              rw [(idx15 t).1]; omega
  | ⟨1, _⟩ => show h.val = cc0_transform_15 (grid0.coords t) 1 * 4 + 1 * h.val
              rw [(idx15 t).2.1]; omega
  | ⟨2, _⟩ => show 0 = cc0_transform_15 (grid0.coords t) 2 * 1 + 1 * 0
              rw [(idx15 t).2.2.1]
  | ⟨3, _⟩ => show k.val = cc0_transform_15 (grid0.coords t) 3 * 128 + 1 * k.val
              rw [(idx15 t).2.2.2]; omega

/-! ## The results -/

/-- The windows on one array are inputs. -/
theorem shared_in : ∀ w w' : Fin cfg0.W, w ≠ w' → Pipeline.arrRef spec0 w = Pipeline.arrRef spec0 w' → (cfg0.win w).isOut = false := by
  decide +kernel

theorem array_eq (c : Dev nD) (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr_shared spec0 c (V0 m c) _
    (fun w w' hne e => ((dats m 0 c).arrAt_in w (shared_in w w' hne e) _).trans (A_eq m c w)) w

abbrev resC (c : Dev nD) : Vec Ideal S1x32x4x256x128 .f32 :=
  broadcastInDim S1x32x4x256x128 ![1, 2, 3, 4] bcast_S32x4x256x128_S1x32x4x256x128_1_2_3_4 (arrC m c)
abbrev resN (c : Dev nD) : Vec Ideal S1x32x4x128 .f32 := shapeCast S1x32x4x128 (arrN m c) shapeCasts_S32x4x1x128_S1x32x4x128
abbrev resM (c : Dev nD) : Vec Ideal S1x32x4 .f32 :=
  broadcastInDim S1x32x4 ![1, 2] bcast_S32x4_S1x32x4_1_2
    (shapeCast S32x4 (extractStridedSlice S32x4x1x1 ![0, 0, 0, 0] (arrM m c) slices_S32x4x1x128_S32x4x1x1_0_0_0_0 : Vec Ideal S32x4x1x1 .f32) shapeCasts_S32x4x1x1_S32x4 : Vec Ideal S32x4 .f32)

theorem tail_resC (c : Dev nD) : Pipeline.afterTail₀ cfgs (dats m) 0 (V0 m) [hostOps1] c main_v13 = resC m c := by
  unfold Pipeline.afterTail₀
  dsimp only [hostOps1, List.flatten_cons, List.flatten_nil, List.append_nil, List.cons_append, List.nil_append]
  after_results
  exact congrArg (fun x : Vec Ideal S32x4x256x128 .f32 => broadcastInDim S1x32x4x256x128 ![1, 2, 3, 4] bcast_S32x4x256x128_S1x32x4x256x128_1_2_3_4 x) ((array_eq m c 13).trans (final13 m c))

theorem tail_resN (c : Dev nD) : Pipeline.afterTail₀ cfgs (dats m) 0 (V0 m) [hostOps1] c main_v14 = resN m c := by
  unfold Pipeline.afterTail₀
  dsimp only [hostOps1, List.flatten_cons, List.flatten_nil, List.append_nil, List.cons_append, List.nil_append]
  after_results
  exact congrArg (fun x : Vec Ideal S32x4x1x128 .f32 => shapeCast S1x32x4x128 x shapeCasts_S32x4x1x128_S1x32x4x128) ((array_eq m c 14).trans (final14 m c))

theorem tail_resM (c : Dev nD) : Pipeline.afterTail₀ cfgs (dats m) 0 (V0 m) [hostOps1] c main_v17 = resM m c := by
  unfold Pipeline.afterTail₀
  dsimp only [hostOps1, List.flatten_cons, List.flatten_nil, List.append_nil, List.cons_append, List.nil_append]
  after_results
  exact congrArg (fun x : Vec Ideal S32x4x1x128 .f32 => broadcastInDim S1x32x4 ![1, 2] bcast_S32x4_S1x32x4_1_2 (shapeCast S32x4 (extractStridedSlice S32x4x1x1 ![0, 0, 0, 0] x slices_S32x4x1x128_S32x4x1x1_0_0_0_0 : Vec Ideal S32x4x1x1 .f32) shapeCasts_S32x4x1x1_S32x4 : Vec Ideal S32x4 .f32)) ((array_eq m c 15).trans (final15 m c))

/-- The run, read: the four results at those functions of the arguments, the arguments unchanged. -/
theorem run_out : θ_run defs (onTc (τ := τ) (main (F := Ideal))) ⟨m, fun _ => 0, ρ⟩ fun r => ∀ c : Dev nD,
      r.2.mem ((c : Thread nD τ).loc main_v12_0) = arrO m c
      ∧ r.2.mem ((c : Thread nD τ).loc main_v13) = resC m c
      ∧ r.2.mem ((c : Thread nD τ).loc main_v14) = resN m c
      ∧ r.2.mem ((c : Thread nD τ).loc main_v17) = resM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    ⟨((h.1 c).1 12).trans (final12 m c),
      ((h.1 c).2 main_v13 (Pipeline.mem_restRefs_of main_v13 (by decide) (by decide))).trans (tail_resC m c),
      ((h.1 c).2 main_v14 (Pipeline.mem_restRefs_of main_v14 (by decide) (by decide))).trans (tail_resN m c),
      ((h.1 c).2 main_v17 (Pipeline.mem_restRefs_of main_v17 (by decide) (by decide))).trans (tail_resM m c),
      h.2 c⟩) (θ_run_and (run_main m ρ) (frame_of m ρ (dats m) (A_eq m) (run_main m ρ)))

end Cert.StepIdeal.Value
-- ==== Proof.Step.Arith.lean ====
/-
  Arithmetic of the extended reals the one-step recurrence needs: the logistic function by the hyperbolic tangent, the
  two ways of writing its logarithm, and a running sum of one step.
-/
module

public import proofs.«01_k».proof.Proof.Step.Body
public import Idealize.ShloMosaic.Lib.IdealHost

@[expose] public section

noncomputable section

open Idealize.ShloMosaic Idealize.ShloMosaic.TcCoe Idealize.SL.Sem

namespace Cert.StepIdeal.Value

open Cert.StepIdeal

/-- The constant one half. -/
theorem half_eq : Ideal.ofBits FTy.f32 1056964608#32 = (((1 : ℝ) / 2 : ℝ) : EReal) := by
  simp [Ideal.ofBits, Ideal.ieee, -EReal.coe_mul]; norm_num

/-- The reduction's starting value. -/
theorem neginf_eq : Ideal.ofBits FTy.f32 4286578688#32 = ⊥ := by
  simp [Ideal.ofBits, Ideal.ieee]

/-- The logistic function by the hyperbolic tangent of half the argument. -/
theorem thE_eq (x : EReal) : thE x = Ideal.div 1 (1 + Ideal.exp (-x)) := by
  show _ = Ideal.logistic x
  unfold thE
  rw [half_eq]
  induction x with
  | bot =>
    rw [EReal.coe_mul_bot_of_pos (by norm_num), Ideal.tanh_bot, Ideal.logistic_bot,
      show (-1 : EReal) = ((-1 : ℝ) : EReal) by norm_num, ← EReal.coe_mul, ← EReal.coe_add]
    norm_num
  | top =>
    rw [EReal.coe_mul_top_of_pos (by norm_num), Ideal.tanh_top, Ideal.logistic_top,
      show (1 : EReal) = ((1 : ℝ) : EReal) by norm_num, ← EReal.coe_mul, ← EReal.coe_add]
    norm_num
  | coe r =>
    rw [← EReal.coe_mul, Ideal.tanh_coe, ← EReal.coe_mul, ← EReal.coe_add, Ideal.logistic_coe]
    congr 1
    have h1 : Real.exp (-r) = Real.exp (-(1 / 2 * r)) * Real.exp (-(1 / 2 * r)) := by
      rw [← Real.exp_add]; congr 1; ring
    have h2 : Real.exp (1 / 2 * r) * Real.exp (-(1 / 2 * r)) = 1 := by
      rw [← Real.exp_add]; simp
    have h3 := Real.exp_pos (1 / 2 * r)
    have h4 := Real.exp_pos (-(1 / 2 * r))
    rw [Real.tanh_eq_sinh_div_cosh, Real.sinh_eq, Real.cosh_eq, h1]
    generalize Real.exp (1 / 2 * r) = u at *
    generalize Real.exp (-(1 / 2 * r)) = w at *
    field_simp
    nlinarith

/-- The logarithm of the logistic function of a real is a real. -/
theorem lsg_coe (r : ℝ) : lsg (r : EReal) = ((min r 0 - Real.log (1 + Real.exp (0 - max r (-r))) : ℝ) : EReal) := by
  unfold lsg
  have h : ¬ (1 + Real.exp (0 - max r (-r)) ≤ 0) := not_le.2 (by positivity)
  rw [← EReal.coe_neg, ← EReal.coe_zero, ← EReal.coe_one, ← EReal.coe_strictMono.monotone.map_max,
    ← EReal.coe_strictMono.monotone.map_min, ← EReal.coe_sub, Ideal.exp_coe, ← EReal.coe_add, Ideal.log_coe, if_neg h,
    ← EReal.coe_sub]

/-- The same, written as the negated logarithm of a sum of exponentials. -/
theorem neg_logaddexp (r : ℝ) :
    -(max (-(r : EReal)) 0 + Ideal.log1p (Ideal.exp (-(max (-(r : EReal)) (-(-(r : EReal))))))) = lsg (r : EReal) := by
  rw [lsg_coe, Ideal.log1p]
  have h : ¬ (1 + Real.exp (-max (-r) (- -r)) ≤ 0) := not_le.2 (by positivity)
  rw [← EReal.coe_neg, ← EReal.coe_neg, ← EReal.coe_zero, ← EReal.coe_one, ← EReal.coe_strictMono.monotone.map_max,
    ← EReal.coe_strictMono.monotone.map_max, ← EReal.coe_neg, Ideal.exp_coe, ← EReal.coe_add, Ideal.log_coe, if_neg h,
    ← EReal.coe_add, ← EReal.coe_neg]
  congr 1
  rw [neg_neg, zero_sub, max_comm r (-r), neg_add, ← sub_eq_add_neg]
  congr 1
  rcases le_total r 0 with hr | hr
  · rw [max_eq_left (by linarith), min_eq_left hr, neg_neg]
  · rw [max_eq_right (by linarith), min_eq_right hr, neg_zero]

end Cert.StepIdeal.Value
-- ==== Proof.Step.Ref.lean ====
/-
  The reference's one-step recurrence over the extended reals, element by element, in the terms the kernel's blocks are
  named in.
-/
module

public import proofs.«01_k».proof.Proof.Step.Array
public import proofs.«01_k».proof.Proof.Step.Arith
public import proofs.«01_k».proof.Proof.Gen.StepRefIdeal.Run
public import proofs.«01_k».proof.Proof.Gen.StepRefIdeal.Read
public import proofs.«01_k».proof.Proof.Gen.Pre_forget_finite

@[expose] public section

noncomputable section

open Idealize.ShloMosaic Idealize.ShloMosaic.TcCoe Idealize.SL.Sem

namespace Cert.StepRefIdeal.Read

open Cert.StepRefIdeal Cert.StepIdeal.Value

variable (A0 : Vec Ideal S32x7168 .f32) (A1 : Vec Ideal S32x128 .f32) (A2 A3 : Vec Ideal S1x4 .f32) (A4 : Vec Ideal S1x1024 .f32)
  (A5 : Vec Ideal S1x32x4x256x128 .f32) (A6 : Vec Ideal S1x32x4x128 .f32) (A7 : Vec Ideal S1x32x4 .f32) (b : Fin 32) (h : Fin 4)

/-- A magnitude below the top is a real's. -/
theorem real_of_lt (x : Ideal .f32) (h : BitVec.ofBool (decide (FloatOps.absf x < Ideal.ofBits FTy.f32 2139095040#32)) = 1#1) :
    ∃ r : ℝ, (x : EReal) = (r : EReal) := by
  have ht : Ideal.ofBits FTy.f32 2139095040#32 = ⊤ := by simp [Ideal.ofBits, Ideal.ieee]
  have hx : max (x : EReal) (-x) < ⊤ := by
    rw [ht] at h
    by_contra hc
    rw [show decide (FloatOps.absf x < (⊤ : EReal)) = false from decide_eq_false hc] at h
    exact absurd h (by decide)
  have h1 := ne_of_lt (lt_of_le_of_lt (le_max_left _ _) hx)
  have h2 := ne_of_lt (lt_of_le_of_lt (le_max_right _ _) hx)
  refine ⟨EReal.toReal x, (EReal.coe_toReal h1 ?_).symm⟩
  intro hb
  exact h2 (by rw [hb]; rfl)

/-- A running sum of one step is its one term. -/
theorem cumsum_one (x : FVec Ideal S32x4x1 .f32) (z : FVec Ideal S_ .f32) (hz : z ix0 = (0 : EReal)) :
    (Host.reduceWindowAdd (F := Ideal) ![1, 1, 1] ![1, 1, 1] ![0, 0, 0] ![0, 0, 0] x z
      Gen.reduceWindows_S32x4x1_S32x4x1_w1s1p0_0_w1s1p0_0_w1s1p0_0 Gen.h_S_ : FVec Ideal S32x4x1 .f32) (ix3 b h 0) = x (ix3 b h 0) := by
  have hz' : z (Shape.Idx.first Gen.h_S_) = (0 : EReal) := (congrArg z (funext fun a => a.elim0)).trans hz
  unfold Host.reduceWindowAdd
  rw [Ideal.hostReduceWindowAdd_def, hz']
  unfold Ideal.hostReduceWindowAdd Host.reduceWindow
  dsimp only
  have hW : List.finRange (Shape.numel ⟨S32x4x1.rank, ![1, 1, 1]⟩) = [⟨0, by decide⟩] := by decide
  have hr : ∀ (n : Fin (Shape.numel ⟨3, ![1, 1, 1]⟩)) (a : Fin 3), ((⟨3, ![1, 1, 1]⟩ : Shape).rowMajor.symm n a).val = 0 := fun n a => by
    have hl := ((⟨3, ![1, 1, 1]⟩ : Shape).rowMajor.symm n a).isLt
    match a with
    | ⟨0, _⟩ => exact Nat.lt_one_iff.1 hl
    | ⟨1, _⟩ => exact Nat.lt_one_iff.1 hl
    | ⟨2, _⟩ => exact Nat.lt_one_iff.1 hl
  rw [hW, List.foldl_cons, List.foldl_nil, zero_add, dif_pos]
  · congr 1
    funext a
    apply Fin.ext
    match a with
    | ⟨0, _⟩ => show b.val * 1 + ((⟨3, ![1, 1, 1]⟩ : Shape).rowMajor.symm ⟨0, by decide⟩ ⟨0, by decide⟩).val - 0 = b.val
                rw [hr]; omega
    | ⟨1, _⟩ => show h.val * 1 + ((⟨3, ![1, 1, 1]⟩ : Shape).rowMajor.symm ⟨0, by decide⟩ ⟨1, by decide⟩).val - 0 = h.val
                rw [hr]; omega
    | ⟨2, _⟩ => show 0 * 1 + ((⟨3, ![1, 1, 1]⟩ : Shape).rowMajor.symm ⟨0, by decide⟩ ⟨2, by decide⟩).val - 0 = 0
                rw [hr]
  · intro a
    match a with
    | ⟨0, _⟩ => refine ⟨Nat.zero_le _, ?_⟩
                show b.val * 1 + ((⟨3, ![1, 1, 1]⟩ : Shape).rowMajor.symm ⟨0, by decide⟩ ⟨0, by decide⟩).val - 0 < 32
                rw [hr]; omega
    | ⟨1, _⟩ => refine ⟨Nat.zero_le _, ?_⟩
                show h.val * 1 + ((⟨3, ![1, 1, 1]⟩ : Shape).rowMajor.symm ⟨0, by decide⟩ ⟨1, by decide⟩).val - 0 < 4
                rw [hr]; omega
    | ⟨2, _⟩ => refine ⟨Nat.zero_le _, ?_⟩
                show 0 * 1 + ((⟨3, ![1, 1, 1]⟩ : Shape).rowMajor.symm ⟨0, by decide⟩ ⟨2, by decide⟩).val - 0 < 1
                rw [hr]; omega

/-- The forget gate's logarithm. -/
theorem lf_at (hf : ∃ r : ℝ, (A1 (ix2 b ⟨84 + h.val, by omega⟩) + A3 (ix2 0 h) : EReal) = (r : EReal)) :
    (val_main_v15 (F := Ideal) A1 A3 : Vec Ideal S32x4 .f32) (ix2 b h) = lsg (A1 (ix2 b ⟨84 + h.val, by omega⟩) + A3 (ix2 0 h)) := by
  pointwise [val_main_v0, val_main_v1, val_main_v2, val_main_v3, val_main_v4, val_main_v5, val_main_v6, val_main_v7, val_main_v8, val_main_v9, val_main_v10, val_main_v11, val_main_v12, val_main_v13, val_main_v14, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v15]
  obtain ⟨r, hr⟩ := hf
  rw [hr, if_neg (by simp)]
  exact neg_logaddexp r

/-- Its running sum. -/
theorem b_at (hf : ∃ r : ℝ, (A1 (ix2 b ⟨84 + h.val, by omega⟩) + A3 (ix2 0 h) : EReal) = (r : EReal)) :
    (val_main_v24 (F := Ideal) A1 A3 : Vec Ideal S32x4x1 .f32) (ix3 b h 0) = lsg (A1 (ix2 b ⟨84 + h.val, by omega⟩) + A3 (ix2 0 h)) := by
  pointwise [val_main_v23, val_main_call1_call0_cst, val_main_call1_call0_v0, val_main_v24]
  refine (cumsum_one b h _ _ (by pointwise)).trans ?_
  pointwise
  exact lf_at A1 A3 b h hf

/-- The input gate. -/
theorem ig_at :
    (val_main_v9 (F := Ideal) A1 A2 : Vec Ideal S32x4 .f32) (ix2 b h) = igE (X0 A2) (X7 A1 b) h := by
  pointwise [val_main_v0, val_main_v1, val_main_v2, val_main_v3, val_main_v4, val_main_v5, val_main_v6, val_main_v7, val_main_v8, val_main_v9]
  rfl

/-- The decay over one step cancels. -/
theorem sub_self_ig (hf : ∃ r : ℝ, (A1 (ix2 b ⟨84 + h.val, by omega⟩) + A3 (ix2 0 h) : EReal) = (r : EReal)) (x : EReal) :
    lsg (A1 (ix2 b ⟨84 + h.val, by omega⟩) + A3 (ix2 0 h)) - lsg (A1 (ix2 b ⟨84 + h.val, by omega⟩) + A3 (ix2 0 h)) + x = x := by
  obtain ⟨r, hr⟩ := hf
  rw [hr, lsg_coe, ← EReal.coe_sub, sub_self, EReal.coe_zero, zero_add]

/-- The one entry of the decay matrix. -/
theorem dd_at (hf : ∃ r : ℝ, (A1 (ix2 b ⟨84 + h.val, by omega⟩) + A3 (ix2 0 h) : EReal) = (r : EReal)) :
    (val_main_v32 (F := Ideal) A1 A2 A3 : Vec Ideal S32x4x1x1 .f32) (ix4 b h 0 0) = igE (X0 A2) (X7 A1 b) h := by
  pointwise [val_main_c, val_main_v25, val_main_call2_v0, val_main_call2_c, val_main_call2_v1, val_main_call2_v2, val_main_call2_v3, val_main_call2_v4, val_main_call2_c_0, val_main_call2_v5, val_main_v26, val_main_v27, val_main_v28, val_main_v29, val_main_v30, val_main_v31, val_main_cst, val_main_call3_v0, val_main_call3_v1, val_main_call3_v2, val_main_v32, val_main_v22]
  rw [b_at A1 A3 b h hf, ig_at, sub_self_ig A1 A3 b h hf]
  rfl

/-- The new maximum. -/
theorem mt_at (hf : ∃ r : ℝ, (A1 (ix2 b ⟨84 + h.val, by omega⟩) + A3 (ix2 0 h) : EReal) = (r : EReal)) :
    (val_main_v36 (F := Ideal) A1 A2 A3 A7 : Vec Ideal S32x4x1 .f32) (ix3 b h 0) = mtE (X0 A2) (X0 A3) (X7 A1 b) (X11 A7 b) h := by
  pointwise [val_main_v33, val_main_v34, val_main_cst_0, val_main_v35, val_main_v36, val_main_v18]
  rw [b_at A1 A3 b h hf, Finset.univ_unique, Finset.fold_singleton]
  erw [dd_at A1 A2 A3 b h hf]
  rw [neginf_eq, max_bot_right]
  rfl

/-- The decayed old maximum. -/
theorem la_at (hf : ∃ r : ℝ, (A1 (ix2 b ⟨84 + h.val, by omega⟩) + A3 (ix2 0 h) : EReal) = (r : EReal)) :
    (val_main_v34 (F := Ideal) A1 A3 A7 : Vec Ideal S32x4x1 .f32) (ix3 b h 0) = laE (X0 A3) (X7 A1 b) (X11 A7 b) h := by
  pointwise [val_main_v33, val_main_v34, val_main_v18]
  rw [b_at A1 A3 b h hf]
  rfl

/-- The weight of the new token, -/
theorem d_at (hf : ∃ r : ℝ, (A1 (ix2 b ⟨84 + h.val, by omega⟩) + A3 (ix2 0 h) : EReal) = (r : EReal)) :
    (val_main_v39 (F := Ideal) A1 A2 A3 A7 : Vec Ideal S32x4x1x1 .f32) (ix4 b h 0 0) = dE (X0 A2) (X0 A3) (X7 A1 b) (X11 A7 b) h := by
  pointwise [val_main_v37, val_main_v38, val_main_v39]
  rw [dd_at A1 A2 A3 b h hf, mt_at A1 A2 A3 A7 b h hf]
  rfl

/-- of the old state, -/
theorem a_at (hf : ∃ r : ℝ, (A1 (ix2 b ⟨84 + h.val, by omega⟩) + A3 (ix2 0 h) : EReal) = (r : EReal)) :
    (val_main_v41 (F := Ideal) A1 A2 A3 A7 : Vec Ideal S32x4x1 .f32) (ix3 b h 0) = aE (X0 A2) (X0 A3) (X7 A1 b) (X11 A7 b) h := by
  pointwise [val_main_v40, val_main_v41]
  rw [la_at A1 A3 A7 b h hf, mt_at A1 A2 A3 A7 b h hf]
  rfl

/-- and of the new token in the new state. -/
theorem w_at (hf : ∃ r : ℝ, (A1 (ix2 b ⟨84 + h.val, by omega⟩) + A3 (ix2 0 h) : EReal) = (r : EReal)) :
    (val_main_v66 (F := Ideal) A1 A2 A3 A7 : Vec Ideal S32x4x1 .f32) (ix3 b h 0) = dE (X0 A2) (X0 A3) (X7 A1 b) (X11 A7 b) h := by
  pointwise [val_main_v61, val_main_v62, val_main_v63, val_main_v64, val_main_v65, val_main_v66, val_main_v22]
  rw [b_at A1 A3 b h hf, ig_at, sub_self_ig A1 A3 b h hf, mt_at A1 A2 A3 A7 b h hf]
  rfl

/-- The score. -/
theorem s_at (hf : ∃ r : ℝ, (A1 (ix2 b ⟨84 + h.val, by omega⟩) + A3 (ix2 0 h) : EReal) = (r : EReal)) :
    (val_main_v43 (F := Ideal) A0 A1 A2 A3 A7 : Vec Ideal S32x4x1x1 .f32) (ix4 b h 0 0) = (∑ k : Fin 128, qE (X2 A0 b 6144 (by decide)) h k * qE (X2 A0 b 6656 (by decide)) h k) * dE (X0 A2) (X0 A3) (X7 A1 b) (X11 A7 b) h := by
  pointwise [val_main_v42, val_main_v43, val_main_v19, val_main_v20, val_main_v3, val_main_v4]
  rw [d_at A1 A2 A3 A7 b h hf]
  rfl

/-- The head's output. -/
theorem h_at (hf : ∃ r : ℝ, (A1 (ix2 b ⟨84 + h.val, by omega⟩) + A3 (ix2 0 h) : EReal) = (r : EReal)) (v : Fin 256) :
    (val_main_v60 (F := Ideal) A0 A1 A2 A3 A5 A6 A7 : Vec Ideal S32x4x1x256 .f32) (ix4 b h 0 v) = hE (X0 A2) (X0 A3) (X2 A0 b 6144 (by decide)) (X2 A0 b 6656 (by decide)) (X4 A0 b 3072 (by decide)) (X7 A1 b) (X9 A5 b) (X10 A6 b) (X11 A7 b) h v := by
  pointwise [val_main_v44, val_main_v45, val_main_v46, val_main_v47, val_main_v48, val_main_v49, val_main_v50, val_main_v51, val_main_cst_1, val_main_v52, val_main_v53, val_main_v54, val_main_v55, val_main_v56, val_main_v57, val_main_v58, val_main_v59, val_main_v60, val_main_v16, val_main_v17, val_main_v19, val_main_v21, val_main_v3, val_main_v0]
  rw [a_at A1 A2 A3 A7 b h hf, mt_at A1 A2 A3 A7 b h hf]
  simp only [Finset.univ_unique, Finset.sum_singleton]
  erw [s_at A0 A1 A2 A3 A7 b h hf]
  unfold hE
  rw [zero_sub]
  congr 3
  exact Finset.sum_congr rfl fun k _ => mul_comm _ _

/-- The new state. -/
theorem c_at (hf : ∃ r : ℝ, (A1 (ix2 b ⟨84 + h.val, by omega⟩) + A3 (ix2 0 h) : EReal) = (r : EReal)) (v : Fin 256) (k : Fin 128) :
    (val_main_v110 (F := Ideal) A0 A1 A2 A3 A5 A7 : Vec Ideal S1x32x4x256x128 .f32) (ix5 0 b h v k) = cE (X0 A2) (X0 A3) (X2 A0 b 6656 (by decide)) (X4 A0 b 3072 (by decide)) (X7 A1 b) (X9 A5 b) (X11 A7 b) h v k := by
  pointwise [val_main_v67, val_main_v68, val_main_v69, val_main_v70, val_main_v71, val_main_v72, val_main_v73, val_main_v74, val_main_v75, val_main_v76, val_main_v77, val_main_v78, val_main_v79, val_main_v80, val_main_v81, val_main_v82, val_main_cst_2, val_main_v83, val_main_v84, val_main_cst_3, val_main_v85, val_main_v86, val_main_cst_4, val_main_v87, val_main_v88, val_main_v89, val_main_v90, val_main_v91, val_main_v92, val_main_v93, val_main_v94, val_main_v95, val_main_v96, val_main_v97, val_main_v98, val_main_v99, val_main_v100, val_main_cst_5, val_main_v101, val_main_v102, val_main_cst_6, val_main_v103, val_main_v104, val_main_v105, val_main_v106, val_main_call4_v0, val_main_call4_v1, val_main_call4_cst, val_main_call4_v2, val_main_call4_v3, val_main_call4_cst_0, val_main_call4_v4, val_main_call4_v5, val_main_v107, val_main_v108, val_main_v109, val_main_v110, val_main_v16, val_main_v20, val_main_v21, val_main_v4, val_main_v0]
  rw [a_at A1 A2 A3 A7 b h hf, w_at A1 A2 A3 A7 b h hf]
  simp only [Finset.univ_unique, Finset.sum_singleton]
  unfold cE
  rw [mul_assoc, mul_left_comm]
  rfl

/-- The new normaliser. -/
theorem n_at (hf : ∃ r : ℝ, (A1 (ix2 b ⟨84 + h.val, by omega⟩) + A3 (ix2 0 h) : EReal) = (r : EReal)) (k : Fin 128) :
    (val_main_v111 (F := Ideal) A0 A1 A2 A3 A6 A7 : Vec Ideal S1x32x4x128 .f32) (ix4 0 b h k) = nE (X0 A2) (X0 A3) (X2 A0 b 6656 (by decide)) (X7 A1 b) (X10 A6 b) (X11 A7 b) h k := by
  pointwise [val_main_v67, val_main_v68, val_main_v69, val_main_v70, val_main_v71, val_main_v72, val_main_v73, val_main_v74, val_main_v75, val_main_v76, val_main_v77, val_main_v78, val_main_v79, val_main_v80, val_main_v81, val_main_v82, val_main_cst_2, val_main_v83, val_main_v84, val_main_cst_3, val_main_v85, val_main_v86, val_main_cst_4, val_main_v87, val_main_v88, val_main_v89, val_main_v90, val_main_v91, val_main_v92, val_main_v93, val_main_v94, val_main_v95, val_main_v96, val_main_v97, val_main_v98, val_main_v99, val_main_v100, val_main_cst_5, val_main_v101, val_main_v102, val_main_cst_6, val_main_v103, val_main_v104, val_main_v105, val_main_v106, val_main_call4_v0, val_main_call4_v1, val_main_call4_cst, val_main_call4_v2, val_main_call4_v3, val_main_call4_cst_0, val_main_call4_v4, val_main_call4_v5, val_main_v107, val_main_v108, val_main_v109, val_main_v110, val_main_v111, val_main_v17, val_main_v20, val_main_v4]
  rw [a_at A1 A2 A3 A7 b h hf]
  simp only [Finset.univ_unique, Finset.sum_singleton]
  erw [w_at A1 A2 A3 A7 b h hf]
  rfl

/-- The new maximum, as returned. -/
theorem m_at (hf : ∃ r : ℝ, (A1 (ix2 b ⟨84 + h.val, by omega⟩) + A3 (ix2 0 h) : EReal) = (r : EReal)) :
    (val_main_v112 (F := Ideal) A1 A2 A3 A7 : Vec Ideal S1x32x4 .f32) (ix3 0 b h) = mtE (X0 A2) (X0 A3) (X7 A1 b) (X11 A7 b) h := by
  pointwise [val_main_v112, val_main_v61]
  exact mt_at A1 A2 A3 A7 b h hf

/-- The normalised row. -/
theorem hn_at (hf : ∃ r : ℝ, (A1 (ix2 b ⟨84 + h.val, by omega⟩) + A3 (ix2 0 h) : EReal) = (r : EReal)) (v : Fin 256) :
    (val_main_v96 (F := Ideal) A0 A1 A2 A3 A4 A5 A6 A7 : Vec Ideal S32x4x256 .f32) (ix3 b h v) = hE (X0 A2) (X0 A3) (X2 A0 b 6144 (by decide)) (X2 A0 b 6656 (by decide)) (X4 A0 b 3072 (by decide)) (X7 A1 b) (X9 A5 b) (X10 A6 b) (X11 A7 b) h v
      * Ideal.rsqrt (Ideal.div
          (∑ u : Fin 256, hE (X0 A2) (X0 A3) (X2 A0 b 6144 (by decide)) (X2 A0 b 6656 (by decide)) (X4 A0 b 3072 (by decide)) (X7 A1 b) (X9 A5 b) (X10 A6 b) (X11 A7 b) h u * hE (X0 A2) (X0 A3) (X2 A0 b 6144 (by decide)) (X2 A0 b 6656 (by decide)) (X4 A0 b 3072 (by decide)) (X7 A1 b) (X9 A5 b) (X10 A6 b) (X11 A7 b) h u)
          (Ideal.ofBits FTy.f32 1132462080#32) + Ideal.ofBits FTy.f32 897988541#32)
      * wE A4 h v := by
  pointwise [val_main_v81, val_main_v82, val_main_cst_2, val_main_v83, val_main_v84, val_main_cst_3, val_main_v85, val_main_v86, val_main_cst_4, val_main_v87, val_main_v88, val_main_v89, val_main_v90, val_main_v91, val_main_v92, val_main_v93, val_main_v94, val_main_v95, val_main_v96]
  simp only [h_at A0 A1 A2 A3 A5 A6 A7 b h hf]
  rfl

/-- The row put out. -/
theorem ml_at (hf : ∃ r : ℝ, (A1 (ix2 b ⟨84 + h.val, by omega⟩) + A3 (ix2 0 h) : EReal) = (r : EReal)) (v : Fin 256) :
    (val_main_v109 (F := Ideal) A0 A1 A2 A3 A4 A5 A6 A7 : Vec Ideal S32x1x1024 .bf16) (ix3 b 0 ⟨h.val * 256 + v.val, by omega⟩) = oE (X0 A2) (X0 A3) (X2 A0 b 6144 (by decide)) (X2 A0 b 6656 (by decide)) (X4 A0 b 3072 (by decide)) (X4 A0 b 4096 (by decide)) (X4 A0 b 5120 (by decide)) (X7 A1 b) A4 (X9 A5 b) (X10 A6 b) (X11 A7 b) h v := by
  pointwise [val_main_v97, val_main_v98, val_main_v99, val_main_v100, val_main_cst_5, val_main_v101, val_main_v102, val_main_cst_6, val_main_v103, val_main_v104, val_main_v105, val_main_v106, val_main_call4_v0, val_main_call4_v1, val_main_call4_cst, val_main_call4_v2, val_main_call4_v3, val_main_call4_cst_0, val_main_call4_v4, val_main_call4_v5, val_main_v107, val_main_v108, val_main_v109, val_main_v1, val_main_v2]
  rw [← thE_eq, ← thE_eq]
  refine (congrArg (· * _) (congrArg (· * _) (hn_at A0 A1 A2 A3 A4 A5 A6 A7 b h hf v))).trans ?_
  exact mul_assoc _ _ _

/-- The precondition, read: each forget gate's argument is a real. -/
theorem finite_of_pre (hp : (Cert.Pre_forget_finite.fn (F := Ideal) A0 A1 A2 A3 A4 A5 A6 A7 : IVec S32x4 1) = fun _ => 1#1) :
    ∃ r : ℝ, (A1 (ix2 b ⟨84 + h.val, by omega⟩) + A3 (ix2 0 h) : EReal) = (r : EReal) := by
  have e := congrFun hp (ix2 b h)
  have e' : (Cert.Pre_forget_finite.fn (F := Ideal) A0 A1 A2 A3 A4 A5 A6 A7 : IVec S32x4 1) (ix2 b h)
      = BitVec.ofBool (decide (FloatOps.absf (A1 (ix2 b ⟨84 + h.val, by omega⟩) + A3 (ix2 0 h)) < Ideal.ofBits FTy.f32 2139095040#32)) := by
    pointwise [Cert.Pre_forget_finite.fn]
  exact real_of_lt _ (e'.symm.trans e)

end Cert.StepRefIdeal.Read
-- ==== Proof.Step.Claim.lean ====
/-
  The claims of the one-step recurrence of the samples: it ends well, and the row put out and the three states are the
  reference's wherever the forget gates' arguments are finite.
-/
module

public import proofs.«01_k».proof.Defs
public import proofs.«01_k».proof.Proof.Step.Final
public import proofs.«01_k».proof.Proof.Step.Ref
public import proofs.«01_k».proof.Proof.Gen.StepRefIdeal.Run
public import proofs.«01_k».proof.Proof.Gen.Pre_forget_finite
public import proofs.«01_k».proof.Proof.Gen.Step.Frame

@[expose] public section

set_option maxRecDepth 16384

noncomputable section

open Idealize.ShloMosaic Idealize.ShloMosaic.TcCoe Idealize.SL.Sem

namespace Cert.Proof.Step

/-- The kernel as given terminates, leaves its arguments and ends with every counter at zero. -/
theorem frame_kernel : Cert.quiescent_Step := fun m ρ _ => Cert.Step.Gen.frame (F := Bits) m ρ

/-- The same of the kernel over the extended reals, -/
theorem frame_ideal : Cert.quiescent_StepIdeal := fun m ρ _ => Cert.StepIdeal.Gen.frame m ρ

/-- and from memories with finite forget gates. -/
theorem frame_ideal_pre : Cert.quiescent_StepIdeal_pre_forget_finite := fun m ρ _ => Cert.StepIdeal.Gen.frame m ρ

/-- The reference terminates, leaves its arguments, and has no semaphore. -/
theorem frame_reference : Cert.quiescent_StepRefIdeal := fun m ρ _ =>
  (θ_run Cert.StepRefIdeal.defs _ _).mono (fun r h => ⟨fun c => (h c).2.2.2.2, sem_eq_zero_of_no_sems (by decide) r.2⟩)
    (Cert.StepRefIdeal.Value.run m ρ)

/-- The same from memories with finite forget gates. -/
theorem frame_reference_pre : Cert.quiescent_StepRefIdeal_pre_forget_finite := fun m ρ _ => frame_reference m ρ trivial

open Cert.StepIdeal (S32x7168 S32x128 S1x4 S1x1024 S1x32x4x256x128 S1x32x4x128 S1x32x4 S32x1x1024 S32x4x256x128 S32x4x1x128 S32x4x1x1 S32x4)
open Cert.StepIdeal.Value (arrO arrC arrN arrM resC resN resM oF cF nF mF)

section
variable (m : (ℓ : Loc Cert.StepIdeal.nD Cert.StepIdeal.τ Cert.StepIdeal.sig) → Buf (Elt Ideal) ℓ) (c : Dev Cert.StepIdeal.nD)

/-- The forget gates' arguments are real. -/
theorem finite (hp : Cert.Pre_StepIdeal_forget_finite m) (b : Fin 32) (h : Fin 4) :
    ∃ r : ℝ, (Cert.StepIdeal.Value.a1 m c (ix2 b ⟨84 + h.val, by omega⟩) + Cert.StepIdeal.Value.a3 m c (ix2 0 h) : EReal) = (r : EReal) :=
  Cert.StepRefIdeal.Read.finite_of_pre _ _ _ _ _ _ _ _ b h (hp c)

/-- The row put out. -/
theorem resO_eq (hp : Cert.Pre_StepIdeal_forget_finite m) : arrO m c
    = Cert.StepRefIdeal.Read.val_main_v109 (F := Ideal) (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg4)) (m ((c.tc : Thread Cert.StepIdeal.nD Cert.StepIdeal.τ).loc Cert.StepIdeal.main_arg5)) (m ((c.tc : Thread Cert.StepIdeal.nD Cert.StepIdeal.τ).loc Cert.StepIdeal.main_arg6)) (m ((c.tc : Thread Cert.StepIdeal.nD Cert.StepIdeal.τ).loc Cert.StepIdeal.main_arg7)) := by
  refine funext fun (i : S32x1x1024.Idx) => ?_
  obtain ⟨b, h, v, rfl⟩ : ∃ (b : Fin 32) (h : Fin 4) (v : Fin 256), i = ix3 b 0 ⟨h.val * 256 + v.val, by omega⟩ :=
    ⟨i 0, ⟨(i 2).val / 256, by have : (i 2).val < 1024 := (i 2).isLt; omega⟩, ⟨(i 2).val % 256, by omega⟩, by
      funext a
      apply Fin.ext
      match a with
      | ⟨0, _⟩ => rfl
      | ⟨1, _⟩ => show (i 1).val = 0; have : (i 1).val < 1 := (i 1).isLt; omega
      | ⟨2, _⟩ => show (i 2).val = (i 2).val / 256 * 256 + (i 2).val % 256; omega⟩
  refine Eq.trans ?_ (Cert.StepRefIdeal.Read.ml_at (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg4)) (m ((c.tc : Thread Cert.StepIdeal.nD Cert.StepIdeal.τ).loc Cert.StepIdeal.main_arg5)) (m ((c.tc : Thread Cert.StepIdeal.nD Cert.StepIdeal.τ).loc Cert.StepIdeal.main_arg6)) (m ((c.tc : Thread Cert.StepIdeal.nD Cert.StepIdeal.τ).loc Cert.StepIdeal.main_arg7)) b h (finite m c hp b h) v).symm
  show oF _ _ _ _ _ _ _ _ b ⟨(h.val * 256 + v.val) / 256, by omega⟩ ⟨(h.val * 256 + v.val) % 256, by omega⟩ = _
  have e1 : (⟨(h.val * 256 + v.val) / 256, by omega⟩ : Fin 4) = h := Fin.ext (by show (h.val * 256 + v.val) / 256 = h.val; omega)
  have e2 : (⟨(h.val * 256 + v.val) % 256, by omega⟩ : Fin 256) = v := Fin.ext (by show (h.val * 256 + v.val) % 256 = v.val; omega)
  rw [e1, e2]
  rfl

/-- The new state. -/
theorem resC_eq (hp : Cert.Pre_StepIdeal_forget_finite m) : resC m c
    = Cert.StepRefIdeal.Read.val_main_v110 (F := Ideal) (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg5)) (m ((c.tc : Thread Cert.StepIdeal.nD Cert.StepIdeal.τ).loc Cert.StepIdeal.main_arg7)) := by
  refine funext fun (i : S1x32x4x256x128.Idx) => ?_
  obtain ⟨b, h, v, k, rfl⟩ : ∃ (b : Fin 32) (h : Fin 4) (v : Fin 256) (k : Fin 128), i = ix5 0 b h v k :=
    ⟨i 1, i 2, i 3, i 4, by
      funext a
      apply Fin.ext
      match a with
      | ⟨0, _⟩ => show (i 0).val = 0; have : (i 0).val < 1 := (i 0).isLt; omega
      | ⟨1, _⟩ => rfl
      | ⟨2, _⟩ => rfl
      | ⟨3, _⟩ => rfl
      | ⟨4, _⟩ => rfl⟩
  refine Eq.trans ?_ (Cert.StepRefIdeal.Read.c_at (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg5)) (m ((c.tc : Thread Cert.StepIdeal.nD Cert.StepIdeal.τ).loc Cert.StepIdeal.main_arg7)) b h (finite m c hp b h) v k).symm
  have e : resC m c (ix5 0 b h v k) = arrC m c (ix4 b h v k) := by
    unfold resC
    generalize arrC m c = y
    pointwise []
  exact e.trans rfl

/-- The new normaliser. -/
theorem resN_eq (hp : Cert.Pre_StepIdeal_forget_finite m) : resN m c
    = Cert.StepRefIdeal.Read.val_main_v111 (F := Ideal) (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg6)) (m ((c.tc : Thread Cert.StepIdeal.nD Cert.StepIdeal.τ).loc Cert.StepIdeal.main_arg7)) := by
  refine funext fun (i : S1x32x4x128.Idx) => ?_
  obtain ⟨b, h, k, rfl⟩ : ∃ (b : Fin 32) (h : Fin 4) (k : Fin 128), i = ix4 0 b h k :=
    ⟨i 1, i 2, i 3, by
      funext a
      apply Fin.ext
      match a with
      | ⟨0, _⟩ => show (i 0).val = 0; have : (i 0).val < 1 := (i 0).isLt; omega
      | ⟨1, _⟩ => rfl
      | ⟨2, _⟩ => rfl
      | ⟨3, _⟩ => rfl⟩
  refine Eq.trans ?_ (Cert.StepRefIdeal.Read.n_at (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg6)) (m ((c.tc : Thread Cert.StepIdeal.nD Cert.StepIdeal.τ).loc Cert.StepIdeal.main_arg7)) b h (finite m c hp b h) k).symm
  have e : resN m c (ix4 0 b h k) = arrN m c (ix4 b h 0 k) := by
    unfold resN
    generalize arrN m c = y
    pointwise []
  exact e.trans rfl

/-- The new maximum. -/
theorem resM_eq (hp : Cert.Pre_StepIdeal_forget_finite m) : resM m c
    = Cert.StepRefIdeal.Read.val_main_v112 (F := Ideal) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg7)) := by
  refine funext fun (i : S1x32x4.Idx) => ?_
  obtain ⟨b, h, rfl⟩ : ∃ (b : Fin 32) (h : Fin 4), i = ix3 0 b h :=
    ⟨i 1, i 2, by
      funext a
      apply Fin.ext
      match a with
      | ⟨0, _⟩ => show (i 0).val = 0; have : (i 0).val < 1 := (i 0).isLt; omega
      | ⟨1, _⟩ => rfl
      | ⟨2, _⟩ => rfl⟩
  refine Eq.trans ?_ (Cert.StepRefIdeal.Read.m_at (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg7)) b h (finite m c hp b h)).symm
  have e : resM m c (ix3 0 b h) = arrM m c (ix4 b h 0 0) := by
    unfold resM
    generalize arrM m c = y
    pointwise []
  exact e.trans rfl

end

/-- The kernel and the reference end with the same four results, over the extended reals, from memories with the same
    arguments and finite forget gates. -/
theorem value : Cert.algebraic_StepIdeal_StepRefIdeal_pre_forget_finite := fun m ρ m' ρ' hp hag =>
  ⟨fun c => arrO m c, fun c => resC m c, fun c => resN m c, fun c => resM m c,
    Cert.StepIdeal.Value.run_out m ρ,
    (θ_run _ _ _).mono (fun r h c => by
        obtain ⟨a0, a1, a2, a3, a4, a5, a6, a7⟩ := hag c
        obtain ⟨h0, h1, h2, h3, h4⟩ := h c
        refine ⟨h0.trans ?_, h1.trans ?_, h2.trans ?_, h3.trans ?_, h4⟩
        · refine (Cert.StepRefIdeal.Read.val_main_v109_eq (F := Ideal) (StableHlo.launchContents m' c)).trans ?_
          show Cert.StepRefIdeal.Read.val_main_v109 (F := Ideal) (m' ((c.tc : Thread Cert.StepRefIdeal.nD Cert.StepRefIdeal.τ).loc Cert.StepRefIdeal.main_arg0)) (m' ((c.tc : Thread Cert.StepRefIdeal.nD Cert.StepRefIdeal.τ).loc Cert.StepRefIdeal.main_arg1)) (m' ((c.tc : Thread Cert.StepRefIdeal.nD Cert.StepRefIdeal.τ).loc Cert.StepRefIdeal.main_arg2)) (m' ((c.tc : Thread Cert.StepRefIdeal.nD Cert.StepRefIdeal.τ).loc Cert.StepRefIdeal.main_arg3)) (m' ((c.tc : Thread Cert.StepRefIdeal.nD Cert.StepRefIdeal.τ).loc Cert.StepRefIdeal.main_arg4)) (m' ((c.tc : Thread Cert.StepRefIdeal.nD Cert.StepRefIdeal.τ).loc Cert.StepRefIdeal.main_arg5)) (m' ((c.tc : Thread Cert.StepRefIdeal.nD Cert.StepRefIdeal.τ).loc Cert.StepRefIdeal.main_arg6)) (m' ((c.tc : Thread Cert.StepRefIdeal.nD Cert.StepRefIdeal.τ).loc Cert.StepRefIdeal.main_arg7)) = _
          rw [a0, a1, a2, a3, a4, a5, a6, a7]
          exact (resO_eq m c hp).symm
        · refine (Cert.StepRefIdeal.Read.val_main_v110_eq (F := Ideal) (StableHlo.launchContents m' c)).trans ?_
          show Cert.StepRefIdeal.Read.val_main_v110 (F := Ideal) (m' ((c.tc : Thread Cert.StepRefIdeal.nD Cert.StepRefIdeal.τ).loc Cert.StepRefIdeal.main_arg0)) (m' ((c.tc : Thread Cert.StepRefIdeal.nD Cert.StepRefIdeal.τ).loc Cert.StepRefIdeal.main_arg1)) (m' ((c.tc : Thread Cert.StepRefIdeal.nD Cert.StepRefIdeal.τ).loc Cert.StepRefIdeal.main_arg2)) (m' ((c.tc : Thread Cert.StepRefIdeal.nD Cert.StepRefIdeal.τ).loc Cert.StepRefIdeal.main_arg3)) (m' ((c.tc : Thread Cert.StepRefIdeal.nD Cert.StepRefIdeal.τ).loc Cert.StepRefIdeal.main_arg5)) (m' ((c.tc : Thread Cert.StepRefIdeal.nD Cert.StepRefIdeal.τ).loc Cert.StepRefIdeal.main_arg7)) = _
          rw [a0, a1, a2, a3, a5, a7]
          exact (resC_eq m c hp).symm
        · refine (Cert.StepRefIdeal.Read.val_main_v111_eq (F := Ideal) (StableHlo.launchContents m' c)).trans ?_
          show Cert.StepRefIdeal.Read.val_main_v111 (F := Ideal) (m' ((c.tc : Thread Cert.StepRefIdeal.nD Cert.StepRefIdeal.τ).loc Cert.StepRefIdeal.main_arg0)) (m' ((c.tc : Thread Cert.StepRefIdeal.nD Cert.StepRefIdeal.τ).loc Cert.StepRefIdeal.main_arg1)) (m' ((c.tc : Thread Cert.StepRefIdeal.nD Cert.StepRefIdeal.τ).loc Cert.StepRefIdeal.main_arg2)) (m' ((c.tc : Thread Cert.StepRefIdeal.nD Cert.StepRefIdeal.τ).loc Cert.StepRefIdeal.main_arg3)) (m' ((c.tc : Thread Cert.StepRefIdeal.nD Cert.StepRefIdeal.τ).loc Cert.StepRefIdeal.main_arg6)) (m' ((c.tc : Thread Cert.StepRefIdeal.nD Cert.StepRefIdeal.τ).loc Cert.StepRefIdeal.main_arg7)) = _
          rw [a0, a1, a2, a3, a6, a7]
          exact (resN_eq m c hp).symm
        · refine (Cert.StepRefIdeal.Read.val_main_v112_eq (F := Ideal) (StableHlo.launchContents m' c)).trans ?_
          show Cert.StepRefIdeal.Read.val_main_v112 (F := Ideal) (m' ((c.tc : Thread Cert.StepRefIdeal.nD Cert.StepRefIdeal.τ).loc Cert.StepRefIdeal.main_arg1)) (m' ((c.tc : Thread Cert.StepRefIdeal.nD Cert.StepRefIdeal.τ).loc Cert.StepRefIdeal.main_arg2)) (m' ((c.tc : Thread Cert.StepRefIdeal.nD Cert.StepRefIdeal.τ).loc Cert.StepRefIdeal.main_arg3)) (m' ((c.tc : Thread Cert.StepRefIdeal.nD Cert.StepRefIdeal.τ).loc Cert.StepRefIdeal.main_arg7)) = _
          rw [a1, a2, a3, a7]
          exact (resM_eq m c hp).symm) (Cert.StepRefIdeal.Value.run m' ρ')⟩

end Cert.Proof.Step
-- ==== Proof.Attend.Body.lean ====
/-
  The attention call's block at an element over the extended reals.
-/
module

public import proofs.«01_k».proof.Proof.Gen.AttendIdeal.Value
public import proofs.«01_k».proof.Proof.Step.Arith
public import Idealize.ShloMosaic.Lib.Pointwise

@[expose] public section

set_option maxRecDepth 16384

noncomputable section

open Idealize.ShloMosaic Idealize.ShloMosaic.TcCoe Idealize.SL.Sem

namespace Cert.AttendIdeal.Value

open Cert.AttendIdeal Cert.AttendIdeal.Gen

/-- The value given to a masked logit. -/
theorem masked_eq : Named.named (F := Ideal) Cert.AttendIdeal.κ "masked" (φ := .f32) 0xF149F2CA#32 = (⊥ : EReal) :=
  IdealRules.named_const.ideal_named_scalar _ _ _ _ rfl

theorem pay3_apply (h : Fin 8) (c : Fin 512) : k0_pay3 (ix2 h c) = BitVec.ofNat 32 (c.val % 2) := by
  pointwise [k0_pay3]
  revert c
  decide +kernel

theorem head_apply (h : Fin 8) (c : Fin 512) : (select k0_pay5 k0_pay6 k0_pay4 : IVec S8x512 32) (ix2 h c) = BitVec.ofNat 32 (h.val / 4) := by
  pointwise [k0_pay5, k0_pay6, k0_pay4]
  revert h
  decide +kernel

/-- The number of a cached row as the comparison reads it. -/
def num (j : ℕ) : EReal := (FloatOps.sitofp FTy.f32 (BitVec.ofNat 32 j) : Ideal .f32)

/-- The cached row a column belongs to. -/
theorem row_apply (c : Fin 512) : Scalar.select
                (IntOp.andi
                  (IntOp.cmpi CmpIPredicate.ne
                    (IntOp.subi (BitVec.setWidth 32 (IntOp.cmpi CmpIPredicate.sgt (BitVec.ofNat 32 c.val) 0#32))
                      (BitVec.setWidth 32 (IntOp.cmpi CmpIPredicate.slt (BitVec.ofNat 32 c.val) 0#32)))
                    (Scalar.subi (Scalar.extui (Scalar.cmpi CmpIPredicate.sgt 2#32 0#32))
                      (Scalar.extui (Scalar.cmpi CmpIPredicate.slt 2#32 0#32))))
                  (IntOp.cmpi CmpIPredicate.ne (IntOp.remsi ArithUnit.vector (BitVec.ofNat 32 c.val) 2#32) 0#32))
                (IntOp.subi (IntOp.divsi ArithUnit.vector (BitVec.ofNat 32 c.val) 2#32) 1#32)
                (IntOp.divsi ArithUnit.vector (BitVec.ofNat 32 c.val) 2#32) = BitVec.ofNat 32 (c.val / 2) := by
  revert c
  decide +kernel

theorem own_apply (c : Fin 512) (h : Fin 8) : IntOp.cmpi CmpIPredicate.eq (BitVec.ofNat 32 (c.val % 2)) (BitVec.ofNat 32 (h.val / 4)) = BitVec.ofBool (decide (c.val % 2 = h.val / 4)) := by
  have e : ∀ a b : Fin 2, IntOp.cmpi CmpIPredicate.eq (BitVec.ofNat 32 a.val) (BitVec.ofNat 32 b.val) = BitVec.ofBool (decide (a.val = b.val)) := by decide +kernel
  exact e ⟨c.val % 2, by omega⟩ ⟨h.val / 4, by omega⟩

theorem sel_ofBool (p : Prop) [Decidable p] (a b : EReal) : Scalar.select (BitVec.ofBool (decide p)) a b = if p then a else b := by
  by_cases h : p <;> simp [h, Scalar.select]

theorem pay7_apply (q : Vec Ideal S1x8x128 .bf16) (n : Vec Ideal S1x8x128 .f32) (k : Vec Ideal S1x512x128 .f32) (h : Fin 8) (c : Fin 512) :
    k0_pay7 (F := Ideal) (k0_pay2 q) (iota .tc S8x512 32 [1] iota_S8x512_d1_w32) k0_pay3 k0_pay4 k0_pay5 k0_pay6 n k (ix2 h c)
      = (if c.val % 2 = h.val / 4 then (if num (c.val / 2) < n (ix3 0 0 0) then ∑ d : Fin 128, q (ix3 0 h d) * k (ix3 0 c d) else ⊥) else ⊥ : EReal) := by
  pointwise [k0_pay7, k0_pay2]
  rw [row_apply, masked_eq, pay3_apply,
    show Scalar.select (k0_pay5 (ix2 h c)) (k0_pay6 (ix2 h c)) (k0_pay4 (ix2 h c)) = BitVec.ofNat 32 (h.val / 4) from head_apply h c,
    own_apply, sel_ofBool]
  rfl

theorem pay9_apply (kn s e : Vec Ideal S1x8x128 .f32) (q : Vec Ideal S1x8x128 .bf16) (h : Fin 8) :
    k0_pay9 (F := Ideal) (k0_pay8 (k0_pay2 q)) kn s e (ix2 h 0)
      = (∑ d : Fin 128, q (ix3 0 h d) * kn (ix3 0 h d) + (if e (ix3 0 1 0) ≤ s (ix3 0 0 0) then 0 else if e (ix3 0 0 0) ≤ s (ix3 0 0 0) then (if Ideal.ofBits FTy.f32 0x46800000#32 ≤ e (ix3 0 2 0) then 0 else ⊥) else ⊥) : EReal) := by
  pointwise [k0_pay9, k0_pay8, k0_pay2]
  rw [masked_eq]

variable (L : Vec Ideal S8x512 .f32) (q : Vec Ideal S8x128 .f32) (kn s e : Vec Ideal S1x8x128 .f32)

theorem pay10_apply (h : Fin 8) : k0_pay10 (F := Ideal) L q kn s e (ix2 h 0)
    = (max ((Finset.univ : Finset (Fin 512)).fold max ⊥ fun c => L (ix2 h c)) (k0_pay9 (F := Ideal) q kn s e (ix2 h 0)) : EReal) := by
  unfold k0_pay10
  generalize k0_pay9 (F := Ideal) q kn s e = w
  pointwise []
  rw [Cert.StepIdeal.Value.neginf_eq]

theorem pay11_apply (h : Fin 8) (c : Fin 512) : k0_pay11 (F := Ideal) L q kn s e (ix2 h c)
    = (Ideal.exp2 (L (ix2 h c) - k0_pay10 (F := Ideal) L q kn s e (ix2 h 0)) : EReal) := by
  unfold k0_pay11
  generalize k0_pay10 (F := Ideal) L q kn s e = w
  pointwise []
  rfl

theorem pay12_apply (h : Fin 8) : k0_pay12 (F := Ideal) L q kn s e (ix2 h 0)
    = (Ideal.exp2 (k0_pay9 (F := Ideal) q kn s e (ix2 h 0) - k0_pay10 (F := Ideal) L q kn s e (ix2 h 0)) : EReal) := by
  unfold k0_pay12
  generalize k0_pay10 (F := Ideal) L q kn s e = w
  generalize k0_pay9 (F := Ideal) q kn s e = w'
  pointwise []
  rfl

theorem pay13_apply (h : Fin 8) : k0_pay13 (F := Ideal) L q kn s e (ix2 h 0)
    = (∑ c : Fin 512, k0_pay11 (F := Ideal) L q kn s e (ix2 h c) + k0_pay12 (F := Ideal) L q kn s e (ix2 h 0) : EReal) := by
  unfold k0_pay13
  generalize k0_pay11 (F := Ideal) L q kn s e = w
  generalize k0_pay12 (F := Ideal) L q kn s e = w'
  pointwise []

theorem pay14_apply (h : Fin 8) (c : Fin 512) : k0_pay14 (F := Ideal) L q kn s e (ix2 h c)
    = k0_pay11 (F := Ideal) L q kn s e (ix2 h c) := by
  unfold k0_pay14
  generalize k0_pay11 (F := Ideal) L q kn s e = w
  pointwise []

theorem pay1_apply (p l : Vec Ideal S8x1 .f32) (P : Vec Ideal S8x512 .bf16) (v : Vec Ideal S1x512x128 .f32) (vn z : Vec Ideal S1x8x128 .f32) (h : Fin 8) (d : Fin 128) :
    k0_pay1 (F := Ideal) p l P (k0_pay15 v) vn z (ix3 0 h d)
      = (Ideal.div (∑ c : Fin 512, P (ix2 h c) * v (ix3 0 c d) + p (ix2 h 0) * vn (ix3 0 h d)) (l (ix2 h 0))
          * (z (ix3 0 h d) * Cert.StepIdeal.Value.thE (z (ix3 0 h d))) : EReal) := by
  pointwise [k0_pay1, k0_pay15, Cert.StepIdeal.Value.thE]

end Cert.AttendIdeal.Value
-- ==== Proof.Attend.Array.lean ====
/-
  The attention call: what each grid point leaves in its block, and so the result array, over the extended reals.
-/
module

public import proofs.«01_k».proof.Proof.Attend.Body
public import Idealize.ShloMosaic.Lib.Pipeline.ReadBack
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)

namespace Cert.AttendIdeal.Value

open Cert.AttendIdeal Cert.AttendIdeal.Gen
open Cert.StepIdeal.Value (thE)

/-- The logit of a column of cached rows for a head. -/
def logitF (Q : Fin 128 → EReal) (n : EReal) (K : Fin 512 → Fin 128 → EReal) (h : Fin 8) (c : Fin 512) : EReal :=
  if c.val % 2 = h.val / 4 then (if num (c.val / 2) < n then ∑ d : Fin 128, Q d * K c d else ⊥) else ⊥

/-- The logit of the new row. -/
def newF (Q KN : Fin 128 → EReal) (s e0 e1 e2 : EReal) : EReal :=
  ∑ d : Fin 128, Q d * KN d + (if e1 ≤ s then 0 else if e0 ≤ s then (if Ideal.ofBits FTy.f32 0x46800000#32 ≤ e2 then 0 else ⊥) else ⊥)

/-- The attention over the logits, times the gate. -/
def outF (L : Fin 512 → EReal) (N : EReal) (W : Fin 512 → EReal) (w z : EReal) : EReal :=
  Ideal.div (∑ c, Ideal.exp2 (L c - max ((Finset.univ : Finset (Fin 512)).fold max ⊥ L) N) * W c
      + Ideal.exp2 (N - max ((Finset.univ : Finset (Fin 512)).fold max ⊥ L) N) * w)
    (∑ c, Ideal.exp2 (L c - max ((Finset.univ : Finset (Fin 512)).fold max ⊥ L) N)
      + Ideal.exp2 (N - max ((Finset.univ : Finset (Fin 512)).fold max ⊥ L) N)) * (z * thE z)

theorem hz3 : (![0, 0, 0] : Fin 3 → Nat) = fun _ => 0 := funext fun a => by fin_cases a <;> rfl

section
variable (x0 : Vec Ideal S1x8x128 .bf16) (x1 x2 x3 x4 x5 x6 : Vec Ideal S1x8x128 .f32) (x7 x8 : Vec Ideal S1x512x128 .f32)

theorem block_apply (h : Fin 8) (d : Fin 128) : out0_9 (F := Ideal) x0 x1 x2 x3 x4 x5 x6 x7 x8 (ix3 0 h d)
    = outF (logitF (fun d => x0 (ix3 0 h d)) (x6 (ix3 0 0 0)) (fun c d => x7 (ix3 0 c d)) h)
        (newF (fun d => x0 (ix3 0 h d)) (fun d => x2 (ix3 0 h d)) (x4 (ix3 0 0 0)) (x5 (ix3 0 0 0)) (x5 (ix3 0 1 0)) (x5 (ix3 0 2 0)))
        (fun c => x8 (ix3 0 c d)) (x3 (ix3 0 h d)) (x1 (ix3 0 h d)) := by
  have hL : (fun c => k0_pay17 (F := Ideal) x0 x1 x2 x3 x4 x5 x6 x7 x8 (ix2 h c))
      = logitF (fun d => x0 (ix3 0 h d)) (x6 (ix3 0 0 0)) (fun c d => x7 (ix3 0 c d)) h := funext fun c => by
    unfold k0_pay17 k0_pay16
    simp only [View.ld_unit_zero (S := S1x8x128) hz3, View.ld_unit_zero (S := S1x512x128) hz3]
    exact pay7_apply x0 x6 x7 h c
  have hN : k0_pay9 (F := Ideal) (k0_pay18 x0 x1 x2 x3 x4 x5 x6 x7 x8) x2 x4 x5 (ix2 h 0)
      = newF (fun d => x0 (ix3 0 h d)) (fun d => x2 (ix3 0 h d)) (x4 (ix3 0 0 0)) (x5 (ix3 0 0 0)) (x5 (ix3 0 1 0)) (x5 (ix3 0 2 0)) := by
    unfold k0_pay18 k0_pay16
    simp only [View.ld_unit_zero (S := S1x8x128) hz3]
    exact pay9_apply x2 x4 x5 x0 h
  unfold out0_9
  rw [View.canon_unit_zero hz3]
  simp only [View.ld_unit_zero (S := S1x8x128) hz3, View.ld_unit_zero (S := S1x512x128) hz3]
  rw [pay1_apply]
  simp only [pay12_apply, pay13_apply, pay14_apply, pay11_apply, pay10_apply]
  rw [← hL, ← hN]
  rfl

end

variable (m : (ℓ : Loc nD τ sig) → Buf (Elt Ideal) ℓ) (ρ : Dev nD → PrngReg)

section
variable (c : Dev nD) (t : Fin grid0.N)

theorem tr0 : ∀ t : Fin grid0.N, cc0_transform_0 (grid0.coords t) 0 = t.val := by decide +kernel
theorem tr1 : ∀ t : Fin grid0.N, cc0_transform_1 (grid0.coords t) 0 = t.val := by decide +kernel
theorem tr2 : ∀ t : Fin grid0.N, cc0_transform_2 (grid0.coords t) 0 = t.val := by decide +kernel
theorem tr3 : ∀ t : Fin grid0.N, cc0_transform_3 (grid0.coords t) 0 = t.val := by decide +kernel
theorem tr4 : ∀ t : Fin grid0.N, cc0_transform_4 (grid0.coords t) 0 = t.val := by decide +kernel
theorem tr5 : ∀ t : Fin grid0.N, cc0_transform_5 (grid0.coords t) 0 = t.val := by decide +kernel
theorem tr6 : ∀ t : Fin grid0.N, cc0_transform_6 (grid0.coords t) 0 = t.val := by decide +kernel
theorem tr7 : ∀ t : Fin grid0.N, cc0_transform_7 (grid0.coords t) 0 = t.val := by decide +kernel
theorem tr8 : ∀ t : Fin grid0.N, cc0_transform_8 (grid0.coords t) 0 = t.val := by decide +kernel
theorem tr9 : ∀ t : Fin grid0.N, cc0_transform_9 (grid0.coords t) 0 = t.val := by decide +kernel

theorem ib0 (p : Fin 8) (q : Fin 128) : (iblk m c 0 t : Vec Ideal S1x8x128 .bf16) (ix3 0 p q) = V m c main_v2 (ix3 t p q) := by
  show V m c main_v2 _ = V m c main_v2 _
  congr 1
  funext a
  apply Fin.ext
  match a with
  | ⟨0, _⟩ => show cc0_transform_0 (grid0.coords t) 0 * 1 + 1 * 0 = t.val
              rw [tr0 t]; omega
  | ⟨1, _⟩ => show 0 * 8 + 1 * p.val = p.val; omega
  | ⟨2, _⟩ => show 0 * 128 + 1 * q.val = q.val; omega

theorem ib1 (p : Fin 8) (q : Fin 128) : (iblk m c 1 t : Vec Ideal S1x8x128 .f32) (ix3 0 p q) = V m c main_v4 (ix3 t p q) := by
  show V m c main_v4 _ = V m c main_v4 _
  congr 1
  funext a
  apply Fin.ext
  match a with
  | ⟨0, _⟩ => show cc0_transform_1 (grid0.coords t) 0 * 1 + 1 * 0 = t.val
              rw [tr1 t]; omega
  | ⟨1, _⟩ => show 0 * 8 + 1 * p.val = p.val; omega
  | ⟨2, _⟩ => show 0 * 128 + 1 * q.val = q.val; omega

theorem ib2 (p : Fin 8) (q : Fin 128) : (iblk m c 2 t : Vec Ideal S1x8x128 .f32) (ix3 0 p q) = V m c main_v7 (ix3 t p q) := by
  show V m c main_v7 _ = V m c main_v7 _
  congr 1
  funext a
  apply Fin.ext
  match a with
  | ⟨0, _⟩ => show cc0_transform_2 (grid0.coords t) 0 * 1 + 1 * 0 = t.val
              rw [tr2 t]; omega
  | ⟨1, _⟩ => show 0 * 8 + 1 * p.val = p.val; omega
  | ⟨2, _⟩ => show 0 * 128 + 1 * q.val = q.val; omega

theorem ib3 (p : Fin 8) (q : Fin 128) : (iblk m c 3 t : Vec Ideal S1x8x128 .f32) (ix3 0 p q) = V m c main_v10 (ix3 t p q) := by
  show V m c main_v10 _ = V m c main_v10 _
  congr 1
  funext a
  apply Fin.ext
  match a with
  | ⟨0, _⟩ => show cc0_transform_3 (grid0.coords t) 0 * 1 + 1 * 0 = t.val
              rw [tr3 t]; omega
  | ⟨1, _⟩ => show 0 * 8 + 1 * p.val = p.val; omega
  | ⟨2, _⟩ => show 0 * 128 + 1 * q.val = q.val; omega

theorem ib4 (p : Fin 8) (q : Fin 128) : (iblk m c 4 t : Vec Ideal S1x8x128 .f32) (ix3 0 p q) = V m c main_arg3 (ix3 t p q) := by
  show V m c main_arg3 _ = V m c main_arg3 _
  congr 1
  funext a
  apply Fin.ext
  match a with
  | ⟨0, _⟩ => show cc0_transform_4 (grid0.coords t) 0 * 1 + 1 * 0 = t.val
              rw [tr4 t]; omega
  | ⟨1, _⟩ => show 0 * 8 + 1 * p.val = p.val; omega
  | ⟨2, _⟩ => show 0 * 128 + 1 * q.val = q.val; omega

theorem ib5 (p : Fin 8) (q : Fin 128) : (iblk m c 5 t : Vec Ideal S1x8x128 .f32) (ix3 0 p q) = V m c main_arg4 (ix3 t p q) := by
  show V m c main_arg4 _ = V m c main_arg4 _
  congr 1
  funext a
  apply Fin.ext
  match a with
  | ⟨0, _⟩ => show cc0_transform_5 (grid0.coords t) 0 * 1 + 1 * 0 = t.val
              rw [tr5 t]; omega
  | ⟨1, _⟩ => show 0 * 8 + 1 * p.val = p.val; omega
  | ⟨2, _⟩ => show 0 * 128 + 1 * q.val = q.val; omega

theorem ib6 (p : Fin 8) (q : Fin 128) : (iblk m c 6 t : Vec Ideal S1x8x128 .f32) (ix3 0 p q) = V m c main_arg5 (ix3 t p q) := by
  show V m c main_arg5 _ = V m c main_arg5 _
  congr 1
  funext a
  apply Fin.ext
  match a with
  | ⟨0, _⟩ => show cc0_transform_6 (grid0.coords t) 0 * 1 + 1 * 0 = t.val
              rw [tr6 t]; omega
  | ⟨1, _⟩ => show 0 * 8 + 1 * p.val = p.val; omega
  | ⟨2, _⟩ => show 0 * 128 + 1 * q.val = q.val; omega

theorem ib7 (p : Fin 512) (q : Fin 128) : (iblk m c 7 t : Vec Ideal S1x512x128 .f32) (ix3 0 p q) = V m c main_v11 (ix3 t p q) := by
  show V m c main_v11 _ = V m c main_v11 _
  congr 1
  funext a
  apply Fin.ext
  match a with
  | ⟨0, _⟩ => show cc0_transform_7 (grid0.coords t) 0 * 1 + 1 * 0 = t.val
              rw [tr7 t]; omega
  | ⟨1, _⟩ => show 0 * 512 + 1 * p.val = p.val; omega
  | ⟨2, _⟩ => show 0 * 128 + 1 * q.val = q.val; omega

theorem ib8 (p : Fin 512) (q : Fin 128) : (iblk m c 8 t : Vec Ideal S1x512x128 .f32) (ix3 0 p q) = V m c main_v12 (ix3 t p q) := by
  show V m c main_v12 _ = V m c main_v12 _
  congr 1
  funext a
  apply Fin.ext
  match a with
  | ⟨0, _⟩ => show cc0_transform_8 (grid0.coords t) 0 * 1 + 1 * 0 = t.val
              rw [tr8 t]; omega
  | ⟨1, _⟩ => show 0 * 512 + 1 * p.val = p.val; omega
  | ⟨2, _⟩ => show 0 * 128 + 1 * q.val = q.val; omega

end

/-- The result's element, from what the call finds. -/
def elt (c : Dev nD) (b : Fin 32) (h : Fin 8) (d : Fin 128) : EReal :=
  outF (logitF (fun d => V m c main_v2 (ix3 b h d)) (V m c main_arg5 (ix3 b 0 0)) (fun k d => V m c main_v11 (ix3 b k d)) h)
    (newF (fun d => V m c main_v2 (ix3 b h d)) (fun d => V m c main_v7 (ix3 b h d)) (V m c main_arg3 (ix3 b 0 0)) (V m c main_arg4 (ix3 b 0 0))
      (V m c main_arg4 (ix3 b 1 0)) (V m c main_arg4 (ix3 b 2 0)))
    (fun k => V m c main_v12 (ix3 b k d)) (V m c main_v10 (ix3 b h d)) (V m c main_v4 (ix3 b h d))

/-- The result array, from what the call finds. -/
def arr (c : Dev nD) : Buf (Elt Ideal) ((c : Thread nD τ).loc main_v13) :=
  fun i : S32x8x128.Idx => elt m c (i 0) (i 1) (i 2)

/-- What a point leaves in its block. -/
theorem out_at (c : Dev nD) (t : Fin grid0.N) (h : Fin 8) (d : Fin 128) :
    out0_9 (F := Ideal) (iblk m c 0 t) (iblk m c 1 t) (iblk m c 2 t) (iblk m c 3 t) (iblk m c 4 t) (iblk m c 5 t) (iblk m c 6 t) (iblk m c 7 t) (iblk m c 8 t) (ix3 0 h d)
      = elt m c t h d := by
  refine (block_apply (iblk m c 0 t) (iblk m c 1 t) (iblk m c 2 t) (iblk m c 3 t) (iblk m c 4 t) (iblk m c 5 t) (iblk m c 6 t) (iblk m c 7 t) (iblk m c 8 t) h d).trans ?_
  unfold elt
  simp only [ib0, ib1, ib2, ib3, ib4, ib5, ib6, ib7, ib8]

theorem final9 (c : Dev nD) : (dats m 0 c).arrAt 9 cfg0.N = arr m c := by
  refine (dats m 0 c).arrAt_eq_of_covers 9 _ (by decide +kernel) fun t hf => ?_
  refine fun (j : S1x8x128.Idx) => ?_
  obtain ⟨h, d, rfl⟩ : ∃ (h : Fin 8) (d : Fin 128), j = ix3 0 h d := ⟨j 1, j 2, by
    funext a
    apply Fin.ext
    match a with
    | ⟨0, _⟩ => show (j 0).val = 0; have : (j 0).val < 1 := (j 0).isLt; omega
    | ⟨1, _⟩ => rfl
    | ⟨2, _⟩ => rfl⟩
  show (dats m 0 c).after 9 t (ix3 0 h d) = _
  rw [after0_9]
  refine (out_at m c t h d).trans ?_
  show elt m c t h d = elt m c _ _ _
  congr 1
  · apply Fin.ext
    show t.val = cc0_transform_9 (grid0.coords t) 0 * 1 + 1 * 0
    rw [tr9]; omega
  · apply Fin.ext
    show h.val = 0 * 8 + 1 * h.val
    omega
  · apply Fin.ext
    show d.val = 0 * 128 + 1 * d.val
    omega

/-- The run, with the result named. -/
theorem run_out : θ_run defs (onTc (τ := τ) (main (F := Ideal))) ⟨m, fun _ => 0, ρ⟩ fun r => ∀ c : Dev nD,
      r.2.mem ((c : Thread nD τ).loc main_v13) = arr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final9 m c), (h c).2⟩) (run_blocks m ρ)

section
variable (c : Dev nD)

theorem V_v2 : V m c main_v2
    = (truncf (F := Ideal) .bf16 (shapeCast S32x8x128 (extractStridedSlice S32x1024 ![0, 0] (m ((c : Thread nD τ).loc main_arg0)) slices_S32x7168_S32x1024_0_0 : Vec Ideal S32x1024 .f32)
        shapeCasts_S32x1024_S32x8x128 : Vec Ideal S32x8x128 .f32) bitsLt_bf16_f32 : Vec Ideal S32x8x128 .bf16) := by
  dsimp only [V, hostOps0]; after_results; rfl

theorem V_v4 : V m c main_v4
    = (shapeCast S32x8x128 (extractStridedSlice S32x1024 ![0, 2048] (m ((c : Thread nD τ).loc main_arg0)) slices_S32x7168_S32x1024_0_2048 : Vec Ideal S32x1024 .f32)
        shapeCasts_S32x1024_S32x8x128 : Vec Ideal S32x8x128 .f32) := by
  dsimp only [V, hostOps0]; after_results; rfl

theorem V_v7 : V m c main_v7
    = (shapeCast S32x8x128 (broadcastInDim S32x2x4x128 ![0, 1, 3] bcast_S32x2x128_S32x2x4x128_0_1_3
        (shapeCast S32x2x128 (m ((c : Thread nD τ).loc main_arg1)) shapeCasts_S64x128_S32x2x128 : Vec Ideal S32x2x128 .f32) : Vec Ideal S32x2x4x128 .f32)
        shapeCasts_S32x2x4x128_S32x8x128 : Vec Ideal S32x8x128 .f32) := by
  dsimp only [V, hostOps0]; after_results; rfl

theorem V_v10 : V m c main_v10
    = (shapeCast S32x8x128 (broadcastInDim S32x2x4x128 ![0, 1, 3] bcast_S32x2x128_S32x2x4x128_0_1_3
        (shapeCast S32x2x128 (m ((c : Thread nD τ).loc main_arg2)) shapeCasts_S64x128_S32x2x128 : Vec Ideal S32x2x128 .f32) : Vec Ideal S32x2x4x128 .f32)
        shapeCasts_S32x2x4x128_S32x8x128 : Vec Ideal S32x8x128 .f32) := by
  dsimp only [V, hostOps0]; after_results; rfl

theorem V_v11 : V m c main_v11
    = (shapeCast S32x512x128 (m ((c : Thread nD τ).loc main_arg6)) shapeCasts_S16384x128_S32x512x128 : Vec Ideal S32x512x128 .f32) := by
  dsimp only [V, hostOps0]; after_results; rfl

theorem V_v12 : V m c main_v12
    = (shapeCast S32x512x128 (m ((c : Thread nD τ).loc main_arg7)) shapeCasts_S16384x128_S32x512x128 : Vec Ideal S32x512x128 .f32) := by
  dsimp only [V, hostOps0]; after_results; rfl

end

section
variable (x0 : Vec Ideal S32x7168 .f32) (x1 : Vec Ideal S64x128 .f32) (x6 : Vec Ideal S16384x128 .f32)

theorem q_at (b : Fin 32) (h : Fin 8) (d : Fin 128) :
    (truncf (F := Ideal) .bf16 (shapeCast S32x8x128 (extractStridedSlice S32x1024 ![0, 0] x0 slices_S32x7168_S32x1024_0_0 : Vec Ideal S32x1024 .f32)
        shapeCasts_S32x1024_S32x8x128 : Vec Ideal S32x8x128 .f32) bitsLt_bf16_f32 : Vec Ideal S32x8x128 .bf16) (ix3 b h d)
      = x0 (ix2 b ⟨128 * h.val + d.val, by omega⟩) := by
  pointwise []
  congr 2
  apply Fin.ext
  dsimp only
  omega

theorem z_at (b : Fin 32) (h : Fin 8) (d : Fin 128) :
    (shapeCast S32x8x128 (extractStridedSlice S32x1024 ![0, 2048] x0 slices_S32x7168_S32x1024_0_2048 : Vec Ideal S32x1024 .f32)
        shapeCasts_S32x1024_S32x8x128 : Vec Ideal S32x8x128 .f32) (ix3 b h d)
      = x0 (ix2 b ⟨2048 + (128 * h.val + d.val), by omega⟩) := by
  pointwise []
  congr 2
  apply Fin.ext
  dsimp only
  omega

theorem new_at (b : Fin 32) (h : Fin 8) (d : Fin 128) :
    (shapeCast S32x8x128 (broadcastInDim S32x2x4x128 ![0, 1, 3] bcast_S32x2x128_S32x2x4x128_0_1_3
        (shapeCast S32x2x128 x1 shapeCasts_S64x128_S32x2x128 : Vec Ideal S32x2x128 .f32) : Vec Ideal S32x2x4x128 .f32)
        shapeCasts_S32x2x4x128_S32x8x128 : Vec Ideal S32x8x128 .f32) (ix3 b h d)
      = x1 (ix2 ⟨2 * b.val + h.val / 4, by omega⟩ d) := by
  pointwise []
  congr 2
  apply Fin.ext
  dsimp only
  omega

theorem row_at (b : Fin 32) (k : Fin 512) (d : Fin 128) :
    (shapeCast S32x512x128 x6 shapeCasts_S16384x128_S32x512x128 : Vec Ideal S32x512x128 .f32) (ix3 b k d)
      = x6 (ix2 ⟨512 * b.val + k.val, by omega⟩ d) := by
  pointwise []
  congr 2
  apply Fin.ext
  dsimp only
  omega

end

end Cert.AttendIdeal.Value
-- ==== Proof.Attend.Sum.lean ====
/-
  Sums and maxima over the extended reals that the attention needs: the columns of one key head among all columns, and a
  quotient of sums as a sum of quotients.
-/
module

public import Idealize.ShloMosaic.Lib.IdealHost
public import Idealize.ShloMosaic.Lib.Pointwise

@[expose] public section

noncomputable section

open Idealize.ShloMosaic

namespace Cert.Attend.Sum

/-- Powers of two, of a nonnegative and of no infinite value below the top. -/
theorem exp2_nonneg (x : EReal) : 0 ≤ Ideal.exp2 x := by
  induction x with
  | bot => exact le_refl _
  | top => exact le_top
  | coe r => exact EReal.coe_nonneg.2 (Real.rpow_nonneg (by norm_num) r)

theorem exp2_bot : Ideal.exp2 ⊥ = 0 := rfl

theorem two_eq : Ideal.ofBits FTy.f32 0x40000000#32 = ((2 : ℝ) : EReal) := by
  simp [Ideal.ofBits, Ideal.ieee, -EReal.coe_mul]; norm_num

/-- A power with base two. -/
theorem pow_two (x : EReal) : Ideal.pow ((2 : ℝ) : EReal) x = Ideal.exp2 x := by
  induction x with
  | bot => show (if (2 : ℝ) < 0 then (⊥ : EReal) else if 1 < (2 : ℝ) then 0 else if (2 : ℝ) = 1 then 1 else ⊤) = 0; norm_num
  | top => show (if (2 : ℝ) < 0 then (⊥ : EReal) else if 1 < (2 : ℝ) then ⊤ else if (2 : ℝ) = 1 then 1 else 0) = ⊤; norm_num
  | coe r => rfl

/-- A sum times a nonnegative finite factor. -/
theorem sum_mul_of {ι : Type} (s : Finset ι) (f : ι → EReal) (x : EReal) (h0 : 0 ≤ x) (h1 : x ≠ ⊤) :
    (∑ i ∈ s, f i) * x = ∑ i ∈ s, f i * x := by
  classical
  induction s using Finset.induction_on with
  | empty => simp
  | insert a s ha ih => rw [Finset.sum_insert ha, Finset.sum_insert ha, EReal.right_distrib_of_nonneg_of_ne_top h0 h1, ih]

/-- A sum of reals is a real. -/
theorem sum_real {ι : Type} (s : Finset ι) (f : ι → EReal) (h : ∀ i, ∃ r : ℝ, f i = r) : ∃ r : ℝ, ∑ i ∈ s, f i = r := by
  classical
  induction s using Finset.induction_on with
  | empty => exact ⟨0, by simp⟩
  | insert a s ha ih =>
    obtain ⟨r, hr⟩ := ih
    obtain ⟨t, ht⟩ := h a
    exact ⟨t + r, by rw [Finset.sum_insert ha, hr, ht, EReal.coe_add]⟩

variable (F : Fin 257 → EReal)

/-- The greatest logit. -/
def mx : EReal := (Finset.univ : Finset (Fin 257)).fold max ⊥ F

theorem mx_eq : mx F = Finset.univ.sup F := rfl

/-- Where every logit is below the top and one above the bottom, the weights' sum is positive. -/
theorem total_pos (h1 : ∀ j, F j ≠ ⊤) (h2 : ∃ j, F j ≠ ⊥) : 0 < ∑ j, Ideal.exp2 (F j - mx F) := by
  obtain ⟨i, -, hi⟩ := Finset.exists_mem_eq_sup (Finset.univ : Finset (Fin 257)) ⟨0, Finset.mem_univ _⟩ F
  have hi' : F i = mx F := hi.symm
  have hb : F i ≠ ⊥ := by
    obtain ⟨j, hj⟩ := h2
    intro e
    apply hj
    have := Finset.le_sup (f := F) (Finset.mem_univ j)
    rw [hi, e] at this
    exact le_bot_iff.1 this
  refine lt_of_lt_of_le ?_ (Finset.single_le_sum (f := fun j => Ideal.exp2 (F j - mx F)) (fun j _ => exp2_nonneg _) (Finset.mem_univ i))
  show 0 < Ideal.exp2 (F i - mx F)
  rw [← hi']
  have ht := h1 i
  generalize F i = x at *
  induction x with
  | bot => exact absurd rfl hb
  | top => exact absurd rfl ht
  | coe r =>
    rw [← EReal.coe_sub, sub_self]
    show (0 : EReal) < ((Real.rpow 2 0 : ℝ) : EReal)
    rw [show Real.rpow 2 0 = 1 from Real.rpow_zero 2]
    norm_num

/-- Dividing each weight by their sum, or the weighted sum once. -/
theorem quotient (V : Fin 257 → EReal) (h1 : ∀ j, F j ≠ ⊤) (h2 : ∃ j, F j ≠ ⊥) :
    ∑ j, Ideal.div (Ideal.exp2 (F j - mx F)) (∑ j, Ideal.exp2 (F j - mx F)) * V j
      = Ideal.div (∑ j, Ideal.exp2 (F j - mx F) * V j) (∑ j, Ideal.exp2 (F j - mx F)) := by
  have hp := total_pos F h1 h2
  generalize (∑ j, Ideal.exp2 (F j - mx F)) = S at *
  unfold Ideal.div
  simp only [if_neg hp.ne']
  rw [sum_mul_of _ _ _ (EReal.inv_nonneg_of_nonneg hp.le) (by
    intro e
    induction S with
    | bot => simp at e
    | top => simp at e
    | coe r => exact EReal.coe_ne_top _ ((EReal.coe_inv r).trans e))]
  exact Finset.sum_congr rfl fun j _ => by rw [mul_assoc, mul_assoc, mul_comm (S⁻¹)]

/-- The column of row `j` of key head `a`. -/
def colOf (a : Fin 2) (j : Fin 256) : Fin 512 := ⟨2 * j.val + a.val, by omega⟩

theorem colOf_inj (a : Fin 2) : Function.Injective (colOf a) := fun i j h => by
  have := congrArg Fin.val h
  apply Fin.ext
  simp only [colOf] at this
  omega

theorem of_not_range (a : Fin 2) (c : Fin 512) (h : c ∉ Set.range (colOf a)) : c.val % 2 ≠ a.val := fun e =>
  h ⟨⟨c.val / 2, by omega⟩, Fin.ext (by show 2 * (c.val / 2) + a.val = c.val; omega)⟩

/-- A sum over the columns, all zero off one head's. -/
theorem sum_cols (a : Fin 2) (f : Fin 512 → EReal) (h : ∀ c : Fin 512, c.val % 2 ≠ a.val → f c = 0) :
    ∑ c, f c = ∑ j, f (colOf a j) :=
  (Fintype.sum_of_injective (colOf a) (colOf_inj a) (fun j => f (colOf a j)) f (fun c hc => h c (of_not_range a c hc)) fun _ => rfl).symm

/-- The greatest of the columns' logits and the new one's is the greatest of the head's and the new one's. -/
theorem max_cols (a : Fin 2) (L : Fin 512 → EReal) (N : EReal) (h : ∀ c : Fin 512, c.val % 2 ≠ a.val → L c = ⊥)
    (hF : ∀ j : Fin 256, F j.castSucc = L (colOf a j)) (hN : F (Fin.last 256) = N) :
    max ((Finset.univ : Finset (Fin 512)).fold max ⊥ L) N = mx F := by
  show max (Finset.univ.sup L) N = Finset.univ.sup F
  apply le_antisymm
  · refine max_le (Finset.sup_le fun c _ => ?_) (hN ▸ Finset.le_sup (f := F) (Finset.mem_univ _))
    by_cases hc : c ∈ Set.range (colOf a)
    · obtain ⟨j, rfl⟩ := hc
      rw [← hF j]
      exact Finset.le_sup (f := F) (Finset.mem_univ _)
    · rw [h c (of_not_range a c hc)]
      exact bot_le
  · refine Finset.sup_le fun j _ => ?_
    induction j using Fin.lastCases with
    | last => rw [hN]; exact le_max_right _ _
    | cast j => rw [hF]; exact le_max_of_le_left (Finset.le_sup (f := L) (Finset.mem_univ _))

theorem bot_sub (x : EReal) : (⊥ : EReal) - x = ⊥ := by rw [sub_eq_add_neg, EReal.bot_add]

/-- The kernel's quotient over all columns and the new row is the reference's over the head's rows and the new one. -/
theorem attend (a : Fin 2) (L W : Fin 512 → EReal) (N w : EReal) (V : Fin 257 → EReal)
    (h : ∀ c : Fin 512, c.val % 2 ≠ a.val → L c = ⊥)
    (hF : ∀ j : Fin 256, F j.castSucc = L (colOf a j)) (hN : F (Fin.last 256) = N)
    (hV : ∀ j : Fin 256, V j.castSucc = W (colOf a j)) (hw : V (Fin.last 256) = w)
    (h1 : ∀ j, F j ≠ ⊤) (h2 : ∃ j, F j ≠ ⊥) :
    Ideal.div (∑ c, Ideal.exp2 (L c - max ((Finset.univ : Finset (Fin 512)).fold max ⊥ L) N) * W c
          + Ideal.exp2 (N - max ((Finset.univ : Finset (Fin 512)).fold max ⊥ L) N) * w)
        (∑ c, Ideal.exp2 (L c - max ((Finset.univ : Finset (Fin 512)).fold max ⊥ L) N)
          + Ideal.exp2 (N - max ((Finset.univ : Finset (Fin 512)).fold max ⊥ L) N))
      = ∑ j, Ideal.div (Ideal.exp2 (F j - mx F)) (∑ j, Ideal.exp2 (F j - mx F)) * V j := by
  rw [quotient F V h1 h2, max_cols F a L N h hF hN, Fin.sum_univ_castSucc (fun j => Ideal.exp2 (F j - mx F) * V j),
    Fin.sum_univ_castSucc (fun j => Ideal.exp2 (F j - mx F)),
    sum_cols a (fun c => Ideal.exp2 (L c - mx F) * W c) fun c hc => by rw [h c hc, bot_sub, exp2_bot, zero_mul],
    sum_cols a (fun c => Ideal.exp2 (L c - mx F)) fun c hc => by rw [h c hc, bot_sub, exp2_bot]]
  simp only [hF, hN, hV, hw]

end Cert.Attend.Sum
-- ==== Proof.Attend.Ref.lean ====
/-
  The reference's attention at an element over the extended reals.
-/
module

public import proofs.«01_k».proof.Proof.Attend.Sum
public import proofs.«01_k».proof.Proof.Attend.Body
public import proofs.«01_k».proof.Proof.Step.Ref
public import proofs.«01_k».proof.Proof.Gen.AttendRefIdeal.Read
public import proofs.«01_k».proof.Proof.Gen.Pre_row_selected

@[expose] public section

set_option maxRecDepth 16384

noncomputable section

open Idealize.ShloMosaic Idealize.ShloMosaic.TcCoe Idealize.SL.Sem

namespace Cert.AttendRefIdeal.Read

open Cert.AttendRefIdeal Cert.Attend.Sum
open Cert.AttendIdeal.Value (num)

variable (x0 : Vec Ideal S32x7168 .f32) (x1 x2 : Vec Ideal S64x128 .f32) (x3 x4 x5 : Vec Ideal S32x8x128 .f32) (x6 x7 : Vec Ideal S16384x128 .f32)
variable (b : Fin 32) (a : Fin 2) (g : Fin 4)

/-- A selected row's key or value, the new one's last. -/
theorem key_cast (j : Fin 256) (d : Fin 128) : val_main_v6 (F := Ideal) x1 x6 (ix4 b j.castSucc a d) = x6 (ix2 ⟨512 * b.val + (colOf a j).val, by omega⟩ d) := by
  pointwise [val_main_v6, val_main_v4, val_main_v5]
  rw [dif_pos (show j.castSucc.val < 256 from j.isLt)]
  congr 2
  apply Fin.ext
  simp only [colOf, Fin.val_castSucc]
  omega

theorem key_off (j : Fin 257) (hj : ¬ j.val < 256) (d : Fin 128) : val_main_v6 (F := Ideal) x1 x6 (ix4 b j a d) = x1 (ix2 ⟨2 * b.val + a.val, by omega⟩ d) := by
  pointwise [val_main_v6, val_main_v4, val_main_v5]
  rw [dif_neg hj]
  congr 2
  apply Fin.ext
  dsimp only
  omega

theorem val_cast (j : Fin 256) (d : Fin 128) : val_main_v9 (F := Ideal) x2 x7 (ix4 b j.castSucc a d) = x7 (ix2 ⟨512 * b.val + (colOf a j).val, by omega⟩ d) := by
  pointwise [val_main_v9, val_main_v7, val_main_v8]
  rw [dif_pos (show j.castSucc.val < 256 from j.isLt)]
  congr 2
  apply Fin.ext
  simp only [colOf, Fin.val_castSucc]
  omega

theorem val_off (j : Fin 257) (hj : ¬ j.val < 256) (d : Fin 128) : val_main_v9 (F := Ideal) x2 x7 (ix4 b j a d) = x2 (ix2 ⟨2 * b.val + a.val, by omega⟩ d) := by
  pointwise [val_main_v9, val_main_v7, val_main_v8]
  rw [dif_neg hj]
  congr 2
  apply Fin.ext
  dsimp only
  omega

theorem q_at (d : Fin 128) : val_main_v1 (F := Ideal) x0 (ix4 b a g d) = x0 (ix2 b ⟨128 * (4 * a.val + g.val) + d.val, by omega⟩) := by
  pointwise [val_main_v1, val_main_v0]
  congr 2
  apply Fin.ext
  simp only []
  omega

theorem valid_cast (j : Fin 256) : val_main_v31 (F := Ideal) x3 x4 x5 (ix2 b j.castSucc) = BitVec.ofBool (decide (num j.val < x5 (ix3 b 0 0))) := by
  pointwise [val_main_v31, val_main_v30, val_main_v29, val_main_v28, val_main_v27, val_main_v26, val_main_v25, val_main_v24]
  rw [dif_pos (show j.castSucc.val < 256 from j.isLt)]
  rfl

theorem valid_off (j : Fin 257) (hj : ¬ j.val < 256) : val_main_v31 (F := Ideal) x3 x4 x5 (ix2 b j)
    = IntOp.ori (BitVec.ofBool (decide (x4 (ix3 b 1 0) ≤ x3 (ix3 b 0 0)))) (IntOp.andi (BitVec.ofBool (decide (x4 (ix3 b 0 0) ≤ x3 (ix3 b 0 0))))
        (BitVec.ofBool (decide (Ideal.ofBits FTy.f32 0x46800000#32 ≤ x4 (ix3 b 2 0))))) := by
  have e : val_main_v23 (F := Ideal) x3 x4 (ix2 b 0) = IntOp.ori (BitVec.ofBool (decide (x4 (ix3 b 1 0) ≤ x3 (ix3 b 0 0)))) (IntOp.andi (BitVec.ofBool (decide (x4 (ix3 b 0 0) ≤ x3 (ix3 b 0 0))))
        (BitVec.ofBool (decide (Ideal.ofBits FTy.f32 0x46800000#32 ≤ x4 (ix3 b 2 0))))) := by
    pointwise [val_main_v23, val_main_v22, val_main_v21, val_main_v20, val_main_v19, val_main_v18, val_main_v17, val_main_v16, val_main_v15, val_main_v14,
      val_main_v13, val_main_v12, val_main_v11, val_main_v10, val_main_cst]
  rw [← e]
  unfold val_main_v31
  generalize val_main_v23 (F := Ideal) x3 x4 = w
  generalize val_main_v30 (F := Ideal) x5 = w'
  pointwise []
  rw [dif_neg hj, show (⟨j.val - 256, by omega⟩ : Fin 1) = 0 from Subsingleton.elim _ _]

/-- The logits. -/
theorem logit_at (j : Fin 257) : val_main_v34 (F := Ideal) x0 x1 x3 x4 x5 x6 (ix4 b a g j)
    = (Scalar.select (val_main_v31 (F := Ideal) x3 x4 x5 (ix2 b j)) (∑ d : Fin 128, val_main_v1 (F := Ideal) x0 (ix4 b a g d) * val_main_v6 (F := Ideal) x1 x6 (ix4 b j a d)) ⊥ : EReal) := by
  pointwise [val_main_v34, val_main_v33, val_main_v32, val_main_call0_v0, val_main_call0_v1, val_main_call0_v2, val_main_cst_0]
  rw [show (id (constant (F := Ideal) S_ FTy.f32 4286578688#32) ix0 : EReal) = ⊥ from Cert.StepIdeal.Value.neginf_eq]

theorem v35_at : val_main_v35 (F := Ideal) x0 x1 x3 x4 x5 x6 (ix3 b a g)
    = mx fun j => val_main_v34 (F := Ideal) x0 x1 x3 x4 x5 x6 (ix4 b a g j) := by
  unfold val_main_v35
  generalize val_main_v34 (F := Ideal) x0 x1 x3 x4 x5 x6 = w
  pointwise [val_main_cst_1]
  rw [Cert.StepIdeal.Value.neginf_eq]
  rfl

theorem v40_at (j : Fin 257) : val_main_v40 (F := Ideal) x0 x1 x3 x4 x5 x6 (ix4 b a g j)
    = Ideal.exp2 (val_main_v34 (F := Ideal) x0 x1 x3 x4 x5 x6 (ix4 b a g j) - mx fun j => val_main_v34 (F := Ideal) x0 x1 x3 x4 x5 x6 (ix4 b a g j)) := by
  rw [← v35_at, ← pow_two, ← two_eq]
  pointwise [val_main_v40, val_main_v39, val_main_v38, val_main_v37, val_main_v36, val_main_cst_2]

/-- The result at an element. -/
theorem out_at (d : Fin 128) : val_main_v48 (F := Ideal) x0 x1 x2 x3 x4 x5 x6 x7 (ix3 b ⟨4 * a.val + g.val, by omega⟩ d)
    = ((∑ j, Ideal.div (val_main_v40 (F := Ideal) x0 x1 x3 x4 x5 x6 (ix4 b a g j)) (∑ j, val_main_v40 (F := Ideal) x0 x1 x3 x4 x5 x6 (ix4 b a g j))
          * val_main_v9 (F := Ideal) x2 x7 (ix4 b j a d))
        * (x0 (ix2 b ⟨2048 + (128 * (4 * a.val + g.val) + d.val), by omega⟩)
            * Ideal.div 1 (1 + Ideal.exp (-(x0 (ix2 b ⟨2048 + (128 * (4 * a.val + g.val) + d.val), by omega⟩))))) : EReal) := by
  have e1 : val_main_v46 (F := Ideal) x0 x1 x2 x3 x4 x5 x6 x7 (ix3 b ⟨4 * a.val + g.val, by omega⟩ d)
      = val_main_v45 (F := Ideal) x0 x1 x2 x3 x4 x5 x6 x7 (ix4 b a g d) := by
    unfold val_main_v46
    generalize val_main_v45 (F := Ideal) x0 x1 x2 x3 x4 x5 x6 x7 = w
    pointwise []
  have e2 : val_main_v47 (F := Ideal) x0 (ix3 b ⟨4 * a.val + g.val, by omega⟩ d) = (x0 (ix2 b ⟨2048 + (128 * (4 * a.val + g.val) + d.val), by omega⟩)
            * Ideal.div 1 (1 + Ideal.exp (-(x0 (ix2 b ⟨2048 + (128 * (4 * a.val + g.val) + d.val), by omega⟩)))) : EReal) := by
    have ez : val_main_v3 (F := Ideal) x0 (ix3 b ⟨4 * a.val + g.val, by omega⟩ d) = x0 (ix2 b ⟨2048 + (128 * (4 * a.val + g.val) + d.val), by omega⟩) := by
      pointwise [val_main_v3, val_main_v2]
      congr 2
      apply Fin.ext
      simp only []
      omega
    rw [← ez]
    pointwise [val_main_v47, val_main_call1_v0, val_main_call1_v1, val_main_call1_v2, val_main_call1_v3, val_main_call1_v4, val_main_call1_v5, val_main_call1_cst, val_main_call1_cst_0]
  have e3 : val_main_v45 (F := Ideal) x0 x1 x2 x3 x4 x5 x6 x7 (ix4 b a g d)
      = (∑ j, val_main_v44 (F := Ideal) x0 x1 x3 x4 x5 x6 (ix4 b a g j) * val_main_v9 (F := Ideal) x2 x7 (ix4 b j a d) : EReal) := by
    unfold val_main_v45
    generalize val_main_v44 (F := Ideal) x0 x1 x3 x4 x5 x6 = w
    generalize val_main_v9 (F := Ideal) x2 x7 = w'
    pointwise []
  have e4 : ∀ j, val_main_v44 (F := Ideal) x0 x1 x3 x4 x5 x6 (ix4 b a g j)
      = (Ideal.div (val_main_v40 (F := Ideal) x0 x1 x3 x4 x5 x6 (ix4 b a g j)) (∑ j, val_main_v40 (F := Ideal) x0 x1 x3 x4 x5 x6 (ix4 b a g j)) : EReal) := by
    intro j
    unfold val_main_v44 val_main_v43 val_main_v42 val_main_v41
    generalize val_main_v40 (F := Ideal) x0 x1 x3 x4 x5 x6 = w
    pointwise [val_main_cst_3]
  unfold val_main_v48
  show (val_main_v46 (F := Ideal) x0 x1 x2 x3 x4 x5 x6 x7 (ix3 b ⟨4 * a.val + g.val, by omega⟩ d) * val_main_v47 (F := Ideal) x0 (ix3 b ⟨4 * a.val + g.val, by omega⟩ d) : EReal) = _
  rw [e1, e2, e3]
  simp only [e4]

section
variable (hp : (Cert.Pre_row_selected.fn (F := Ideal) x0 x1 x2 x3 x4 x5 x6 x7 : IVec Cert.Pre_row_selected.S32x66817 1) = fun _ => 1#1)
include hp

/-- The precondition, read: a cached row is selected, or the new one. -/
theorem selected_of_pre (c : Fin 66817) (hc : c.val < 1) :
    (0 : EReal) < x5 (ix3 b 0 0) ∨ (x4 (ix3 b 1 0) : EReal) ≤ x3 (ix3 b 0 0)
      ∨ ((x4 (ix3 b 0 0) : EReal) ≤ x3 (ix3 b 0 0) ∧ Ideal.ofBits FTy.f32 0x46800000#32 ≤ x4 (ix3 b 2 0)) := by
  have e := congrFun hp (ix2 b c)
  have e' : (Cert.Pre_row_selected.fn (F := Ideal) x0 x1 x2 x3 x4 x5 x6 x7 : IVec Cert.Pre_row_selected.S32x66817 1) (ix2 b c)
      = IntOp.ori (BitVec.ofBool (decide ((0 : EReal) < x5 (ix3 b 0 0)))) (IntOp.ori (BitVec.ofBool (decide ((x4 (ix3 b 1 0) : EReal) ≤ x3 (ix3 b 0 0))))
          (IntOp.andi (BitVec.ofBool (decide ((x4 (ix3 b 0 0) : EReal) ≤ x3 (ix3 b 0 0)))) (BitVec.ofBool (decide (Ideal.ofBits FTy.f32 0x46800000#32 ≤ x4 (ix3 b 2 0)))))) := by
    pointwise [Cert.Pre_row_selected.fn, Cert.Pre_row_selected.fn_part1]
    rw [dif_pos hc]
  rw [e'] at e
  by_cases h0 : (0 : EReal) < x5 (ix3 b 0 0)
  · exact Or.inl h0
  by_cases h1 : (x4 (ix3 b 1 0) : EReal) ≤ x3 (ix3 b 0 0)
  · exact Or.inr (Or.inl h1)
  by_cases h2 : (x4 (ix3 b 0 0) : EReal) ≤ x3 (ix3 b 0 0)
  · by_cases h3 : Ideal.ofBits FTy.f32 0x46800000#32 ≤ x4 (ix3 b 2 0)
    · exact Or.inr (Or.inr ⟨h2, h3⟩)
    · rw [decide_eq_false h0, decide_eq_false h1, decide_eq_false h3, decide_eq_true h2] at e
      exact absurd e (by decide)
  · rw [decide_eq_false h0, decide_eq_false h1, decide_eq_false h2] at e
    by_cases h3 : Ideal.ofBits FTy.f32 0x46800000#32 ≤ x4 (ix3 b 2 0)
    · rw [decide_eq_true h3] at e
      exact absurd e (by decide)
    · rw [decide_eq_false h3] at e
      exact absurd e (by decide)

/-- The precondition, read: the queries' numbers are real, -/
theorem q_real (c : Fin 66817) (hc : ¬ c.val < 1) (k : Fin 7168) (hk : k.val < 1024) (h : c.val - 1 = k.val) : ∃ r : ℝ, (x0 (ix2 b k) : EReal) = r := by
  have e := congrFun hp (ix2 b c)
  refine Cert.StepRefIdeal.Read.real_of_lt _ (Eq.trans ?_ e)
  symm
  pointwise [Cert.Pre_row_selected.fn, Cert.Pre_row_selected.fn_part1]
  rw [dif_neg hc, dif_pos (show c.val - 1 < 1024 by omega), show (⟨c.val - 1, by omega⟩ : Fin 7168) = k from Fin.ext h]

/-- the new keys', -/
theorem kn_real (c : Fin 66817) (hc : ¬ c.val < 1) (r : Fin 64) (d : Fin 128) (h : c.val = 1025 + (128 * (r.val - 2 * b.val) + d.val)) (hr : 2 * b.val ≤ r.val)
    (hr' : r.val < 2 * b.val + 2) : ∃ u : ℝ, (x1 (ix2 r d) : EReal) = u := by
  have e := congrFun hp (ix2 b c)
  refine Cert.StepRefIdeal.Read.real_of_lt _ (Eq.trans ?_ e)
  symm
  pointwise [Cert.Pre_row_selected.fn, Cert.Pre_row_selected.fn_part1]
  rw [dif_neg hc, dif_neg (show ¬ c.val - 1 < 1024 by omega), dif_pos (show c.val - 1 - 1024 < 256 by omega),
    show (⟨b.val * 2 + (c.val - 1 - 1024) / 128, by omega⟩ : Fin 64) = r from Fin.ext (by dsimp only; omega),
    show (⟨(c.val - 1 - 1024) % 128, by omega⟩ : Fin 128) = d from Fin.ext (by dsimp only; omega)]

/-- and the cached keys'. -/
theorem k_real (c : Fin 66817) (hc : ¬ c.val < 1) (r : Fin 16384) (d : Fin 128) (h : c.val = 1281 + (128 * (r.val - 512 * b.val) + d.val)) (hr : 512 * b.val ≤ r.val)
    (hr' : r.val < 512 * b.val + 512) : ∃ u : ℝ, (x6 (ix2 r d) : EReal) = u := by
  have e := congrFun hp (ix2 b c)
  refine Cert.StepRefIdeal.Read.real_of_lt _ (Eq.trans ?_ e)
  symm
  pointwise [Cert.Pre_row_selected.fn, Cert.Pre_row_selected.fn_part1]
  rw [dif_neg hc, dif_neg (show ¬ c.val - 1 < 1024 by omega), dif_neg (show ¬ c.val - 1 - 1024 < 256 by omega),
    show (⟨b.val * 512 + (c.val - 1 - 1024 - 256) / 128, by omega⟩ : Fin 16384) = r from Fin.ext (by dsimp only; omega),
    show (⟨(c.val - 1 - 1024 - 256) % 128, by omega⟩ : Fin 128) = d from Fin.ext (by dsimp only; omega)]

end

end Cert.AttendRefIdeal.Read
-- ==== Proof.Attend.Claim.lean ====
/-
  The attention call's claims: the kernel's result is the reference's.
-/
module

public import proofs.«01_k».proof.Defs
public import proofs.«01_k».proof.Proof.Attend.Array
public import proofs.«01_k».proof.Proof.Attend.Ref
public import proofs.«01_k».proof.Proof.Gen.AttendRefIdeal.Run
public import proofs.«01_k».proof.Proof.Gen.Pre_row_selected
public import proofs.«01_k».proof.Proof.Gen.Attend.Frame

@[expose] public section

set_option maxRecDepth 16384

noncomputable section

open Idealize.ShloMosaic Idealize.ShloMosaic.TcCoe Idealize.SL.Sem

namespace Cert.Proof.Attend

open Cert.Attend.Sum
open Cert.AttendIdeal.Value (num logitF newF outF elt arr)
open Cert.AttendRefIdeal.Read

/-- The kernel as given terminates, leaves its arguments and ends with every counter at zero. -/
theorem frame_kernel : Cert.quiescent_Attend := fun m ρ _ => Cert.Attend.Gen.frame (F := Bits) m ρ

/-- The same of the kernel over the extended reals, -/
theorem frame_ideal : Cert.quiescent_AttendIdeal := fun m ρ _ => Cert.AttendIdeal.Gen.frame m ρ

/-- and from memories where a row is selected. -/
theorem frame_ideal_pre : Cert.quiescent_AttendIdeal_pre_row_selected := fun m ρ _ => Cert.AttendIdeal.Gen.frame m ρ

/-- The reference terminates, leaves its arguments, and has no semaphore. -/
theorem frame_reference : Cert.quiescent_AttendRefIdeal := fun m ρ _ =>
  (θ_run Cert.AttendRefIdeal.defs _ _).mono (fun r h => ⟨fun c => (h c).2, sem_eq_zero_of_no_sems (by decide) r.2⟩)
    (Cert.AttendRefIdeal.Value.run m ρ)

/-- The same from memories where a row is selected. -/
theorem frame_reference_pre : Cert.quiescent_AttendRefIdeal_pre_row_selected := fun m ρ _ => frame_reference m ρ trivial

/-- The masked logits' constant, stated: minus infinity. -/
theorem preserves : Cert.preserves_Attend_AttendIdeal := IdealRules.named_const.statement Cert.AttendIdeal.κ "masked" .f32 0xF149F2CA#32 ⊥ rfl

section
open Cert.AttendRefIdeal (S32x7168 S64x128 S32x8x128 S16384x128)

variable (x0 : Vec Ideal S32x7168 .f32) (x1 x2 : Vec Ideal S64x128 .f32) (x3 x4 x5 : Vec Ideal S32x8x128 .f32) (x6 x7 : Vec Ideal S16384x128 .f32)
variable (b : Fin 32) (a : Fin 2) (g : Fin 4)

/-- The head. -/
abbrev hd (a : Fin 2) (g : Fin 4) : Fin 8 := ⟨4 * a.val + g.val, by omega⟩

abbrev Q (d : Fin 128) : EReal := x0 (ix2 b ⟨128 * (hd a g).val + d.val, by have := (hd a g).isLt; omega⟩)
abbrev KN (d : Fin 128) : EReal := x1 (ix2 ⟨2 * b.val + a.val, by omega⟩ d)
abbrev K (k : Fin 512) (d : Fin 128) : EReal := x6 (ix2 ⟨512 * b.val + k.val, by omega⟩ d)

theorem num_zero : num 0 = 0 := by
  show ((((0#32 : BitVec 32).toInt : ℝ)) : EReal) = 0
  simp

/-- A cached row's logit. -/
theorem logit_cast (j : Fin 256) : val_main_v34 (F := Ideal) x0 x1 x3 x4 x5 x6 (ix4 b a g j.castSucc)
    = (if num j.val < x5 (ix3 b 0 0) then ∑ d : Fin 128, Q x0 b a g d * K x6 b (colOf a j) d else ⊥ : EReal) := by
  rw [logit_at, valid_cast, Cert.AttendIdeal.Value.sel_ofBool]
  simp only [q_at, key_cast]

/-- The new row's logit. -/
theorem logit_last : val_main_v34 (F := Ideal) x0 x1 x3 x4 x5 x6 (ix4 b a g (Fin.last 256))
    = newF (Q x0 b a g) (KN x1 b a) (x3 (ix3 b 0 0)) (x4 (ix3 b 0 0)) (x4 (ix3 b 1 0)) (x4 (ix3 b 2 0)) := by
  rw [logit_at, valid_off (hj := by simp)]
  simp only [q_at, key_off x1 x6 b a (Fin.last 256) (by simp)]
  unfold newF
  by_cases h1 : x4 (ix3 b 1 0) ≤ x3 (ix3 b 0 0) <;> by_cases h2 : x4 (ix3 b 0 0) ≤ x3 (ix3 b 0 0)
    <;> by_cases h3 : Ideal.ofBits FTy.f32 0x46800000#32 ≤ x4 (ix3 b 2 0)
    <;> simp [h1, h2, h3, Scalar.select, IntOp.ori, IntOp.andi]

variable (hp : (Cert.Pre_row_selected.fn (F := Ideal) x0 x1 x2 x3 x4 x5 x6 x7 : IVec Cert.Pre_row_selected.S32x66817 1) = fun _ => 1#1)
include hp

theorem Q_real (d : Fin 128) : ∃ r : ℝ, Q x0 b a g d = r :=
  q_real x0 x1 x2 x3 x4 x5 x6 x7 b hp ⟨1 + (128 * (hd a g).val + d.val), by have := (hd a g).isLt; omega⟩ (by dsimp only; omega) _ (by have := (hd a g).isLt; dsimp only; omega) (by dsimp only; omega)

theorem KN_real (d : Fin 128) : ∃ r : ℝ, KN x1 b a d = r :=
  kn_real x0 x1 x2 x3 x4 x5 x6 x7 b hp ⟨1025 + (128 * a.val + d.val), by omega⟩ (by dsimp only; omega) _ d (by dsimp only; omega) (by dsimp only; omega) (by dsimp only; omega)

theorem K_real (k : Fin 512) (d : Fin 128) : ∃ r : ℝ, K x6 b k d = r :=
  k_real x0 x1 x2 x3 x4 x5 x6 x7 b hp ⟨1281 + (128 * k.val + d.val), by omega⟩ (by dsimp only; omega) _ d (by dsimp only; omega) (by dsimp only; omega) (by dsimp only; omega)

/-- Products of reals, summed. -/
theorem dot_real (u v : Fin 128 → EReal) (hu : ∀ d, ∃ r : ℝ, u d = r) (hv : ∀ d, ∃ r : ℝ, v d = r) : ∃ r : ℝ, ∑ d : Fin 128, u d * v d = r :=
  sum_real _ _ fun d => by
    obtain ⟨r, hr⟩ := hu d
    obtain ⟨t, ht⟩ := hv d
    exact ⟨r * t, by rw [hr, ht, EReal.coe_mul]⟩

/-- Every logit is below the top. -/
theorem logit_ne_top (j : Fin 257) : val_main_v34 (F := Ideal) x0 x1 x3 x4 x5 x6 (ix4 b a g j) ≠ (⊤ : EReal) := by
  have hsel : ∀ (s : BitVec 1) (x : EReal), (∃ r : ℝ, x = r) → (Scalar.select s x ⊥ : EReal) ≠ ⊤ := by
    intro s x ⟨r, hr⟩
    unfold Scalar.select
    split
    · rw [hr]; exact EReal.coe_ne_top r
    · exact bot_ne_top
  rw [logit_at]
  refine hsel _ _ ?_
  induction j using Fin.lastCases with
  | last =>
    simp only [q_at, key_off x1 x6 b a (Fin.last 256) (by simp)]
    exact dot_real x0 x1 x2 x3 x4 x5 x6 x7 hp _ _ (Q_real x0 x1 x2 x3 x4 x5 x6 x7 b a g hp) (KN_real x0 x1 x2 x3 x4 x5 x6 x7 b a hp)
  | cast j =>
    simp only [q_at, key_cast]
    exact dot_real x0 x1 x2 x3 x4 x5 x6 x7 hp _ _ (Q_real x0 x1 x2 x3 x4 x5 x6 x7 b a g hp) (K_real x0 x1 x2 x3 x4 x5 x6 x7 b hp _)

/-- A logit is not masked. -/
theorem logit_ne_bot : ∃ j : Fin 257, val_main_v34 (F := Ideal) x0 x1 x3 x4 x5 x6 (ix4 b a g j) ≠ (⊥ : EReal) := by
  have hnew : ∀ z : EReal, z = 0 → (∑ d : Fin 128, Q x0 b a g d * KN x1 b a d) + z ≠ (⊥ : EReal) := by
    intro z hz
    obtain ⟨r, hr⟩ := dot_real x0 x1 x2 x3 x4 x5 x6 x7 hp _ _ (Q_real x0 x1 x2 x3 x4 x5 x6 x7 b a g hp) (KN_real x0 x1 x2 x3 x4 x5 x6 x7 b a hp)
    rw [hz, add_zero, hr]
    exact EReal.coe_ne_bot r
  rcases selected_of_pre x0 x1 x2 x3 x4 x5 x6 x7 b hp ⟨0, by omega⟩ (by decide) with h | h | ⟨h, h'⟩
  · refine ⟨Fin.castSucc 0, ?_⟩
    rw [logit_cast, show ((0 : Fin 256).val) = 0 from rfl, num_zero, if_pos h]
    obtain ⟨r, hr⟩ := dot_real x0 x1 x2 x3 x4 x5 x6 x7 hp _ _ (Q_real x0 x1 x2 x3 x4 x5 x6 x7 b a g hp) (K_real x0 x1 x2 x3 x4 x5 x6 x7 b hp (colOf a 0))
    rw [hr]
    exact EReal.coe_ne_bot r
  · refine ⟨Fin.last 256, ?_⟩
    rw [logit_last]
    exact hnew _ (if_pos h)
  · refine ⟨Fin.last 256, ?_⟩
    rw [logit_last]
    refine hnew _ ?_
    rw [if_pos h, if_pos h']
    exact ite_self 0

/-- The kernel's element is the reference's. -/
theorem out_eq (d : Fin 128) :
    outF (logitF (Q x0 b a g) (x5 (ix3 b 0 0)) (K x6 b) (hd a g))
        (newF (Q x0 b a g) (KN x1 b a) (x3 (ix3 b 0 0)) (x4 (ix3 b 0 0)) (x4 (ix3 b 1 0)) (x4 (ix3 b 2 0)))
        (fun k => x7 (ix2 ⟨512 * b.val + k.val, by omega⟩ d)) (x2 (ix2 ⟨2 * b.val + a.val, by omega⟩ d))
        (x0 (ix2 b ⟨2048 + (128 * (hd a g).val + d.val), by have := (hd a g).isLt; omega⟩))
      = val_main_v48 (F := Ideal) x0 x1 x2 x3 x4 x5 x6 x7 (ix3 b (hd a g) d) := by
  have ha : (hd a g).val / 4 = a.val := by show (4 * a.val + g.val) / 4 = a.val; omega
  rw [Cert.AttendRefIdeal.Read.out_at]
  unfold outF
  rw [Cert.StepIdeal.Value.thE_eq]
  refine congrArg (· * _) ?_
  simp only [v40_at]
  refine attend (fun j => val_main_v34 (F := Ideal) x0 x1 x3 x4 x5 x6 (ix4 b a g j)) a _ _ _ _ (fun j => val_main_v9 (F := Ideal) x2 x7 (ix4 b j a d)) ?_ ?_ ?_ ?_ ?_ ?_ ?_
  · intro c hc
    unfold logitF
    rw [ha, if_neg hc]
  · intro j
    rw [logit_cast]
    unfold logitF
    rw [if_pos (show (colOf a j).val % 2 = (hd a g).val / 4 by rw [ha]; show (2 * j.val + a.val) % 2 = a.val; omega),
      show (colOf a j).val / 2 = j.val by show (2 * j.val + a.val) / 2 = j.val; omega]
  · exact logit_last x0 x1 x3 x4 x5 x6 b a g
  · intro j
    exact val_cast x2 x7 b a j d
  · exact val_off x2 x7 b a (Fin.last 256) (by simp) d
  · exact fun j => logit_ne_top x0 x1 x2 x3 x4 x5 x6 x7 b a g hp j
  · exact logit_ne_bot x0 x1 x2 x3 x4 x5 x6 x7 b a g hp

end

/-- An element of equal arguments. -/
theorem out_congr {Q Q' KN KN' : Fin 128 → EReal} {K K' : Fin 512 → Fin 128 → EReal} {W W' : Fin 512 → EReal} {w w' z z' : EReal} (n s e0 e1 e2 : EReal) (h : Fin 8)
    (hQ : Q = Q') (hKN : KN = KN') (hK : K = K') (hW : W = W') (hw : w = w') (hz : z = z') :
    outF (logitF Q n K h) (newF Q KN s e0 e1 e2) W w z = outF (logitF Q' n K' h) (newF Q' KN' s e0 e1 e2) W' w' z' := by
  subst hQ hKN hK hW hw hz
  rfl

/-- What the kernel's call leaves in its result is what the reference's operations leave in theirs, of the same arguments. -/
theorem result_eq (m : (ℓ : Loc Cert.AttendIdeal.nD Cert.AttendIdeal.τ Cert.AttendIdeal.sig) → Buf (Elt Ideal) ℓ) (c : Dev Cert.AttendIdeal.nD)
    (hp : Cert.Pre_AttendIdeal_row_selected m) :
    arr m c = val_main_v48 (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5)) (m ((c.tc : Thread Cert.AttendIdeal.nD Cert.AttendIdeal.τ).loc Cert.AttendIdeal.main_arg6)) (m ((c.tc : Thread Cert.AttendIdeal.nD Cert.AttendIdeal.τ).loc Cert.AttendIdeal.main_arg7)) := by
  refine funext fun (i : Cert.AttendIdeal.S32x8x128.Idx) => ?_
  obtain ⟨b, a, g, d, rfl⟩ : ∃ (b : Fin 32) (a : Fin 2) (g : Fin 4) (d : Fin 128), i = ix3 b (hd a g) d :=
    ⟨i 0, ⟨(i 1).val / 4, by have : (i 1).val < 8 := (i 1).isLt; omega⟩, ⟨(i 1).val % 4, by omega⟩, i 2, by
      funext k
      apply Fin.ext
      match k with
      | ⟨0, _⟩ => rfl
      | ⟨1, _⟩ => show (i 1).val = 4 * ((i 1).val / 4) + (i 1).val % 4; omega
      | ⟨2, _⟩ => rfl⟩
  refine Eq.trans ?_ (out_eq (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5)) (m ((c.tc : Thread Cert.AttendIdeal.nD Cert.AttendIdeal.τ).loc Cert.AttendIdeal.main_arg6)) (m ((c.tc : Thread Cert.AttendIdeal.nD Cert.AttendIdeal.τ).loc Cert.AttendIdeal.main_arg7)) b a g (hp c) d)
  have ha : (⟨2 * b.val + (hd a g).val / 4, by have := (hd a g).isLt; omega⟩ : Fin 64) = ⟨2 * b.val + a.val, by omega⟩ :=
    Fin.ext (by show 2 * b.val + (4 * a.val + g.val) / 4 = 2 * b.val + a.val; omega)
  show elt m c b (hd a g) d = _
  unfold elt
  rw [Cert.AttendIdeal.Value.V_v2, Cert.AttendIdeal.Value.V_v4, Cert.AttendIdeal.Value.V_v7, Cert.AttendIdeal.Value.V_v10,
    Cert.AttendIdeal.Value.V_v11, Cert.AttendIdeal.Value.V_v12, Cert.AttendIdeal.Gen.V_main_arg3, Cert.AttendIdeal.Gen.V_main_arg4, Cert.AttendIdeal.Gen.V_main_arg5]
  have hn : ∀ (x : Vec Ideal Cert.AttendIdeal.S64x128 .f32) (d : Fin 128), x (ix2 ⟨2 * b.val + (hd a g).val / 4, by have := (hd a g).isLt; omega⟩ d) = x (ix2 ⟨2 * b.val + a.val, by omega⟩ d) :=
    fun x d => by rw [ha]
  exact out_congr _ _ _ _ _ _ (funext fun d => Cert.AttendIdeal.Value.q_at _ b (hd a g) d) (funext fun d => (Cert.AttendIdeal.Value.new_at _ b (hd a g) d).trans (hn _ d))
    (funext fun k => funext fun d => Cert.AttendIdeal.Value.row_at _ b k d) (funext fun k => Cert.AttendIdeal.Value.row_at _ b k d)
    ((Cert.AttendIdeal.Value.new_at _ b (hd a g) d).trans (hn _ d)) (Cert.AttendIdeal.Value.z_at _ b (hd a g) d)

/-- The kernel and the reference end with the same result, over the extended reals, from memories with the same arguments
    where each sample has a selected row and finite queries and keys. -/
theorem value : Cert.algebraic_AttendIdeal_AttendRefIdeal_pre_row_selected := fun m ρ m' ρ' hp hag =>
  ⟨fun c => arr m c, Cert.AttendIdeal.Value.run_out m ρ,
    (θ_run _ _ _).mono (fun r h c => ⟨(h c).1.trans (by
        obtain ⟨a0, a1, a2, a3, a4, a5, a6, a7⟩ := hag c
        refine (val_main_v48_eq (F := Ideal) m' c).trans ?_
        show val_main_v48 (F := Ideal) (m' ((c.tc : Thread Cert.AttendRefIdeal.nD Cert.AttendRefIdeal.τ).loc Cert.AttendRefIdeal.main_arg0)) (m' ((c.tc : Thread Cert.AttendRefIdeal.nD Cert.AttendRefIdeal.τ).loc Cert.AttendRefIdeal.main_arg1)) (m' ((c.tc : Thread Cert.AttendRefIdeal.nD Cert.AttendRefIdeal.τ).loc Cert.AttendRefIdeal.main_arg2)) (m' ((c.tc : Thread Cert.AttendRefIdeal.nD Cert.AttendRefIdeal.τ).loc Cert.AttendRefIdeal.main_arg3)) (m' ((c.tc : Thread Cert.AttendRefIdeal.nD Cert.AttendRefIdeal.τ).loc Cert.AttendRefIdeal.main_arg4)) (m' ((c.tc : Thread Cert.AttendRefIdeal.nD Cert.AttendRefIdeal.τ).loc Cert.AttendRefIdeal.main_arg5)) (m' ((c.tc : Thread Cert.AttendRefIdeal.nD Cert.AttendRefIdeal.τ).loc Cert.AttendRefIdeal.main_arg6)) (m' ((c.tc : Thread Cert.AttendRefIdeal.nD Cert.AttendRefIdeal.τ).loc Cert.AttendRefIdeal.main_arg7)) = _
        rw [a0, a1, a2, a3, a4, a5, a6, a7]
        exact (result_eq m c hp).symm), (h c).2⟩) (Cert.AttendRefIdeal.Value.run m' ρ')⟩

end Cert.Proof.Attend
-- ==== Proof.lean ====
/-
  Every claim of `Cert.Claim`, from the modules that prove them: for each program its frames, then the value claims.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Gather
public import proofs.«01_k».proof.Proof.Gen.GatherIdeal
public import proofs.«01_k».proof.Proof.Gen.GatherRefIdeal
public import proofs.«01_k».proof.Proof.Gen.GatherRef
public import proofs.«01_k».proof.Proof.Gen.Small
public import proofs.«01_k».proof.Proof.Gen.SmallIdeal
public import proofs.«01_k».proof.Proof.Gen.SmallRefIdeal
public import proofs.«01_k».proof.Proof.Gen.SmallS
public import proofs.«01_k».proof.Proof.Gen.SmallSIdeal
public import proofs.«01_k».proof.Proof.Gen.SmallSRefIdeal
public import proofs.«01_k».proof.Proof.Gen.MainS
public import proofs.«01_k».proof.Proof.Gen.MainSIdeal
public import proofs.«01_k».proof.Proof.Gen.MainSRefIdeal
public import proofs.«01_k».proof.Proof.Gen.Out
public import proofs.«01_k».proof.Proof.Gen.OutIdeal
public import proofs.«01_k».proof.Proof.Gen.OutRefIdeal
public import proofs.«01_k».proof.Proof.Gen.OutS
public import proofs.«01_k».proof.Proof.Gen.OutSIdeal
public import proofs.«01_k».proof.Proof.Gen.OutSRefIdeal
public import proofs.«01_k».proof.Proof.Gen.Step
public import proofs.«01_k».proof.Proof.Gen.StepIdeal
public import proofs.«01_k».proof.Proof.Gen.StepRefIdeal
public import proofs.«01_k».proof.Proof.Gen.Attend
public import proofs.«01_k».proof.Proof.Gen.AttendIdeal
public import proofs.«01_k».proof.Proof.Gen.AttendRefIdeal
public import proofs.«01_k».proof.Proof.Gen.Pre_rows_in_cache
public import proofs.«01_k».proof.Proof.Gen.Pre_forget_finite
public import proofs.«01_k».proof.Proof.Gen.Pre_row_selected
public import proofs.«01_k».proof.Proof.Main.Claim
public import proofs.«01_k».proof.Proof.Gather.Claim
public import proofs.«01_k».proof.Proof.Small.Claim
public import proofs.«01_k».proof.Proof.SmallS.Claim
public import proofs.«01_k».proof.Proof.MainS.Claim
public import proofs.«01_k».proof.Proof.Out.Claim
public import proofs.«01_k».proof.Proof.OutS.Claim
public import proofs.«01_k».proof.Proof.Step.Claim
public import proofs.«01_k».proof.Proof.Attend.Claim

@[expose] public section

noncomputable section

namespace Cert.Proof

/-- The claims: the shape facts of the programs, the frames, and for each program its constants and the values. -/
theorem claim : Cert.Claim :=
  ⟨Cert.Kernel.Gen.facts,
    Cert.KernelIdeal.Gen.facts,
    Cert.ReferenceIdeal.Gen.facts,
    Cert.Gather.Gen.facts,
    Cert.GatherIdeal.Gen.facts,
    Cert.GatherRefIdeal.Gen.facts,
    Cert.GatherRef.Gen.facts,
    Cert.Small.Gen.facts,
    Cert.SmallIdeal.Gen.facts,
    Cert.SmallRefIdeal.Gen.facts,
    Cert.SmallS.Gen.facts,
    Cert.SmallSIdeal.Gen.facts,
    Cert.SmallSRefIdeal.Gen.facts,
    Cert.MainS.Gen.facts,
    Cert.MainSIdeal.Gen.facts,
    Cert.MainSRefIdeal.Gen.facts,
    Cert.Out.Gen.facts,
    Cert.OutIdeal.Gen.facts,
    Cert.OutRefIdeal.Gen.facts,
    Cert.OutS.Gen.facts,
    Cert.OutSIdeal.Gen.facts,
    Cert.OutSRefIdeal.Gen.facts,
    Cert.Step.Gen.facts,
    Cert.StepIdeal.Gen.facts,
    Cert.StepRefIdeal.Gen.facts,
    Cert.Attend.Gen.facts,
    Cert.AttendIdeal.Gen.facts,
    Cert.AttendRefIdeal.Gen.facts,
    Cert.Pre_rows_in_cache.Gen.facts,
    Cert.Pre_forget_finite.Gen.facts,
    Cert.Pre_row_selected.Gen.facts,
    Main.frame_kernel,
    Main.frame_ideal,
    Main.frame_reference,
    Gather.frame_kernel,
    Gather.frame_ideal,
    Gather.frame_reference,
    Gather.frame_reference_pre,
    Gather.frame_reference_bits,
    Small.frame_kernel,
    Small.frame_ideal,
    Small.frame_reference,
    SmallS.frame_kernel,
    SmallS.frame_ideal,
    SmallS.frame_reference,
    MainS.frame_kernel,
    MainS.frame_ideal,
    MainS.frame_reference,
    Out.frame_kernel,
    Out.frame_ideal,
    Out.frame_reference,
    OutS.frame_kernel,
    OutS.frame_ideal,
    OutS.frame_reference,
    Step.frame_kernel,
    Step.frame_ideal,
    Step.frame_ideal_pre,
    Step.frame_reference,
    Step.frame_reference_pre,
    Attend.frame_kernel,
    Attend.frame_ideal,
    Attend.frame_ideal_pre,
    Attend.frame_reference,
    Attend.frame_reference_pre,
    trivial,
    Main.value,
    trivial,
    Gather.value,
    Gather.bits,
    trivial,
    Small.value,
    trivial,
    SmallS.value,
    trivial,
    MainS.value,
    trivial,
    Out.value,
    trivial,
    OutS.value,
    trivial,
    Step.value,
    Attend.preserves,
    Attend.value⟩

end Cert.Proof

end
